-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_args [hPre_finite_args : Cert.Pre_finite_args.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_args [hPre_finite_args : Cert.Pre_finite_args.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite_args [hKernel3Ideal : Cert.Kernel3Ideal.Facts] [hPre_finite_args : Cert.Pre_finite_args.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_args m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite_args [hReference3Ideal : Cert.Reference3Ideal.Facts] [hPre_finite_args : Cert.Pre_finite_args.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_args m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "sqrt_half" .f32 0x3F3504F3#32 (((Real.sqrt 2)⁻¹ : ℝ) : EReal)
  ∧ IdealRules.named_const.Statement Cert.Kernel3Ideal.κ "inv_sqrt_2pi" .f32 0x3ECC422A#32 (((9465531 / 16777216) * (Real.sqrt 2)⁻¹ : ℝ) : EReal)

def algebraic_Kernel3Ideal_Reference3Ideal_pre_finite_args [hKernel3Ideal : Cert.Kernel3Ideal.Facts] [hReference3Ideal : Cert.Reference3Ideal.Facts] [hPre_finite_args : Cert.Pre_finite_args.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_args m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v141_0)) (v1 : (c : Dev Cert.Kernel3Ideal.nD) → Buf (Elt Ideal) ((c.tc : Thread Cert.Kernel3Ideal.nD Cert.Kernel3Ideal.τ).loc Cert.Kernel3Ideal.main_v141_1)) (v2 : (c : Dev Cert.Kernel3Ideal.nD) → Buf (Elt Ideal) ((c.tc : Thread Cert.Kernel3Ideal.nD Cert.Kernel3Ideal.τ).loc Cert.Kernel3Ideal.main_v141_2)) (v3 : (c : Dev Cert.Kernel3Ideal.nD) → Buf (Elt Ideal) ((c.tc : Thread Cert.Kernel3Ideal.nD Cert.Kernel3Ideal.τ).loc Cert.Kernel3Ideal.main_v141_3)) (v4 : (c : Dev Cert.Kernel3Ideal.nD) → Buf (Elt Ideal) ((c.tc : Thread Cert.Kernel3Ideal.nD Cert.Kernel3Ideal.τ).loc Cert.Kernel3Ideal.main_v141_4)) (v5 : (c : Dev Cert.Kernel3Ideal.nD) → Buf (Elt Ideal) ((c.tc : Thread Cert.Kernel3Ideal.nD Cert.Kernel3Ideal.τ).loc Cert.Kernel3Ideal.main_v141_5)) (v6 : (c : Dev Cert.Kernel3Ideal.nD) → Buf (Elt Ideal) ((c.tc : Thread Cert.Kernel3Ideal.nD Cert.Kernel3Ideal.τ).loc Cert.Kernel3Ideal.main_v141_6)) (v7 : (c : Dev Cert.Kernel3Ideal.nD) → Buf (Elt Ideal) ((c.tc : Thread Cert.Kernel3Ideal.nD Cert.Kernel3Ideal.τ).loc Cert.Kernel3Ideal.main_v141_7)) (v8 : (c : Dev Cert.Kernel3Ideal.nD) → Buf (Elt Ideal) ((c.tc : Thread Cert.Kernel3Ideal.nD Cert.Kernel3Ideal.τ).loc Cert.Kernel3Ideal.main_v141_8)) (v9 : (c : Dev Cert.Kernel3Ideal.nD) → Buf (Elt Ideal) ((c.tc : Thread Cert.Kernel3Ideal.nD Cert.Kernel3Ideal.τ).loc Cert.Kernel3Ideal.main_v141_9)) (v10 : (c : Dev Cert.Kernel3Ideal.nD) → Buf (Elt Ideal) ((c.tc : Thread Cert.Kernel3Ideal.nD Cert.Kernel3Ideal.τ).loc Cert.Kernel3Ideal.main_v141_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v141_0) = v0 c
          ∧ r.2.mem ((c.tc : Thread Cert.Kernel3Ideal.nD Cert.Kernel3Ideal.τ).loc Cert.Kernel3Ideal.main_v141_1) = v1 c
          ∧ r.2.mem ((c.tc : Thread Cert.Kernel3Ideal.nD Cert.Kernel3Ideal.τ).loc Cert.Kernel3Ideal.main_v141_2) = v2 c
          ∧ r.2.mem ((c.tc : Thread Cert.Kernel3Ideal.nD Cert.Kernel3Ideal.τ).loc Cert.Kernel3Ideal.main_v141_3) = v3 c
          ∧ r.2.mem ((c.tc : Thread Cert.Kernel3Ideal.nD Cert.Kernel3Ideal.τ).loc Cert.Kernel3Ideal.main_v141_4) = v4 c
          ∧ r.2.mem ((c.tc : Thread Cert.Kernel3Ideal.nD Cert.Kernel3Ideal.τ).loc Cert.Kernel3Ideal.main_v141_5) = v5 c
          ∧ r.2.mem ((c.tc : Thread Cert.Kernel3Ideal.nD Cert.Kernel3Ideal.τ).loc Cert.Kernel3Ideal.main_v141_6) = v6 c
          ∧ r.2.mem ((c.tc : Thread Cert.Kernel3Ideal.nD Cert.Kernel3Ideal.τ).loc Cert.Kernel3Ideal.main_v141_7) = v7 c
          ∧ r.2.mem ((c.tc : Thread Cert.Kernel3Ideal.nD Cert.Kernel3Ideal.τ).loc Cert.Kernel3Ideal.main_v141_8) = v8 c
          ∧ r.2.mem ((c.tc : Thread Cert.Kernel3Ideal.nD Cert.Kernel3Ideal.τ).loc Cert.Kernel3Ideal.main_v141_9) = v9 c
          ∧ r.2.mem ((c.tc : Thread Cert.Kernel3Ideal.nD Cert.Kernel3Ideal.τ).loc Cert.Kernel3Ideal.main_v141_10) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v265) = v0 c
          ∧ r.2.mem ((c.tc : Thread Cert.Reference3Ideal.nD Cert.Reference3Ideal.τ).loc Cert.Reference3Ideal.main_v191) = v1 c
          ∧ r.2.mem ((c.tc : Thread Cert.Reference3Ideal.nD Cert.Reference3Ideal.τ).loc Cert.Reference3Ideal.main_v266) = v2 c
          ∧ r.2.mem ((c.tc : Thread Cert.Reference3Ideal.nD Cert.Reference3Ideal.τ).loc Cert.Reference3Ideal.main_v267) = v3 c
          ∧ r.2.mem ((c.tc : Thread Cert.Reference3Ideal.nD Cert.Reference3Ideal.τ).loc Cert.Reference3Ideal.main_v207) = v4 c
          ∧ r.2.mem ((c.tc : Thread Cert.Reference3Ideal.nD Cert.Reference3Ideal.τ).loc Cert.Reference3Ideal.main_v201) = v5 c
          ∧ r.2.mem ((c.tc : Thread Cert.Reference3Ideal.nD Cert.Reference3Ideal.τ).loc Cert.Reference3Ideal.main_v268) = v6 c
          ∧ r.2.mem ((c.tc : Thread Cert.Reference3Ideal.nD Cert.Reference3Ideal.τ).loc Cert.Reference3Ideal.main_v269) = v7 c
          ∧ r.2.mem ((c.tc : Thread Cert.Reference3Ideal.nD Cert.Reference3Ideal.τ).loc Cert.Reference3Ideal.main_v270) = v8 c
          ∧ r.2.mem ((c.tc : Thread Cert.Reference3Ideal.nD Cert.Reference3Ideal.τ).loc Cert.Reference3Ideal.main_v271) = v9 c
          ∧ r.2.mem ((c.tc : Thread Cert.Reference3Ideal.nD Cert.Reference3Ideal.τ).loc Cert.Reference3Ideal.main_v273) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  IdealRules.named_const.Statement Cert.Kernel4Ideal.κ "sqrt_half" .f32 0x3F3504F3#32 (((Real.sqrt 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v22_0)) (v1 : (c : Dev Cert.Kernel4Ideal.nD) → Buf (Elt Ideal) ((c.tc : Thread Cert.Kernel4Ideal.nD Cert.Kernel4Ideal.τ).loc Cert.Kernel4Ideal.main_v22_1)) (v2 : (c : Dev Cert.Kernel4Ideal.nD) → Buf (Elt Ideal) ((c.tc : Thread Cert.Kernel4Ideal.nD Cert.Kernel4Ideal.τ).loc Cert.Kernel4Ideal.main_v22_2)) (v3 : (c : Dev Cert.Kernel4Ideal.nD) → Buf (Elt Ideal) ((c.tc : Thread Cert.Kernel4Ideal.nD Cert.Kernel4Ideal.τ).loc Cert.Kernel4Ideal.main_v22_3)) (v4 : (c : Dev Cert.Kernel4Ideal.nD) → Buf (Elt Ideal) ((c.tc : Thread Cert.Kernel4Ideal.nD Cert.Kernel4Ideal.τ).loc Cert.Kernel4Ideal.main_v22_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22_0) = v0 c
          ∧ r.2.mem ((c.tc : Thread Cert.Kernel4Ideal.nD Cert.Kernel4Ideal.τ).loc Cert.Kernel4Ideal.main_v22_1) = v1 c
          ∧ r.2.mem ((c.tc : Thread Cert.Kernel4Ideal.nD Cert.Kernel4Ideal.τ).loc Cert.Kernel4Ideal.main_v22_2) = v2 c
          ∧ r.2.mem ((c.tc : Thread Cert.Kernel4Ideal.nD Cert.Kernel4Ideal.τ).loc Cert.Kernel4Ideal.main_v22_3) = v3 c
          ∧ r.2.mem ((c.tc : Thread Cert.Kernel4Ideal.nD Cert.Kernel4Ideal.τ).loc Cert.Kernel4Ideal.main_v22_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v133) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v132) = v3 c
          ∧ r.2.mem ((c.tc : Thread Cert.Reference4Ideal.nD Cert.Reference4Ideal.τ).loc Cert.Reference4Ideal.main_v147) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v22_0)) (v1 : (c : Dev Cert.Kernel9Ideal.nD) → Buf (Elt Ideal) ((c.tc : Thread Cert.Kernel9Ideal.nD Cert.Kernel9Ideal.τ).loc Cert.Kernel9Ideal.main_v22_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v22_0) = v0 c
          ∧ r.2.mem ((c.tc : Thread Cert.Kernel9Ideal.nD Cert.Kernel9Ideal.τ).loc Cert.Kernel9Ideal.main_v22_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_v22) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_args : Cert.Pre_finite_args.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_args (hKernel3Ideal := hKernel3Ideal) (hPre_finite_args := hPre_finite_args)
    ∧ quiescent_Reference3Ideal (hReference3Ideal := hReference3Ideal)
    ∧ quiescent_Reference3Ideal_pre_finite_args (hReference3Ideal := hReference3Ideal) (hPre_finite_args := hPre_finite_args)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_args (hKernel3Ideal := hKernel3Ideal) (hReference3Ideal := hReference3Ideal) (hPre_finite_args := hPre_finite_args)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ preserves_Kernel9_Kernel9Ideal
    ∧ algebraic_Kernel9Ideal_Reference9Ideal (hKernel9Ideal := hKernel9Ideal) (hReference9Ideal := hReference9Ideal)
-- ==== Pre_finite_args.lean ====
abbrev S4096x1024 : Shape := ⟨2, ![4096, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S31x512 : S_.BroadcastsInDim S31x512 (![] : Fin 0 → Fin S31x512.rank)
  reducesTo_S31x512_S_d0_1 : S31x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_arg12 : FVec F S4096x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S4096x1024 .f32 := Host.absf main_arg12
  let main_cst_20 : FVec F S_ .f32 := constant S_ .f32 0x7F800000#32
  let main_v55 : FVec F S4096x1024 .f32 := broadcastInDim S4096x1024 ![] bcast_S_S4096x1024 main_cst_20
  let main_v56 : IVec S4096x1024 1 := cmpf .olt main_v54 main_v55
  let main_c_21 : IVec S_ 1 := constantI S_ 1 1#1
  let main_v57 : IVec S_ 1 := (fun x v => Host.reduce IntOp.andi x v reducesTo_S4096x1024_S_d0_1 h_S_) main_v56 main_c_21
  let main_v58 : IVec S_ 1 := andi main_v53 main_v57
  main_v58

def fn_part2 {F : FTy → Type} [FloatOps F] (main_arg7 : FVec F S31x512 .f32) (main_arg8 : FVec F S512 .f32) (main_arg9 : FVec F S512 .f32) (main_arg11 : FVec F S1024x1024 .f32) (main_arg12 : FVec F S4096x1024 .f32) (main_v33 : IVec S_ 1) : IVec S_ 1 :=
  let main_v34 : FVec F S31x512 .f32 := Host.absf main_arg7
  let main_cst_12 : FVec F S_ .f32 := constant S_ .f32 0x7F800000#32
  let main_v35 : FVec F S31x512 .f32 := broadcastInDim S31x512 ![] bcast_S_S31x512 main_cst_12
  let main_v36 : IVec S31x512 1 := cmpf .olt main_v34 main_v35
  let main_c_13 : IVec S_ 1 := constantI S_ 1 1#1
  let main_v37 : IVec S_ 1 := (fun x v => Host.reduce IntOp.andi x v reducesTo_S31x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1024x1024 .f32 := Host.absf main_arg11
  let main_cst_18 : FVec F S_ .f32 := constant S_ .f32 0x7F800000#32
  let main_v50 : FVec F S1024x1024 .f32 := broadcastInDim S1024x1024 ![] bcast_S_S1024x1024 main_cst_18
  fn_part3 (F := F) main_arg12 main_v48 main_v49 main_v50

def fn_part1 {F : FTy → Type} [FloatOps F] (main_arg4 : FVec F S512 .f32) (main_arg5 : FVec F S4x128x128 .f32) (main_arg6 : FVec F S4x128 .f32) (main_arg7 : FVec F S31x512 .f32) (main_arg8 : FVec F S512 .f32) (main_arg9 : FVec F S512 .f32) (main_arg11 : FVec F S1024x1024 .f32) (main_arg12 : FVec F S4096x1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S4x128x128 .f32 := Host.absf main_arg5
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_arg8 main_arg9 main_arg11 main_arg12 main_v33

def fn {F : FTy → Type} [FloatOps F] (main_arg0 : FVec F S4096x1024 .f32) (main_arg1 : FVec F S1024 .f32) (main_arg2 : FVec F S1024x2048 .f32) (main_arg3 : FVec F S512 .f32) (main_arg4 : FVec F S512 .f32) (main_arg5 : FVec F S4x128x128 .f32) (main_arg6 : FVec F S4x128 .f32) (main_arg7 : FVec F S31x512 .f32) (main_arg8 : FVec F S512 .f32) (main_arg9 : FVec F S512 .f32) (main_arg10 : FVec F S512 .f32) (main_arg11 : FVec F S1024x1024 .f32) (main_arg12 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg11 main_arg12 main_v13 main_v16
-- ==== Kernel.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8x512 : Shape := ⟨3, ![1024, 8, 512]⟩
abbrev S8x1024x512 : Shape := ⟨3, ![8, 1024, 512]⟩
abbrev S4096x8x512 : Shape := ⟨3, ![4096, 8, 512]⟩
abbrev S4096x4096 : Shape := ⟨2, ![4096, 4096]⟩
abbrev S8x128 : Shape := ⟨2, ![8, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 38
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S1024x4096, .bf16⟩
  | .hbm, ⟨24, _⟩ => ⟨S1024x8x512, .bf16⟩
  | .hbm, ⟨25, _⟩ => ⟨S8x1024x512, .bf16⟩
  | .hbm, ⟨26, _⟩ => ⟨S4096x8x512, .f32⟩
  | .hbm, ⟨27, _⟩ => ⟨S_, .f32⟩
  | .hbm, ⟨28, _⟩ => ⟨S4096x8x512, .f32⟩
  | .hbm, ⟨29, _⟩ => ⟨S4096x8x512, .f32⟩
  | .hbm, ⟨30, _⟩ => ⟨S4096x4096, .f32⟩
  | .hbm, ⟨31, _⟩ => ⟨S4096x4096, .bf16⟩
  | .hbm, ⟨32, _⟩ => ⟨S4096x1024, .bf16⟩
  | .hbm, ⟨33, _⟩ => ⟨S1x1024, .f32⟩
  | .hbm, ⟨34, _⟩ => ⟨S4096x1024, .f32⟩
  | .hbm, ⟨35, _⟩ => ⟨S4096x1024, .bf16⟩
  | .hbm, ⟨36, _⟩ => ⟨S8x128, .f32⟩
  | .hbm, ⟨37, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x128 : Shape := ⟨2, ![8, 128]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .bf16⟩
  | .hbm, ⟨101, _⟩ => ⟨S8x128, .f32⟩
  | .hbm, ⟨102, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_cst_12 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_cst_14 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_15 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_18 : Ref sig .tc := ⟨.hbm, 90, rfl⟩
abbrev main_v63 : Ref sig .tc := ⟨.hbm, 91, rfl⟩
abbrev main_v64 : Ref sig .tc := ⟨.hbm, 92, rfl⟩
abbrev main_cst_19 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8x512 : Shape := ⟨3, ![1024, 8, 512]⟩
abbrev S8x1024x512 : Shape := ⟨3, ![8, 1024, 512]⟩
abbrev S4096x8x512 : Shape := ⟨3, ![4096, 8, 512]⟩
abbrev S4096x4096 : Shape := ⟨2, ![4096, 4096]⟩
abbrev S512x1024 : Shape := ⟨2, ![512, 1024]⟩
abbrev S512x4096 : Shape := ⟨2, ![512, 4096]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 38
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1024x4096, .bf16⟩
  | .hbm, ⟨23, _⟩ => ⟨S1024x8x512, .bf16⟩
  | .hbm, ⟨24, _⟩ => ⟨S8x1024x512, .bf16⟩
  | .hbm, ⟨25, _⟩ => ⟨S4096x8x512, .f32⟩
  | .hbm, ⟨26, _⟩ => ⟨S_, .f32⟩
  | .hbm, ⟨27, _⟩ => ⟨S4096x8x512, .f32⟩
  | .hbm, ⟨28, _⟩ => ⟨S4096x8x512, .f32⟩
  | .hbm, ⟨29, _⟩ => ⟨S4096x4096, .f32⟩
  | .hbm, ⟨30, _⟩ => ⟨S4096x4096, .bf16⟩
  | .hbm, ⟨31, _⟩ => ⟨S4096x1024, .bf16⟩
  | .hbm, ⟨32, _⟩ => ⟨S4096x1024, .bf16⟩
  | .hbm, ⟨33, _⟩ => ⟨S1x1024, .f32⟩
  | .hbm, ⟨34, _⟩ => ⟨S4096x4096, .bf16⟩
  | .hbm, ⟨35, _⟩ => ⟨S4096x1024, .f32⟩
  | .hbm, ⟨36, _⟩ => ⟨S4096x1024, .bf16⟩
  | .hbm, ⟨37, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S512x4096, .bf16⟩
  | .local _ .vmem, ⟨6, _⟩ => ⟨S512x4096, .bf16⟩
  | .local _ .vmem, ⟨7, _⟩ => ⟨S8x1024x512, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x4096, .bf16⟩
  | .hbm, ⟨77, _⟩ => ⟨S4096x1024, .bf16⟩
  | .hbm, ⟨78, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S4096x512 : Shape := ⟨2, ![4096, 512]⟩
abbrev S4126x512 : Shape := ⟨2, ![4126, 512]⟩
abbrev S4096x31 : Shape := ⟨2, ![4096, 31]⟩
abbrev S4096x31x1 : Shape := ⟨3, ![4096, 31, 1]⟩
abbrev S4096x31x512 : Shape := ⟨3, ![4096, 31, 512]⟩
abbrev S1x31x512 : Shape := ⟨3, ![1, 31, 512]⟩
abbrev S1x512 : Shape := ⟨2, ![1, 512]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S4096x4x128 : Shape := ⟨3, ![4096, 4, 128]⟩
abbrev S4096x4 : Shape := ⟨2, ![4096, 4]⟩
abbrev S4096x4x1 : Shape := ⟨3, ![4096, 4, 1]⟩
abbrev S1x4x128 : Shape := ⟨3, ![1, 4, 128]⟩
abbrev S8x128 : Shape := ⟨2, ![8, 128]⟩
abbrev S1x1024x1024 : Shape := ⟨3, ![1, 1024, 1024]⟩
abbrev S512x1024 : Shape := ⟨2, ![512, 1024]⟩
abbrev S512x2048 : Shape := ⟨2, ![512, 2048]⟩
abbrev S512x512 : Shape := ⟨2, ![512, 512]⟩
abbrev S128x512 : Shape := ⟨2, ![128, 512]⟩
abbrev S512x1 : Shape := ⟨2, ![512, 1]⟩
abbrev S128x1 : Shape := ⟨2, ![128, 1]⟩
abbrev S512x128 : Shape := ⟨2, ![512, 128]⟩
abbrev S1x128 : Shape := ⟨2, ![1, 128]⟩
abbrev S128 : Shape := ⟨1, ![128]⟩

abbrev nBuf : Space → Nat
  | .hbm => 208
  | .vmem => 30
  | .smem => 0
  | _ => 0

abbrev hbmTy0_0 (i : Nat) : BufTy := match i % 128 with
  | 0 => ⟨S4096x1024, .f32⟩
  | 1 => ⟨S1024, .f32⟩
  | 2 => ⟨S1024x2048, .f32⟩
  | 3 => ⟨S512, .f32⟩
  | 4 => ⟨S512, .f32⟩
  | 5 => ⟨S4x128x128, .f32⟩
  | 6 => ⟨S4x128, .f32⟩
  | 7 => ⟨S31x512, .f32⟩
  | 8 => ⟨S512, .f32⟩
  | 9 => ⟨S512, .f32⟩
  | 10 => ⟨S512, .f32⟩
  | 11 => ⟨S1024x1024, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x2048, .f32⟩
  | 30 => ⟨S4096x512, .f32⟩
  | 31 => ⟨S4096x512, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S_, .f32⟩
  | 38 => ⟨S4096x512, .f32⟩
  | 39 => ⟨S4096x512, .f32⟩
  | 40 => ⟨S4096x512, .f32⟩
  | 41 => ⟨S_, .i32⟩
  | 42 => ⟨S_, .f32⟩
  | 43 => ⟨S4126x512, .f32⟩
  | 44 => ⟨S4096x31, .i32⟩
  | 45 => ⟨S4096x31, .i32⟩
  | 46 => ⟨S4096x31, .i32⟩
  | 47 => ⟨S_, .i32⟩
  | 48 => ⟨S4096x31, .i32⟩
  | 49 => ⟨S4096x31, .i1⟩
  | 50 => ⟨S_, .i32⟩
  | 51 => ⟨S4096x31, .i32⟩
  | 52 => ⟨S4096x31, .i32⟩
  | 53 => ⟨S4096x31, .i32⟩
  | 54 => ⟨S4096x31x1, .i32⟩
  | 55 => ⟨S4096x31x512, .f32⟩
  | 56 => ⟨S1x31x512, .f32⟩
  | 57 => ⟨S4096x31x512, .f32⟩
  | 58 => ⟨S4096x31x512, .f32⟩
  | 59 => ⟨S_, .f32⟩
  | 60 => ⟨S4096x512, .f32⟩
  | 61 => ⟨S1x512, .f32⟩
  | 62 => ⟨S4096x512, .f32⟩
  | 63 => ⟨S4096x512, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S_, .f32⟩
  | 70 => ⟨S_, .f32⟩
  | 71 => ⟨S_, .f32⟩
  | 72 => ⟨S4096x512, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S_, .f32⟩
  | 83 => ⟨S_, .f32⟩
  | 84 => ⟨S_, .f32⟩
  | 85 => ⟨S4096x512, .f32⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S4096x512, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S4096x512, .f32⟩
  | 99 => ⟨S4096x512, .f32⟩
  | 100 => ⟨S4096x512, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S4096x512, .f32⟩
  | 108 => ⟨S4096x512, .f32⟩
  | 109 => ⟨S_, .f32⟩
  | 110 => ⟨S4096x1, .f32⟩
  | 111 => ⟨S4096x1, .f32⟩
  | 112 => ⟨S4096x1, .f32⟩
  | 113 => ⟨S4096x512, .f32⟩
  | 114 => ⟨S4096x512, .f32⟩
  | 115 => ⟨S1x512, .f32⟩
  | 116 => ⟨S4096x512, .f32⟩
  | 117 => ⟨S4096x512, .f32⟩
  | 118 => ⟨S1x512, .f32⟩
  | 119 => ⟨S4096x512, .f32⟩
  | 120 => ⟨S4096x512, .f32⟩
  | 121 => ⟨S32x128x4x128, .f32⟩
  | 122 => ⟨S_, .f32⟩
  | 123 => ⟨S128x128, .f32⟩
  | 124 => ⟨S128x128, .i32⟩
  | 125 => ⟨S_, .i32⟩
  | 126 => ⟨S128x128, .i32⟩
  | 127 => ⟨S128x128, .i32⟩
  | _ => ⟨S4096x1024, .f32⟩

abbrev hbmTy0_1 (i : Nat) : BufTy := match i % 128 with
  | 0 => ⟨S128x128, .i32⟩
  | 1 => ⟨S128x128, .i1⟩
  | 2 => ⟨S_, .f32⟩
  | 3 => ⟨S128x128, .f32⟩
  | 4 => ⟨S128x128, .f32⟩
  | 5 => ⟨S1x128x128, .f32⟩
  | 6 => ⟨S4x128x128, .f32⟩
  | 7 => ⟨S4x128x128, .f32⟩
  | 8 => ⟨S4x32x128x128, .f32⟩
  | 9 => ⟨S32x128x4x128, .f32⟩
  | 10 => ⟨S128x4, .f32⟩
  | 11 => ⟨S1x128x4x1, .f32⟩
  | 12 => ⟨S32x128x4x128, .f32⟩
  | 13 => ⟨S32x128x4x128, .f32⟩
  | 14 => ⟨S4096x512, .f32⟩
  | 15 => ⟨S4096x512, .f32⟩
  | 16 => ⟨S4096x4x128, .f32⟩
  | 17 => ⟨S4x128, .f32⟩
  | 18 => ⟨S4x128, .f32⟩
  | 19 => ⟨S_, .f32⟩
  | 20 => ⟨S4096x4, .f32⟩
  | 21 => ⟨S4096x4x1, .f32⟩
  | 22 => ⟨S_, .f32⟩
  | 23 => ⟨S4096x4x1, .f32⟩
  | 24 => ⟨S4096x4x1, .f32⟩
  | 25 => ⟨S4096x4x128, .f32⟩
  | 26 => ⟨S4096x4x128, .f32⟩
  | 27 => ⟨S4096x4x128, .f32⟩
  | 28 => ⟨S_, .f32⟩
  | 29 => ⟨S4096x4, .f32⟩
  | 30 => ⟨S4096x4x1, .f32⟩
  | 31 => ⟨S_, .f32⟩
  | 32 => ⟨S4096x4x1, .f32⟩
  | 33 => ⟨S4096x4x1, .f32⟩
  | 34 => ⟨S4096x4x128, .f32⟩
  | 35 => ⟨S4096x4x128, .f32⟩
  | 36 => ⟨S_, .f32⟩
  | 37 => ⟨S4096x4x1, .f32⟩
  | 38 => ⟨S4096x4x1, .f32⟩
  | 39 => ⟨S4096x4x1, .f32⟩
  | 40 => ⟨S4096x4x128, .f32⟩
  | 41 => ⟨S4096x4x128, .f32⟩
  | 42 => ⟨S1x4x128, .f32⟩
  | 43 => ⟨S4096x4x128, .f32⟩
  | 44 => ⟨S4096x4x128, .f32⟩
  | 45 => ⟨S1x4x128, .f32⟩
  | 46 => ⟨S4096x4x128, .f32⟩
  | 47 => ⟨S4096x4x128, .f32⟩
  | 48 => ⟨S4096x4x128, .f32⟩
  | 49 => ⟨S4096x4x128, .f32⟩
  | 50 => ⟨S_, .f32⟩
  | 51 => ⟨S4096x4x128, .f32⟩
  | 52 => ⟨S4096x4x128, .f32⟩
  | 53 => ⟨S_, .f32⟩
  | 54 => ⟨S4096x4x128, .f32⟩
  | 55 => ⟨S4096x4x128, .f32⟩
  | 56 => ⟨S4096x4x128, .f32⟩
  | 57 => ⟨S4096x512, .f32⟩
  | 58 => ⟨S4096x1024, .f32⟩
  | 59 => ⟨S4096x1024, .bf16⟩
  | 60 => ⟨S4096x1024, .bf16⟩
  | 61 => ⟨S1024x1024, .bf16⟩
  | 62 => ⟨S1x512, .f32⟩
  | 63 => ⟨S1x512, .f32⟩
  | 64 => ⟨S128x4, .f32⟩
  | 65 => ⟨S1x512, .f32⟩
  | 66 => ⟨S1x512, .f32⟩
  | 67 => ⟨S8x128, .f32⟩
  | 68 => ⟨S8x128, .bf16⟩
  | 69 => ⟨S4096x1024, .bf16⟩
  | 70 => ⟨S4096x512, .f32⟩
  | 71 => ⟨S1x512, .f32⟩
  | 72 => ⟨S1x512, .f32⟩
  | 73 => ⟨S4x128x128, .f32⟩
  | 74 => ⟨S4x128, .f32⟩
  | 75 => ⟨S1x512, .f32⟩
  | 76 => ⟨S1x512, .f32⟩
  | 77 => ⟨S1x512, .f32⟩
  | 78 => ⟨S1x1024x1024, .f32⟩
  | 79 => ⟨S1x1024x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x2048, .f32⟩
  | .local _ .vmem, ⟨4, _⟩ => ⟨S512x2048, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S4x128x128, .f32⟩
  | .local _ .vmem, ⟨10, _⟩ => ⟨S128x4, .f32⟩
  | .local _ .vmem, ⟨11, _⟩ => ⟨S1x512, .f32⟩
  | .local _ .vmem, ⟨12, _⟩ => ⟨S1x512, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x512, .f32⟩
  | .local _ .vmem, ⟨18, _⟩ => ⟨S512x512, .f32⟩
  | .local _ .vmem, ⟨19, _⟩ => ⟨S1x512, .f32⟩
  | .local _ .vmem, ⟨20, _⟩ => ⟨S1x512, .f32⟩
  | .local _ .vmem, ⟨21, _⟩ => ⟨S4x128x128, .f32⟩
  | .local _ .vmem, ⟨22, _⟩ => ⟨S4x128, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x1024x1024, .f32⟩
  | .local _ .vmem, ⟨27, _⟩ => ⟨S1x1024x1024, .bf16⟩
  | .local _ .vmem, ⟨28, _⟩ => ⟨S512x512, .f32⟩
  | .local _ .vmem, ⟨29, _⟩ => ⟨S128x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_15 : Ref sig .tc := ⟨.hbm, 101, rfl⟩
abbrev main_v70 : Ref sig .tc := ⟨.hbm, 102, rfl⟩
abbrev main_v71 : Ref sig .tc := ⟨.hbm, 103, rfl⟩
abbrev main_cst_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_17 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_call1_v0 : Ref sig .tc := ⟨.hbm, 124, rfl⟩
abbrev main_call1_c : Ref sig .tc := ⟨.hbm, 125, rfl⟩
abbrev main_call1_v1 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_call1_cst : Ref sig .tc := ⟨.hbm, 130, rfl⟩
abbrev main_call1_v5 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_19 : Ref sig .tc := ⟨.hbm, 147, rfl⟩
abbrev main_v104 : Ref sig .tc := ⟨.hbm, 148, rfl⟩
abbrev main_v105 : Ref sig .tc := ⟨.hbm, 149, rfl⟩
abbrev main_cst_20 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_21 : Ref sig .tc := ⟨.hbm, 156, rfl⟩
abbrev main_v111 : Ref sig .tc := ⟨.hbm, 157, rfl⟩
abbrev main_v112 : Ref sig .tc := ⟨.hbm, 158, rfl⟩
abbrev main_cst_22 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_23 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_call2_v0 : Ref sig .tc := ⟨.hbm, 176, rfl⟩
abbrev main_call2_v1 : Ref sig .tc := ⟨.hbm, 177, rfl⟩
abbrev main_call2_cst : Ref sig .tc := ⟨.hbm, 178, rfl⟩
abbrev main_call2_v2 : Ref sig .tc := ⟨.hbm, 179, rfl⟩
abbrev main_call2_v3 : Ref sig .tc := ⟨.hbm, 180, rfl⟩
abbrev main_call2_cst_0 : Ref sig .tc := ⟨.hbm, 181, rfl⟩
abbrev main_call2_v4 : Ref sig .tc := ⟨.hbm, 182, rfl⟩
abbrev main_call2_v5 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141_0 : Ref sig .tc := ⟨.hbm, 197, rfl⟩
abbrev main_v141_1 : Ref sig .tc := ⟨.hbm, 198, rfl⟩
abbrev main_v141_2 : Ref sig .tc := ⟨.hbm, 199, rfl⟩
abbrev main_v141_3 : Ref sig .tc := ⟨.hbm, 200, rfl⟩
abbrev main_v141_4 : Ref sig .tc := ⟨.hbm, 201, rfl⟩
abbrev main_v141_5 : Ref sig .tc := ⟨.hbm, 202, rfl⟩
abbrev main_v141_6 : Ref sig .tc := ⟨.hbm, 203, rfl⟩
abbrev main_v141_7 : Ref sig .tc := ⟨.hbm, 204, rfl⟩
abbrev main_v141_8 : Ref sig .tc := ⟨.hbm, 205, rfl⟩
abbrev main_v141_9 : Ref sig .tc := ⟨.hbm, 206, rfl⟩
abbrev main_v141_10 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c7_i32 : BitVec 32 := 7#32
  let v1096 : BitVec 1 := Scalar.cmpi .eq arg0 c7_i32
  let v1097 : BitVec 32 := Scalar.extui v1096
  let c0_i32_557 : BitVec 32 := 0#32
  let v1098 : BitVec 1 := Scalar.cmpi .ne v1097 c0_i32_557
  v1098

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Kernel3Ideal.lean ====
variable {F : FTy → Type} [FloatOps F] [Named F]
def κ : String → Option EReal := fun
  | "inv_sqrt_2pi" => some (((9465531 / 16777216) * (Real.sqrt 2)⁻¹ : ℝ) : EReal)
  | "sqrt_half" => some (((Real.sqrt 2)⁻¹ : ℝ) : EReal)
  | _ => none
-- ==== Reference3Ideal.lean ====
abbrev S4096x1024 : Shape := ⟨2, ![4096, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S4096x512 : Shape := ⟨2, ![4096, 512]⟩
abbrev S4126x512 : Shape := ⟨2, ![4126, 512]⟩
abbrev S4096x31 : Shape := ⟨2, ![4096, 31]⟩
abbrev S4096x31x1 : Shape := ⟨3, ![4096, 31, 1]⟩
abbrev S4096x31x512 : Shape := ⟨3, ![4096, 31, 512]⟩
abbrev S1x31x512 : Shape := ⟨3, ![1, 31, 512]⟩
abbrev S1x512 : Shape := ⟨2, ![1, 512]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S4096x4x128 : Shape := ⟨3, ![4096, 4, 128]⟩
abbrev S4096x4 : Shape := ⟨2, ![4096, 4]⟩
abbrev S4096x4x1 : Shape := ⟨3, ![4096, 4, 1]⟩
abbrev S1x4x128 : Shape := ⟨3, ![1, 4, 128]⟩
abbrev S1x1024x1024 : Shape := ⟨3, ![1, 1024, 1024]⟩

abbrev nBuf : Space → Nat
  | .hbm => 373
  | .vmem => 0
  | .smem => 0
  | _ => 0

abbrev hbmTy0_0 (i : Nat) : BufTy := match i % 128 with
  | 0 => ⟨S4096x1024, .f32⟩
  | 1 => ⟨S1024, .f32⟩
  | 2 => ⟨S1024x2048, .f32⟩
  | 3 => ⟨S512, .f32⟩
  | 4 => ⟨S512, .f32⟩
  | 5 => ⟨S4x128x128, .f32⟩
  | 6 => ⟨S4x128, .f32⟩
  | 7 => ⟨S31x512, .f32⟩
  | 8 => ⟨S512, .f32⟩
  | 9 => ⟨S512, .f32⟩
  | 10 => ⟨S512, .f32⟩
  | 11 => ⟨S1024x1024, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x2048, .f32⟩
  | 30 => ⟨S4096x512, .f32⟩
  | 31 => ⟨S4096x512, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S_, .f32⟩
  | 38 => ⟨S4096x512, .f32⟩
  | 39 => ⟨S4096x512, .f32⟩
  | 40 => ⟨S4096x512, .f32⟩
  | 41 => ⟨S_, .i32⟩
  | 42 => ⟨S_, .f32⟩
  | 43 => ⟨S4126x512, .f32⟩
  | 44 => ⟨S4096x31, .i32⟩
  | 45 => ⟨S4096x31, .i32⟩
  | 46 => ⟨S4096x31, .i32⟩
  | 47 => ⟨S_, .i32⟩
  | 48 => ⟨S4096x31, .i32⟩
  | 49 => ⟨S4096x31, .i1⟩
  | 50 => ⟨S_, .i32⟩
  | 51 => ⟨S4096x31, .i32⟩
  | 52 => ⟨S4096x31, .i32⟩
  | 53 => ⟨S4096x31, .i32⟩
  | 54 => ⟨S4096x31x1, .i32⟩
  | 55 => ⟨S4096x31x512, .f32⟩
  | 56 => ⟨S1x31x512, .f32⟩
  | 57 => ⟨S4096x31x512, .f32⟩
  | 58 => ⟨S4096x31x512, .f32⟩
  | 59 => ⟨S_, .f32⟩
  | 60 => ⟨S4096x512, .f32⟩
  | 61 => ⟨S4096x1024, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S_, .f32⟩
  | 68 => ⟨S_, .f32⟩
  | 69 => ⟨S_, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S4096x512, .f32⟩
  | 80 => ⟨S_, .f32⟩
  | 81 => ⟨S4096x512, .f32⟩
  | 82 => ⟨S4096x512, .f32⟩
  | 83 => ⟨S_, .f32⟩
  | 84 => ⟨S_, .f32⟩
  | 85 => ⟨S_, .f32⟩
  | 86 => ⟨S4096x512, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S_, .f32⟩
  | 93 => ⟨S4096x512, .f32⟩
  | 94 => ⟨S4096x512, .f32⟩
  | 95 => ⟨S4096x512, .f32⟩
  | 96 => ⟨S_, .f32⟩
  | 97 => ⟨S4096, .f32⟩
  | 98 => ⟨S4096x1, .f32⟩
  | 99 => ⟨S_, .f32⟩
  | 100 => ⟨S4096x1, .f32⟩
  | 101 => ⟨S4096x1, .f32⟩
  | 102 => ⟨S4096x512, .f32⟩
  | 103 => ⟨S4096x512, .f32⟩
  | 104 => ⟨S4096x512, .f32⟩
  | 105 => ⟨S_, .f32⟩
  | 106 => ⟨S4096x512, .f32⟩
  | 107 => ⟨S4096x512, .f32⟩
  | 108 => ⟨S_, .f32⟩
  | 109 => ⟨S4096, .f32⟩
  | 110 => ⟨S4096x1, .f32⟩
  | 111 => ⟨S_, .f32⟩
  | 112 => ⟨S4096x1, .f32⟩
  | 113 => ⟨S4096x1, .f32⟩
  | 114 => ⟨S4096x512, .f32⟩
  | 115 => ⟨S4096x512, .f32⟩
  | 116 => ⟨S_, .f32⟩
  | 117 => ⟨S4096x1, .f32⟩
  | 118 => ⟨S4096x1, .f32⟩
  | 119 => ⟨S4096x1, .f32⟩
  | 120 => ⟨S4096x1, .f32⟩
  | 121 => ⟨S_, .f32⟩
  | 122 => ⟨S4096x1, .f32⟩
  | 123 => ⟨S4096x1, .f32⟩
  | 124 => ⟨S4096x512, .f32⟩
  | 125 => ⟨S4096x512, .f32⟩
  | 126 => ⟨S1x512, .f32⟩
  | 127 => ⟨S4096x512, .f32⟩
  | _ => ⟨S4096x1024, .f32⟩

abbrev hbmTy0_1 (i : Nat) : BufTy := match i % 128 with
  | 0 => ⟨S4096x512, .f32⟩
  | 1 => ⟨S1x512, .f32⟩
  | 2 => ⟨S4096x512, .f32⟩
  | 3 => ⟨S4096x512, .f32⟩
  | 4 => ⟨S32x128x4x128, .f32⟩
  | 5 => ⟨S_, .f32⟩
  | 6 => ⟨S128x128, .f32⟩
  | 7 => ⟨S128x128, .i32⟩
  | 8 => ⟨S_, .i32⟩
  | 9 => ⟨S128x128, .i32⟩
  | 10 => ⟨S128x128, .i32⟩
  | 11 => ⟨S128x128, .i32⟩
  | 12 => ⟨S128x128, .i1⟩
  | 13 => ⟨S_, .f32⟩
  | 14 => ⟨S128x128, .f32⟩
  | 15 => ⟨S128x128, .f32⟩
  | 16 => ⟨S1x128x128, .f32⟩
  | 17 => ⟨S4x128x128, .f32⟩
  | 18 => ⟨S4x128x128, .f32⟩
  | 19 => ⟨S4x32x128x128, .f32⟩
  | 20 => ⟨S32x128x4x128, .f32⟩
  | 21 => ⟨S128x4, .f32⟩
  | 22 => ⟨S1x128x4x1, .f32⟩
  | 23 => ⟨S32x128x4x128, .f32⟩
  | 24 => ⟨S32x128x4x128, .f32⟩
  | 25 => ⟨S4096x512, .f32⟩
  | 26 => ⟨S4096x512, .f32⟩
  | 27 => ⟨S1x512, .f32⟩
  | 28 => ⟨S4096x512, .f32⟩
  | 29 => ⟨S4096x512, .f32⟩
  | 30 => ⟨S4096x4x128, .f32⟩
  | 31 => ⟨S4x128, .f32⟩
  | 32 => ⟨S4x128, .f32⟩
  | 33 => ⟨S_, .f32⟩
  | 34 => ⟨S4096x4, .f32⟩
  | 35 => ⟨S4096x4x1, .f32⟩
  | 36 => ⟨S_, .f32⟩
  | 37 => ⟨S4096x4x1, .f32⟩
  | 38 => ⟨S4096x4x1, .f32⟩
  | 39 => ⟨S4096x4x128, .f32⟩
  | 40 => ⟨S4096x4x128, .f32⟩
  | 41 => ⟨S4096x4x128, .f32⟩
  | 42 => ⟨S_, .f32⟩
  | 43 => ⟨S4096x4x128, .f32⟩
  | 44 => ⟨S4096x4x128, .f32⟩
  | 45 => ⟨S_, .f32⟩
  | 46 => ⟨S4096x4, .f32⟩
  | 47 => ⟨S4096x4x1, .f32⟩
  | 48 => ⟨S_, .f32⟩
  | 49 => ⟨S4096x4x1, .f32⟩
  | 50 => ⟨S4096x4x1, .f32⟩
  | 51 => ⟨S4096x4x128, .f32⟩
  | 52 => ⟨S4096x4x128, .f32⟩
  | 53 => ⟨S_, .f32⟩
  | 54 => ⟨S4096x4x1, .f32⟩
  | 55 => ⟨S4096x4x1, .f32⟩
  | 56 => ⟨S4096x4x1, .f32⟩
  | 57 => ⟨S4096x4x1, .f32⟩
  | 58 => ⟨S_, .f32⟩
  | 59 => ⟨S4096x4x1, .f32⟩
  | 60 => ⟨S4096x4x1, .f32⟩
  | 61 => ⟨S4096x4x128, .f32⟩
  | 62 => ⟨S4096x4x128, .f32⟩
  | 63 => ⟨S1x4x128, .f32⟩
  | 64 => ⟨S4096x4x128, .f32⟩
  | 65 => ⟨S4096x4x128, .f32⟩
  | 66 => ⟨S1x4x128, .f32⟩
  | 67 => ⟨S4096x4x128, .f32⟩
  | 68 => ⟨S4096x4x128, .f32⟩
  | 69 => ⟨S4096x4x128, .f32⟩
  | 70 => ⟨S4096x4x128, .f32⟩
  | 71 => ⟨S_, .f32⟩
  | 72 => ⟨S4096x4x128, .f32⟩
  | 73 => ⟨S4096x4x128, .f32⟩
  | 74 => ⟨S_, .f32⟩
  | 75 => ⟨S4096x4x128, .f32⟩
  | 76 => ⟨S4096x4x128, .f32⟩
  | 77 => ⟨S_, .f32⟩
  | 78 => ⟨S4096x4x128, .f32⟩
  | 79 => ⟨S4096x4x128, .f32⟩
  | 80 => ⟨S4096x4x128, .f32⟩
  | 81 => ⟨S4096x4x128, .f32⟩
  | 82 => ⟨S4096x512, .f32⟩
  | 83 => ⟨S4096x1024, .f32⟩
  | 84 => ⟨S4096x1024, .f32⟩
  | 85 => ⟨S1024x1024, .f32⟩
  | 86 => ⟨S1024x1024, .f32⟩
  | 87 => ⟨S4096x1024, .f32⟩
  | 88 => ⟨S4096x512, .f32⟩
  | 89 => ⟨S4096x512, .f32⟩
  | 90 => ⟨S4096x4x128, .f32⟩
  | 91 => ⟨S4096x4x128, .f32⟩
  | 92 => ⟨S4096x4x128, .f32⟩
  | 93 => ⟨S4096x4x128, .f32⟩
  | 94 => ⟨S4096x4x128, .f32⟩
  | 95 => ⟨S_, .f32⟩
  | 96 => ⟨S4x128, .f32⟩
  | 97 => ⟨S1x4x128, .f32⟩
  | 98 => ⟨S_, .f32⟩
  | 99 => ⟨S4x128, .f32⟩
  | 100 => ⟨S4096x4x128, .f32⟩
  | 101 => ⟨S_, .f32⟩
  | 102 => ⟨S4x128, .f32⟩
  | 103 => ⟨S1x4x128, .f32⟩
  | 104 => ⟨S4096x4x128, .f32⟩
  | 105 => ⟨S4096x4x128, .f32⟩
  | 106 => ⟨S_, .f32⟩
  | 107 => ⟨S4x128, .f32⟩
  | 108 => ⟨S4096x4x128, .f32⟩
  | 109 => ⟨S_, .f32⟩
  | 110 => ⟨S4096x4, .f32⟩
  | 111 => ⟨S4096x4x1, .f32⟩
  | 112 => ⟨S4096x4x128, .f32⟩
  | 113 => ⟨S4096x4x128, .f32⟩
  | 114 => ⟨S4096x4x1, .f32⟩
  | 115 => ⟨S4096x4x128, .f32⟩
  | 116 => ⟨S_, .f32⟩
  | 117 => ⟨S4096x4, .f32⟩
  | 118 => ⟨S4096x4x1, .f32⟩
  | 119 => ⟨S_, .f32⟩
  | 120 => ⟨S4096x4x1, .f32⟩
  | 121 => ⟨S4096x4x1, .f32⟩
  | 122 => ⟨S_, .f32⟩
  | 123 => ⟨S4096x4, .f32⟩
  | 124 => ⟨S4096x4x128, .f32⟩
  | 125 => ⟨S4096x4x128, .f32⟩
  | 126 => ⟨S4096x4x128, .f32⟩
  | 127 => ⟨S_, .f32⟩
  | _ => ⟨S4096x1024, .f32⟩

abbrev hbmTy0_2 (i : Nat) : BufTy := match i % 128 with
  | 0 => ⟨S4096x4, .f32⟩
  | 1 => ⟨S4096x4x1, .f32⟩
  | 2 => ⟨S4096x4x128, .f32⟩
  | 3 => ⟨S4096x4x1, .f32⟩
  | 4 => ⟨S_, .f32⟩
  | 5 => ⟨S4096x4x1, .f32⟩
  | 6 => ⟨S4096x4x1, .f32⟩
  | 7 => ⟨S_, .f32⟩
  | 8 => ⟨S4096x4, .f32⟩
  | 9 => ⟨S4096x4x128, .f32⟩
  | 10 => ⟨S4096x4x128, .f32⟩
  | 11 => ⟨S512, .f32⟩
  | 12 => ⟨S512, .f32⟩
  | 13 => ⟨S4096x512, .f32⟩
  | 14 => ⟨S_, .f32⟩
  | 15 => ⟨S512, .f32⟩
  | 16 => ⟨S1x512, .f32⟩
  | 17 => ⟨S_, .f32⟩
  | 18 => ⟨S512, .f32⟩
  | 19 => ⟨S4096x512, .f32⟩
  | 20 => ⟨S4096x512, .f32⟩
  | 21 => ⟨S32x128x4x128, .f32⟩
  | 22 => ⟨S_, .f32⟩
  | 23 => ⟨S128x4, .f32⟩
  | 24 => ⟨S1x128x4x1, .f32⟩
  | 25 => ⟨S_, .f32⟩
  | 26 => ⟨S128x4, .f32⟩
  | 27 => ⟨S4x128, .f32⟩
  | 28 => ⟨S4x32x128x128, .f32⟩
  | 29 => ⟨S4x128x128, .f32⟩
  | 30 => ⟨S4x32x128x128, .f32⟩
  | 31 => ⟨S32x128x4x128, .f32⟩
  | 32 => ⟨S4x128x128, .f32⟩
  | 33 => ⟨S4x128x128, .f32⟩
  | 34 => ⟨S4096x512, .f32⟩
  | 35 => ⟨S_, .f32⟩
  | 36 => ⟨S512, .f32⟩
  | 37 => ⟨S1x512, .f32⟩
  | 38 => ⟨S_, .f32⟩
  | 39 => ⟨S512, .f32⟩
  | 40 => ⟨S4096x512, .f32⟩
  | 41 => ⟨S_, .f32⟩
  | 42 => ⟨S512, .f32⟩
  | 43 => ⟨S1x512, .f32⟩
  | 44 => ⟨S4096x512, .f32⟩
  | 45 => ⟨S4096x512, .f32⟩
  | 46 => ⟨S_, .f32⟩
  | 47 => ⟨S512, .f32⟩
  | 48 => ⟨S4096x512, .f32⟩
  | 49 => ⟨S_, .f32⟩
  | 50 => ⟨S4096, .f32⟩
  | 51 => ⟨S4096x1, .f32⟩
  | 52 => ⟨S4096x512, .f32⟩
  | 53 => ⟨S4096x512, .f32⟩
  | 54 => ⟨S4096x1, .f32⟩
  | 55 => ⟨S4096x512, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096, .f32⟩
  | 64 => ⟨S4096x512, .f32⟩
  | 65 => ⟨S4096x512, .f32⟩
  | 66 => ⟨S4096x512, .f32⟩
  | 67 => ⟨S_, .f32⟩
  | 68 => ⟨S4096, .f32⟩
  | 69 => ⟨S4096x1, .f32⟩
  | 70 => ⟨S4096x512, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096, .f32⟩
  | 77 => ⟨S4096x512, .f32⟩
  | 78 => ⟨S4096x512, .f32⟩
  | 79 => ⟨S4096x512, .f32⟩
  | 80 => ⟨S4096x512, .f32⟩
  | 81 => ⟨S_, .f32⟩
  | 82 => ⟨S4096x512, .f32⟩
  | 83 => ⟨S4096x512, .f32⟩
  | 84 => ⟨S4096x512, .f32⟩
  | 85 => ⟨S4096x512, .f32⟩
  | 86 => ⟨S4096x512, .f32⟩
  | 87 => ⟨S_, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S_, .f32⟩
  | 94 => ⟨S4096x512, .f32⟩
  | 95 => ⟨S4096x512, .f32⟩
  | 96 => ⟨S4096x512, .f32⟩
  | 97 => ⟨S4096x512, .f32⟩
  | 98 => ⟨S4096x512, .f32⟩
  | 99 => ⟨S_, .f32⟩
  | 100 => ⟨S4096x512, .f32⟩
  | 101 => ⟨S4096x512, .f32⟩
  | 102 => ⟨S4096x512, .f32⟩
  | 103 => ⟨S_, .f32⟩
  | 104 => ⟨S4096x1024, .f32⟩
  | 105 => ⟨S_, .f32⟩
  | 106 => ⟨S4096x1024, .f32⟩
  | 107 => ⟨S4096x1024, .f32⟩
  | 108 => ⟨S4096x1024, .bf16⟩
  | 109 => ⟨S1x512, .f32⟩
  | 110 => ⟨S1x512, .f32⟩
  | 111 => ⟨S1x512, .f32⟩
  | 112 => ⟨S1x512, .f32⟩
  | 113 => ⟨S1x512, .f32⟩
  | 114 => ⟨S1x1024x1024, .f32⟩
  | 115 => ⟨S1024x1024, .bf16⟩
  | 116 => ⟨S1x1024x1024, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_cst_17 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_20 : Ref sig .tc := ⟨.hbm, 133, rfl⟩
abbrev main_v97 : Ref sig .tc := ⟨.hbm, 134, rfl⟩
abbrev main_call1_v0 : Ref sig .tc := ⟨.hbm, 135, rfl⟩
abbrev main_call1_c : Ref sig .tc := ⟨.hbm, 136, rfl⟩
abbrev main_call1_v1 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_call1_cst : Ref sig .tc := ⟨.hbm, 141, rfl⟩
abbrev main_call1_v5 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_21 : Ref sig .tc := ⟨.hbm, 161, rfl⟩
abbrev main_v116 : Ref sig .tc := ⟨.hbm, 162, rfl⟩
abbrev main_v117 : Ref sig .tc := ⟨.hbm, 163, rfl⟩
abbrev main_cst_22 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_23 : Ref sig .tc := ⟨.hbm, 170, rfl⟩
abbrev main_v123 : Ref sig .tc := ⟨.hbm, 171, rfl⟩
abbrev main_v124 : Ref sig .tc := ⟨.hbm, 172, rfl⟩
abbrev main_cst_24 : Ref sig .tc := ⟨.hbm, 173, rfl⟩
abbrev main_v125 : Ref sig .tc := ⟨.hbm, 174, rfl⟩
abbrev main_v126 : Ref sig .tc := ⟨.hbm, 175, rfl⟩
abbrev main_cst_25 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_26 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_27 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_call2_v0 : Ref sig .tc := ⟨.hbm, 197, rfl⟩
abbrev main_call2_v1 : Ref sig .tc := ⟨.hbm, 198, rfl⟩
abbrev main_call2_cst : Ref sig .tc := ⟨.hbm, 199, rfl⟩
abbrev main_call2_v2 : Ref sig .tc := ⟨.hbm, 200, rfl⟩
abbrev main_call2_v3 : Ref sig .tc := ⟨.hbm, 201, rfl⟩
abbrev main_call2_cst_0 : Ref sig .tc := ⟨.hbm, 202, rfl⟩
abbrev main_call2_v4 : Ref sig .tc := ⟨.hbm, 203, rfl⟩
abbrev main_v145_2 : Ref sig .tc := ⟨.hbm, 204, rfl⟩
abbrev main_call2_cst_1 : Ref sig .tc := ⟨.hbm, 205, rfl⟩
abbrev main_call2_v6 : Ref sig .tc := ⟨.hbm, 206, rfl⟩
abbrev main_call2_v7 : Ref sig .tc := ⟨.hbm, 207, rfl⟩
abbrev main_v145_1 : Ref sig .tc := ⟨.hbm, 208, rfl⟩
abbrev main_v145_0 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_call3_v0 : Ref sig .tc := ⟨.hbm, 219, rfl⟩
abbrev main_call3_v1 : Ref sig .tc := ⟨.hbm, 220, rfl⟩
abbrev main_call3_v2 : Ref sig .tc := ⟨.hbm, 221, rfl⟩
abbrev main_v155 : Ref sig .tc := ⟨.hbm, 222, rfl⟩
abbrev main_cst_28 : Ref sig .tc := ⟨.hbm, 223, rfl⟩
abbrev main_v156 : Ref sig .tc := ⟨.hbm, 224, rfl⟩
abbrev main_v157 : Ref sig .tc := ⟨.hbm, 225, rfl⟩
abbrev main_cst_29 : Ref sig .tc := ⟨.hbm, 226, rfl⟩
abbrev main_v158 : Ref sig .tc := ⟨.hbm, 227, rfl⟩
abbrev main_v159 : Ref sig .tc := ⟨.hbm, 228, rfl⟩
abbrev main_cst_30 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_cst_31 : Ref sig .tc := ⟨.hbm, 234, rfl⟩
abbrev main_v164 : Ref sig .tc := ⟨.hbm, 235, rfl⟩
abbrev main_v165 : Ref sig .tc := ⟨.hbm, 236, rfl⟩
abbrev main_cst_32 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_cst_33 : Ref sig .tc := ⟨.hbm, 244, rfl⟩
abbrev main_v172 : Ref sig .tc := ⟨.hbm, 245, rfl⟩
abbrev main_v173 : Ref sig .tc := ⟨.hbm, 246, rfl⟩
abbrev main_cst_34 : Ref sig .tc := ⟨.hbm, 247, rfl⟩
abbrev main_v174 : Ref sig .tc := ⟨.hbm, 248, rfl⟩
abbrev main_v175 : Ref sig .tc := ⟨.hbm, 249, rfl⟩
abbrev main_cst_35 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_cst_36 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_cst_37 : Ref sig .tc := ⟨.hbm, 260, rfl⟩
abbrev main_v184 : Ref sig .tc := ⟨.hbm, 261, rfl⟩
abbrev main_v185 : Ref sig .tc := ⟨.hbm, 262, rfl⟩
abbrev main_cst_38 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_cst_39 : Ref sig .tc := ⟨.hbm, 270, rfl⟩
abbrev main_v192 : Ref sig .tc := ⟨.hbm, 271, rfl⟩
abbrev main_v193 : Ref sig .tc := ⟨.hbm, 272, rfl⟩
abbrev main_cst_40 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_cst_41 : Ref sig .tc := ⟨.hbm, 278, rfl⟩
abbrev main_v198 : Ref sig .tc := ⟨.hbm, 279, rfl⟩
abbrev main_v199 : Ref sig .tc := ⟨.hbm, 280, rfl⟩
abbrev main_cst_42 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_cst_43 : Ref sig .tc := ⟨.hbm, 291, rfl⟩
abbrev main_v209 : Ref sig .tc := ⟨.hbm, 292, rfl⟩
abbrev main_v210 : Ref sig .tc := ⟨.hbm, 293, rfl⟩
abbrev main_cst_44 : Ref sig .tc := ⟨.hbm, 294, rfl⟩
abbrev main_v211 : Ref sig .tc := ⟨.hbm, 295, rfl⟩
abbrev main_v212 : Ref sig .tc := ⟨.hbm, 296, rfl⟩
abbrev main_cst_45 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_cst_46 : Ref sig .tc := ⟨.hbm, 302, rfl⟩
abbrev main_v217 : Ref sig .tc := ⟨.hbm, 303, rfl⟩
abbrev main_v218 : Ref sig .tc := ⟨.hbm, 304, rfl⟩
abbrev main_cst_47 : Ref sig .tc := ⟨.hbm, 305, rfl⟩
abbrev main_v219 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_cst_48 : Ref sig .tc := ⟨.hbm, 312, rfl⟩
abbrev main_v225 : Ref sig .tc := ⟨.hbm, 313, rfl⟩
abbrev main_v226 : Ref sig .tc := ⟨.hbm, 314, rfl⟩
abbrev main_cst_49 : Ref sig .tc := ⟨.hbm, 315, rfl⟩
abbrev main_v227 : Ref sig .tc := ⟨.hbm, 316, rfl⟩
abbrev main_v228 : Ref sig .tc := ⟨.hbm, 317, rfl⟩
abbrev main_cst_50 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_cst_51 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_cst_52 : Ref sig .tc := ⟨.hbm, 328, rfl⟩
abbrev main_v237 : Ref sig .tc := ⟨.hbm, 329, rfl⟩
abbrev main_v238 : Ref sig .tc := ⟨.hbm, 330, rfl⟩
abbrev main_cst_53 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_cst_54 : Ref sig .tc := ⟨.hbm, 337, rfl⟩
abbrev main_v244 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩
abbrev main_cst_55 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_v253 : Ref sig .tc := ⟨.hbm, 348, rfl⟩
abbrev main_cst_56 : Ref sig .tc := ⟨.hbm, 349, rfl⟩
abbrev main_v254 : Ref sig .tc := ⟨.hbm, 350, rfl⟩
abbrev main_v255 : Ref sig .tc := ⟨.hbm, 351, rfl⟩
abbrev main_v256 : Ref sig .tc := ⟨.hbm, 352, rfl⟩
abbrev main_v257 : Ref sig .tc := ⟨.hbm, 353, rfl⟩
abbrev main_v258 : Ref sig .tc := ⟨.hbm, 354, rfl⟩
abbrev main_cst_57 : Ref sig .tc := ⟨.hbm, 355, rfl⟩
abbrev main_v259 : Ref sig .tc := ⟨.hbm, 356, rfl⟩
abbrev main_v260 : Ref sig .tc := ⟨.hbm, 357, rfl⟩
abbrev main_v261 : Ref sig .tc := ⟨.hbm, 358, rfl⟩
abbrev main_cst_58 : Ref sig .tc := ⟨.hbm, 359, rfl⟩
abbrev main_v262 : Ref sig .tc := ⟨.hbm, 360, rfl⟩
abbrev main_cst_59 : Ref sig .tc := ⟨.hbm, 361, rfl⟩
abbrev main_v263 : Ref sig .tc := ⟨.hbm, 362, rfl⟩
abbrev main_v264 : Ref sig .tc := ⟨.hbm, 363, rfl⟩
abbrev main_v265 : Ref sig .tc := ⟨.hbm, 364, rfl⟩
abbrev main_v266 : Ref sig .tc := ⟨.hbm, 365, rfl⟩
abbrev main_v267 : Ref sig .tc := ⟨.hbm, 366, rfl⟩
abbrev main_v268 : Ref sig .tc := ⟨.hbm, 367, rfl⟩
abbrev main_v269 : Ref sig .tc := ⟨.hbm, 368, rfl⟩
abbrev main_v270 : Ref sig .tc := ⟨.hbm, 369, rfl⟩
abbrev main_v271 : Ref sig .tc := ⟨.hbm, 370, rfl⟩
abbrev main_v272 : Ref sig .tc := ⟨.hbm, 371, rfl⟩
abbrev main_v273 : Ref sig .tc := ⟨.hbm, 372, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S1x512 : Shape := ⟨2, ![1, 512]⟩
abbrev S128x4 : Shape := ⟨2, ![128, 4]⟩
abbrev S4096x512 : Shape := ⟨2, ![4096, 512]⟩
abbrev S512x2048 : Shape := ⟨2, ![512, 2048]⟩
abbrev S32x1024 : Shape := ⟨2, ![32, 1024]⟩
abbrev S512x1024 : Shape := ⟨2, ![512, 1024]⟩
abbrev S512x512 : Shape := ⟨2, ![512, 512]⟩
abbrev S8x4x544x128 : Shape := ⟨4, ![8, 4, 544, 128]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S32x512 : Shape := ⟨2, ![32, 512]⟩
abbrev S32x128 : Shape := ⟨2, ![32, 128]⟩
abbrev S1x1x32x128 : Shape := ⟨4, ![1, 1, 32, 128]⟩
abbrev S512x128 : Shape := ⟨2, ![512, 128]⟩
abbrev S1x1x512x128 : Shape := ⟨4, ![1, 1, 512, 128]⟩
abbrev S1x1x536x128 : Shape := ⟨4, ![1, 1, 536, 128]⟩
abbrev S536x128 : Shape := ⟨2, ![536, 128]⟩
abbrev S64x128 : Shape := ⟨2, ![64, 128]⟩
abbrev S1x1x64x128 : Shape := ⟨4, ![1, 1, 64, 128]⟩
abbrev S1x128 : Shape := ⟨2, ![1, 128]⟩

abbrev nBuf : Space → Nat
  | .hbm => 43
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S31x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024x1024, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x2048, .f32⟩
  | .hbm, ⟨30, _⟩ => ⟨S1x512, .f32⟩
  | .hbm, ⟨31, _⟩ => ⟨S1x512, .f32⟩
  | .hbm, ⟨32, _⟩ => ⟨S128x4, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1024x1024, .bf16⟩
  | .hbm, ⟨37, _⟩ => ⟨S1x1024, .f32⟩
  | .hbm, ⟨38, _⟩ => ⟨S4096x1024, .bf16⟩
  | .hbm, ⟨39, _⟩ => ⟨S4096x512, .f32⟩
  | .hbm, ⟨40, _⟩ => ⟨S4096x512, .f32⟩
  | .hbm, ⟨41, _⟩ => ⟨S4096x1024, .f32⟩
  | .hbm, ⟨42, _⟩ => ⟨S4096x1024, .bf16⟩
  | .local _ .vmem, ⟨0, _⟩ => ⟨S512x2048, .f32⟩
  | .local _ .vmem, ⟨1, _⟩ => ⟨S512x2048, .f32⟩
  | .local _ .vmem, ⟨2, _⟩ => ⟨S32x1024, .f32⟩
  | .local _ .vmem, ⟨3, _⟩ => ⟨S32x1024, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S31x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S8x4x544x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_v22_2 : Ref sig .tc := ⟨.hbm, 40, rfl⟩
abbrev main_v22_3 : Ref sig .tc := ⟨.hbm, 41, rfl⟩
abbrev main_v22_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel4Ideal.lean ====
variable {F : FTy → Type} [FloatOps F] [Named F]
def κ : String → Option EReal := fun
  | "sqrt_half" => some (((Real.sqrt 2)⁻¹ : ℝ) : EReal)
  | _ => none
-- ==== Reference4Ideal.lean ====
abbrev S4096x1024 : Shape := ⟨2, ![4096, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S4096x512 : Shape := ⟨2, ![4096, 512]⟩
abbrev S4126x512 : Shape := ⟨2, ![4126, 512]⟩
abbrev S4096x31 : Shape := ⟨2, ![4096, 31]⟩
abbrev S4096x31x1 : Shape := ⟨3, ![4096, 31, 1]⟩
abbrev S4096x31x512 : Shape := ⟨3, ![4096, 31, 512]⟩
abbrev S1x31x512 : Shape := ⟨3, ![1, 31, 512]⟩
abbrev S1x512 : Shape := ⟨2, ![1, 512]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S4096x4x128 : Shape := ⟨3, ![4096, 4, 128]⟩
abbrev S4096x4 : Shape := ⟨2, ![4096, 4]⟩
abbrev S4096x4x1 : Shape := ⟨3, ![4096, 4, 1]⟩
abbrev S1x4x128 : Shape := ⟨3, ![1, 4, 128]⟩

abbrev nBuf : Space → Nat
  | .hbm => 207
  | .vmem => 0
  | .smem => 0
  | _ => 0

abbrev hbmTy0_0 (i : Nat) : BufTy := match i % 128 with
  | 0 => ⟨S4096x1024, .f32⟩
  | 1 => ⟨S1024, .f32⟩
  | 2 => ⟨S1024x2048, .f32⟩
  | 3 => ⟨S512, .f32⟩
  | 4 => ⟨S512, .f32⟩
  | 5 => ⟨S4x128x128, .f32⟩
  | 6 => ⟨S4x128, .f32⟩
  | 7 => ⟨S31x512, .f32⟩
  | 8 => ⟨S512, .f32⟩
  | 9 => ⟨S512, .f32⟩
  | 10 => ⟨S512, .f32⟩
  | 11 => ⟨S1024x1024, .f32⟩
  | 12 => ⟨S1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x2048, .f32⟩
  | 30 => ⟨S4096x512, .f32⟩
  | 31 => ⟨S4096x512, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S_, .f32⟩
  | 38 => ⟨S4096x512, .f32⟩
  | 39 => ⟨S4096x512, .f32⟩
  | 40 => ⟨S4096x512, .f32⟩
  | 41 => ⟨S_, .i32⟩
  | 42 => ⟨S_, .f32⟩
  | 43 => ⟨S4126x512, .f32⟩
  | 44 => ⟨S4096x31, .i32⟩
  | 45 => ⟨S4096x31, .i32⟩
  | 46 => ⟨S4096x31, .i32⟩
  | 47 => ⟨S_, .i32⟩
  | 48 => ⟨S4096x31, .i32⟩
  | 49 => ⟨S4096x31, .i1⟩
  | 50 => ⟨S_, .i32⟩
  | 51 => ⟨S4096x31, .i32⟩
  | 52 => ⟨S4096x31, .i32⟩
  | 53 => ⟨S4096x31, .i32⟩
  | 54 => ⟨S4096x31x1, .i32⟩
  | 55 => ⟨S4096x31x512, .f32⟩
  | 56 => ⟨S1x31x512, .f32⟩
  | 57 => ⟨S4096x31x512, .f32⟩
  | 58 => ⟨S4096x31x512, .f32⟩
  | 59 => ⟨S_, .f32⟩
  | 60 => ⟨S4096x512, .f32⟩
  | 61 => ⟨S1x512, .f32⟩
  | 62 => ⟨S4096x512, .f32⟩
  | 63 => ⟨S4096x512, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S_, .f32⟩
  | 70 => ⟨S_, .f32⟩
  | 71 => ⟨S_, .f32⟩
  | 72 => ⟨S4096x512, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S_, .f32⟩
  | 83 => ⟨S_, .f32⟩
  | 84 => ⟨S_, .f32⟩
  | 85 => ⟨S4096x512, .f32⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S4096x512, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S4096x512, .f32⟩
  | 99 => ⟨S4096x512, .f32⟩
  | 100 => ⟨S4096x512, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S4096x512, .f32⟩
  | 108 => ⟨S4096x512, .f32⟩
  | 109 => ⟨S_, .f32⟩
  | 110 => ⟨S4096x1, .f32⟩
  | 111 => ⟨S4096x1, .f32⟩
  | 112 => ⟨S4096x1, .f32⟩
  | 113 => ⟨S4096x512, .f32⟩
  | 114 => ⟨S4096x512, .f32⟩
  | 115 => ⟨S1x512, .f32⟩
  | 116 => ⟨S4096x512, .f32⟩
  | 117 => ⟨S4096x512, .f32⟩
  | 118 => ⟨S1x512, .f32⟩
  | 119 => ⟨S4096x512, .f32⟩
  | 120 => ⟨S4096x512, .f32⟩
  | 121 => ⟨S32x128x4x128, .f32⟩
  | 122 => ⟨S_, .f32⟩
  | 123 => ⟨S128x128, .f32⟩
  | 124 => ⟨S128x128, .i32⟩
  | 125 => ⟨S_, .i32⟩
  | 126 => ⟨S128x128, .i32⟩
  | 127 => ⟨S128x128, .i32⟩
  | _ => ⟨S4096x1024, .f32⟩

abbrev hbmTy0_1 (i : Nat) : BufTy := match i % 128 with
  | 0 => ⟨S128x128, .i32⟩
  | 1 => ⟨S128x128, .i1⟩
  | 2 => ⟨S_, .f32⟩
  | 3 => ⟨S128x128, .f32⟩
  | 4 => ⟨S128x128, .f32⟩
  | 5 => ⟨S1x128x128, .f32⟩
  | 6 => ⟨S4x128x128, .f32⟩
  | 7 => ⟨S4x128x128, .f32⟩
  | 8 => ⟨S4x32x128x128, .f32⟩
  | 9 => ⟨S32x128x4x128, .f32⟩
  | 10 => ⟨S128x4, .f32⟩
  | 11 => ⟨S1x128x4x1, .f32⟩
  | 12 => ⟨S32x128x4x128, .f32⟩
  | 13 => ⟨S32x128x4x128, .f32⟩
  | 14 => ⟨S4096x512, .f32⟩
  | 15 => ⟨S4096x512, .f32⟩
  | 16 => ⟨S4096x4x128, .f32⟩
  | 17 => ⟨S4x128, .f32⟩
  | 18 => ⟨S4x128, .f32⟩
  | 19 => ⟨S_, .f32⟩
  | 20 => ⟨S4096x4, .f32⟩
  | 21 => ⟨S4096x4x1, .f32⟩
  | 22 => ⟨S_, .f32⟩
  | 23 => ⟨S4096x4x1, .f32⟩
  | 24 => ⟨S4096x4x1, .f32⟩
  | 25 => ⟨S4096x4x128, .f32⟩
  | 26 => ⟨S4096x4x128, .f32⟩
  | 27 => ⟨S4096x4x128, .f32⟩
  | 28 => ⟨S_, .f32⟩
  | 29 => ⟨S4096x4, .f32⟩
  | 30 => ⟨S4096x4x1, .f32⟩
  | 31 => ⟨S_, .f32⟩
  | 32 => ⟨S4096x4x1, .f32⟩
  | 33 => ⟨S4096x4x1, .f32⟩
  | 34 => ⟨S4096x4x128, .f32⟩
  | 35 => ⟨S4096x4x128, .f32⟩
  | 36 => ⟨S_, .f32⟩
  | 37 => ⟨S4096x4x1, .f32⟩
  | 38 => ⟨S4096x4x1, .f32⟩
  | 39 => ⟨S4096x4x1, .f32⟩
  | 40 => ⟨S4096x4x128, .f32⟩
  | 41 => ⟨S4096x4x128, .f32⟩
  | 42 => ⟨S1x4x128, .f32⟩
  | 43 => ⟨S4096x4x128, .f32⟩
  | 44 => ⟨S4096x4x128, .f32⟩
  | 45 => ⟨S1x4x128, .f32⟩
  | 46 => ⟨S4096x4x128, .f32⟩
  | 47 => ⟨S4096x4x128, .f32⟩
  | 48 => ⟨S4096x4x128, .f32⟩
  | 49 => ⟨S4096x4x128, .f32⟩
  | 50 => ⟨S_, .f32⟩
  | 51 => ⟨S4096x4x128, .f32⟩
  | 52 => ⟨S4096x4x128, .f32⟩
  | 53 => ⟨S_, .f32⟩
  | 54 => ⟨S4096x4x128, .f32⟩
  | 55 => ⟨S4096x4x128, .f32⟩
  | 56 => ⟨S4096x4x128, .f32⟩
  | 57 => ⟨S4096x512, .f32⟩
  | 58 => ⟨S4096x1024, .f32⟩
  | 59 => ⟨S4096x1024, .f32⟩
  | 60 => ⟨S4096x1024, .f32⟩
  | 61 => ⟨S4096x1024, .bf16⟩
  | 62 => ⟨S4096x1024, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1, .f32⟩
  | 73 => ⟨S4096x1024, .f32⟩
  | 74 => ⟨S4096x1024, .f32⟩
  | 75 => ⟨S1x1024, .f32⟩
  | 76 => ⟨S4096x1024, .f32⟩
  | 77 => ⟨S4096x1024, .f32⟩
  | 78 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_15 : Ref sig .tc := ⟨.hbm, 101, rfl⟩
abbrev main_v70 : Ref sig .tc := ⟨.hbm, 102, rfl⟩
abbrev main_v71 : Ref sig .tc := ⟨.hbm, 103, rfl⟩
abbrev main_cst_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_17 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_call1_v0 : Ref sig .tc := ⟨.hbm, 124, rfl⟩
abbrev main_call1_c : Ref sig .tc := ⟨.hbm, 125, rfl⟩
abbrev main_call1_v1 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_call1_cst : Ref sig .tc := ⟨.hbm, 130, rfl⟩
abbrev main_call1_v5 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_19 : Ref sig .tc := ⟨.hbm, 147, rfl⟩
abbrev main_v104 : Ref sig .tc := ⟨.hbm, 148, rfl⟩
abbrev main_v105 : Ref sig .tc := ⟨.hbm, 149, rfl⟩
abbrev main_cst_20 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_21 : Ref sig .tc := ⟨.hbm, 156, rfl⟩
abbrev main_v111 : Ref sig .tc := ⟨.hbm, 157, rfl⟩
abbrev main_v112 : Ref sig .tc := ⟨.hbm, 158, rfl⟩
abbrev main_cst_22 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_23 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_call2_v0 : Ref sig .tc := ⟨.hbm, 176, rfl⟩
abbrev main_call2_v1 : Ref sig .tc := ⟨.hbm, 177, rfl⟩
abbrev main_call2_cst : Ref sig .tc := ⟨.hbm, 178, rfl⟩
abbrev main_call2_v2 : Ref sig .tc := ⟨.hbm, 179, rfl⟩
abbrev main_call2_v3 : Ref sig .tc := ⟨.hbm, 180, rfl⟩
abbrev main_call2_cst_0 : Ref sig .tc := ⟨.hbm, 181, rfl⟩
abbrev main_call2_v4 : Ref sig .tc := ⟨.hbm, 182, rfl⟩
abbrev main_call2_v5 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_24 : Ref sig .tc := ⟨.hbm, 191, rfl⟩
abbrev main_v135 : Ref sig .tc := ⟨.hbm, 192, rfl⟩
abbrev main_v136 : Ref sig .tc := ⟨.hbm, 193, rfl⟩
abbrev main_cst_25 : Ref sig .tc := ⟨.hbm, 194, rfl⟩
abbrev main_v137 : Ref sig .tc := ⟨.hbm, 195, rfl⟩
abbrev main_v138 : Ref sig .tc := ⟨.hbm, 196, rfl⟩
abbrev main_cst_26 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x2048 : Shape := ⟨2, ![1024, 2048]⟩
abbrev S1024x8x256 : Shape := ⟨3, ![1024, 8, 256]⟩
abbrev S8x1024x256 : Shape := ⟨3, ![8, 1024, 256]⟩
abbrev S1x1024 : Shape := ⟨2, ![1, 1024]⟩
abbrev S4096x2048 : Shape := ⟨2, ![4096, 2048]⟩
abbrev S1024x1024 : Shape := ⟨2, ![1024, 1024]⟩
abbrev S1024x1 : Shape := ⟨2, ![1024, 1]⟩
abbrev S1x1024x256 : Shape := ⟨3, ![1, 1024, 256]⟩
abbrev S1024x256 : Shape := ⟨2, ![1024, 256]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1024x8x256, .bf16⟩
  | .hbm, ⟨5, _⟩ => ⟨S8x1024x256, .bf16⟩
  | .hbm, ⟨6, _⟩ => ⟨S1x1024, .f32⟩
  | .hbm, ⟨7, _⟩ => ⟨S4096x1024, .bf16⟩
  | .hbm, ⟨8, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .f32⟩
  | .local _ .vmem, ⟨7, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1024x2048, .bf16⟩
  | .hbm, ⟨21, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S1024x4096, .bf16⟩
  | .hbm, ⟨3, _⟩ => ⟨S1024x8x512, .bf16⟩
  | .hbm, ⟨4, _⟩ => ⟨S8x1024x512, .bf16⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S8x1024x512, .bf16⟩
  | .local _ .vmem, ⟨3, _⟩ => ⟨S1024x4096, .bf16⟩
  | .local _ .vmem, ⟨4, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S1024x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4096x4096 : Shape := ⟨2, ![4096, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .f32⟩
  | .hbm, ⟨6, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x2048 : Shape := ⟨2, ![1024, 2048]⟩
abbrev S31x512 : Shape := ⟨2, ![31, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S1024x8x256 : Shape := ⟨3, ![1024, 8, 256]⟩
abbrev S8x1024x256 : Shape := ⟨3, ![8, 1024, 256]⟩
abbrev S512x512 : Shape := ⟨2, ![512, 512]⟩
abbrev S32x512 : Shape := ⟨2, ![32, 512]⟩
abbrev S512x1024 : Shape := ⟨2, ![512, 1024]⟩
abbrev S512x2048 : Shape := ⟨2, ![512, 2048]⟩
abbrev S8x4x544x128 : Shape := ⟨4, ![8, 4, 544, 128]⟩
abbrev S248x512 : Shape := ⟨2, ![248, 512]⟩
abbrev S512x128 : Shape := ⟨2, ![512, 128]⟩
abbrev S1x1x512x128 : Shape := ⟨4, ![1, 1, 512, 128]⟩
abbrev S32x128 : Shape := ⟨2, ![32, 128]⟩
abbrev S1x1x32x128 : Shape := ⟨4, ![1, 1, 32, 128]⟩
abbrev S1x1x536x128 : Shape := ⟨4, ![1, 1, 536, 128]⟩
abbrev S536x128 : Shape := ⟨2, ![536, 128]⟩
abbrev S64x128 : Shape := ⟨2, ![64, 128]⟩
abbrev S1x1x64x128 : Shape := ⟨4, ![1, 1, 64, 128]⟩
abbrev S1x128 : Shape := ⟨2, ![1, 128]⟩
abbrev S8x8x128 : Shape := ⟨3, ![8, 8, 128]⟩
abbrev S8x128 : Shape := ⟨2, ![8, 128]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S8x512 : Shape := ⟨2, ![8, 512]⟩
abbrev S1x512 : Shape := ⟨2, ![1, 512]⟩

abbrev nBuf : Space → Nat
  | .hbm => 45
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S31x512, .f32⟩
  | .hbm, ⟨4, _⟩ => ⟨S4096x1024, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2048, .f32⟩
  | .hbm, ⟨24, _⟩ => ⟨S1024x2048, .bf16⟩
  | .hbm, ⟨25, _⟩ => ⟨S1024x8x256, .bf16⟩
  | .hbm, ⟨26, _⟩ => ⟨S8x1024x256, .bf16⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x1024, .bf16⟩
  | .hbm, ⟨39, _⟩ => ⟨S1x1024, .f32⟩
  | .hbm, ⟨40, _⟩ => ⟨S4096x2048, .bf16⟩
  | .hbm, ⟨41, _⟩ => ⟨S31x512, .f32⟩
  | .hbm, ⟨42, _⟩ => ⟨S4096x1024, .f32⟩
  | .hbm, ⟨43, _⟩ => ⟨S4096x1024, .bf16⟩
  | .hbm, ⟨44, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S31x512, .f32⟩
  | .local _ .vmem, ⟨9, _⟩ => ⟨S512x1024, .bf16⟩
  | .local _ .vmem, ⟨10, _⟩ => ⟨S512x1024, .bf16⟩
  | .local _ .vmem, ⟨11, _⟩ => ⟨S8x1024x256, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S31x512, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | .local _ .vmem, ⟨25, _⟩ => ⟨S8x4x544x128, .f32⟩
  | .local _ .vmem, ⟨26, _⟩ => ⟨S248x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_256 : BitVec 32 := 0#32
  let c8_i32 : BitVec 32 := 8#32
  let v183 : BitVec 32 := Scalar.addi c0_i32_256 c8_i32
  let c1_i32 : BitVec 32 := 1#32
  ⟨c0_i32_256, v183, c1_i32⟩
def k0_mult1 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  v276
def k0_off1 (k0_t1 : Fin k0_t1_loop.trips) : Fin 2 → Nat :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let v278 : Index := Scalar.indexCast v277
  let c0_335 : Index := 0#32
  ![v278.toNat, 0]
def k0_mult2 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c24_i32 : BitVec 32 := 24#32
  let v283 : BitVec 32 := Scalar.addi v277 c24_i32
  v283
def k0_off2 (k0_t1 : Fin k0_t1_loop.trips) (c24_i32 : BitVec 32) : Fin 4 → Nat :=
  let c6_338 : Index := 6#32
  let c0_339 : Index := 0#32
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let v283 : BitVec 32 := Scalar.addi v277 c24_i32
  let v284 : BitVec 32 := v283
  let v285 : Index := Scalar.indexCast v284
  let c0_340 : Index := 0#32
  ![6, 0, v285.toNat, 0]
def k0_mult3 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c24_i32_344 : BitVec 32 := 24#32
  let v295 : BitVec 32 := Scalar.addi v277 c24_i32_344
  v295
def k0_off3 (k0_t1 : Fin k0_t1_loop.trips) (c24_i32_344 : BitVec 32) : Fin 4 → Nat :=
  let c5_345 : Index := 5#32
  let c0_346 : Index := 0#32
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let v295 : BitVec 32 := Scalar.addi v277 c24_i32_344
  let v296 : BitVec 32 := v295
  let v297 : Index := Scalar.indexCast v296
  let c0_347 : Index := 0#32
  ![5, 0, v297.toNat, 0]
def k0_mult4 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c24_i32_351 : BitVec 32 := 24#32
  let v307 : BitVec 32 := Scalar.addi v277 c24_i32_351
  v307
def k0_off4 (k0_t1 : Fin k0_t1_loop.trips) (c24_i32_351 : BitVec 32) : Fin 4 → Nat :=
  let c4_352 : Index := 4#32
  let c0_353 : Index := 0#32
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let v307 : BitVec 32 := Scalar.addi v277 c24_i32_351
  let v308 : BitVec 32 := v307
  let v309 : Index := Scalar.indexCast v308
  let c0_354 : Index := 0#32
  ![4, 0, v309.toNat, 0]
def k0_mult5 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c24_i32_358 : BitVec 32 := 24#32
  let v319 : BitVec 32 := Scalar.addi v277 c24_i32_358
  v319
def k0_off5 (k0_t1 : Fin k0_t1_loop.trips) (c24_i32_358 : BitVec 32) : Fin 4 → Nat :=
  let c3_359 : Index := 3#32
  let c0_360 : Index := 0#32
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let v319 : BitVec 32 := Scalar.addi v277 c24_i32_358
  let v320 : BitVec 32 := v319
  let v321 : Index := Scalar.indexCast v320
  let c0_361 : Index := 0#32
  ![3, 0, v321.toNat, 0]
def k0_mult6 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c24_i32_365 : BitVec 32 := 24#32
  let v331 : BitVec 32 := Scalar.addi v277 c24_i32_365
  v331
def k0_off6 (k0_t1 : Fin k0_t1_loop.trips) (c24_i32_365 : BitVec 32) : Fin 4 → Nat :=
  let c2_366 : Index := 2#32
  let c0_367 : Index := 0#32
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let v331 : BitVec 32 := Scalar.addi v277 c24_i32_365
  let v332 : BitVec 32 := v331
  let v333 : Index := Scalar.indexCast v332
  let c0_368 : Index := 0#32
  ![2, 0, v333.toNat, 0]
def k0_mult7 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c24_i32_372 : BitVec 32 := 24#32
  let v343 : BitVec 32 := Scalar.addi v277 c24_i32_372
  v343
def k0_off7 (k0_t1 : Fin k0_t1_loop.trips) (c24_i32_372 : BitVec 32) : Fin 4 → Nat :=
  let c1_373 : Index := 1#32
  let c0_374 : Index := 0#32
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let v343 : BitVec 32 := Scalar.addi v277 c24_i32_372
  let v344 : BitVec 32 := v343
  let v345 : Index := Scalar.indexCast v344
  let c0_375 : Index := 0#32
  ![1, 0, v345.toNat, 0]
def k0_mult8 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c24_i32_379 : BitVec 32 := 24#32
  let v355 : BitVec 32 := Scalar.addi v277 c24_i32_379
  v355
def k0_off8 (k0_t1 : Fin k0_t1_loop.trips) (c24_i32_379 : BitVec 32) : Fin 4 → Nat :=
  let c0_380 : Index := 0#32
  let c0_381 : Index := 0#32
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let v355 : BitVec 32 := Scalar.addi v277 c24_i32_379
  let v356 : BitVec 32 := v355
  let v357 : Index := Scalar.indexCast v356
  let c0_382 : Index := 0#32
  ![0, 0, v357.toNat, 0]
def k0_mult9 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c16_i32 : BitVec 32 := 16#32
  let v367 : BitVec 32 := Scalar.addi v277 c16_i32
  v367
def k0_off9 (k0_t1 : Fin k0_t1_loop.trips) (c16_i32 : BitVec 32) : Fin 4 → Nat :=
  let c7_386 : Index := 7#32
  let c0_387 : Index := 0#32
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let v367 : BitVec 32 := Scalar.addi v277 c16_i32
  let v368 : BitVec 32 := v367
  let v369 : Index := Scalar.indexCast v368
  let c0_388 : Index := 0#32
  ![7, 0, v369.toNat, 0]
def k0_mult10 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c16_i32_392 : BitVec 32 := 16#32
  let v379 : BitVec 32 := Scalar.addi v277 c16_i32_392
  v379
def k0_mult11 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c16_i32_398 : BitVec 32 := 16#32
  let v391 : BitVec 32 := Scalar.addi v277 c16_i32_398
  v391
def k0_mult12 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c16_i32_404 : BitVec 32 := 16#32
  let v403 : BitVec 32 := Scalar.addi v277 c16_i32_404
  v403
def k0_mult13 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c16_i32_410 : BitVec 32 := 16#32
  let v415 : BitVec 32 := Scalar.addi v277 c16_i32_410
  v415
def k0_mult14 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c16_i32_416 : BitVec 32 := 16#32
  let v427 : BitVec 32 := Scalar.addi v277 c16_i32_416
  v427
def k0_mult15 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c16_i32_422 : BitVec 32 := 16#32
  let v439 : BitVec 32 := Scalar.addi v277 c16_i32_422
  v439
def k0_mult16 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c16_i32_428 : BitVec 32 := 16#32
  let v451 : BitVec 32 := Scalar.addi v277 c16_i32_428
  v451
def k0_mult17 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c8_i32_434 : BitVec 32 := 8#32
  let v463 : BitVec 32 := Scalar.addi v277 c8_i32_434
  v463
def k0_mult18 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c8_i32_440 : BitVec 32 := 8#32
  let v475 : BitVec 32 := Scalar.addi v277 c8_i32_440
  v475
def k0_mult19 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c8_i32_446 : BitVec 32 := 8#32
  let v487 : BitVec 32 := Scalar.addi v277 c8_i32_446
  v487
def k0_mult20 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c8_i32_452 : BitVec 32 := 8#32
  let v499 : BitVec 32 := Scalar.addi v277 c8_i32_452
  v499
def k0_mult21 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c8_i32_458 : BitVec 32 := 8#32
  let v511 : BitVec 32 := Scalar.addi v277 c8_i32_458
  v511
def k0_mult22 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c8_i32_464 : BitVec 32 := 8#32
  let v523 : BitVec 32 := Scalar.addi v277 c8_i32_464
  v523
def k0_mult23 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c8_i32_470 : BitVec 32 := 8#32
  let v535 : BitVec 32 := Scalar.addi v277 c8_i32_470
  v535
def k0_mult24 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c8_i32_476 : BitVec 32 := 8#32
  let v547 : BitVec 32 := Scalar.addi v277 c8_i32_476
  v547
def k0_mult25 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c0_i32_482 : BitVec 32 := 0#32
  let v559 : BitVec 32 := Scalar.addi v277 c0_i32_482
  v559
def k0_mult26 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c0_i32_488 : BitVec 32 := 0#32
  let v571 : BitVec 32 := Scalar.addi v277 c0_i32_488
  v571
def k0_mult27 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c0_i32_494 : BitVec 32 := 0#32
  let v583 : BitVec 32 := Scalar.addi v277 c0_i32_494
  v583
def k0_mult28 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c0_i32_500 : BitVec 32 := 0#32
  let v595 : BitVec 32 := Scalar.addi v277 c0_i32_500
  v595
def k0_mult29 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c0_i32_506 : BitVec 32 := 0#32
  let v607 : BitVec 32 := Scalar.addi v277 c0_i32_506
  v607
def k0_mult30 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c0_i32_512 : BitVec 32 := 0#32
  let v619 : BitVec 32 := Scalar.addi v277 c0_i32_512
  v619
def k0_mult31 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c0_i32_518 : BitVec 32 := 0#32
  let v631 : BitVec 32 := Scalar.addi v277 c0_i32_518
  v631
def k0_mult32 (k0_t1 : Fin k0_t1_loop.trips) : BitVec 32 :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let c0_i32_524 : BitVec 32 := 0#32
  let v643 : BitVec 32 := Scalar.addi v277 c0_i32_524
  v643
def k0_off10 (k0_t1 : Fin k0_t1_loop.trips) : Fin 2 → Nat :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let v656 : Index := Scalar.indexCast v277
  let c0_530 : Index := 0#32
  ![v656.toNat, 0]
def k0_off11 (k0_t1 : Fin k0_t1_loop.trips) : Fin 2 → Nat :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let v659 : Index := Scalar.indexCast v277
  let c512_531 : Index := 512#32
  ![v659.toNat, 512]
def k0_off12 (k0_t1 : Fin k0_t1_loop.trips) : Fin 2 → Nat :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let v671 : Index := Scalar.indexCast v277
  let c1024_535 : Index := 1024#32
  ![v671.toNat, 1024]
def k0_off13 (k0_t1 : Fin k0_t1_loop.trips) : Fin 2 → Nat :=
  let c0_i32_256 : BitVec 32 := 0#32
  let c1_i32 : BitVec 32 := 1#32
  let arg18 : BitVec 32 := Scf.iv c0_i32_256 c1_i32 k0_t1
  let c64_i32 : BitVec 32 := 64#32
  let v276 : BitVec 32 := Scalar.muli arg18 c64_i32
  let v277 : BitVec 32 := v276
  let v679 : Index := Scalar.indexCast v277
  let c1536_537 : Index := 1536#32
  ![v679.toNat, 1536]
@[reducible] def k0_t2_loop : Scf.Loop 32 :=
  let c0_i32_258 : BitVec 32 := 0#32
  let c8_i32_259 : BitVec 32 := 8#32
  let v184 : BitVec 32 := Scalar.addi c0_i32_258 c8_i32_259
  let c1_i32_260 : BitVec 32 := 1#32
  ⟨c0_i32_258, v184, c1_i32_260⟩
def k0_mult33 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  v276
def k0_off14 (k0_t2 : Fin k0_t2_loop.trips) : Fin 2 → Nat :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let v278 : Index := Scalar.indexCast v277
  let c128 : Index := 128#32
  ![v278.toNat, 128]
def k0_mult34 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c24_i32 : BitVec 32 := 24#32
  let v283 : BitVec 32 := Scalar.addi v277 c24_i32
  v283
def k0_off15 (k0_t2 : Fin k0_t2_loop.trips) (c24_i32 : BitVec 32) : Fin 4 → Nat :=
  let c6_337 : Index := 6#32
  let c1_338 : Index := 1#32
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let v283 : BitVec 32 := Scalar.addi v277 c24_i32
  let v284 : BitVec 32 := v283
  let v285 : Index := Scalar.indexCast v284
  let c0_339 : Index := 0#32
  ![6, 1, v285.toNat, 0]
def k0_mult35 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c24_i32_343 : BitVec 32 := 24#32
  let v295 : BitVec 32 := Scalar.addi v277 c24_i32_343
  v295
def k0_off16 (k0_t2 : Fin k0_t2_loop.trips) (c24_i32_343 : BitVec 32) : Fin 4 → Nat :=
  let c5_344 : Index := 5#32
  let c1_345 : Index := 1#32
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let v295 : BitVec 32 := Scalar.addi v277 c24_i32_343
  let v296 : BitVec 32 := v295
  let v297 : Index := Scalar.indexCast v296
  let c0_346 : Index := 0#32
  ![5, 1, v297.toNat, 0]
def k0_mult36 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c24_i32_350 : BitVec 32 := 24#32
  let v307 : BitVec 32 := Scalar.addi v277 c24_i32_350
  v307
def k0_off17 (k0_t2 : Fin k0_t2_loop.trips) (c24_i32_350 : BitVec 32) : Fin 4 → Nat :=
  let c4_351 : Index := 4#32
  let c1_352 : Index := 1#32
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let v307 : BitVec 32 := Scalar.addi v277 c24_i32_350
  let v308 : BitVec 32 := v307
  let v309 : Index := Scalar.indexCast v308
  let c0_353 : Index := 0#32
  ![4, 1, v309.toNat, 0]
def k0_mult37 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c24_i32_357 : BitVec 32 := 24#32
  let v319 : BitVec 32 := Scalar.addi v277 c24_i32_357
  v319
def k0_off18 (k0_t2 : Fin k0_t2_loop.trips) (c24_i32_357 : BitVec 32) : Fin 4 → Nat :=
  let c3_358 : Index := 3#32
  let c1_359 : Index := 1#32
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let v319 : BitVec 32 := Scalar.addi v277 c24_i32_357
  let v320 : BitVec 32 := v319
  let v321 : Index := Scalar.indexCast v320
  let c0_360 : Index := 0#32
  ![3, 1, v321.toNat, 0]
def k0_mult38 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c24_i32_364 : BitVec 32 := 24#32
  let v331 : BitVec 32 := Scalar.addi v277 c24_i32_364
  v331
def k0_off19 (k0_t2 : Fin k0_t2_loop.trips) (c24_i32_364 : BitVec 32) : Fin 4 → Nat :=
  let c2_365 : Index := 2#32
  let c1_366 : Index := 1#32
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let v331 : BitVec 32 := Scalar.addi v277 c24_i32_364
  let v332 : BitVec 32 := v331
  let v333 : Index := Scalar.indexCast v332
  let c0_367 : Index := 0#32
  ![2, 1, v333.toNat, 0]
def k0_mult39 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c24_i32_371 : BitVec 32 := 24#32
  let v343 : BitVec 32 := Scalar.addi v277 c24_i32_371
  v343
def k0_off20 (k0_t2 : Fin k0_t2_loop.trips) (c24_i32_371 : BitVec 32) : Fin 4 → Nat :=
  let c1_372 : Index := 1#32
  let c1_373 : Index := 1#32
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let v343 : BitVec 32 := Scalar.addi v277 c24_i32_371
  let v344 : BitVec 32 := v343
  let v345 : Index := Scalar.indexCast v344
  let c0_374 : Index := 0#32
  ![1, 1, v345.toNat, 0]
def k0_mult40 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c24_i32_378 : BitVec 32 := 24#32
  let v355 : BitVec 32 := Scalar.addi v277 c24_i32_378
  v355
def k0_off21 (k0_t2 : Fin k0_t2_loop.trips) (c24_i32_378 : BitVec 32) : Fin 4 → Nat :=
  let c0_379 : Index := 0#32
  let c1_380 : Index := 1#32
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let v355 : BitVec 32 := Scalar.addi v277 c24_i32_378
  let v356 : BitVec 32 := v355
  let v357 : Index := Scalar.indexCast v356
  let c0_381 : Index := 0#32
  ![0, 1, v357.toNat, 0]
def k0_mult41 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c16_i32 : BitVec 32 := 16#32
  let v367 : BitVec 32 := Scalar.addi v277 c16_i32
  v367
def k0_off22 (k0_t2 : Fin k0_t2_loop.trips) (c16_i32 : BitVec 32) : Fin 4 → Nat :=
  let c7_385 : Index := 7#32
  let c1_386 : Index := 1#32
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let v367 : BitVec 32 := Scalar.addi v277 c16_i32
  let v368 : BitVec 32 := v367
  let v369 : Index := Scalar.indexCast v368
  let c0_387 : Index := 0#32
  ![7, 1, v369.toNat, 0]
def k0_mult42 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c16_i32_391 : BitVec 32 := 16#32
  let v379 : BitVec 32 := Scalar.addi v277 c16_i32_391
  v379
def k0_mult43 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c16_i32_397 : BitVec 32 := 16#32
  let v391 : BitVec 32 := Scalar.addi v277 c16_i32_397
  v391
def k0_mult44 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c16_i32_403 : BitVec 32 := 16#32
  let v403 : BitVec 32 := Scalar.addi v277 c16_i32_403
  v403
def k0_mult45 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c16_i32_409 : BitVec 32 := 16#32
  let v415 : BitVec 32 := Scalar.addi v277 c16_i32_409
  v415
def k0_mult46 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c16_i32_415 : BitVec 32 := 16#32
  let v427 : BitVec 32 := Scalar.addi v277 c16_i32_415
  v427
def k0_mult47 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c16_i32_421 : BitVec 32 := 16#32
  let v439 : BitVec 32 := Scalar.addi v277 c16_i32_421
  v439
def k0_mult48 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c16_i32_427 : BitVec 32 := 16#32
  let v451 : BitVec 32 := Scalar.addi v277 c16_i32_427
  v451
def k0_mult49 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c8_i32_433 : BitVec 32 := 8#32
  let v463 : BitVec 32 := Scalar.addi v277 c8_i32_433
  v463
def k0_mult50 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c8_i32_439 : BitVec 32 := 8#32
  let v475 : BitVec 32 := Scalar.addi v277 c8_i32_439
  v475
def k0_mult51 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c8_i32_445 : BitVec 32 := 8#32
  let v487 : BitVec 32 := Scalar.addi v277 c8_i32_445
  v487
def k0_mult52 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c8_i32_451 : BitVec 32 := 8#32
  let v499 : BitVec 32 := Scalar.addi v277 c8_i32_451
  v499
def k0_mult53 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c8_i32_457 : BitVec 32 := 8#32
  let v511 : BitVec 32 := Scalar.addi v277 c8_i32_457
  v511
def k0_mult54 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c8_i32_463 : BitVec 32 := 8#32
  let v523 : BitVec 32 := Scalar.addi v277 c8_i32_463
  v523
def k0_mult55 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c8_i32_469 : BitVec 32 := 8#32
  let v535 : BitVec 32 := Scalar.addi v277 c8_i32_469
  v535
def k0_mult56 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c8_i32_475 : BitVec 32 := 8#32
  let v547 : BitVec 32 := Scalar.addi v277 c8_i32_475
  v547
def k0_mult57 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c0_i32_481 : BitVec 32 := 0#32
  let v559 : BitVec 32 := Scalar.addi v277 c0_i32_481
  v559
def k0_mult58 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c0_i32_487 : BitVec 32 := 0#32
  let v571 : BitVec 32 := Scalar.addi v277 c0_i32_487
  v571
def k0_mult59 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c0_i32_493 : BitVec 32 := 0#32
  let v583 : BitVec 32 := Scalar.addi v277 c0_i32_493
  v583
def k0_mult60 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c0_i32_499 : BitVec 32 := 0#32
  let v595 : BitVec 32 := Scalar.addi v277 c0_i32_499
  v595
def k0_mult61 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c0_i32_505 : BitVec 32 := 0#32
  let v607 : BitVec 32 := Scalar.addi v277 c0_i32_505
  v607
def k0_mult62 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c0_i32_511 : BitVec 32 := 0#32
  let v619 : BitVec 32 := Scalar.addi v277 c0_i32_511
  v619
def k0_mult63 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c0_i32_517 : BitVec 32 := 0#32
  let v631 : BitVec 32 := Scalar.addi v277 c0_i32_517
  v631
def k0_mult64 (k0_t2 : Fin k0_t2_loop.trips) : BitVec 32 :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let c0_i32_523 : BitVec 32 := 0#32
  let v643 : BitVec 32 := Scalar.addi v277 c0_i32_523
  v643
def k0_off23 (k0_t2 : Fin k0_t2_loop.trips) : Fin 2 → Nat :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let v656 : Index := Scalar.indexCast v277
  let c128_529 : Index := 128#32
  ![v656.toNat, 128]
def k0_off24 (k0_t2 : Fin k0_t2_loop.trips) : Fin 2 → Nat :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let v659 : Index := Scalar.indexCast v277
  let c640 : Index := 640#32
  ![v659.toNat, 640]
def k0_off25 (k0_t2 : Fin k0_t2_loop.trips) : Fin 2 → Nat :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let v671 : Index := Scalar.indexCast v277
  let c1152 : Index := 1152#32
  ![v671.toNat, 1152]
def k0_off26 (k0_t2 : Fin k0_t2_loop.trips) : Fin 2 → Nat :=
  let c0_i32_258 : BitVec 32 := 0#32
  let c1_i32_260 : BitVec 32 := 1#32
  let arg18 : BitVec 32 := Scf.iv c0_i32_258 c1_i32_260 k0_t2
  let c64_i32 : BitVec 32 := 64#32
  let v276 : BitVec 32 := Scalar.muli arg18 c64_i32
  let v277 : BitVec 32 := v276
  let v679 : Index := Scalar.indexCast v277
  let c1664 : Index := 1664#32
  ![v679.toNat, 1664]
@[reducible] def k0_t3_loop : Scf.Loop 32 :=
  let c0_i32_262 : BitVec 32 := 0#32
  let c8_i32_263 : BitVec 32 := 8#32
  let v185 : BitVec 32 := Scalar.addi c0_i32_262 c8_i32_263
  let c1_i32_264 : BitVec 32 := 1#32
  ⟨c0_i32_262, v185, c1_i32_264⟩
def k0_mult65 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  v276
def k0_off27 (k0_t3 : Fin k0_t3_loop.trips) : Fin 2 → Nat :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let v278 : Index := Scalar.indexCast v277
  let c256_335 : Index := 256#32
  ![v278.toNat, 256]
def k0_mult66 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c24_i32 : BitVec 32 := 24#32
  let v283 : BitVec 32 := Scalar.addi v277 c24_i32
  v283
def k0_off28 (k0_t3 : Fin k0_t3_loop.trips) (c24_i32 : BitVec 32) : Fin 4 → Nat :=
  let c6_338 : Index := 6#32
  let c2_339 : Index := 2#32
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let v283 : BitVec 32 := Scalar.addi v277 c24_i32
  let v284 : BitVec 32 := v283
  let v285 : Index := Scalar.indexCast v284
  let c0_340 : Index := 0#32
  ![6, 2, v285.toNat, 0]
def k0_mult67 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c24_i32_344 : BitVec 32 := 24#32
  let v295 : BitVec 32 := Scalar.addi v277 c24_i32_344
  v295
def k0_off29 (k0_t3 : Fin k0_t3_loop.trips) (c24_i32_344 : BitVec 32) : Fin 4 → Nat :=
  let c5_345 : Index := 5#32
  let c2_346 : Index := 2#32
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let v295 : BitVec 32 := Scalar.addi v277 c24_i32_344
  let v296 : BitVec 32 := v295
  let v297 : Index := Scalar.indexCast v296
  let c0_347 : Index := 0#32
  ![5, 2, v297.toNat, 0]
def k0_mult68 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c24_i32_351 : BitVec 32 := 24#32
  let v307 : BitVec 32 := Scalar.addi v277 c24_i32_351
  v307
def k0_off30 (k0_t3 : Fin k0_t3_loop.trips) (c24_i32_351 : BitVec 32) : Fin 4 → Nat :=
  let c4_352 : Index := 4#32
  let c2_353 : Index := 2#32
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let v307 : BitVec 32 := Scalar.addi v277 c24_i32_351
  let v308 : BitVec 32 := v307
  let v309 : Index := Scalar.indexCast v308
  let c0_354 : Index := 0#32
  ![4, 2, v309.toNat, 0]
def k0_mult69 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c24_i32_358 : BitVec 32 := 24#32
  let v319 : BitVec 32 := Scalar.addi v277 c24_i32_358
  v319
def k0_off31 (k0_t3 : Fin k0_t3_loop.trips) (c24_i32_358 : BitVec 32) : Fin 4 → Nat :=
  let c3_359 : Index := 3#32
  let c2_360 : Index := 2#32
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let v319 : BitVec 32 := Scalar.addi v277 c24_i32_358
  let v320 : BitVec 32 := v319
  let v321 : Index := Scalar.indexCast v320
  let c0_361 : Index := 0#32
  ![3, 2, v321.toNat, 0]
def k0_mult70 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c24_i32_365 : BitVec 32 := 24#32
  let v331 : BitVec 32 := Scalar.addi v277 c24_i32_365
  v331
def k0_off32 (k0_t3 : Fin k0_t3_loop.trips) (c24_i32_365 : BitVec 32) : Fin 4 → Nat :=
  let c2_366 : Index := 2#32
  let c2_367 : Index := 2#32
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let v331 : BitVec 32 := Scalar.addi v277 c24_i32_365
  let v332 : BitVec 32 := v331
  let v333 : Index := Scalar.indexCast v332
  let c0_368 : Index := 0#32
  ![2, 2, v333.toNat, 0]
def k0_mult71 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c24_i32_372 : BitVec 32 := 24#32
  let v343 : BitVec 32 := Scalar.addi v277 c24_i32_372
  v343
def k0_off33 (k0_t3 : Fin k0_t3_loop.trips) (c24_i32_372 : BitVec 32) : Fin 4 → Nat :=
  let c1_373 : Index := 1#32
  let c2_374 : Index := 2#32
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let v343 : BitVec 32 := Scalar.addi v277 c24_i32_372
  let v344 : BitVec 32 := v343
  let v345 : Index := Scalar.indexCast v344
  let c0_375 : Index := 0#32
  ![1, 2, v345.toNat, 0]
def k0_mult72 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c24_i32_379 : BitVec 32 := 24#32
  let v355 : BitVec 32 := Scalar.addi v277 c24_i32_379
  v355
def k0_off34 (k0_t3 : Fin k0_t3_loop.trips) (c24_i32_379 : BitVec 32) : Fin 4 → Nat :=
  let c0_380 : Index := 0#32
  let c2_381 : Index := 2#32
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let v355 : BitVec 32 := Scalar.addi v277 c24_i32_379
  let v356 : BitVec 32 := v355
  let v357 : Index := Scalar.indexCast v356
  let c0_382 : Index := 0#32
  ![0, 2, v357.toNat, 0]
def k0_mult73 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c16_i32 : BitVec 32 := 16#32
  let v367 : BitVec 32 := Scalar.addi v277 c16_i32
  v367
def k0_off35 (k0_t3 : Fin k0_t3_loop.trips) (c16_i32 : BitVec 32) : Fin 4 → Nat :=
  let c7_386 : Index := 7#32
  let c2_387 : Index := 2#32
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let v367 : BitVec 32 := Scalar.addi v277 c16_i32
  let v368 : BitVec 32 := v367
  let v369 : Index := Scalar.indexCast v368
  let c0_388 : Index := 0#32
  ![7, 2, v369.toNat, 0]
def k0_mult74 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c16_i32_392 : BitVec 32 := 16#32
  let v379 : BitVec 32 := Scalar.addi v277 c16_i32_392
  v379
def k0_mult75 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c16_i32_398 : BitVec 32 := 16#32
  let v391 : BitVec 32 := Scalar.addi v277 c16_i32_398
  v391
def k0_mult76 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c16_i32_404 : BitVec 32 := 16#32
  let v403 : BitVec 32 := Scalar.addi v277 c16_i32_404
  v403
def k0_mult77 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c16_i32_410 : BitVec 32 := 16#32
  let v415 : BitVec 32 := Scalar.addi v277 c16_i32_410
  v415
def k0_mult78 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c16_i32_416 : BitVec 32 := 16#32
  let v427 : BitVec 32 := Scalar.addi v277 c16_i32_416
  v427
def k0_mult79 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c16_i32_422 : BitVec 32 := 16#32
  let v439 : BitVec 32 := Scalar.addi v277 c16_i32_422
  v439
def k0_mult80 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c16_i32_428 : BitVec 32 := 16#32
  let v451 : BitVec 32 := Scalar.addi v277 c16_i32_428
  v451
def k0_mult81 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c8_i32_434 : BitVec 32 := 8#32
  let v463 : BitVec 32 := Scalar.addi v277 c8_i32_434
  v463
def k0_mult82 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c8_i32_440 : BitVec 32 := 8#32
  let v475 : BitVec 32 := Scalar.addi v277 c8_i32_440
  v475
def k0_mult83 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c8_i32_446 : BitVec 32 := 8#32
  let v487 : BitVec 32 := Scalar.addi v277 c8_i32_446
  v487
def k0_mult84 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c8_i32_452 : BitVec 32 := 8#32
  let v499 : BitVec 32 := Scalar.addi v277 c8_i32_452
  v499
def k0_mult85 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c8_i32_458 : BitVec 32 := 8#32
  let v511 : BitVec 32 := Scalar.addi v277 c8_i32_458
  v511
def k0_mult86 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c8_i32_464 : BitVec 32 := 8#32
  let v523 : BitVec 32 := Scalar.addi v277 c8_i32_464
  v523
def k0_mult87 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c8_i32_470 : BitVec 32 := 8#32
  let v535 : BitVec 32 := Scalar.addi v277 c8_i32_470
  v535
def k0_mult88 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c8_i32_476 : BitVec 32 := 8#32
  let v547 : BitVec 32 := Scalar.addi v277 c8_i32_476
  v547
def k0_mult89 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c0_i32_482 : BitVec 32 := 0#32
  let v559 : BitVec 32 := Scalar.addi v277 c0_i32_482
  v559
def k0_mult90 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c0_i32_488 : BitVec 32 := 0#32
  let v571 : BitVec 32 := Scalar.addi v277 c0_i32_488
  v571
def k0_mult91 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c0_i32_494 : BitVec 32 := 0#32
  let v583 : BitVec 32 := Scalar.addi v277 c0_i32_494
  v583
def k0_mult92 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c0_i32_500 : BitVec 32 := 0#32
  let v595 : BitVec 32 := Scalar.addi v277 c0_i32_500
  v595
def k0_mult93 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c0_i32_506 : BitVec 32 := 0#32
  let v607 : BitVec 32 := Scalar.addi v277 c0_i32_506
  v607
def k0_mult94 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c0_i32_512 : BitVec 32 := 0#32
  let v619 : BitVec 32 := Scalar.addi v277 c0_i32_512
  v619
def k0_mult95 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c0_i32_518 : BitVec 32 := 0#32
  let v631 : BitVec 32 := Scalar.addi v277 c0_i32_518
  v631
def k0_mult96 (k0_t3 : Fin k0_t3_loop.trips) : BitVec 32 :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let c0_i32_524 : BitVec 32 := 0#32
  let v643 : BitVec 32 := Scalar.addi v277 c0_i32_524
  v643
def k0_off36 (k0_t3 : Fin k0_t3_loop.trips) : Fin 2 → Nat :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let v656 : Index := Scalar.indexCast v277
  let c256_530 : Index := 256#32
  ![v656.toNat, 256]
def k0_off37 (k0_t3 : Fin k0_t3_loop.trips) : Fin 2 → Nat :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let v659 : Index := Scalar.indexCast v277
  let c768_531 : Index := 768#32
  ![v659.toNat, 768]
def k0_off38 (k0_t3 : Fin k0_t3_loop.trips) : Fin 2 → Nat :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let v671 : Index := Scalar.indexCast v277
  let c1280_535 : Index := 1280#32
  ![v671.toNat, 1280]
def k0_off39 (k0_t3 : Fin k0_t3_loop.trips) : Fin 2 → Nat :=
  let c0_i32_262 : BitVec 32 := 0#32
  let c1_i32_264 : BitVec 32 := 1#32
  let arg18 : BitVec 32 := Scf.iv c0_i32_262 c1_i32_264 k0_t3
  let c64_i32 : BitVec 32 := 64#32
  let v276 : BitVec 32 := Scalar.muli arg18 c64_i32
  let v277 : BitVec 32 := v276
  let v679 : Index := Scalar.indexCast v277
  let c1792_537 : Index := 1792#32
  ![v679.toNat, 1792]
@[reducible] def k0_t4_loop : Scf.Loop 32 :=
  let c0_i32_266 : BitVec 32 := 0#32
  let c8_i32_267 : BitVec 32 := 8#32
  let v186 : BitVec 32 := Scalar.addi c0_i32_266 c8_i32_267
  let c1_i32_268 : BitVec 32 := 1#32
  ⟨c0_i32_266, v186, c1_i32_268⟩
def k0_mult97 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  v276
def k0_off40 (k0_t4 : Fin k0_t4_loop.trips) : Fin 2 → Nat :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let v278 : Index := Scalar.indexCast v277
  let c384 : Index := 384#32
  ![v278.toNat, 384]
def k0_mult98 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c24_i32 : BitVec 32 := 24#32
  let v283 : BitVec 32 := Scalar.addi v277 c24_i32
  v283
def k0_off41 (k0_t4 : Fin k0_t4_loop.trips) (c24_i32 : BitVec 32) : Fin 4 → Nat :=
  let c6_337 : Index := 6#32
  let c3_338 : Index := 3#32
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let v283 : BitVec 32 := Scalar.addi v277 c24_i32
  let v284 : BitVec 32 := v283
  let v285 : Index := Scalar.indexCast v284
  let c0_339 : Index := 0#32
  ![6, 3, v285.toNat, 0]
def k0_mult99 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c24_i32_343 : BitVec 32 := 24#32
  let v295 : BitVec 32 := Scalar.addi v277 c24_i32_343
  v295
def k0_off42 (k0_t4 : Fin k0_t4_loop.trips) (c24_i32_343 : BitVec 32) : Fin 4 → Nat :=
  let c5_344 : Index := 5#32
  let c3_345 : Index := 3#32
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let v295 : BitVec 32 := Scalar.addi v277 c24_i32_343
  let v296 : BitVec 32 := v295
  let v297 : Index := Scalar.indexCast v296
  let c0_346 : Index := 0#32
  ![5, 3, v297.toNat, 0]
def k0_mult100 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c24_i32_350 : BitVec 32 := 24#32
  let v307 : BitVec 32 := Scalar.addi v277 c24_i32_350
  v307
def k0_off43 (k0_t4 : Fin k0_t4_loop.trips) (c24_i32_350 : BitVec 32) : Fin 4 → Nat :=
  let c4_351 : Index := 4#32
  let c3_352 : Index := 3#32
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let v307 : BitVec 32 := Scalar.addi v277 c24_i32_350
  let v308 : BitVec 32 := v307
  let v309 : Index := Scalar.indexCast v308
  let c0_353 : Index := 0#32
  ![4, 3, v309.toNat, 0]
def k0_mult101 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c24_i32_357 : BitVec 32 := 24#32
  let v319 : BitVec 32 := Scalar.addi v277 c24_i32_357
  v319
def k0_off44 (k0_t4 : Fin k0_t4_loop.trips) (c24_i32_357 : BitVec 32) : Fin 4 → Nat :=
  let c3_358 : Index := 3#32
  let c3_359 : Index := 3#32
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let v319 : BitVec 32 := Scalar.addi v277 c24_i32_357
  let v320 : BitVec 32 := v319
  let v321 : Index := Scalar.indexCast v320
  let c0_360 : Index := 0#32
  ![3, 3, v321.toNat, 0]
def k0_mult102 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c24_i32_364 : BitVec 32 := 24#32
  let v331 : BitVec 32 := Scalar.addi v277 c24_i32_364
  v331
def k0_off45 (k0_t4 : Fin k0_t4_loop.trips) (c24_i32_364 : BitVec 32) : Fin 4 → Nat :=
  let c2_365 : Index := 2#32
  let c3_366 : Index := 3#32
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let v331 : BitVec 32 := Scalar.addi v277 c24_i32_364
  let v332 : BitVec 32 := v331
  let v333 : Index := Scalar.indexCast v332
  let c0_367 : Index := 0#32
  ![2, 3, v333.toNat, 0]
def k0_mult103 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c24_i32_371 : BitVec 32 := 24#32
  let v343 : BitVec 32 := Scalar.addi v277 c24_i32_371
  v343
def k0_off46 (k0_t4 : Fin k0_t4_loop.trips) (c24_i32_371 : BitVec 32) : Fin 4 → Nat :=
  let c1_372 : Index := 1#32
  let c3_373 : Index := 3#32
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let v343 : BitVec 32 := Scalar.addi v277 c24_i32_371
  let v344 : BitVec 32 := v343
  let v345 : Index := Scalar.indexCast v344
  let c0_374 : Index := 0#32
  ![1, 3, v345.toNat, 0]
def k0_mult104 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c24_i32_378 : BitVec 32 := 24#32
  let v355 : BitVec 32 := Scalar.addi v277 c24_i32_378
  v355
def k0_off47 (k0_t4 : Fin k0_t4_loop.trips) (c24_i32_378 : BitVec 32) : Fin 4 → Nat :=
  let c0_379 : Index := 0#32
  let c3_380 : Index := 3#32
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let v355 : BitVec 32 := Scalar.addi v277 c24_i32_378
  let v356 : BitVec 32 := v355
  let v357 : Index := Scalar.indexCast v356
  let c0_381 : Index := 0#32
  ![0, 3, v357.toNat, 0]
def k0_mult105 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c16_i32 : BitVec 32 := 16#32
  let v367 : BitVec 32 := Scalar.addi v277 c16_i32
  v367
def k0_off48 (k0_t4 : Fin k0_t4_loop.trips) (c16_i32 : BitVec 32) : Fin 4 → Nat :=
  let c7_385 : Index := 7#32
  let c3_386 : Index := 3#32
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let v367 : BitVec 32 := Scalar.addi v277 c16_i32
  let v368 : BitVec 32 := v367
  let v369 : Index := Scalar.indexCast v368
  let c0_387 : Index := 0#32
  ![7, 3, v369.toNat, 0]
def k0_mult106 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c16_i32_391 : BitVec 32 := 16#32
  let v379 : BitVec 32 := Scalar.addi v277 c16_i32_391
  v379
def k0_mult107 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c16_i32_397 : BitVec 32 := 16#32
  let v391 : BitVec 32 := Scalar.addi v277 c16_i32_397
  v391
def k0_mult108 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c16_i32_403 : BitVec 32 := 16#32
  let v403 : BitVec 32 := Scalar.addi v277 c16_i32_403
  v403
def k0_mult109 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c16_i32_409 : BitVec 32 := 16#32
  let v415 : BitVec 32 := Scalar.addi v277 c16_i32_409
  v415
def k0_mult110 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c16_i32_415 : BitVec 32 := 16#32
  let v427 : BitVec 32 := Scalar.addi v277 c16_i32_415
  v427
def k0_mult111 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c16_i32_421 : BitVec 32 := 16#32
  let v439 : BitVec 32 := Scalar.addi v277 c16_i32_421
  v439
def k0_mult112 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c16_i32_427 : BitVec 32 := 16#32
  let v451 : BitVec 32 := Scalar.addi v277 c16_i32_427
  v451
def k0_mult113 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c8_i32_433 : BitVec 32 := 8#32
  let v463 : BitVec 32 := Scalar.addi v277 c8_i32_433
  v463
def k0_mult114 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c8_i32_439 : BitVec 32 := 8#32
  let v475 : BitVec 32 := Scalar.addi v277 c8_i32_439
  v475
def k0_mult115 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c8_i32_445 : BitVec 32 := 8#32
  let v487 : BitVec 32 := Scalar.addi v277 c8_i32_445
  v487
def k0_mult116 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c8_i32_451 : BitVec 32 := 8#32
  let v499 : BitVec 32 := Scalar.addi v277 c8_i32_451
  v499
def k0_mult117 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c8_i32_457 : BitVec 32 := 8#32
  let v511 : BitVec 32 := Scalar.addi v277 c8_i32_457
  v511
def k0_mult118 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c8_i32_463 : BitVec 32 := 8#32
  let v523 : BitVec 32 := Scalar.addi v277 c8_i32_463
  v523
def k0_mult119 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c8_i32_469 : BitVec 32 := 8#32
  let v535 : BitVec 32 := Scalar.addi v277 c8_i32_469
  v535
def k0_mult120 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c8_i32_475 : BitVec 32 := 8#32
  let v547 : BitVec 32 := Scalar.addi v277 c8_i32_475
  v547
def k0_mult121 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c0_i32_481 : BitVec 32 := 0#32
  let v559 : BitVec 32 := Scalar.addi v277 c0_i32_481
  v559
def k0_mult122 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c0_i32_487 : BitVec 32 := 0#32
  let v571 : BitVec 32 := Scalar.addi v277 c0_i32_487
  v571
def k0_mult123 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c0_i32_493 : BitVec 32 := 0#32
  let v583 : BitVec 32 := Scalar.addi v277 c0_i32_493
  v583
def k0_mult124 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c0_i32_499 : BitVec 32 := 0#32
  let v595 : BitVec 32 := Scalar.addi v277 c0_i32_499
  v595
def k0_mult125 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c0_i32_505 : BitVec 32 := 0#32
  let v607 : BitVec 32 := Scalar.addi v277 c0_i32_505
  v607
def k0_mult126 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c0_i32_511 : BitVec 32 := 0#32
  let v619 : BitVec 32 := Scalar.addi v277 c0_i32_511
  v619
def k0_mult127 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c0_i32_517 : BitVec 32 := 0#32
  let v631 : BitVec 32 := Scalar.addi v277 c0_i32_517
  v631
def k0_mult128 (k0_t4 : Fin k0_t4_loop.trips) : BitVec 32 :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let c0_i32_523 : BitVec 32 := 0#32
  let v643 : BitVec 32 := Scalar.addi v277 c0_i32_523
  v643
def k0_off49 (k0_t4 : Fin k0_t4_loop.trips) : Fin 2 → Nat :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let v656 : Index := Scalar.indexCast v277
  let c384_529 : Index := 384#32
  ![v656.toNat, 384]
def k0_off50 (k0_t4 : Fin k0_t4_loop.trips) : Fin 2 → Nat :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let v659 : Index := Scalar.indexCast v277
  let c896 : Index := 896#32
  ![v659.toNat, 896]
def k0_off51 (k0_t4 : Fin k0_t4_loop.trips) : Fin 2 → Nat :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let v671 : Index := Scalar.indexCast v277
  let c1408 : Index := 1408#32
  ![v671.toNat, 1408]
def k0_off52 (k0_t4 : Fin k0_t4_loop.trips) : Fin 2 → Nat :=
  let c0_i32_266 : BitVec 32 := 0#32
  let c1_i32_268 : BitVec 32 := 1#32
  let arg18 : BitVec 32 := Scf.iv c0_i32_266 c1_i32_268 k0_t4
  let c64_i32 : BitVec 32 := 64#32
  let v276 : BitVec 32 := Scalar.muli arg18 c64_i32
  let v277 : BitVec 32 := v276
  let v679 : Index := Scalar.indexCast v277
  let c1920 : Index := 1920#32
  ![v679.toNat, 1920]
def k0_cond2 (i : grid0.Coords) : BitVec 1 :=
  let arg0 : BitVec 32 := BitVec.ofNat 32 (i 0).val
  let c7_i32_333 : BitVec 32 := 7#32
  let v273 : BitVec 1 := Scalar.cmpi .eq arg0 c7_i32_333
  let v274 : BitVec 32 := Scalar.extui v273
  let c0_i32_334 : BitVec 32 := 0#32
  let v275 : BitVec 1 := Scalar.cmpi .ne v274 c0_i32_334
  v275

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S31x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference8Ideal.lean ====
abbrev S4096x1024 : Shape := ⟨2, ![4096, 1024]⟩
abbrev S1024 : Shape := ⟨1, ![1024]⟩
abbrev S1024x2048 : Shape := ⟨2, ![1024, 2048]⟩
abbrev S31x512 : Shape := ⟨2, ![31, 512]⟩
abbrev S4096x512 : Shape := ⟨2, ![4096, 512]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x1024 : Shape := ⟨2, ![1, 1024]⟩
abbrev S31x1x512 : Shape := ⟨3, ![31, 1, 512]⟩
abbrev S30x512 : Shape := ⟨2, ![30, 512]⟩
abbrev S4126x512 : Shape := ⟨2, ![4126, 512]⟩
abbrev S31x4126x512 : Shape := ⟨3, ![31, 4126, 512]⟩
abbrev S127906x512 : Shape := ⟨2, ![127906, 512]⟩
abbrev S127937x512 : Shape := ⟨2, ![127937, 512]⟩
abbrev S31x4127x512 : Shape := ⟨3, ![31, 4127, 512]⟩
abbrev S31x4096x512 : Shape := ⟨3, ![31, 4096, 512]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S31x512, .f32⟩
  | .hbm, ⟨4, _⟩ => ⟨S4096x1024, .f32⟩
  | .hbm, ⟨5, _⟩ => ⟨S4096x512, .f32⟩
  | .hbm, ⟨6, _⟩ => ⟨S4096x1024, .f32⟩
  | .hbm, ⟨7, _⟩ => ⟨S_, .f32⟩
  | .hbm, ⟨8, _⟩ => ⟨S4096x2048, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x2048, .f32⟩
  | .hbm, ⟨30, _⟩ => ⟨S4096x2048, .f32⟩
  | .hbm, ⟨31, _⟩ => ⟨S31x1x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S30x512, .f32⟩
  | .hbm, ⟨49, _⟩ => ⟨S4126x512, .f32⟩
  | .hbm, ⟨50, _⟩ => ⟨S_, .f32⟩
  | .hbm, ⟨51, _⟩ => ⟨S30x512, .f32⟩
  | .hbm, ⟨52, _⟩ => ⟨S31x4126x512, .f32⟩
  | .hbm, ⟨53, _⟩ => ⟨S127906x512, .f32⟩
  | .hbm, ⟨54, _⟩ => ⟨S_, .f32⟩
  | .hbm, ⟨55, _⟩ => ⟨S31x512, .f32⟩
  | .hbm, ⟨56, _⟩ => ⟨S127937x512, .f32⟩
  | .hbm, ⟨57, _⟩ => ⟨S_, .f32⟩
  | .hbm, ⟨58, _⟩ => ⟨S31x512, .f32⟩
  | .hbm, ⟨59, _⟩ => ⟨S31x4127x512, .f32⟩
  | .hbm, ⟨60, _⟩ => ⟨S31x4096x512, .f32⟩
  | .hbm, ⟨61, _⟩ => ⟨S31x4096x512, .f32⟩
  | .hbm, ⟨62, _⟩ => ⟨S31x4096x512, .f32⟩
  | .hbm, ⟨63, _⟩ => ⟨S_, .f32⟩
  | .hbm, ⟨64, _⟩ => ⟨S4096x512, .f32⟩
  | .hbm, ⟨65, _⟩ => ⟨S4096x1024, .f32⟩
  | .hbm, ⟨66, _⟩ => ⟨S_, .f32⟩
  | .hbm, ⟨67, _⟩ => ⟨S4096x2048, .f32⟩
  | .hbm, ⟨68, _⟩ => ⟨S31x4096x512, .f32⟩
  | .hbm, ⟨69, _⟩ => ⟨S31x4096x512, .f32⟩
  | .hbm, ⟨70, _⟩ => ⟨S31x4096x512, .f32⟩
  | .hbm, ⟨71, _⟩ => ⟨S31x4096x512, .f32⟩
  | .hbm, ⟨72, _⟩ => ⟨S_, .f32⟩
  | .hbm, ⟨73, _⟩ => ⟨S31x512, .f32⟩
  | .hbm, ⟨74, _⟩ => ⟨S31x1x512, .f32⟩
  | .hbm, ⟨75, _⟩ => ⟨S_, .f32⟩
  | .hbm, ⟨76, _⟩ => ⟨S31x4127x512, .f32⟩
  | .hbm, ⟨77, _⟩ => ⟨S127937x512, .f32⟩
  | .hbm, ⟨78, _⟩ => ⟨S127906x512, .f32⟩
  | .hbm, ⟨79, _⟩ => ⟨S31x512, .f32⟩
  | .hbm, ⟨80, _⟩ => ⟨S31x4126x512, .f32⟩
  | .hbm, ⟨81, _⟩ => ⟨S_, .f32⟩
  | .hbm, ⟨82, _⟩ => ⟨S4126x512, .f32⟩
  | .hbm, ⟨83, _⟩ => ⟨S30x512, .f32⟩
  | .hbm, ⟨84, _⟩ => ⟨S4096x512, .f32⟩
  | .hbm, ⟨85, _⟩ => ⟨S4096x512, .f32⟩
  | .hbm, ⟨86, _⟩ => ⟨S4096x512, .f32⟩
  | .hbm, ⟨87, _⟩ => ⟨S4096x512, .f32⟩
  | .hbm, ⟨88, _⟩ => ⟨S_, .f32⟩
  | .hbm, ⟨89, _⟩ => ⟨S4096x2048, .f32⟩
  | .hbm, ⟨90, _⟩ => ⟨S4096x2048, .f32⟩
  | .hbm, ⟨91, _⟩ => ⟨S_, .f32⟩
  | .hbm, ⟨92, _⟩ => ⟨S4096x2048, .f32⟩
  | .hbm, ⟨93, _⟩ => ⟨S4096x2048, .f32⟩
  | .hbm, ⟨94, _⟩ => ⟨S_, .f32⟩
  | .hbm, ⟨95, _⟩ => ⟨S31x512, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S1024, .f32⟩
  | .hbm, ⟨105, _⟩ => ⟨S4096x1024, .f32⟩
  | .hbm, ⟨106, _⟩ => ⟨S_, .f32⟩
  | .hbm, ⟨107, _⟩ => ⟨S4096, .f32⟩
  | .hbm, ⟨108, _⟩ => ⟨S4096x1, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1, .f32⟩
  | .hbm, ⟨113, _⟩ => ⟨S_, .f32⟩
  | .hbm, ⟨114, _⟩ => ⟨S4096x1, .f32⟩
  | .hbm, ⟨115, _⟩ => ⟨S4096x1, .f32⟩
  | .hbm, ⟨116, _⟩ => ⟨S_, .f32⟩
  | .hbm, ⟨117, _⟩ => ⟨S4096, .f32⟩
  | .hbm, ⟨118, _⟩ => ⟨S4096x1024, .f32⟩
  | .hbm, ⟨119, _⟩ => ⟨S4096x1024, .f32⟩
  | .hbm, ⟨120, _⟩ => ⟨S4096x1024, .f32⟩
  | .hbm, ⟨121, _⟩ => ⟨S4096x1024, .f32⟩
  | .hbm, ⟨122, _⟩ => ⟨S4096x1024, .f32⟩
  | .hbm, ⟨123, _⟩ => ⟨S4096x2048, .bf16⟩
  | .hbm, ⟨124, _⟩ => ⟨S4096x1024, .bf16⟩
  | .hbm, ⟨125, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_15 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_16 : Ref sig .tc := ⟨.hbm, 88, rfl⟩
abbrev main_v64 : Ref sig .tc := ⟨.hbm, 89, rfl⟩
abbrev main_v65 : Ref sig .tc := ⟨.hbm, 90, rfl⟩
abbrev main_cst_17 : Ref sig .tc := ⟨.hbm, 91, rfl⟩
abbrev main_v66 : Ref sig .tc := ⟨.hbm, 92, rfl⟩
abbrev main_v67 : Ref sig .tc := ⟨.hbm, 93, rfl⟩
abbrev main_cst_18 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_19 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_20 : Ref sig .tc := ⟨.hbm, 103, rfl⟩
abbrev main_v75 : Ref sig .tc := ⟨.hbm, 104, rfl⟩
abbrev main_v76 : Ref sig .tc := ⟨.hbm, 105, rfl⟩
abbrev main_cst_21 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_22 : Ref sig .tc := ⟨.hbm, 113, rfl⟩
abbrev main_v83 : Ref sig .tc := ⟨.hbm, 114, rfl⟩
abbrev main_v84 : Ref sig .tc := ⟨.hbm, 115, rfl⟩
abbrev main_cst_23 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8x512 : Shape := ⟨3, ![1024, 8, 512]⟩
abbrev S8x1024x512 : Shape := ⟨3, ![8, 1024, 512]⟩
abbrev S4096x8x512 : Shape := ⟨3, ![4096, 8, 512]⟩
abbrev S4096x4096 : Shape := ⟨2, ![4096, 4096]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 33
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x4096, .bf16⟩
  | .hbm, ⟨22, _⟩ => ⟨S1024x8x512, .bf16⟩
  | .hbm, ⟨23, _⟩ => ⟨S8x1024x512, .bf16⟩
  | .hbm, ⟨24, _⟩ => ⟨S4096x8x512, .f32⟩
  | .hbm, ⟨25, _⟩ => ⟨S_, .f32⟩
  | .hbm, ⟨26, _⟩ => ⟨S4096x8x512, .f32⟩
  | .hbm, ⟨27, _⟩ => ⟨S4096x8x512, .f32⟩
  | .hbm, ⟨28, _⟩ => ⟨S4096x4096, .f32⟩
  | .hbm, ⟨29, _⟩ => ⟨S4096x4096, .bf16⟩
  | .hbm, ⟨30, _⟩ => ⟨S4096x1024, .bf16⟩
  | .hbm, ⟨31, _⟩ => ⟨S1x4096x1024, .f32⟩
  | .hbm, ⟨32, _⟩ => ⟨S1x4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .bf16⟩
  | .local _ .vmem, ⟨6, _⟩ => ⟨S1x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_10 : BitVec 32 := 0#32
  let v15 : BitVec 1 := Scalar.cmpi .eq arg2 c0_i32_10
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1x4096x1024 : Shape := ⟨3, ![1, 4096, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S1024x4096, .f32⟩
  | .hbm, ⟨30, _⟩ => ⟨S4096x1024, .f32⟩
  | .hbm, ⟨31, _⟩ => ⟨S1x4096x1024, .f32⟩
  | .hbm, ⟨32, _⟩ => ⟨S1x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.Ereal.lean ====
/- Extended-real lemmas shared by the claims: products with a finite factor distribute over sums, and the gradient of
   RMS normalisation in the two forms that meet — the closed form `r · (d − n · mean(d · n))` and the chain rule through
   `rsqrt(mean(x · x) + ε)`. Both hold for every extended real: where the mean square is infinite the normaliser is 0. -/
module

public import Idealize.ShloMosaic.PureOps.Ideal.Laws
public import Idealize.ShloMosaic.Lib.Pointwise
public import Mathlib.Tactic.Ring
public import Mathlib.Tactic.FieldSimp
public import Mathlib.Tactic.Positivity
public import Mathlib.Algebra.Order.BigOperators.Group.Finset

@[expose] public section

noncomputable section

namespace Cert.Ereal

open Idealize.ShloMosaic

/-- The mean's divisor, 1024. -/
theorem ofBits_1024 : Ideal.ofBits .f32 0x44800000#32 = ((1024 : ℝ) : EReal) := by
  simp [Ideal.ofBits, Ideal.ieee, -EReal.coe_mul]; norm_num

/-- The factor the derivative of `rsqrt` carries, −1/2. -/
theorem ofBits_neg_half : Ideal.ofBits .f32 0xBF000000#32 = ((-(1 / 2) : ℝ) : EReal) := by
  simp [Ideal.ofBits, Ideal.ieee, -EReal.coe_mul, -EReal.coe_neg]; norm_num

/-- One half. -/
theorem ofBits_half : Ideal.ofBits .f32 0x3F000000#32 = ((1 / 2 : ℝ) : EReal) := by
  simp [Ideal.ofBits, Ideal.ieee, -EReal.coe_mul]; norm_num

/-- Two. -/
theorem ofBits_two : Ideal.ofBits .f32 0x40000000#32 = ((2 : ℝ) : EReal) := by
  simp [Ideal.ofBits, Ideal.ieee, -EReal.coe_mul]; norm_num

/-- One over 1024. -/
theorem ofBits_inv_1024 : Ideal.ofBits .f32 0x3A800000#32 = ((1 / 1024 : ℝ) : EReal) := by
  simp [Ideal.ofBits, Ideal.ieee, -EReal.coe_mul]; norm_num

/-- The normalisers' ε, as the real its pattern denotes. -/
def epsR : ℝ := 8796093 * 2 ^ (-43 : ℤ)

theorem ofBits_eps : Ideal.ofBits .f32 0x358637BD#32 = (epsR : EReal) := by
  simp [Ideal.ofBits, Ideal.ieee, epsR, -EReal.coe_mul]

theorem epsR_pos : 0 < epsR := by unfold epsR; positivity

/-- A finite factor that is not negative distributes over a sum of two. -/
theorem mul_add_real {r : ℝ} (h : 0 ≤ r) (a b : EReal) : (r : EReal) * (a + b) = r * a + r * b :=
  EReal.left_distrib_of_nonneg_of_ne_top (EReal.coe_nonneg.mpr h) (EReal.coe_ne_top r) a b

/-- … and over a finite sum. -/
theorem mul_sum_real {ι : Type} {r : ℝ} (h : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, mul_add_real h, ih]

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division by a real that is not zero is the product with its inverse. -/
theorem div_real {y : ℝ} (h : y ≠ 0) (x : EReal) : Ideal.div x y = x * ((y⁻¹ : ℝ) : EReal) := by
  unfold Ideal.div; rw [if_neg (by simpa using h), EReal.coe_inv]

/-- Twice an extended real. -/
theorem add_self (z : EReal) : z + z = ((2 : ℝ) : EReal) * z := by
  induction z using EReal.rec with
  | bot => rw [EReal.coe_mul_bot_of_pos (by norm_num)]; rfl
  | top => rw [EReal.coe_mul_top_of_pos (by norm_num)]; rfl
  | coe a => rw [← EReal.coe_mul, ← EReal.coe_add]; congr 1; ring

/-- A square is not negative. -/
theorem sq_nonneg (x : EReal) : 0 ≤ x * x := by
  induction x using EReal.rec with
  | bot => simp
  | top => simp
  | coe a => rw [← EReal.coe_mul]; exact EReal.coe_nonneg.mpr (mul_self_nonneg a)

/-- Mean square plus ε of a row of 1024. -/
def msq (x : Fin 1024 → EReal) : EReal :=
  Ideal.div (∑ k, x k * x k) (Ideal.ofBits .f32 0x44800000#32) + Ideal.ofBits .f32 0x358637BD#32

/-- The normaliser of a row. -/
def rst (x : Fin 1024 → EReal) : EReal := Ideal.rsqrt (msq x)

/-- Either every entry of a row is finite, or its mean square is infinite. -/
theorem finite_or_top (x : Fin 1024 → EReal) : (∃ y : Fin 1024 → ℝ, x = fun k => (y k : EReal)) ∨ msq x = ⊤ := by
  by_cases h : ∀ k, x k ≠ ⊤ ∧ x k ≠ ⊥
  · exact .inl ⟨fun k => (x k).toReal, funext fun k => (EReal.coe_toReal (h k).1 (h k).2).symm⟩
  · right
    push Not at h
    obtain ⟨k, hk⟩ := h
    have hs : x k * x k = ⊤ := by
      by_cases ht : x k = ⊤
      · rw [ht]; simp
      · rw [hk ht]; simp
    have hsum : ∑ k, x k * x k = ⊤ := by
      refine top_le_iff.mp (hs ▸ ?_)
      exact Finset.single_le_sum (f := fun k => x k * x k) (fun i _ => sq_nonneg (x i)) (Finset.mem_univ k)
    unfold msq
    rw [hsum, ofBits_1024, ofBits_eps, div_real (by norm_num), EReal.top_mul_coe_of_pos (by norm_num), EReal.top_add_coe]

/-- The mean square of finite entries. -/
def msqR (y : Fin 1024 → ℝ) : ℝ := (∑ k, y k * y k) * 1024⁻¹ + epsR

theorem msqR_pos (y : Fin 1024 → ℝ) : 0 < msqR y := by
  have : 0 ≤ ∑ k, y k * y k := Finset.sum_nonneg fun k _ => mul_self_nonneg (y k)
  have := epsR_pos
  unfold msqR; positivity

theorem msq_coe (y : Fin 1024 → ℝ) : msq (fun k => (y k : EReal)) = (msqR y : EReal) := by
  unfold msq msqR
  simp only [← EReal.coe_mul, ← coe_sum]
  rw [ofBits_1024, ofBits_eps, div_real (by norm_num), ← EReal.coe_mul, ← EReal.coe_add]

theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem rst_coe (y : Fin 1024 → ℝ) : rst (fun k => (y k : EReal)) = (((Real.sqrt (msqR y))⁻¹ : ℝ) : EReal) := by
  unfold rst; rw [msq_coe, rsqrt_pos (msqR_pos y)]

/-- THE GRADIENT OF RMS NORMALISATION: the closed form is the chain rule's three terms. -/
theorem rms_bwd (x d : Fin 1024 → EReal) (j : Fin 1024) :
    rst x * (d j - x j * rst x * Ideal.div (∑ k, d k * (x k * rst x)) (Ideal.ofBits .f32 0x44800000#32))
      = d j * rst x
        + x j * Ideal.div ((∑ k, x k * d k) * (Ideal.ofBits .f32 0xBF000000#32 * Ideal.div (rst x) (msq x))) (Ideal.ofBits .f32 0x44800000#32)
        + Ideal.div ((∑ k, x k * d k) * (Ideal.ofBits .f32 0xBF000000#32 * Ideal.div (rst x) (msq x))) (Ideal.ofBits .f32 0x44800000#32) * x j := by
  rw [ofBits_1024, ofBits_neg_half, div_real (by norm_num), div_real (by norm_num)]
  rcases finite_or_top x with ⟨y, rfl⟩ | ht
  · have hp := msqR_pos y
    have hr : 0 < (Real.sqrt (msqR y))⁻¹ := inv_pos.mpr (Real.sqrt_pos.mpr hp)
    have hrr : (Real.sqrt (msqR y))⁻¹ * (Real.sqrt (msqR y))⁻¹ = (msqR y)⁻¹ := by
      rw [← mul_inv, Real.mul_self_sqrt hp.le]
    rw [rst_coe, msq_coe, div_real hp.ne']
    beta_reduce
    generalize (Real.sqrt (msqR y))⁻¹ = r at *
    generalize (msqR y)⁻¹ = q at *
    have e1 : ∑ k, d k * ((y k : EReal) * (r : EReal)) = (r : EReal) * ∑ k, (y k : EReal) * d k := by
      rw [mul_sum_real hr.le]
      exact Finset.sum_congr rfl fun k _ => by rw [← mul_assoc, mul_comm, mul_comm (d k)]
    rw [e1]
    generalize (∑ k, (y k : EReal) * d k) = S
    generalize y j = a
    generalize d j = b
    have e2 : (a : EReal) * (r : EReal) * ((r : EReal) * S * ((1024⁻¹ : ℝ) : EReal)) = ((a * q * 1024⁻¹ : ℝ) : EReal) * S := by
      rw [← hrr]; simp only [EReal.coe_mul]; ac_rfl
    have e3 : (a : EReal) * (S * (((-(1 / 2) : ℝ) : EReal) * ((r : EReal) * (q : EReal))) * ((1024⁻¹ : ℝ) : EReal))
        = ((a * (-(1 / 2)) * r * q * 1024⁻¹ : ℝ) : EReal) * S := by
      simp only [EReal.coe_mul]; ac_rfl
    rw [e2, mul_comm _ (a : EReal), e3, add_assoc, add_self, sub_eq_add_neg, mul_add_real hr.le, ← EReal.neg_mul, ← EReal.coe_neg,
      ← mul_assoc, ← mul_assoc, ← EReal.coe_mul, ← EReal.coe_mul, mul_comm (r : EReal) b]
    congr 3
    ring
  · have h0 : rst x = 0 := by unfold rst; rw [ht]; rfl
    have hd : Ideal.div (0 : EReal) ⊤ = 0 := by unfold Ideal.div; simp
    rw [h0, ht, hd]; simp

end Cert.Ereal

end
-- ==== Proof.Mlp.lean ====
/- The MLP of one layer, its final norm and its loss as plain functions of the arrays' entries: what both programs of a
   claim are shown to compute. -/
module

public import proofs.«01_k».proof.Proof.Ereal

@[expose] public section

noncomputable section

namespace Cert.Mlp

open Idealize.ShloMosaic Cert.Ereal

/-- Tokens by features, features by hidden, hidden by features, tokens by hidden. -/
abbrev Tok := FVec Ideal ⟨2, ![4096, 1024]⟩ .f32
abbrev WIn := FVec Ideal ⟨2, ![1024, 4096]⟩ .f32
abbrev WOut := FVec Ideal ⟨2, ![4096, 1024]⟩ .f32
abbrev Gain := FVec Ideal ⟨1, ![1024]⟩ .f32

/-- Row `i` of a token array. -/
def row (x : Tok) (i : Fin 4096) : Fin 1024 → EReal := fun j => x (ix2 i j)

/-- The hidden pre-activation: the normalised row times the first weight. -/
def pre (x : Tok) (g : Gain) (w : WIn) (i f : Fin 4096) : EReal :=
  ∑ d : Fin 1024, x (ix2 i d) * rst (row x i) * g (ix1 d) * w (ix2 d f)

/-- … through the relu. -/
def hid (x : Tok) (g : Gain) (w : WIn) (i f : Fin 4096) : EReal := max (pre x g w i f) 0

/-- The layer's output row: the residual plus the squared hidden row times the second weight. -/
def out (x : Tok) (g : Gain) (w : WIn) (w2 : WOut) (i : Fin 4096) : Fin 1024 → EReal :=
  fun j => x (ix2 i j) + ∑ f : Fin 4096, hid x g w i f * hid x g w i f * w2 (ix2 f j)

/-- A normalised row against its target. -/
def dif (y : Fin 1024 → EReal) (g : Gain) (t : Fin 1024 → EReal) (j : Fin 1024) : EReal := y j * rst y * g (ix1 j) - t j

/-- The loss's gradient at the normalised row, before the gain. -/
def dnorm (y : Fin 1024 → EReal) (g : Gain) (t : Fin 1024 → EReal) (j : Fin 1024) : EReal :=
  dif y g t j * Ideal.ofBits .f32 0x3A800000#32

/-- The gradient through RMS normalisation of a row `y`, `d` the gradient at the normalised row. -/
def dxn (y d : Fin 1024 → EReal) (j : Fin 1024) : EReal :=
  rst y * (d j - y j * rst y * Ideal.div (∑ k, d k * (y k * rst y)) (Ideal.ofBits .f32 0x44800000#32))

/-- A row's part of the loss. -/
def err (y : Fin 1024 → EReal) (g : Gain) (t : Fin 1024 → EReal) : EReal :=
  Ideal.div (∑ j, dif y g t j * dif y g t j) (Ideal.ofBits .f32 0x44800000#32)

/-- The gradient at the hidden pre-activation, `d` the gradient at the layer's output. -/
def dpre (x : Tok) (g : Gain) (w : WIn) (w2 : WOut) (d : Tok) (i f : Fin 4096) : EReal :=
  Ideal.ofBits .f32 0x40000000#32 * hid x g w i f * ∑ j : Fin 1024, d (ix2 i j) * w2 (ix2 f j)

/-- … at the normalised input, before the gain. -/
def dhin (x : Tok) (g : Gain) (w : WIn) (w2 : WOut) (d : Tok) (i : Fin 4096) (k : Fin 1024) : EReal :=
  ∑ f : Fin 4096, dpre x g w w2 d i f * w (ix2 k f)

/-- … at the layer's input. -/
def dxin (x : Tok) (g : Gain) (w : WIn) (w2 : WOut) (d : Tok) (i : Fin 4096) (j : Fin 1024) : EReal :=
  d (ix2 i j) + dxn (row x i) (fun k => dhin x g w w2 d i k * g (ix1 k)) j

/-- … at the gain. -/
def dgin (x : Tok) (g : Gain) (w : WIn) (w2 : WOut) (d : Tok) (j : Fin 1024) : EReal :=
  ∑ i : Fin 4096, dhin x g w w2 d i j * (x (ix2 i j) * rst (row x i))

end Cert.Mlp

end
-- ==== Proof.Loss.lean ====
module

public import proofs.«01_k».proof.Proof.Mlp
public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Loss

open Idealize.ShloMosaic Idealize.ShloMosaic.TcCoe Idealize.SL.Sem
open Idealize.ShloMosaic.Pipeline (Dat)
open Cert.KernelIdeal Cert.KernelIdeal.Gen Cert.Ereal Cert.Mlp

variable (m : (ℓ : Loc nD τ sig) → Buf (Elt Ideal) ℓ)

/-- The six arguments. -/
abbrev X1 (c : Dev nD) : Tok := m ((c : Thread nD τ).loc main_arg0)
abbrev G2 (c : Dev nD) : Gain := m ((c : Thread nD τ).loc main_arg1)
abbrev W1 (c : Dev nD) : WIn := m ((c : Thread nD τ).loc main_arg2)
abbrev W2 (c : Dev nD) : WOut := m ((c : Thread nD τ).loc main_arg3)
abbrev GF (c : Dev nD) : Gain := m ((c : Thread nD τ).loc main_arg4)
abbrev TG (c : Dev nD) : Tok := m ((c : Thread nD τ).loc main_arg5)

/-- The layer's output row. -/
def Y (c : Dev nD) (i : Fin 4096) : Fin 1024 → EReal := out (X1 m c) (G2 m c) (W1 m c) (W2 m c) i

/-- The gradient at the normalised row, behind the gain. -/
def D (c : Dev nD) (i : Fin 4096) (k : Fin 1024) : EReal := dnorm (Y m c i) (GF m c) (row (TG m c) i) k * GF m c (ix1 k)

/-! ## What the region reads -/

/-- The saved hidden rows. -/
theorem hid_read (c : Dev nD) (i f : Fin 4096) :
    (show FVec Ideal S4096x4096 .bf16 from V m c main_v20) (ix2 i f) = hid (X1 m c) (G2 m c) (W1 m c) i f := by
  simp only [V, hostOps0, hostOps0_1, hostOps0_2, List.flatten_cons, List.flatten_nil, List.append_nil, List.cons_append, List.nil_append]
  entry_read
  simp only [StableHlo.TRef.toBuf, StableHlo.TRef.ofBuf, cast_eq]
  pointwise [hid, pre, rst, msq, row]
  blk_point

theorem w2_read (c : Dev nD) (f : Fin 4096) (j : Fin 1024) :
    (show FVec Ideal S4096x1024 .bf16 from V m c main_v21) (ix2 f j) = W2 m c (ix2 f j) := by
  simp only [V, hostOps0, hostOps0_1, hostOps0_2, List.flatten_cons, List.flatten_nil, List.append_nil, List.cons_append, List.nil_append]
  entry_read
  pointwise

theorem gf_read (c : Dev nD) (j : Fin 1024) :
    (show FVec Ideal S1x1024 .f32 from V m c main_v22) (ix2 0 j) = GF m c (ix1 j) := by
  simp only [V, hostOps0, hostOps0_1, hostOps0_2, List.flatten_cons, List.flatten_nil, List.append_nil, List.cons_append, List.nil_append]
  entry_read
  pointwise

/-- The windows' block indices. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] ∧ t.val < 8 :=
  (by decide +kernel : ∀ t : Fin grid0.N, _)

/-- The token of block `t`'s row `r`. -/
def tok (t : Fin cfg0.N) (r : Fin 512) : Fin 4096 := ⟨t.val * 512 + r.val, by have := (idx t).2.2.2.2.2.2.2; omega⟩

theorem blk0 (c : Dev nD) (t : Fin cfg0.N) (r : Fin 512) (f : Fin 4096) :
    (show FVec Ideal S512x4096 .bf16 from iblk m c 0 t) (ix2 r f) = hid (X1 m c) (G2 m c) (W1 m c) (tok t r) f := by
  refine Eq.trans ?_ (hid_read m c _ f)
  blk_ext [iblk, idx t, tok]

theorem blk1 (c : Dev nD) (t : Fin cfg0.N) (f : Fin 4096) (j : Fin 1024) :
    (show FVec Ideal S4096x1024 .bf16 from iblk m c 1 t) (ix2 f j) = W2 m c (ix2 f j) := by
  refine Eq.trans ?_ (w2_read m c f j)
  blk_ext [iblk, idx t]

theorem blk2 (c : Dev nD) (t : Fin cfg0.N) (r : Fin 512) (j : Fin 1024) :
    (show FVec Ideal S512x1024 .f32 from iblk m c 2 t) (ix2 r j) = X1 m c (ix2 (tok t r) j) := by
  rw [show X1 m c = V m c main_arg0 from (V_main_arg0 m c).symm]
  blk_ext [iblk, idx t, tok]

theorem blk3 (c : Dev nD) (t : Fin cfg0.N) (j : Fin 1024) :
    (show FVec Ideal S1x1024 .f32 from iblk m c 3 t) (ix2 0 j) = GF m c (ix1 j) := by
  refine Eq.trans ?_ (gf_read m c j)
  blk_ext [iblk, idx t]

theorem blk4 (c : Dev nD) (t : Fin cfg0.N) (r : Fin 512) (j : Fin 1024) :
    (show FVec Ideal S512x1024 .f32 from iblk m c 4 t) (ix2 r j) = row (TG m c) (tok t r) j := by
  unfold row
  rw [show TG m c = V m c main_arg5 from (V_main_arg5 m c).symm]
  blk_ext [iblk, idx t, tok]

/-! ## The body's values over the blocks -/

section
variable (v3 : FVec Ideal S512x4096 .bf16) (v5 : FVec Ideal S512x1024 .f32) (v7 : FVec Ideal S4096x1024 .bf16) (v21 : FVec Ideal S1x1024 .f32)
  (v25 : FVec Ideal S512x1024 .f32) (v10 v26 : FVec Ideal S512x1024 .f32) (v18 : FVec Ideal S512x1 .f32) (r : Fin 512) (j : Fin 1024)

theorem pay9_at : k0_pay9 (F := Ideal) v3 v5 v7 (ix2 r j) = v5 (ix2 r j) + ∑ f, v3 (ix2 r f) * v3 (ix2 r f) * v7 (ix2 f j) := by
  pointwise [k0_pay9]

theorem pay10_at : k0_pay10 (F := Ideal) v3 v5 v7 (ix2 r 0) = rst fun k => k0_pay9 (F := Ideal) v3 v5 v7 (ix2 r k) := by
  pointwise [k0_pay10, rst, msq]

theorem pay11_at : k0_pay11 (F := Ideal) v3 v5 v7 v21 v25 (ix2 r j)
    = k0_pay9 (F := Ideal) v3 v5 v7 (ix2 r j) * k0_pay10 (F := Ideal) v3 v5 v7 (ix2 r 0) * v21 (ix2 0 j) - v25 (ix2 r j) := by
  pointwise [k0_pay11]

theorem pay13_at : k0_pay13 (F := Ideal) v3 v5 v7 v21 v25 (ix2 0 0)
    = ∑ r : Fin 512, Ideal.div (∑ j : Fin 1024, k0_pay11 (F := Ideal) v3 v5 v7 v21 v25 (ix2 r j) * k0_pay11 (F := Ideal) v3 v5 v7 v21 v25 (ix2 r j))
        (Ideal.ofBits .f32 0x44800000#32) := by
  pointwise [k0_pay13]

theorem pay4_at : k0_pay4 (F := Ideal) v10 v18 v26 v21 (ix2 r j)
    = v18 (ix2 r 0) * (v26 (ix2 r j) * Ideal.ofBits .f32 0x3A800000#32 * v21 (ix2 0 j) - v10 (ix2 r j) * v18 (ix2 r 0)
      * Ideal.div (∑ k, v26 (ix2 r k) * Ideal.ofBits .f32 0x3A800000#32 * v21 (ix2 0 k) * (v10 (ix2 r k) * v18 (ix2 r 0))) (Ideal.ofBits .f32 0x44800000#32)) := by
  pointwise [k0_pay4, k0_pay2, k0_pay3]

theorem pay6_at : k0_pay6 (F := Ideal) v10 v18 v26 v21 (ix2 0 j)
    = v21 (ix2 0 j) + ∑ r : Fin 512, v26 (ix2 r j) * Ideal.ofBits .f32 0x3A800000#32 * (v10 (ix2 r j) * v18 (ix2 r 0)) := by
  pointwise [k0_pay6, k0_pay2, k0_pay3]
end

theorem y_at (c : Dev nD) (t : Fin cfg0.N) (r : Fin 512) (j : Fin 1024) :
    k0_pay9 (F := Ideal) (iblk m c 0 t) (iblk m c 2 t) (iblk m c 1 t) (ix2 r j) = Y m c (tok t r) j :=
  (pay9_at _ _ _ r j).trans (congrArg₂ (· + ·) (blk2 m c t r j) (Finset.sum_congr rfl fun f _ =>
    congrArg₂ (· * ·) (congrArg₂ (· * ·) (blk0 m c t r f) (blk0 m c t r f)) (blk1 m c t f j)))

theorem rst_at (c : Dev nD) (t : Fin cfg0.N) (r : Fin 512) :
    k0_pay10 (F := Ideal) (iblk m c 0 t) (iblk m c 2 t) (iblk m c 1 t) (ix2 r 0) = rst (Y m c (tok t r)) :=
  (pay10_at _ _ _ r).trans (congrArg rst (funext fun k => y_at m c t r k))

theorem dif_at (c : Dev nD) (t : Fin cfg0.N) (r : Fin 512) (j : Fin 1024) :
    k0_pay11 (F := Ideal) (iblk m c 0 t) (iblk m c 2 t) (iblk m c 1 t) (iblk m c 3 t) (iblk m c 4 t) (ix2 r j)
      = dif (Y m c (tok t r)) (GF m c) (row (TG m c) (tok t r)) j :=
  (pay11_at _ _ _ _ _ r j).trans (congrArg₂ (· - ·) (congrArg₂ (· * ·) (congrArg₂ (· * ·) (y_at m c t r j) (rst_at m c t r)) (blk3 m c t j)) (blk4 m c t r j))

theorem dx_at (c : Dev nD) (t : Fin cfg0.N) (r : Fin 512) (j : Fin 1024) :
    k0_pay4 (F := Ideal) (k0_pay9 (iblk m c 0 t) (iblk m c 2 t) (iblk m c 1 t)) (k0_pay10 (iblk m c 0 t) (iblk m c 2 t) (iblk m c 1 t))
      (k0_pay11 (iblk m c 0 t) (iblk m c 2 t) (iblk m c 1 t) (iblk m c 3 t) (iblk m c 4 t)) (iblk m c 3 t) (ix2 r j)
      = dxn (Y m c (tok t r)) (D m c (tok t r)) j := by
  refine (pay4_at _ _ _ _ r j).trans ?_
  simp only [y_at, rst_at, dif_at]
  have hg : ∀ k, (show FVec Ideal S1x1024 .f32 from iblk m c 3 t) (ix2 0 k) = GF m c (ix1 k) := blk3 m c t
  simp only [hg, dxn, D, dnorm]

theorem err_at (c : Dev nD) (t : Fin cfg0.N) :
    k0_pay13 (F := Ideal) (iblk m c 0 t) (iblk m c 2 t) (iblk m c 1 t) (iblk m c 3 t) (iblk m c 4 t) (ix2 0 0)
      = ∑ r, err (Y m c (tok t r)) (GF m c) (row (TG m c) (tok t r)) := by
  refine (pay13_at _ _ _ _ _).trans ?_
  simp only [dif_at, err]

/-- What a block adds to the gain's gradient. -/
theorem dg_at (c : Dev nD) (t : Fin cfg0.N) (acc : FVec Ideal S1x1024 .f32) (k : Fin 1024) :
    k0_pay6 (F := Ideal) (k0_pay9 (iblk m c 0 t) (iblk m c 2 t) (iblk m c 1 t)) (k0_pay10 (iblk m c 0 t) (iblk m c 2 t) (iblk m c 1 t))
      (k0_pay11 (iblk m c 0 t) (iblk m c 2 t) (iblk m c 1 t) (iblk m c 3 t) (iblk m c 4 t)) acc (ix2 0 k)
      = acc (ix2 0 k) + ∑ r, dnorm (Y m c (tok t r)) (GF m c) (row (TG m c) (tok t r)) k * (Y m c (tok t r) k * rst (Y m c (tok t r))) := by
  refine (pay6_at _ _ _ _ k).trans ?_
  simp only [y_at, rst_at, dif_at, dnorm]

/-- What a block adds to the loss. -/
theorem loss_at (acc : FVec Ideal S8x128 .f32) (e : FVec Ideal S1x1 .f32) (h : EReal) (i : S8x128.Idx) :
    k0_pay1 (F := Ideal) (k0_pay12 acc) e h i = acc i + h * e (ix2 0 0) := by
  rw [eq_ix2 i]
  pointwise [k0_pay1, k0_pay12]

theorem zero7 (i : S8x128.Idx) : k0_pay7 (F := Ideal) i = 0 := by
  rw [eq_ix2 i]
  pointwise [k0_pay7]

theorem zero8 (i : S1x1024.Idx) : k0_pay8 (F := Ideal) i = 0 := by
  rw [eq_ix2 i]
  pointwise [k0_pay8]

/-- The tokens by blocks. -/
theorem sum_tok (f : Fin 4096 → EReal) : ∑ p : Fin cfg0.N, ∑ r : Fin 512, f (tok p r) = ∑ i, f i :=
  Fin.sum_mul_add_fin (L := 4096) 8 512 f

/-! ## The final arrays -/

theorem final5 (c : Dev nD) : (dats m 0 c).arrAt 5 (cfgs 0).N = fun i => dxn (Y m c (i 0)) (D m c (i 0)) (i 1) := by
  refine (dats m 0 c).arrAt_eq_of_covers 5 _ (by decide +kernel) fun t hf y => ?_
  blk_simp
  rw [after0_5]
  have key : ∀ i : S4096x1024.Idx, (i 0).val = t.val * 512 + (y 0).val → (i 1).val = (y 1).val →
      dxn (Y m c (tok t (y 0))) (D m c (tok t (y 0))) (y 1) = dxn (Y m c (i 0)) (D m c (i 0)) (i 1) := fun i h0 h1 => by
    rw [show i 0 = tok t (y 0) from Fin.ext h0, show i 1 = y 1 from Fin.ext h1]
  by_cases h : t.val % 8 = 0
  · rw [outsAt0_A m c t h]; frame_out
    refine (congrArg _ (eq_ix2 y)).trans ((dx_at m c t (y 0) (y 1)).trans (key _ ?_ ?_)) <;> blk_simp [idx t]
  · rw [outsAt0_B m c t h]; frame_out
    refine (congrArg _ (eq_ix2 y)).trans ((dx_at m c t (y 0) (y 1)).trans (key _ ?_ ?_)) <;> blk_simp [idx t]

theorem final7 (c : Dev nD) : (dats m 0 c).arrAt 7 (cfgs 0).N
    = fun i => Ideal.ofBits .f32 0x3F000000#32 * ∑ i, err (Y m c i) (GF m c) (row (TG m c) i) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun p j => Ideal.ofBits .f32 0x3F000000#32 * ∑ r, err (Y m c (tok p r)) (GF m c) (row (TG m c) (tok p r)))
    (fun t h j => by rw [outsAt0_A m c t h]; frame_out; exact (loss_at _ _ _ j).trans (by rw [zero7, err_at]; rfl))
    (fun t h j => by rw [outsAt0_B m c t h]; frame_out; exact (loss_at _ _ _ j).trans (by rw [err_at]; rfl))
    (le_of_eq N_0) t0_7 rfl j, zero_add, ← sum_tok fun i => err (Y m c i) (GF m c) (row (TG m c) i), ofBits_half,
    mul_sum_real (by norm_num)]

theorem final8 (c : Dev nD) : (dats m 0 c).arrAt 8 (cfgs 0).N
    = fun i => ∑ a, dnorm (Y m c a) (GF m c) (row (TG m c) a) (i 1) * (Y m c a (i 1) * rst (Y m c a)) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun p j => ∑ r, dnorm (Y m c (tok p r)) (GF m c) (row (TG m c) (tok p r)) (j 1) * (Y m c (tok p r) (j 1) * rst (Y m c (tok p r))))
    (fun t h j => by
      rw [outsAt0_A m c t h]; frame_out
      obtain ⟨k, rfl⟩ : ∃ k, j = ix2 0 k := ⟨j 1, by rw [eq_ix2 j]; congr 1; exact Subsingleton.elim _ _⟩
      exact (dg_at m c t _ k).trans (by rw [zero8]; rfl))
    (fun t h j => by
      rw [outsAt0_B m c t h]; frame_out
      obtain ⟨k, rfl⟩ : ∃ k, j = ix2 0 k := ⟨j 1, by rw [eq_ix2 j]; congr 1; exact Subsingleton.elim _ _⟩
      exact dg_at m c t _ k)
    (le_of_eq N_0) t0_7 rfl j, zero_add]
  exact sum_tok fun a => dnorm (Y m c a) (GF m c) (row (TG m c) a) (j 1) * (Y m c a (j 1) * rst (Y m c a))

theorem final6 (c : Dev nD) : (dats m 0 c).arrAt 6 (cfgs 0).N = fun i => dxn (Y m c (i 0)) (D m c (i 0)) (i 1) := by
  refine (dats m 0 c).arrAt_eq_of_covers 6 _ (by decide +kernel) fun t hf y => ?_
  blk_simp
  rw [after0_6]
  have key : ∀ i : S4096x1024.Idx, (i 0).val = t.val * 512 + (y 0).val → (i 1).val = (y 1).val →
      dxn (Y m c (tok t (y 0))) (D m c (tok t (y 0))) (y 1) = dxn (Y m c (i 0)) (D m c (i 0)) (i 1) := fun i h0 h1 => by
    rw [show i 0 = tok t (y 0) from Fin.ext h0, show i 1 = y 1 from Fin.ext h1]
  by_cases h : t.val % 8 = 0
  · rw [outsAt0_A m c t h]; frame_out
    refine (congrArg _ (eq_ix2 y)).trans ((dx_at m c t (y 0) (y 1)).trans (key _ ?_ ?_)) <;> blk_simp [idx t]
  · rw [outsAt0_B m c t h]; frame_out
    refine (congrArg _ (eq_ix2 y)).trans ((dx_at m c t (y 0) (y 1)).trans (key _ ?_ ?_)) <;> blk_simp [idx t]

end Cert.KernelIdeal.Loss

end
-- ==== Proof.RefLoss.lean ====
module

public import proofs.«01_k».proof.Proof.Mlp
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Loss

open Cert.ReferenceIdeal Cert.ReferenceIdeal.Gen Cert.ReferenceIdeal.Value Idealize.ShloMosaic Idealize.ShloMosaic.TcCoe Idealize.SL.Sem
open Idealize.ShloMosaic.StableHlo Cert.Ereal Cert.Mlp

/-! The reference's operations in stages, each a function of the arrays before it. -/

/-- Mean square plus ε, per row. -/
def msT (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

/-- The normalised rows. -/
def normT (x : FVec Ideal S4096x1024 .f32) : FVec Ideal S4096x1024 .f32 :=
  mulf x (broadcastInDim S4096x1024 ![0, 1] bcast_S4096x1_S4096x1024_0_1 (Host.rsqrt (msT x)))

/-- A gain along the rows. -/
def gainT (g : FVec Ideal S1024 .f32) : FVec Ideal S4096x1024 .f32 :=
  broadcastInDim S4096x1024 ![0, 1] bcast_S1x1024_S4096x1024_0_1 (broadcastInDim S1x1024 ![1] bcast_S1024_S1x1024_1 g)

/-- The layer's output rows, the zero perturbation added. -/
def outT (x : FVec Ideal S4096x1024 .f32) (g : FVec Ideal S1024 .f32) (w1 : FVec Ideal S1024x4096 .f32) (w2 : FVec Ideal S4096x1024 .f32) : FVec Ideal S4096x1024 .f32 :=
  let r := maximumf (Host.dotGeneral dot_S4096x1024_S1024x4096_S4096x4096_1_0_0_1_n_n none (mulf (normT x) (gainT g)) w1)
    (broadcastInDim S4096x4096 ![] bcast_S_S4096x4096 (constant S_ .f32 0x00000000#32))
  addf (addf x (Host.dotGeneral dot_S4096x4096_S4096x1024_S4096x1024_1_0_0_1_n_n none (mulf r r) w2))
    (broadcastInDim S4096x1024 ![] bcast_S_S4096x1024 (constant S_ .f32 0x00000000#32))

/-- The normalised rows against their targets. -/
def difT (y : FVec Ideal S4096x1024 .f32) (g : FVec Ideal S1024 .f32) (t : FVec Ideal S4096x1024 .f32) : FVec Ideal S4096x1024 .f32 :=
  subf (mulf (normT y) (gainT g)) t

/-- The loss. -/
def lossT (d : FVec Ideal S4096x1024 .f32) : FVec Ideal S_ .f32 :=
  mulf (constant S_ .f32 0x3F000000#32) (Host.reduceAdd (Host.divf (Host.reduceAdd (mulf d d) (constant S_ .f32 0x00000000#32) reducesTo_S4096x1024_S4096_d1 h_S_)
    (broadcastInDim S4096 ![] bcast_S_S4096 (constant S_ .f32 0x44800000#32))) (constant S_ .f32 0x00000000#32) reducesTo_S4096_S_d0 h_S_)

/-- The gradient at the normalised rows. -/
def dnT (d : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32)))
    (broadcastInDim S4096 ![] bcast_S_S4096 (constant S_ .f32 0x44800000#32)))) (mulf (broadcastInDim S4096x1024 ![] bcast_S_S4096x1024 (constant S_ .f32 0x40000000#32)) d)

/-- Half the gradient at a row's mean square, per row. -/
def dmsT (y e : FVec Ideal S4096x1024 .f32) : FVec Ideal S4096x1024 .f32 :=
  broadcastInDim S4096x1024 ![0] bcast_S4096_S4096x1024_0 (Host.reduceAdd (Host.divf (mulf (shapeCast S4096x1 (Host.reduceAdd (mulf y e) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt (msT y)) (msT y))))
    (broadcastInDim S4096x1 ![] bcast_S_S4096x1 (constant S_ .f32 0x44800000#32))) (constant S_ .f32 0x00000000#32) reducesTo_S4096x1_S4096_d1 h_S_)

/-- The gradient through the normalisation, `e` the gradient at the normalised rows. -/
def dxT (y e : FVec Ideal S4096x1024 .f32) : FVec Ideal S4096x1024 .f32 :=
  addf (addf (mulf e (broadcastInDim S4096x1024 ![0, 1] bcast_S4096x1_S4096x1024_0_1 (Host.rsqrt (msT y)))) (mulf y (dmsT y e))) (mulf (dmsT y e) y)

/-- The gain's gradient. -/
def dgT (y dn : FVec Ideal S4096x1024 .f32) : FVec Ideal S1x1024 .f32 :=
  shapeCast S1x1024 (Host.reduceAdd (shapeCast S1x1024 (Host.reduceAdd (mulf (normT y) dn) (constant S_ .f32 0x00000000#32) reducesTo_S4096x1024_S1024_d0 h_S_) shapeCasts_S1024_S1x1024)
    (constant S_ .f32 0x00000000#32) reducesTo_S1x1024_S1024_d0 h_S_) shapeCasts_S1024_S1x1024

variable (m : (ℓ : Loc nD τ sig) → Buf (Elt Ideal) ℓ)

abbrev X1 (c : Dev nD) : Tok := m ((c : Thread nD τ).loc main_arg0)
abbrev G2 (c : Dev nD) : Gain := m ((c : Thread nD τ).loc main_arg1)
abbrev W1 (c : Dev nD) : WIn := m ((c : Thread nD τ).loc main_arg2)
abbrev W2 (c : Dev nD) : WOut := m ((c : Thread nD τ).loc main_arg3)
abbrev GF (c : Dev nD) : Gain := m ((c : Thread nD τ).loc main_arg4)
abbrev TG (c : Dev nD) : Tok := m ((c : Thread nD τ).loc main_arg5)

def yT (c : Dev nD) : FVec Ideal S4096x1024 .f32 := outT (X1 m c) (G2 m c) (W1 m c) (W2 m c)

theorem res0 (c : Dev nD) : res_out0 (F := Ideal) m c = dxT (yT m c) (mulf (dnT (difT (yT m c) (GF m c) (TG m c))) (gainT (GF m c))) := by
  unfold res_out0 res_main_v70; rfl
theorem res1 (c : Dev nD) : res_out1 (F := Ideal) m c = (show FVec Ideal S4096x1024 .bf16 from dxT (yT m c) (mulf (dnT (difT (yT m c) (GF m c) (TG m c))) (gainT (GF m c)))) := by
  unfold res_out1 res_main_v71; rfl
theorem res2 (c : Dev nD) : res_out2 (F := Ideal) m c = fun _ => lossT (difT (yT m c) (GF m c) (TG m c)) ix0 := by
  unfold res_out2 res_main_v72; rfl
theorem res3 (c : Dev nD) : res_out3 (F := Ideal) m c = dgT (yT m c) (dnT (difT (yT m c) (GF m c) (TG m c))) := by
  unfold res_out3 res_main_v73; rfl

theorem msT_at (x : FVec Ideal S4096x1024 .f32) (i : Fin 4096) : msT x (ix2 i 0) = msq (row x i) := by
  pointwise [msT, msq, row]

theorem normT_at (x : FVec Ideal S4096x1024 .f32) (i : Fin 4096) (j : Fin 1024) : normT x (ix2 i j) = row x i j * rst (row x i) := by
  pointwise [normT]
  rw [msT_at]; rfl

theorem gainT_at (g : FVec Ideal S1024 .f32) (i : Fin 4096) (j : Fin 1024) : gainT g (ix2 i j) = g (ix1 j) := by
  pointwise [gainT]

theorem outT_at (x : FVec Ideal S4096x1024 .f32) (g : FVec Ideal S1024 .f32) (w1 : FVec Ideal S1024x4096 .f32) (w2 : FVec Ideal S4096x1024 .f32) (i : Fin 4096) (j : Fin 1024) :
    outT x g w1 w2 (ix2 i j) = out x g w1 w2 i j := by
  pointwise [outT, out, hid, pre]
  simp only [normT_at, gainT_at, row]

theorem difT_at (y : FVec Ideal S4096x1024 .f32) (g : FVec Ideal S1024 .f32) (t : FVec Ideal S4096x1024 .f32) (i : Fin 4096) (j : Fin 1024) :
    difT y g t (ix2 i j) = dif (row y i) g (row t i) j := by
  pointwise [difT, dif]
  simp only [normT_at, gainT_at, row]

theorem dnT_at (d : FVec Ideal S4096x1024 .f32) (i : Fin 4096) (j : Fin 1024) : dnT d (ix2 i j) = d (ix2 i j) * Ideal.ofBits .f32 0x3A800000#32 := by
  pointwise [dnT]
  rw [ofBits_half, ofBits_1024, ofBits_two, ofBits_inv_1024, div_real (by norm_num), ← EReal.coe_mul, ← mul_assoc, ← EReal.coe_mul, mul_comm]
  norm_num

theorem lossT_at (d : FVec Ideal S4096x1024 .f32) : lossT d ix0
    = Ideal.ofBits .f32 0x3F000000#32 * ∑ i : Fin 4096, Ideal.div (∑ j : Fin 1024, d (ix2 i j) * d (ix2 i j)) (Ideal.ofBits .f32 0x44800000#32) := by
  pointwise [lossT]

theorem dmsT_at (y e : FVec Ideal S4096x1024 .f32) (i : Fin 4096) (j : Fin 1024) : dmsT y e (ix2 i j)
    = Ideal.div ((∑ k, row y i k * e (ix2 i k)) * (Ideal.ofBits .f32 0xBF000000#32 * Ideal.div (rst (row y i)) (msq (row y i)))) (Ideal.ofBits .f32 0x44800000#32) := by
  pointwise [dmsT]
  refine (Fin.sum_univ_one _).trans ?_
  rw [msT_at]; rfl

theorem dxT_at (y e : FVec Ideal S4096x1024 .f32) (i : Fin 4096) (j : Fin 1024) : dxT y e (ix2 i j) = dxn (row y i) (fun k => e (ix2 i k)) j := by
  refine Eq.trans ?_ (rms_bwd (row y i) (fun k => e (ix2 i k)) j).symm
  pointwise [dxT]
  simp only [msT_at, dmsT_at]; rfl

theorem dgT_at (y dn : FVec Ideal S4096x1024 .f32) (j : Fin 1024) : dgT y dn (ix2 0 j) = ∑ i, dn (ix2 i j) * (row y i j * rst (row y i)) := by
  pointwise [dgT]
  simp only [normT_at]
  refine (Fin.sum_univ_one _).trans (Finset.sum_congr rfl fun i _ => mul_comm _ _)
/-! ## The results -/

/-- The layer's output row. -/
def Y (c : Dev nD) (i : Fin 4096) : Fin 1024 → EReal := out (X1 m c) (G2 m c) (W1 m c) (W2 m c) i

theorem yT_row (c : Dev nD) (i : Fin 4096) : row (yT m c) i = Y m c i := funext fun j => outT_at _ _ _ _ i j

theorem final0 (c : Dev nD) : res_out0 (F := Ideal) m c
    = fun i => dxn (Y m c (i 0)) (fun k => dnorm (Y m c (i 0)) (GF m c) (row (TG m c) (i 0)) k * GF m c (ix1 k)) (i 1) := by
  rw [res0]
  funext i
  suffices h : ∀ (a : Fin 4096) (b : Fin 1024), dxT (yT m c) (mulf (dnT (difT (yT m c) (GF m c) (TG m c))) (gainT (GF m c))) (ix2 a b)
      = dxn (Y m c a) (fun k => dnorm (Y m c a) (GF m c) (row (TG m c) a) k * GF m c (ix1 k)) b from (congrArg _ (eq_ix2 i)).trans (h (i 0) (i 1))
  intro a b
  rw [dxT_at]
  simp only [show ∀ (a b : FVec Ideal S4096x1024 .f32) k, mulf a b k = a k * b k from fun _ _ _ => rfl, dnT_at, difT_at, gainT_at, yT_row, dnorm]

theorem final1 (c : Dev nD) : res_out1 (F := Ideal) m c
    = fun i => dxn (Y m c (i 0)) (fun k => dnorm (Y m c (i 0)) (GF m c) (row (TG m c) (i 0)) k * GF m c (ix1 k)) (i 1) :=
  (res1 m c).trans ((res0 m c).symm.trans (final0 m c))

theorem final2 (c : Dev nD) : res_out2 (F := Ideal) m c
    = fun _ => Ideal.ofBits .f32 0x3F000000#32 * ∑ i, err (Y m c i) (GF m c) (row (TG m c) i) := by
  rw [res2]
  funext _
  simp only [lossT_at, difT_at, yT_row, err]

theorem final3 (c : Dev nD) : res_out3 (F := Ideal) m c
    = fun i => ∑ a, dnorm (Y m c a) (GF m c) (row (TG m c) a) (i 1) * (Y m c a (i 1) * rst (Y m c a)) := by
  rw [res3]
  funext i
  obtain ⟨k, rfl⟩ : ∃ k, i = ix2 0 k := ⟨i 1, by rw [eq_ix2 i]; congr 1; exact Subsingleton.elim _ _⟩
  refine (dgT_at _ _ k).trans ?_
  simp only [dnT_at, difT_at, yT_row, dnorm]
  rfl

end Cert.ReferenceIdeal.Loss

end
-- ==== Proof.MlpBwd.lean ====
module

public import proofs.«01_k».proof.Proof.Mlp
public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel2Ideal.MlpBwd

open Idealize.ShloMosaic Idealize.ShloMosaic.TcCoe Idealize.SL.Sem
open Idealize.ShloMosaic.Pipeline (Dat)
open Cert.Kernel2Ideal Cert.Kernel2Ideal.Gen Cert.Ereal Cert.Mlp

variable (m : (ℓ : Loc nD τ sig) → Buf (Elt Ideal) ℓ)

/-- The five arguments. -/
abbrev X1 (c : Dev nD) : Tok := m ((c : Thread nD τ).loc main_arg0)
abbrev G2 (c : Dev nD) : Gain := m ((c : Thread nD τ).loc main_arg1)
abbrev W1 (c : Dev nD) : WIn := m ((c : Thread nD τ).loc main_arg2)
abbrev W2 (c : Dev nD) : WOut := m ((c : Thread nD τ).loc main_arg3)
abbrev CT (c : Dev nD) : Tok := m ((c : Thread nD τ).loc main_arg4)

/-! ## What the region reads -/

/-- Column `l` of column tile `j`. -/
def col (j : Fin 8) (l : Fin 512) : Fin 4096 := ⟨j.val * 512 + l.val, by omega⟩

/-- The windows' block indices. -/
theorem idx : ∀ t : Fin cfg0.N, win0_0.index t = ![t.val, 0] ∧ win0_1.index t = ![t.val, 0] ∧ win0_2.index t = ![0, 0]
    ∧ win0_3.index t = ![t.val, 0] ∧ win0_4.index t = ![0, 0, 0] ∧ win0_5.index t = ![t.val, 0] ∧ win0_6.index t = ![0, 0]
    ∧ win0_7.index t = ![t.val, 0] ∧ win0_8.index t = ![t.val, 0] ∧ win0_9.index t = ![t.val, 0] ∧ t.val < 8 :=
  (by decide +kernel : ∀ t : Fin grid0.N, _)

/-- The token of block `t`'s row `r`. -/
def tok (t : Fin cfg0.N) (r : Fin 512) : Fin 4096 := ⟨t.val * 512 + r.val, by have := (idx t).2.2.2.2.2.2.2.2.2.2; omega⟩

theorem ct_read (c : Dev nD) (i : Fin 4096) (j : Fin 1024) :
    (show FVec Ideal S4096x1024 .bf16 from V m c main_v21) (ix2 i j) = CT m c (ix2 i j) := by
  simp only [V, hostOps0, hostOps0_1, hostOps0_2, List.flatten_cons, List.flatten_nil, List.append_nil, List.cons_append, List.nil_append]
  entry_read
  pointwise

theorem w1_read (c : Dev nD) (j : Fin 8) (k : Fin 1024) (l : Fin 512) :
    (show FVec Ideal S8x1024x512 .bf16 from V m c main_v16) (ix3 j k l) = W1 m c (ix2 k (col j l)) := by
  simp only [V, hostOps0, hostOps0_1, hostOps0_2, List.flatten_cons, List.flatten_nil, List.append_nil, List.cons_append, List.nil_append]
  entry_read
  pointwise
  rfl

theorem hid_read (c : Dev nD) (i : Fin 4096) (j : Fin 8) (l : Fin 512) :
    (show FVec Ideal S4096x4096 .bf16 from V m c main_v20) (ix2 i (col j l)) = hid (X1 m c) (G2 m c) (W1 m c) i (col j l) := by
  simp only [V, hostOps0, hostOps0_1, hostOps0_2, List.flatten_cons, List.flatten_nil, List.append_nil, List.cons_append, List.nil_append]
  entry_read
  simp only [StableHlo.TRef.toBuf, StableHlo.TRef.ofBuf, cast_eq]
  pointwise [hid, pre, rst, msq, row]
  simp only [show ∀ h, (⟨(col j l).val / 512 * 512 + (col j l).val % 512, h⟩ : Fin 4096) = col j l from fun h => Fin.ext (Nat.div_add_mod' _ _)]

theorem w2_read (c : Dev nD) (f : Fin 4096) (j : Fin 1024) :
    (show FVec Ideal S4096x1024 .bf16 from V m c main_v22) (ix2 f j) = W2 m c (ix2 f j) := by
  simp only [V, hostOps0, hostOps0_1, hostOps0_2, List.flatten_cons, List.flatten_nil, List.append_nil, List.cons_append, List.nil_append]
  entry_read
  pointwise

theorem g2_read (c : Dev nD) (j : Fin 1024) :
    (show FVec Ideal S1x1024 .f32 from V m c main_v23) (ix2 0 j) = G2 m c (ix1 j) := by
  simp only [V, hostOps0, hostOps0_1, hostOps0_2, List.flatten_cons, List.flatten_nil, List.append_nil, List.cons_append, List.nil_append]
  entry_read
  pointwise

theorem blk0 (c : Dev nD) (t : Fin cfg0.N) (r : Fin 512) (j : Fin 1024) :
    (show FVec Ideal S512x1024 .bf16 from iblk m c 0 t) (ix2 r j) = CT m c (ix2 (tok t r) j) := by
  refine Eq.trans ?_ (ct_read m c _ j)
  blk_ext [iblk, idx t, tok]

theorem blk1 (c : Dev nD) (t : Fin cfg0.N) (r : Fin 512) (j : Fin 1024) :
    (show FVec Ideal S512x1024 .f32 from iblk m c 1 t) (ix2 r j) = CT m c (ix2 (tok t r) j) := by
  rw [show CT m c = V m c main_arg4 from (V_main_arg4 m c).symm]
  blk_ext [iblk, idx t, tok]

theorem blk2 (c : Dev nD) (t : Fin cfg0.N) (f : Fin 4096) (j : Fin 1024) :
    (show FVec Ideal S4096x1024 .bf16 from iblk m c 2 t) (ix2 f j) = W2 m c (ix2 f j) := by
  refine Eq.trans ?_ (w2_read m c f j)
  blk_ext [iblk, idx t]

theorem blk3 (c : Dev nD) (t : Fin cfg0.N) (r : Fin 512) (j : Fin 8) (l : Fin 512) :
    (show FVec Ideal S512x4096 .bf16 from iblk m c 3 t) (ix2 r (col j l)) = hid (X1 m c) (G2 m c) (W1 m c) (tok t r) (col j l) := by
  refine Eq.trans ?_ (hid_read m c _ j l)
  blk_ext [iblk, idx t, tok]

theorem blk4 (c : Dev nD) (t : Fin cfg0.N) (j : Fin 8) (k : Fin 1024) (l : Fin 512) :
    (show FVec Ideal S8x1024x512 .bf16 from iblk m c 4 t) (ix3 j k l) = W1 m c (ix2 k (col j l)) := by
  refine Eq.trans ?_ (w1_read m c j k l)
  blk_ext [iblk, idx t]

theorem blk5 (c : Dev nD) (t : Fin cfg0.N) (r : Fin 512) (j : Fin 1024) :
    (show FVec Ideal S512x1024 .f32 from iblk m c 5 t) (ix2 r j) = X1 m c (ix2 (tok t r) j) := by
  rw [show X1 m c = V m c main_arg0 from (V_main_arg0 m c).symm]
  blk_ext [iblk, idx t, tok]

theorem blk6 (c : Dev nD) (t : Fin cfg0.N) (j : Fin 1024) :
    (show FVec Ideal S1x1024 .f32 from iblk m c 6 t) (ix2 0 j) = G2 m c (ix1 j) := by
  refine Eq.trans ?_ (g2_read m c j)
  blk_ext [iblk, idx t]

/-! ## The column tiles -/

/-- Column tile `j` of a row block, rows tile `j` of the second weight, leading index `j` of the first. -/
def rT (x : FVec Ideal S512x4096 .bf16) (j : Fin 8) : FVec Ideal S512x512 .bf16 :=
  View.ld (Val := Elt Ideal) (S := S512x4096) (e' := .bf16) x (Rect.unit ![0, j.val * 512] ![512, 512] (by intro a; have := j.isLt; fin_cases a <;> simp <;> omega))
def wT (x : FVec Ideal S4096x1024 .bf16) (j : Fin 8) : FVec Ideal S512x1024 .bf16 :=
  View.ld (Val := Elt Ideal) (S := S4096x1024) (e' := .bf16) x (Rect.unit ![j.val * 512, 0] ![512, 1024] (by intro a; have := j.isLt; fin_cases a <;> simp <;> omega))
def gT (x : FVec Ideal S8x1024x512 .bf16) (j : Fin 8) : FVec Ideal S1x1024x512 .bf16 :=
  View.ld (Val := Elt Ideal) (S := S8x1024x512) (e' := .bf16) x (Rect.unit ![j.val, 0, 0] ![1, 1024, 512] (by intro a; have := j.isLt; fin_cases a <;> simp <;> omega))

theorem rT_at (x : FVec Ideal S512x4096 .bf16) (j : Fin 8) (r l : Fin 512) : rT x j (ix2 r l) = x (ix2 r (col j l)) := by
  unfold rT
  refine View.ld_unit_apply_of (Val := Elt Ideal) (e := .bf16) x _ _ _ (ix2 r l) (ix2 r (col j l)) fun a => ?_
  fin_cases a <;> simp [col, ix2, ix3]
theorem wT_at (x : FVec Ideal S4096x1024 .bf16) (j : Fin 8) (l : Fin 512) (k : Fin 1024) : wT x j (ix2 l k) = x (ix2 (col j l) k) := by
  unfold wT
  refine View.ld_unit_apply_of (Val := Elt Ideal) (e := .bf16) x _ _ _ (ix2 l k) (ix2 (col j l) k) fun a => ?_
  fin_cases a <;> simp [col, ix2, ix3]
theorem gT_at (x : FVec Ideal S8x1024x512 .bf16) (j : Fin 8) (k : Fin 1024) (l : Fin 512) : gT x j (ix3 0 k l) = x (ix3 j k l) := by
  unfold gT
  refine View.ld_unit_apply_of (Val := Elt Ideal) (e := .bf16) x _ _ _ (ix3 0 k l) (ix3 j k l) fun a => ?_
  fin_cases a <;> simp [col, ix2, ix3]

/-- A tile of the pre-activation's gradient. -/
theorem tile_at (d : FVec Ideal S512x1024 .bf16) (x : FVec Ideal S512x512 .bf16) (w : FVec Ideal S512x1024 .bf16) (r l : Fin 512) :
    k0_pay6 (F := Ideal) (k0_pay2 d) x w (ix2 r l) = Ideal.ofBits .f32 0x40000000#32 * x (ix2 r l) * ∑ j, d (ix2 r j) * w (ix2 l j) := by
  pointwise [k0_pay6, k0_pay2]

/-- The gradient at the normalised rows, tile by tile. -/
def dhB (d : FVec Ideal S512x1024 .bf16) (r : Fin 8 → FVec Ideal S512x512 .bf16) (w : Fin 8 → FVec Ideal S512x1024 .bf16) (g : Fin 8 → FVec Ideal S1x1024x512 .bf16) : FVec Ideal S512x1024 .f32 :=
  k0_pay15 (k0_pay2 d) (k0_pay10 (k0_pay2 d) (k0_pay7 (k0_pay2 d) (k0_pay4 d (r 0) (w 0) (g 0)) (k0_pay5 d (r 1) (w 1)) (g 1) (r 2) (w 2) (g 2))
    (k0_pay8 (k0_pay2 d) (r 3) (w 3)) (g 3) (r 4) (w 4) (g 4)) (k0_pay12 (k0_pay2 d) (r 5) (w 5) (g 5)) (r 6) (w 6) (g 6) (r 7) (w 7) (g 7)

theorem dhB_at (d : FVec Ideal S512x1024 .bf16) (r : Fin 8 → FVec Ideal S512x512 .bf16) (w : Fin 8 → FVec Ideal S512x1024 .bf16) (g : Fin 8 → FVec Ideal S1x1024x512 .bf16)
    (i : Fin 512) (k : Fin 1024) : dhB d r w g (ix2 i k) = ∑ j, ∑ l, k0_pay6 (F := Ideal) (k0_pay2 d) (r j) (w j) (ix2 i l) * g j (ix3 0 k l) := by
  rw [Fin.sum_univ_eight]
  unfold dhB k0_pay4 k0_pay7 k0_pay10 k0_pay12 k0_pay15
  simp only [show ∀ x w, k0_pay3 (F := Ideal) d x w = k0_pay6 (k0_pay2 d) x w from fun _ _ => rfl,
    show ∀ x w, k0_pay5 (F := Ideal) d x w = k0_pay6 (k0_pay2 d) x w from fun _ _ => rfl,
    show ∀ x w, k0_pay8 (F := Ideal) (k0_pay2 d) x w = k0_pay6 (k0_pay2 d) x w from fun _ _ => rfl,
    show ∀ x w, k0_pay9 (F := Ideal) (k0_pay2 d) x w = k0_pay6 (k0_pay2 d) x w from fun _ _ => rfl,
    show ∀ x w, k0_pay11 (F := Ideal) (k0_pay2 d) x w = k0_pay6 (k0_pay2 d) x w from fun _ _ => rfl,
    show ∀ x w, k0_pay13 (F := Ideal) (k0_pay2 d) x w = k0_pay6 (k0_pay2 d) x w from fun _ _ => rfl,
    show ∀ x w, k0_pay14 (F := Ideal) (k0_pay2 d) x w = k0_pay6 (k0_pay2 d) x w from fun _ _ => rfl]
  pointwise

section
variable (h : FVec Ideal S512x1024 .f32) (x : FVec Ideal S512x1024 .f32) (g : FVec Ideal S1x1024 .f32) (d : FVec Ideal S512x1024 .f32)
  (r : Fin 512) (j : Fin 1024)

theorem pay18_at : k0_pay18 (F := Ideal) h x g d (ix2 r j)
    = d (ix2 r j) + dxn (fun k => x (ix2 r k)) (fun k => h (ix2 r k) * g (ix2 0 k)) j := by
  pointwise [k0_pay18, k0_pay17, k0_pay16, dxn, rst, msq]

theorem pay20_at : k0_pay20 (F := Ideal) h x g (ix2 0 j) = g (ix2 0 j) + ∑ r : Fin 512, h (ix2 r j) * (x (ix2 r j) * rst fun k => x (ix2 r k)) := by
  pointwise [k0_pay20, k0_pay17, k0_pay16, rst, msq]
end

theorem dpre_at (c : Dev nD) (t : Fin cfg0.N) (j : Fin 8) (r l : Fin 512) :
    k0_pay6 (F := Ideal) (k0_pay2 (iblk m c 0 t)) (rT (iblk m c 3 t) j) (wT (iblk m c 2 t) j) (ix2 r l)
      = dpre (X1 m c) (G2 m c) (W1 m c) (W2 m c) (CT m c) (tok t r) (col j l) :=
  (tile_at _ _ _ r l).trans (congrArg₂ (· * ·) (congrArg _ ((rT_at _ j r l).trans (blk3 m c t r j l)))
    (Finset.sum_congr rfl fun k _ => congrArg₂ (· * ·) (blk0 m c t r k) ((wT_at _ j l k).trans (blk2 m c t (col j l) k))))

theorem dh_at (c : Dev nD) (t : Fin cfg0.N) (r : Fin 512) (k : Fin 1024) :
    dhB (iblk m c 0 t) (rT (iblk m c 3 t)) (wT (iblk m c 2 t)) (gT (iblk m c 4 t)) (ix2 r k)
      = dhin (X1 m c) (G2 m c) (W1 m c) (W2 m c) (CT m c) (tok t r) k :=
  (dhB_at _ _ _ _ r k).trans ((Finset.sum_congr rfl fun j _ => Finset.sum_congr rfl fun l _ =>
    congrArg₂ (· * ·) (dpre_at m c t j r l) ((gT_at _ j k l).trans (blk4 m c t j k l))).trans
    (Fin.sum_mul_add_fin (L := 4096) 8 512 fun f => dpre (X1 m c) (G2 m c) (W1 m c) (W2 m c) (CT m c) (tok t r) f * W1 m c (ix2 k f)))

theorem dx_at (c : Dev nD) (t : Fin cfg0.N) (r : Fin 512) (j : Fin 1024) :
    k0_pay18 (F := Ideal) (dhB (iblk m c 0 t) (rT (iblk m c 3 t)) (wT (iblk m c 2 t)) (gT (iblk m c 4 t))) (iblk m c 5 t) (iblk m c 6 t) (iblk m c 1 t) (ix2 r j)
      = dxin (X1 m c) (G2 m c) (W1 m c) (W2 m c) (CT m c) (tok t r) j :=
  (pay18_at _ _ _ _ r j).trans (congrArg₂ (· + ·) (blk1 m c t r j) (congrArg₂ (dxn · · j) (funext fun k => blk5 m c t r k)
    (funext fun k => congrArg₂ (· * ·) (dh_at m c t r k) (blk6 m c t k))))

/-- What a block adds to the gain's gradient. -/
theorem dg_at (c : Dev nD) (t : Fin cfg0.N) (acc : FVec Ideal S1x1024 .f32) (k : Fin 1024) :
    k0_pay20 (F := Ideal) (dhB (iblk m c 0 t) (rT (iblk m c 3 t)) (wT (iblk m c 2 t)) (gT (iblk m c 4 t))) (iblk m c 5 t) acc (ix2 0 k)
      = acc (ix2 0 k) + ∑ r, dhin (X1 m c) (G2 m c) (W1 m c) (W2 m c) (CT m c) (tok t r) k * (X1 m c (ix2 (tok t r) k) * rst (row (X1 m c) (tok t r))) :=
  (pay20_at _ _ _ k).trans (congrArg _ (Finset.sum_congr rfl fun r _ => congrArg₂ (· * ·) (dh_at m c t r k)
    (congrArg₂ (· * ·) (blk5 m c t r k) (congrArg rst (funext fun k => blk5 m c t r k)))))

theorem zero1 (i : S1x1024.Idx) : k0_pay1 (F := Ideal) i = 0 := by
  rw [eq_ix2 i]
  pointwise [k0_pay1]

end Cert.Kernel2Ideal.MlpBwd

end
-- ==== Proof.MlpFinal.lean ====
module

public import proofs.«01_k».proof.Proof.MlpBwd
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

set_option maxHeartbeats 1000000

noncomputable section

namespace Cert.Kernel2Ideal.MlpBwd

open Idealize.ShloMosaic Idealize.ShloMosaic.TcCoe Idealize.SL.Sem
open Idealize.ShloMosaic.Pipeline (Dat)
open Cert.Kernel2Ideal Cert.Kernel2Ideal.Gen Cert.Ereal Cert.Mlp

variable (m : (ℓ : Loc nD τ sig) → Buf (Elt Ideal) ℓ)

/-! ## The final arrays -/

theorem final7 (c : Dev nD) : (dats m 0 c).arrAt 7 (cfgs 0).N = fun i => dpre (X1 m c) (G2 m c) (W1 m c) (W2 m c) (CT m c) (i 0) (i 1) := by
  refine (dats m 0 c).arrAt_eq_of_covers 7 _ (by decide +kernel) fun t hf y => ?_
  blk_simp
  rw [after0_7]
  have key : ∀ i : S4096x4096.Idx, (i 0).val = t.val * 512 + (y 0).val → (i 1).val = (y 1).val →
      dpre (X1 m c) (G2 m c) (W1 m c) (W2 m c) (CT m c) (tok t (y 0)) (y 1) = dpre (X1 m c) (G2 m c) (W1 m c) (W2 m c) (CT m c) (i 0) (i 1) := fun i h0 h1 => by
    rw [show i 0 = tok t (y 0) from Fin.ext h0, show i 1 = y 1 from Fin.ext h1]
  have piece : ∀ (j : Fin 8) (h : ∀ a, (![0, j.val * 512] : Fin 2 → Nat) a + S512x512.size a ≤ S512x4096.size a) (x : (Rect.unit (s := S512x4096) ![0, j.val * 512] S512x512.size h).shape.Idx),
      k0_pay6 (F := Ideal) (k0_pay2 (iblk m c 0 t)) (rT (iblk m c 3 t) j) (wT (iblk m c 2 t) j) x
        = dpre (X1 m c) (G2 m c) (W1 m c) (W2 m c) (CT m c) (tok t ((Rect.unit (s := S512x4096) ![0, j.val * 512] S512x512.size h).idx x 0))
            ((Rect.unit (s := S512x4096) ![0, j.val * 512] S512x512.size h).idx x 1) := fun j h x => by
    rw [show (Rect.unit (s := S512x4096) ![0, j.val * 512] S512x512.size h).idx x 0 = x 0 from Fin.ext ((Rect.idx_unit_val _ _ h x 0).trans (by simp)),
      show (Rect.unit (s := S512x4096) ![0, j.val * 512] S512x512.size h).idx x 1 = col j (x 1) from Fin.ext (Rect.idx_unit_val _ _ h x 1)]
    exact (congrArg _ (eq_ix2 x)).trans (dpre_at m c t j (x 0) (x 1))
  by_cases h : t.val % 8 = 0
  on_goal 1 => rw [outsAt0_A m c t h]; frame_out
  on_goal 2 => rw [outsAt0_B m c t h]; frame_out
  all_goals
    refine Eq.trans (b := dpre (X1 m c) (G2 m c) (W1 m c) (W2 m c) (CT m c) (tok t (y 0)) (y 1)) ?_ (key _ ?_ ?_)
    · refine View.canon_apply_of_pieces (S := S512x4096) (Val := Elt Ideal) (e := .bf16)
        (fun y => dpre (X1 m c) (G2 m c) (W1 m c) (W2 m c) (CT m c) (tok t (y 0)) (y 1)) _ ?_ y ?_
      · refine View.PiecesOf.mem (Val := Elt Ideal) (s := S512x4096) (e := .bf16)
          (G := fun y => dpre (X1 m c) (G2 m c) (W1 m c) (W2 m c) (CT m c) (tok t (y 0)) (y 1)) ?_
        exact ⟨piece 7 inb_S512x4096_S512x512_0_3584, piece 6 inb_S512x4096_S512x512_0_3072,
          piece 5 inb_S512x4096_S512x512_0_2560, piece 4 inb_S512x4096_S512x512_0_2048,
          piece 3 inb_S512x4096_S512x512_0_1536, piece 2 inb_S512x4096_S512x512_0_1024,
          piece 1 inb_S512x4096_S512x512_0_512, piece 0 inb_S512x4096_S512x512_0_0, trivial⟩
      · exact View.cover_of_tiledL (s := S512x4096) _ S512x512.size (by sl_kernel_rfl) y
    · blk_simp [idx t]
    · blk_simp [idx t]

theorem final10 (c : Dev nD) : (dats m 0 c).arrAt 10 (cfgs 0).N = fun i => dgin (X1 m c) (G2 m c) (W1 m c) (W2 m c) (CT m c) (i 1) := by
  refine (dats m 0 c).arrAt_eq_of_after_last 10 t0_7 (by decide +kernel) _ fun j => ?_
  blk_simp
  rw [after0_10, Pipeline.eq_sum_fin_of_reset_step_apply_last (fun n h => (outsAt0 m c n h).2.2.2) 8 (fun _ => 0)
    (fun p j => ∑ r, dhin (X1 m c) (G2 m c) (W1 m c) (W2 m c) (CT m c) (tok p r) (j 1) * (X1 m c (ix2 (tok p r) (j 1)) * rst (row (X1 m c) (tok p r))))
    (fun t h j => by
      rw [outsAt0_A m c t h]; frame_out
      obtain ⟨k, rfl⟩ : ∃ k, j = ix2 0 k := ⟨j 1, by rw [eq_ix2 j]; congr 1; exact Subsingleton.elim _ _⟩
      exact (dg_at m c t _ k).trans (by rw [zero1]; rfl))
    (fun t h j => by
      rw [outsAt0_B m c t h]; frame_out
      obtain ⟨k, rfl⟩ : ∃ k, j = ix2 0 k := ⟨j 1, by rw [eq_ix2 j]; congr 1; exact Subsingleton.elim _ _⟩
      exact dg_at m c t _ k)
    (le_of_eq N_0) t0_7 rfl j, zero_add]
  exact Fin.sum_mul_add_fin (L := 4096) 8 512 fun i => dhin (X1 m c) (G2 m c) (W1 m c) (W2 m c) (CT m c) i (j 1) * (X1 m c (ix2 i (j 1)) * rst (row (X1 m c) i))

theorem final8 (c : Dev nD) : (dats m 0 c).arrAt 8 (cfgs 0).N = fun i => dxin (X1 m c) (G2 m c) (W1 m c) (W2 m c) (CT m c) (i 0) (i 1) := by
  refine (dats m 0 c).arrAt_eq_of_covers 8 _ (by decide +kernel) fun t hf y => ?_
  blk_simp
  rw [after0_8]
  have key : ∀ i : S4096x1024.Idx, (i 0).val = t.val * 512 + (y 0).val → (i 1).val = (y 1).val →
      dxin (X1 m c) (G2 m c) (W1 m c) (W2 m c) (CT m c) (tok t (y 0)) (y 1) = dxin (X1 m c) (G2 m c) (W1 m c) (W2 m c) (CT m c) (i 0) (i 1) := fun i h0 h1 => by
    rw [show i 0 = tok t (y 0) from Fin.ext h0, show i 1 = y 1 from Fin.ext h1]
  by_cases h : t.val % 8 = 0
  · rw [outsAt0_A m c t h]; frame_out
    refine (congrArg _ (eq_ix2 y)).trans ((dx_at m c t (y 0) (y 1)).trans (key _ ?_ ?_)) <;> blk_simp [idx t]
  · rw [outsAt0_B m c t h]; frame_out
    refine (congrArg _ (eq_ix2 y)).trans ((dx_at m c t (y 0) (y 1)).trans (key _ ?_ ?_)) <;> blk_simp [idx t]

theorem final9 (c : Dev nD) : (dats m 0 c).arrAt 9 (cfgs 0).N = fun i => dxin (X1 m c) (G2 m c) (W1 m c) (W2 m c) (CT m c) (i 0) (i 1) := by
  refine (dats m 0 c).arrAt_eq_of_covers 9 _ (by decide +kernel) fun t hf y => ?_
  blk_simp
  rw [after0_9]
  have key : ∀ i : S4096x1024.Idx, (i 0).val = t.val * 512 + (y 0).val → (i 1).val = (y 1).val →
      dxin (X1 m c) (G2 m c) (W1 m c) (W2 m c) (CT m c) (tok t (y 0)) (y 1) = dxin (X1 m c) (G2 m c) (W1 m c) (W2 m c) (CT m c) (i 0) (i 1) := fun i h0 h1 => by
    rw [show i 0 = tok t (y 0) from Fin.ext h0, show i 1 = y 1 from Fin.ext h1]
  by_cases h : t.val % 8 = 0
  · rw [outsAt0_A m c t h]; frame_out
    refine (congrArg _ (eq_ix2 y)).trans ((dx_at m c t (y 0) (y 1)).trans (key _ ?_ ?_)) <;> blk_simp [idx t]
  · rw [outsAt0_B m c t h]; frame_out
    refine (congrArg _ (eq_ix2 y)).trans ((dx_at m c t (y 0) (y 1)).trans (key _ ?_ ?_)) <;> blk_simp [idx t]

end Cert.Kernel2Ideal.MlpBwd

end
-- ==== Proof.RefMlp.lean ====
module

public import proofs.«01_k».proof.Proof.RefLoss
public import proofs.«01_k».proof.Proof.Gen.Reference2Ideal.Run

@[expose] public section

set_option maxRecDepth 16384

noncomputable section

namespace Cert.Reference2Ideal.Mlp

open Cert.Reference2Ideal Cert.Reference2Ideal.Gen Cert.Reference2Ideal.Value Idealize.ShloMosaic Idealize.ShloMosaic.TcCoe Idealize.SL.Sem
open Idealize.ShloMosaic.StableHlo Cert.Ereal Cert.Mlp
open Cert.ReferenceIdeal.Loss (msT normT gainT dmsT dgT msT_at normT_at gainT_at dmsT_at dgT_at)

/-! The reference's operations in stages; those of the norm are the loss call's. -/

/-- The hidden pre-activation, the zero perturbation added. -/
def preT (x : FVec Ideal S4096x1024 .f32) (g : FVec Ideal S1024 .f32) (w : FVec Ideal S1024x4096 .f32) : FVec Ideal S4096x4096 .f32 :=
  addf (Host.dotGeneral dot_S4096x1024_S1024x4096_S4096x4096_1_0_0_1_n_n none (mulf (normT x) (gainT g)) w)
    (broadcastInDim S4096x4096 ![] bcast_S_S4096x4096 (constant S_ .f32 0x00000000#32))

/-- The gradient at the pre-activation `y`. -/
def dpreT (y : FVec Ideal S4096x4096 .f32) (w2 d : FVec Ideal S4096x1024 .f32) : FVec Ideal S4096x4096 .f32 :=
  let z : FVec Ideal S4096x4096 .f32 := broadcastInDim S4096x4096 ![] bcast_S_S4096x4096 (constant S_ .f32 0x00000000#32)
  select (cmpf .ogt y z)
    (mulf (Host.dotGeneral dot_S4096x1024_S4096x1024_S4096x4096_1_1_0_0_n_n none (shapeCast S4096x1024 d shapeCasts_S4096x1024_S4096x1024) w2)
      (mulf (broadcastInDim S4096x4096 ![] bcast_S_S4096x4096 (constant S_ .f32 0x40000000#32)) (maximumf y z))) z

/-- The gradient at the normalised input. -/
def dhinT (e : FVec Ideal S4096x4096 .f32) (w : FVec Ideal S1024x4096 .f32) : FVec Ideal S4096x1024 .f32 :=
  Host.dotGeneral dot_S4096x4096_S1024x4096_S4096x1024_1_1_0_0_n_n none e w

/-- The gradient at the layer's input, `e` the gradient at the normalised rows. -/
def dxinT (y e d : FVec Ideal S4096x1024 .f32) : FVec Ideal S4096x1024 .f32 :=
  addf (addf (addf d (mulf e (broadcastInDim S4096x1024 ![0, 1] bcast_S4096x1_S4096x1024_0_1 (Host.rsqrt (msT y))))) (mulf y (dmsT y e))) (mulf (dmsT y e) y)

variable (m : (ℓ : Loc nD τ sig) → Buf (Elt Ideal) ℓ)

abbrev X1 (c : Dev nD) : Tok := m ((c : Thread nD τ).loc main_arg0)
abbrev G2 (c : Dev nD) : Gain := m ((c : Thread nD τ).loc main_arg1)
abbrev W1 (c : Dev nD) : WIn := m ((c : Thread nD τ).loc main_arg2)
abbrev W2 (c : Dev nD) : WOut := m ((c : Thread nD τ).loc main_arg3)
abbrev CT (c : Dev nD) : Tok := m ((c : Thread nD τ).loc main_arg4)

/-- The pre-activation's gradient and the normalised input's. -/
def dpT (c : Dev nD) : FVec Ideal S4096x4096 .f32 := dpreT (preT (X1 m c) (G2 m c) (W1 m c)) (W2 m c) (CT m c)
def dhT (c : Dev nD) : FVec Ideal S4096x1024 .f32 := dhinT (dpT m c) (W1 m c)

theorem res1 (c : Dev nD) : res_out1 (F := Ideal) m c = dxinT (X1 m c) (mulf (dhT m c) (gainT (G2 m c))) (CT m c) := by
  unfold res_out1 res_main_v54; rfl
theorem res2 (c : Dev nD) : res_out2 (F := Ideal) m c = (show FVec Ideal S4096x1024 .bf16 from dxinT (X1 m c) (mulf (dhT m c) (gainT (G2 m c))) (CT m c)) := by
  unfold res_out2 res_main_v56; rfl
theorem preT_at (x : FVec Ideal S4096x1024 .f32) (g : FVec Ideal S1024 .f32) (w : FVec Ideal S1024x4096 .f32) (i f : Fin 4096) :
    preT x g w (ix2 i f) = pre x g w i f := by
  pointwise [preT, pre]
  simp only [normT_at, gainT_at, row]

theorem dpreT_at (x : FVec Ideal S4096x1024 .f32) (g : FVec Ideal S1024 .f32) (w : FVec Ideal S1024x4096 .f32) (w2 d : FVec Ideal S4096x1024 .f32) (i f : Fin 4096) :
    dpreT (preT x g w) w2 d (ix2 i f) = dpre x g w w2 d i f := by
  pointwise [dpreT, dpre, hid]
  simp only [preT_at]
  split
  · rw [mul_comm]
  · rename_i h
    rw [max_eq_right (not_lt.mp h), mul_zero, zero_mul]

theorem dhT_at (c : Dev nD) (i : Fin 4096) (k : Fin 1024) : dhT m c (ix2 i k) = dhin (X1 m c) (G2 m c) (W1 m c) (W2 m c) (CT m c) i k := by
  unfold dhT dpT
  pointwise [dhinT, dhin]
  simp only [dpreT_at]

theorem dxinT_at (y e d : FVec Ideal S4096x1024 .f32) (i : Fin 4096) (j : Fin 1024) :
    dxinT y e d (ix2 i j) = d (ix2 i j) + dxn (row y i) (fun k => e (ix2 i k)) j := by
  refine Eq.trans ?_ (congrArg (d (ix2 i j) + ·) (rms_bwd (row y i) (fun k => e (ix2 i k)) j).symm)
  pointwise [dxinT]
  simp only [msT_at, dmsT_at, add_assoc]; rfl

/-! ## The results -/

theorem final0 (c : Dev nD) : (show FVec Ideal S4096x4096 .bf16 from dpT m c)
    = fun i => dpre (X1 m c) (G2 m c) (W1 m c) (W2 m c) (CT m c) (i 0) (i 1) := by
  funext i
  exact (congrArg (dpT m c) (eq_ix2 i)).trans (dpreT_at _ _ _ _ _ (i 0) (i 1))

theorem dx_at (c : Dev nD) (a : Fin 4096) (b : Fin 1024) : dxinT (X1 m c) (mulf (dhT m c) (gainT (G2 m c))) (CT m c) (ix2 a b)
    = dxin (X1 m c) (G2 m c) (W1 m c) (W2 m c) (CT m c) a b := by
  rw [dxinT_at]
  simp only [show ∀ (a b : FVec Ideal S4096x1024 .f32) k, mulf a b k = a k * b k from fun _ _ _ => rfl, dhT_at, gainT_at, dxin]

theorem final1 (c : Dev nD) : res_out1 (F := Ideal) m c
    = fun i => dxin (X1 m c) (G2 m c) (W1 m c) (W2 m c) (CT m c) (i 0) (i 1) := by
  rw [res1]
  funext i
  exact (congrArg (dxinT _ _ _) (eq_ix2 i)).trans (dx_at m c (i 0) (i 1))

theorem final2 (c : Dev nD) : res_out2 (F := Ideal) m c
    = fun i => dxin (X1 m c) (G2 m c) (W1 m c) (W2 m c) (CT m c) (i 0) (i 1) :=
  (res2 m c).trans ((res1 m c).symm.trans (final1 m c))

theorem final3 (c : Dev nD) : dgT (X1 m c) (dhT m c)
    = fun i => dgin (X1 m c) (G2 m c) (W1 m c) (W2 m c) (CT m c) (i 1) := by
  funext i
  obtain ⟨k, rfl⟩ : ∃ k, i = ix2 0 k := ⟨i 1, by rw [eq_ix2 i]; congr 1; exact Subsingleton.elim _ _⟩
  refine (dgT_at _ _ k).trans ?_
  simp only [dhT_at]
  rfl

/-- THE REFERENCE'S RUN. -/
theorem run (g : Dev nD → PrngReg) : θ_run defs (onTc (τ := τ) (main (F := Ideal))) ⟨m, fun _ => 0, g⟩ fun r => ∀ c : Dev nD,
    r.2.mem ((c.tc : Thread nD τ).loc main_v55) = (fun i => dpre (X1 m c) (G2 m c) (W1 m c) (W2 m c) (CT m c) (i 0) (i 1))
    ∧ r.2.mem ((c.tc : Thread nD τ).loc main_v54) = (fun i => dxin (X1 m c) (G2 m c) (W1 m c) (W2 m c) (CT m c) (i 0) (i 1))
    ∧ r.2.mem ((c.tc : Thread nD τ).loc main_v56) = (fun i => dxin (X1 m c) (G2 m c) (W1 m c) (W2 m c) (CT m c) (i 0) (i 1))
    ∧ r.2.mem ((c.tc : Thread nD τ).loc main_v57) = (fun i => dgin (X1 m c) (G2 m c) (W1 m c) (W2 m c) (CT m c) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run _ _ _).mono (fun r h c => ⟨(h c).1.trans (final0 m c), (h c).2.1.trans (final1 m c), (h c).2.2.1.trans (final2 m c),
    (h c).2.2.2.1.trans (final3 m c), (h c).2.2.2.2⟩) (Cert.Reference2Ideal.Value.run m g)

end Cert.Reference2Ideal.Mlp

end
-- ==== Proof.MixMath.lean ====
/- The mathematics of the mixer's gradient over the reals: the exact GELU and its derivative, layer normalisation and its
   gradient in the two forms that meet, the swish's derivative (at every extended real), and from them each of the
   gradients as a real-valued function of the finite inputs. -/
module

public import proofs.«01_k».proof.Proof.Ereal
public import Mathlib.Tactic.Linarith
public import Idealize.ShloMosaic.Lib.WordCmp

@[expose] public section

noncomputable section

namespace Cert.MixMath

open Idealize.ShloMosaic Cert.Ereal

/-! ## The exact GELU -/

/-- The error function on the reals. -/
def erfR (x : ℝ) : ℝ := 2 / Real.sqrt Real.pi * ∫ t in (0 : ℝ)..x, Real.exp (-(t ^ 2))

theorem erf_real (x : ℝ) : Ideal.erf (x : EReal) = (erfR x : EReal) := rfl

/-- The normal distribution function. -/
def cdfR (x : ℝ) : ℝ := 1 / 2 * (1 + erfR (x * (Real.sqrt 2)⁻¹))

def geluR (x : ℝ) : ℝ := x * cdfR x

/-- The slope constant: half of the error function's (as its derivative is printed) over the root of two. -/
def slopeR : ℝ := 9465531 / 16777216 * (Real.sqrt 2)⁻¹

def dgeluR (x : ℝ) : ℝ := cdfR x + x * (slopeR * Real.exp (-(1 / 2) * x * x))

theorem ofBits_one : Ideal.ofBits .f32 0x3F800000#32 = ((1 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_slope : Ideal.ofBits .f32 0x3F906EBB#32 = ((9465531 / 8388608 : ℝ) : EReal) := by
  simp [Ideal.ofBits, Ideal.ieee, -EReal.coe_mul]; norm_num

theorem exp_real (x : ℝ) : Ideal.exp (x : EReal) = ((Real.exp x : ℝ) : EReal) := rfl

theorem sqrt_two : Ideal.sqrt (Ideal.ofBits .f32 0x40000000#32) = ((Real.sqrt 2 : ℝ) : EReal) := by
  rw [ofBits_two, Ideal.sqrt_coe, if_neg (by norm_num)]

/-- The distribution function as the kernel's text has it. -/
theorem cdf_coe (x : ℝ) :
    Ideal.ofBits .f32 0x3F000000#32 * (Ideal.ofBits .f32 0x3F800000#32 + Ideal.erf ((x : EReal) * (((Real.sqrt 2)⁻¹ : ℝ) : EReal)))
      = (cdfR x : EReal) := by
  rw [ofBits_half, ofBits_one, ← EReal.coe_mul, erf_real, ← EReal.coe_add, ← EReal.coe_mul]; rfl

/-- The derivative as the kernel's text has it. -/
theorem dgelu_coe (x : ℝ) :
    (cdfR x : EReal) + x * (((9465531 / 16777216) * (Real.sqrt 2)⁻¹ : ℝ) * Ideal.exp (Ideal.ofBits .f32 0xBF000000#32 * x * x))
      = (dgeluR x : EReal) := by
  rw [ofBits_neg_half, ← EReal.coe_mul, ← EReal.coe_mul, exp_real, ← EReal.coe_mul, ← EReal.coe_mul, ← EReal.coe_add]; rfl

theorem sqrt_two_pos : 0 < Real.sqrt 2 := Real.sqrt_pos.mpr (by norm_num)

theorem one_erf_coe (x : ℝ) :
    Ideal.ofBits .f32 0x3F800000#32 + Ideal.erf (Ideal.div (x : EReal) ((Real.sqrt 2 : ℝ) : EReal)) = ((2 * cdfR x : ℝ) : EReal) := by
  rw [div_real sqrt_two_pos.ne', ofBits_one, ← EReal.coe_mul, erf_real, ← EReal.coe_add]
  congr 1; unfold cdfR; ring

/-- GELU as the reference's text has it. -/
theorem gelu_ref_coe (x : ℝ) :
    Ideal.ofBits .f32 0x3F000000#32 * (x : EReal)
        * (Ideal.ofBits .f32 0x3F800000#32 + Ideal.erf (Ideal.div (x : EReal) ((Real.sqrt 2 : ℝ) : EReal)))
      = (geluR x : EReal) := by
  rw [one_erf_coe, ofBits_half, ← EReal.coe_mul, ← EReal.coe_mul]
  congr 1; unfold geluR; ring

/-- The chain rule through GELU as differentiation gives it: the cotangent times the derivative. -/
theorem dgelu_ref_coe (x g : ℝ) :
    Ideal.div (Ideal.ofBits .f32 0x3F906EBB#32 * (Ideal.ofBits .f32 0x3F000000#32 * (x : EReal) * (g : EReal))
          * Ideal.exp (-(Ideal.div (x : EReal) ((Real.sqrt 2 : ℝ) : EReal) * Ideal.div (x : EReal) ((Real.sqrt 2 : ℝ) : EReal))))
        ((Real.sqrt 2 : ℝ) : EReal)
      + Ideal.ofBits .f32 0x3F000000#32
        * ((g : EReal) * (Ideal.ofBits .f32 0x3F800000#32 + Ideal.erf (Ideal.div (x : EReal) ((Real.sqrt 2 : ℝ) : EReal))))
      = ((g * dgeluR x : ℝ) : EReal) := by
  rw [one_erf_coe, ofBits_half, ofBits_slope, div_real sqrt_two_pos.ne', div_real sqrt_two_pos.ne']
  simp only [← EReal.coe_mul, ← EReal.coe_neg, exp_real, ← EReal.coe_add]
  congr 1
  have hs : (Real.sqrt 2)⁻¹ * (Real.sqrt 2)⁻¹ = 1 / 2 := by
    rw [← mul_inv, Real.mul_self_sqrt (by norm_num)]; norm_num
  have he : -(x * (Real.sqrt 2)⁻¹ * (x * (Real.sqrt 2)⁻¹)) = -(1 / 2) * x * x := by
    rw [show x * (Real.sqrt 2)⁻¹ * (x * (Real.sqrt 2)⁻¹) = x * x * ((Real.sqrt 2)⁻¹ * (Real.sqrt 2)⁻¹) by ring, hs]; ring
  rw [he]
  unfold dgeluR slopeR
  ring

/-! ## Layer normalisation over a row of `n` -/

section LN

variable {n : ℕ}

def muR (y : Fin n → ℝ) : ℝ := (∑ k, y k) * (n : ℝ)⁻¹
def xcR (y : Fin n → ℝ) (k : Fin n) : ℝ := y k - muR y
def veR (y : Fin n → ℝ) : ℝ := (∑ k, xcR y k * xcR y k) * (n : ℝ)⁻¹ + epsR
def rsR (y : Fin n → ℝ) : ℝ := (Real.sqrt (veR y))⁻¹
def xhR (y : Fin n → ℝ) (k : Fin n) : ℝ := xcR y k * rsR y

/-- The gradient of the normalisation of `y` at the cotangent `d`. -/
def lnbR (y d : Fin n → ℝ) (k : Fin n) : ℝ :=
  rsR y * (d k - (∑ l, d l) * (n : ℝ)⁻¹ - xhR y k * ((∑ l, d l * xhR y l) * (n : ℝ)⁻¹))

theorem veR_pos (y : Fin n → ℝ) : 0 < veR y := by
  have h1 : 0 ≤ ∑ k, xcR y k * xcR y k := Finset.sum_nonneg fun k _ => mul_self_nonneg _
  have h2 : (0 : ℝ) ≤ (n : ℝ)⁻¹ := by positivity
  have := epsR_pos
  unfold veR; positivity

/-- The extended-real texts at a divisor `c`, which is `n`. -/
def muE (c : EReal) (x : Fin n → EReal) : EReal := Ideal.div (∑ k, x k) c
def xcE (c : EReal) (x : Fin n → EReal) (k : Fin n) : EReal := x k - muE c x
def veE (c : EReal) (x : Fin n → EReal) : EReal :=
  Ideal.div (∑ k, xcE c x k * xcE c x k) c + Ideal.ofBits .f32 0x358637BD#32
def rsE (c : EReal) (x : Fin n → EReal) : EReal := Ideal.rsqrt (veE c x)
def xhE (c : EReal) (x : Fin n → EReal) (k : Fin n) : EReal := xcE c x k * rsE c x

/-- The gradient in the closed form. -/
def lnbE (c : EReal) (x d : Fin n → EReal) (k : Fin n) : EReal :=
  rsE c x * (d k - Ideal.div (∑ l, d l) c - xhE c x k * Ideal.div (∑ l, d l * xhE c x l) c)

/-- The factor of the variance's gradient in the chain rule. -/
def vgE (c : EReal) (x d : Fin n → EReal) : EReal :=
  Ideal.div ((∑ l, xcE c x l * d l) * (Ideal.ofBits .f32 0xBF000000#32 * Ideal.div (rsE c x) (veE c x))) c

/-- The gradient as the chain rule has it. -/
def lnbChain (c : EReal) (x d : Fin n → EReal) (k : Fin n) : EReal :=
  d k * rsE c x + vgE c x d * (Ideal.ofBits .f32 0x40000000#32 * xcE c x k)
    + Ideal.div ((∑ l, -(d l * rsE c x)) + ∑ l, -(vgE c x d * (Ideal.ofBits .f32 0x40000000#32 * xcE c x l))) c

variable {c : EReal} (hc : c = ((n : ℝ) : EReal)) (hn : n ≠ 0) (y d : Fin n → ℝ)

include hc hn

theorem muE_coe : muE c (fun k => (y k : EReal)) = (muR y : EReal) := by
  subst hc; unfold muE muR
  rw [← coe_sum, div_real (by exact_mod_cast hn), ← EReal.coe_mul]

theorem xcE_coe (k : Fin n) : xcE c (fun k => (y k : EReal)) k = (xcR y k : EReal) := by
  unfold xcE xcR; rw [muE_coe hc hn, EReal.coe_sub]

theorem veE_coe : veE c (fun k => (y k : EReal)) = (veR y : EReal) := by
  unfold veE veR
  simp only [xcE_coe hc hn, ← EReal.coe_mul, ← coe_sum]
  subst hc
  rw [ofBits_eps, div_real (by exact_mod_cast hn), ← EReal.coe_mul, ← EReal.coe_add]

theorem rsE_coe : rsE c (fun k => (y k : EReal)) = (rsR y : EReal) := by
  unfold rsE; rw [veE_coe hc hn, rsqrt_pos (veR_pos y)]; rfl

theorem xhE_coe (k : Fin n) : xhE c (fun k => (y k : EReal)) k = (xhR y k : EReal) := by
  unfold xhE xhR; rw [xcE_coe hc hn, rsE_coe hc hn, EReal.coe_mul]

theorem lnbE_coe (k : Fin n) : lnbE c (fun k => (y k : EReal)) (fun k => (d k : EReal)) k = (lnbR y d k : EReal) := by
  unfold lnbE lnbR
  simp only [xhE_coe hc hn, rsE_coe hc hn, ← EReal.coe_mul, ← coe_sum]
  subst hc
  rw [div_real (by exact_mod_cast hn), div_real (by exact_mod_cast hn)]
  simp only [← EReal.coe_mul, ← EReal.coe_sub]

/-- The chain rule's form is the closed form. -/
theorem lnbChain_coe (k : Fin n) :
    lnbChain c (fun k => (y k : EReal)) (fun k => (d k : EReal)) k = (lnbR y d k : EReal) := by
  have hv := veR_pos y
  have hn' : (n : ℝ) ≠ 0 := by exact_mod_cast hn
  have hvg : vgE c (fun k => (y k : EReal)) (fun k => (d k : EReal))
      = (((∑ l, xcR y l * d l) * (-(1 / 2) * (rsR y * (veR y)⁻¹)) * (n : ℝ)⁻¹ : ℝ) : EReal) := by
    unfold vgE
    simp only [xcE_coe hc hn, rsE_coe hc hn, veE_coe hc hn, ← EReal.coe_mul, ← coe_sum]
    subst hc
    rw [div_real hv.ne', ofBits_neg_half, ← EReal.coe_mul, ← EReal.coe_mul, ← EReal.coe_mul, div_real hn', ← EReal.coe_mul]
  unfold lnbChain
  rw [hvg]
  simp only [xcE_coe hc hn, rsE_coe hc hn, ofBits_two, ← EReal.coe_mul, ← EReal.coe_neg, ← coe_sum, ← EReal.coe_add]
  subst hc
  rw [div_real hn', ← EReal.coe_mul, ← EReal.coe_add]
  congr 1
  have hsum : ∑ l, xcR y l = 0 := by
    unfold xcR muR
    rw [Finset.sum_sub_distrib, Finset.sum_const, Finset.card_univ, Fintype.card_fin, nsmul_eq_mul]
    field_simp; ring
  have hr : (veR y)⁻¹ = rsR y * rsR y := by
    unfold rsR; rw [← mul_inv, Real.mul_self_sqrt hv.le]
  have e1 : ∑ l, -(d l * rsR y) = -((∑ l, d l) * rsR y) := by rw [Finset.sum_neg_distrib, Finset.sum_mul]
  have e2 (q : ℝ) : ∑ l, -(q * (2 * xcR y l)) = 0 := by
    rw [Finset.sum_neg_distrib, ← Finset.mul_sum, ← Finset.mul_sum, hsum]; ring
  have e3 : ∑ l, d l * xhR y l = (∑ l, xcR y l * d l) * rsR y := by
    rw [Finset.sum_mul]; exact Finset.sum_congr rfl fun l _ => by unfold xhR; ring
  rw [e1, e2, hr]
  unfold lnbR
  rw [e3]
  unfold xhR
  ring

end LN

/-! ## The swish's derivative at every extended real -/

/-- The logistic function. -/
def sgE (z : EReal) : EReal :=
  Ideal.div (Ideal.ofBits .f32 0x3F800000#32) (Ideal.ofBits .f32 0x3F800000#32 + Ideal.exp (-z))

/-- The kernel's text. -/
def dsiluE (z : EReal) : EReal :=
  sgE z * (Ideal.ofBits .f32 0x3F800000#32 + z * (Ideal.ofBits .f32 0x3F800000#32 - sgE z))

def dsiluR (z : EReal) : ℝ := (dsiluE z).toReal

theorem sgE_real (z : ℝ) : sgE z = (((1 + Real.exp (-z))⁻¹ : ℝ) : EReal) := by
  unfold sgE
  have := Real.exp_pos (-z)
  rw [ofBits_one, ← EReal.coe_neg, exp_real, ← EReal.coe_add, div_real (by positivity), ← EReal.coe_mul, one_mul]

theorem sgE_top : sgE ⊤ = ((1 : ℝ) : EReal) := by
  unfold sgE
  rw [ofBits_one, EReal.neg_top, Ideal.exp_bot, add_zero, div_real one_ne_zero, ← EReal.coe_mul]; norm_num

theorem sgE_bot : sgE ⊥ = ((0 : ℝ) : EReal) := by
  unfold sgE
  rw [ofBits_one, EReal.neg_bot, Ideal.exp_top, EReal.coe_add_top]
  simp [Ideal.div]

theorem dsilu_coe (z : EReal) : dsiluE z = (dsiluR z : EReal) := by
  have : ∃ r : ℝ, dsiluE z = (r : EReal) := by
    induction z using EReal.rec with
    | bot => exact ⟨0, by unfold dsiluE; rw [sgE_bot, EReal.coe_zero, zero_mul]⟩
    | top =>
      refine ⟨1, ?_⟩
      unfold dsiluE; rw [sgE_top, ofBits_one, ← EReal.coe_sub, sub_self, EReal.coe_zero, mul_zero, add_zero, ← EReal.coe_mul, one_mul]
    | coe a =>
      refine ⟨(1 + Real.exp (-a))⁻¹ * (1 + a * (1 - (1 + Real.exp (-a))⁻¹)), ?_⟩
      unfold dsiluE
      rw [sgE_real, ofBits_one]
      simp only [← EReal.coe_mul, ← EReal.coe_sub, ← EReal.coe_add]
  obtain ⟨r, hr⟩ := this
  unfold dsiluR; rw [hr, EReal.toReal_coe]

/-- The chain rule through the swish as differentiation gives it, at a finite cotangent. -/
theorem dsilu_ref (z : EReal) (d : ℝ) :
    (d : EReal) * sgE z + z * (d : EReal) * (sgE z * (Ideal.ofBits .f32 0x3F800000#32 - sgE z)) = ((d * dsiluR z : ℝ) : EReal) := by
  rw [EReal.coe_mul, ← dsilu_coe]
  induction z using EReal.rec with
  | bot => unfold dsiluE; rw [sgE_bot]; simp
  | top => unfold dsiluE; rw [sgE_top, ofBits_one, ← EReal.coe_sub, sub_self]; simp
  | coe a =>
    unfold dsiluE
    rw [sgE_real, ofBits_one]
    simp only [← EReal.coe_mul, ← EReal.coe_sub, ← EReal.coe_add]
    congr 1; ring

/-! ## The gradients -/

/-- The select under the causal mask's comparison of positions. -/
theorem mask_word {α : Type} (t s : Fin 128) (x y : α) :
    Scalar.select (IntOp.cmpi .sge (BitVec.ofNat 32 t.val) (BitVec.ofNat 32 s.val)) x y = if s ≤ t then x else y := by
  rw [WordCmp.cmpi_sge_ofNat (by have := t.isLt; omega) (by have := s.isLt; omega), Scalar.select]
  by_cases h : s ≤ t
  · rw [if_pos h, decide_eq_true (Fin.le_def.mp h)]; rfl
  · rw [if_neg h, decide_eq_false (fun e => h (Fin.le_def.mpr e))]; rfl

/-- Position `s` of chunk `n`. -/
def tk (n : Fin 32) (s : Fin 128) : Fin 4096 := ⟨128 * n.val + s.val, by omega⟩

/-- Column `j` of head `h`. -/
def hc (h : Fin 4) (j : Fin 128) : Fin 512 := ⟨128 * h.val + j.val, by omega⟩

/-- A token's chunk and position, a column's head and place. -/
def ch (i : Fin 4096) : Fin 32 := ⟨i.val / 128, by omega⟩
def ps (i : Fin 4096) : Fin 128 := ⟨i.val % 128, by omega⟩
def hd (k : Fin 512) : Fin 4 := ⟨k.val / 128, by omega⟩
def cl (k : Fin 512) : Fin 128 := ⟨k.val % 128, by omega⟩

theorem tk_ch (i : Fin 4096) : tk (ch i) (ps i) = i := Fin.ext (by simp only [tk, ch, ps]; omega)
theorem hc_hd (k : Fin 512) : hc (hd k) (cl k) = k := Fin.ext (by simp only [hc, hd, cl]; omega)

theorem hd_hc (h : Fin 4) (j : Fin 128) : hd (hc h j) = h := Fin.ext (by simp only [hc, hd]; omega)
theorem cl_hc (h : Fin 4) (j : Fin 128) : cl (hc h j) = j := Fin.ext (by simp only [hc, cl]; omega)
theorem ch_tk (n : Fin 32) (s : Fin 128) : ch (tk n s) = n := Fin.ext (by simp only [tk, ch]; omega)
theorem ps_tk (n : Fin 32) (s : Fin 128) : ps (tk n s) = s := Fin.ext (by simp only [tk, ps]; omega)

/-- The inputs of the gradient as reals: the two halves of the projection, the convolution's output, the cotangent of the
    concatenated halves, the parameters; the shift of the second normalisation may be infinite. -/
structure Inp where
  (u v c da dz : Fin 4096 → Fin 512 → ℝ)
  (lg lb clg : Fin 512 → ℝ)
  (clb : Fin 512 → EReal)
  (w : Fin 4 → Fin 128 → Fin 128 → ℝ)
  (bs : Fin 4 → Fin 128 → ℝ)

namespace Inp

variable (a : Inp)

/-- The gated half, the normalised half, the mixing weight under the causal mask. -/
def gu (i : Fin 4096) (k : Fin 512) : ℝ := geluR (a.u i k)
def gv (i : Fin 4096) (k : Fin 512) : ℝ := geluR (a.v i k)
def xh (i : Fin 4096) (k : Fin 512) : ℝ := xhR (a.gv i) k
def vn (i : Fin 4096) (k : Fin 512) : ℝ := a.xh i k * a.lg k + a.lb k
def wm (h : Fin 4) (t s : Fin 128) : ℝ := if s ≤ t then a.w h t s else 0
def mixed (n : Fin 32) (t : Fin 128) (h : Fin 4) (j : Fin 128) : ℝ :=
  (∑ s, a.wm h t s * a.vn (tk n s) (hc h j)) + a.bs h t

/-- The gradient of the gate's half. -/
def du (i : Fin 4096) (k : Fin 512) : ℝ := a.da i k * a.mixed (ch i) (ps i) (hd k) (cl k) * dgeluR (a.u i k)
def dmx (i : Fin 4096) (k : Fin 512) : ℝ := a.da i k * a.gu i k
def dv (i : Fin 4096) (k : Fin 512) : ℝ := ∑ t, a.wm (hd k) t (ps i) * a.dmx (tk (ch i) t) k
def dlb (k : Fin 512) : ℝ := ∑ i, a.dv i k
def dlg (k : Fin 512) : ℝ := ∑ i, a.dv i k * a.xh i k
def dvg (i : Fin 4096) (k : Fin 512) : ℝ := lnbR (a.gv i) (fun l => a.dv i l * a.lg l) k
def dva (i : Fin 4096) (k : Fin 512) : ℝ := a.dvg i k * dgeluR (a.v i k)
def dw (h : Fin 4) (t s : Fin 128) : ℝ :=
  if s ≤ t then ∑ n, ∑ j, a.dmx (tk n t) (hc h j) * a.vn (tk n s) (hc h j) else 0
def dbs (h : Fin 4) (t : Fin 128) : ℝ := ∑ j, ∑ n, a.dmx (tk n t) (hc h j)

/-- The gradient at the two halves of the projection. -/
def dpa (i : Fin 4096) (k : Fin 1024) : ℝ := if h : k.val < 512 then a.du i ⟨k.val, h⟩ else a.dva i ⟨k.val - 512, by omega⟩

/-- The swish half: each head's columns normalised by themselves. -/
def crow (i : Fin 4096) (h : Fin 4) (j : Fin 128) : ℝ := a.c i (hc h j)
def cxh (i : Fin 4096) (k : Fin 512) : ℝ := xhR (a.crow i (hd k)) (cl k)
def z (i : Fin 4096) (k : Fin 512) : EReal := (a.cxh i k : EReal) * a.clg k + a.clb k
def dzz (i : Fin 4096) (k : Fin 512) : ℝ := a.dz i k * dsiluR (a.z i k)
def dclb (k : Fin 512) : ℝ := ∑ i, a.dzz i k
def dclg (k : Fin 512) : ℝ := ∑ i, a.dzz i k * a.cxh i k
def dc (i : Fin 4096) (k : Fin 512) : ℝ :=
  lnbR (a.crow i (hd k)) (fun l => a.dzz i (hc (hd k) l) * a.clg (hc (hd k) l)) (cl k)
def dcb (k : Fin 512) : ℝ := ∑ i, a.dc i k

end Inp

/-- Columns of the projection and of the concatenated halves. -/
def pc (b : Fin 4) (k : Fin 512) : Fin 2048 := ⟨512 * b.val + k.val, by omega⟩
def lo (k : Fin 512) : Fin 1024 := ⟨k.val, by omega⟩
def hi (k : Fin 512) : Fin 1024 := ⟨512 + k.val, by omega⟩

/-- The arrays `P` (the projection), `C` (the convolution) and the parameters hold the reals of `a`. -/
structure Reads (a : Inp) (P : Fin 4096 → Fin 2048 → EReal) (C : Fin 4096 → Fin 512 → EReal) (lg lb clg clb : Fin 512 → EReal)
    (w : Fin 4 → Fin 128 → Fin 128 → EReal) (bs : Fin 4 → Fin 128 → EReal) (wo : Fin 1024 → Fin 1024 → EReal)
    (ct : Fin 4096 → Fin 1024 → EReal) : Prop where
  u : ∀ i k, P i (pc 0 k) = (a.u i k : EReal)
  v : ∀ i k, P i (pc 1 k) = (a.v i k : EReal)
  c : ∀ i k, C i k = (a.c i k : EReal)
  da : ∀ i k, ∑ l, ct i l * wo (lo k) l = (a.da i k : EReal)
  dz : ∀ i k, ∑ l, ct i l * wo (hi k) l = (a.dz i k : EReal)
  lg : ∀ k, lg k = (a.lg k : EReal)
  lb : ∀ k, lb k = (a.lb k : EReal)
  clg : ∀ k, clg k = (a.clg k : EReal)
  clb : ∀ k, clb k = a.clb k
  w : ∀ h t s, w h t s = (a.w h t s : EReal)
  bs : ∀ h t, bs h t = (a.bs h t : EReal)

end Cert.MixMath

end
-- ==== Proof.MixTile.lean ====
/- One grid point's text of the mixer's backward call: the block's GELU, normalisations and cotangents, and the products on
   one tile of 128 rows and a head's 128 columns, each at an index. The tiles' texts differ only by their offsets. -/
module

public import proofs.«01_k».proof.Proof.MixMath
public import proofs.«01_k».proof.Proof.Gen.Kernel3Ideal.Skeleton

@[expose] public section

set_option maxRecDepth 16384
set_option maxHeartbeats 1000000

noncomputable section

namespace Cert.Kernel3Ideal.Mix

open Cert.Kernel3Ideal Cert.Kernel3Ideal.Gen Idealize.ShloMosaic Cert.Ereal Cert.MixMath
open Idealize.ShloMosaic.Pointwise

abbrev Sq := FVec Ideal S512x512 .f32
abbrev Sqb := FVec Ideal S512x512 .bf16
abbrev Wide := FVec Ideal S512x1024 .f32
abbrev Tile := FVec Ideal S128x128 .f32
abbrev Tileb := FVec Ideal S128x128 .bf16
abbrev Strip := FVec Ideal S512x128 .f32

/-- The named root of a half. -/
abbrev κh : Ideal .f32 := Named.named κ "sqrt_half" 0x3F3504F3#32

/-! ## Tiles -/

theorem sliceSq (q h : Fin 4) : S512x512.Slices ![q.val * 128, h.val * 128] S128x128 := by revert q h; decide
theorem sliceWide (q h : Fin 4) : S512x1024.Slices ![q.val * 128, h.val * 128] S128x128 := by revert q h; decide
theorem sliceStrip (h : Fin 4) : S512x1024.Slices ![0, 512 + h.val * 128] S512x128 := by revert h; decide

def cutSq {α : Type} (x : S512x512.Idx → α) (q h : Fin 4) : S128x128.Idx → α := extractStridedSlice S128x128 ![q.val * 128, h.val * 128] x (sliceSq q h)
def cutWide (x : Wide) (q h : Fin 4) : Tile := extractStridedSlice S128x128 ![q.val * 128, h.val * 128] x (sliceWide q h)

/-- Row `r` of chunk `q` of a block. -/
def rw4 (q : Fin 4) (r : Fin 128) : Fin 512 := ⟨q.val * 128 + r.val, by omega⟩

theorem cutSq_at {α : Type} (x : S512x512.Idx → α) (q h : Fin 4) (r j : Fin 128) : cutSq x q h (ix2 r j) = x (ix2 (rw4 q r) (hc h j)) := by
  unfold cutSq
  pointwise []
  exact congrArg x (congrArg₂ ix2 rfl (Fin.ext (by simp only [hc]; omega)))

theorem cutWide_at (x : Wide) (q h : Fin 4) (r j : Fin 128) : cutWide x q h (ix2 r j) = x (ix2 (rw4 q r) (lo (hc h j))) := by
  unfold cutWide
  pointwise []
  exact congrArg x (congrArg₂ ix2 rfl (Fin.ext (by simp only [hc, lo]; omega)))

/-- The gate's gradient on a tile. -/
def duTile (dm : Wide) (u cu : Sq) (vb : Sqb) (w : Tileb) (b : FVec Ideal S128x1 .f32) (q h : Fin 4) : Tileb :=
  let m : Tile := matmul dot_S128x128_S128x128_S128x128_1_0_0_1_n_n none w (cutSq vb q h) (constant S128x128 .f32 0x00000000#32)
  let s : Tile := addf m (broadcastTo S128x128 (shapeCast S128x1 b shapeCasts_S128x1_S128x1) broadcasts_S128x1_S128x128)
  let x : Tile := cutSq u q h
  truncf .bf16 (mulf (mulf (cutWide dm q h) s) (addf (cutSq cu q h) (mulf x (mulf (broadcast S128x128 (Named.named κ "inv_sqrt_2pi" 0x3ECC422A#32)) (exp (mulf (mulf (broadcast S128x128 (Scalar.ofBits .f32 0xBF000000#32)) x) x)))))) bitsLt_bf16_f32

/-- The mixing's cotangent on a tile. -/
def dmxTile (dm : Wide) (gu : Sq) (q h : Fin 4) : Tile := mulf (cutWide dm q h) (cutSq gu q h)

/-- Its product with the transposed weight. -/
def dvTile (dm : Wide) (gu : Sq) (w : Tileb) (q h : Fin 4) : Tile :=
  shapeCast S128x128 (matmul dot_S128x128_S128x128_S128x128_0_0_1_1_n_n none w (truncf .bf16 (dmxTile dm gu q h) bitsLt_bf16_f32) (constant S128x128 .f32 0x00000000#32)) shapeCasts_S128x128_S128x128

/-- The weight's sum with the tile's product added. -/
def dwTile (dm : Wide) (gu : Sq) (vb : Sqb) (q h : Fin 4) (acc : FVec Ideal S1x128x128 .f32) : FVec Ideal S1x128x128 .f32 :=
  shapeCast S1x128x128 (addf (shapeCast S128x128 acc shapeCasts_S1x128x128_S128x128) (matmul dot_S128x128_S128x128_S128x128_1_1_0_0_n_n none (truncf .bf16 (dmxTile dm gu q h) bitsLt_bf16_f32) (cutSq vb q h) (constant S128x128 .f32 0x00000000#32))) shapeCasts_S128x128_S1x128x128

/-- The bias's sum with the tile added. -/
def dbTile (dm : Wide) (gu : Sq) (q h : Fin 4) (acc : Tile) : Tile := shapeCast S128x128 (addf acc (dmxTile dm gu q h)) shapeCasts_S128x128_S128x128

theorem duTile_at (dm : Wide) (u cu : Sq) (vb : Sqb) (w : Tileb) (b : FVec Ideal S128x1 .f32) (q h : Fin 4) (r j : Fin 128) :
    duTile dm u cu vb w b q h (ix2 r j)
      = dm (ix2 (rw4 q r) (lo (hc h j))) * ((∑ s : Fin 128, w (ix2 r s) * vb (ix2 (rw4 q s) (hc h j))) + b (ix2 r 0))
        * (cu (ix2 (rw4 q r) (hc h j)) + u (ix2 (rw4 q r) (hc h j)) * ((((9465531 / 16777216) * (Real.sqrt 2)⁻¹ : ℝ) : EReal)
          * Ideal.exp (Ideal.ofBits .f32 0xBF000000#32 * u (ix2 (rw4 q r) (hc h j)) * u (ix2 (rw4 q r) (hc h j))))) := by
  pointwise [duTile]
  simp only [cutSq_at, cutWide_at]
  rfl

theorem dmxTile_at (dm : Wide) (gu : Sq) (q h : Fin 4) (r j : Fin 128) :
    dmxTile dm gu q h (ix2 r j) = dm (ix2 (rw4 q r) (lo (hc h j))) * gu (ix2 (rw4 q r) (hc h j)) := by
  pointwise [dmxTile]
  simp only [cutSq_at, cutWide_at]

theorem dvTile_at (dm : Wide) (gu : Sq) (w : Tileb) (q h : Fin 4) (r j : Fin 128) :
    dvTile dm gu w q h (ix2 r j) = ∑ s : Fin 128, w (ix2 s r) * dmxTile dm gu q h (ix2 s j) := by
  pointwise [dvTile]

theorem dwTile_at (dm : Wide) (gu : Sq) (vb : Sqb) (q h : Fin 4) (acc : FVec Ideal S1x128x128 .f32) (r s : Fin 128) :
    dwTile dm gu vb q h acc (ix3 0 r s) = acc (ix3 0 r s) + ∑ j : Fin 128, dmxTile dm gu q h (ix2 r j) * vb (ix2 (rw4 q s) (hc h j)) := by
  pointwise [dwTile]
  simp only [cutSq_at]

theorem dbTile_at (dm : Wide) (gu : Sq) (q h : Fin 4) (acc : Tile) (r j : Fin 128) :
    dbTile dm gu q h acc (ix2 r j) = acc (ix2 r j) + dmxTile dm gu q h (ix2 r j) := by
  pointwise [dbTile]

/-! ## A head's columns of the swish half -/

/-- The swish's cotangent. -/
def dzStrip (dm : Wide) (cc : Strip) (g b : FVec Ideal S1x128 .f32) (h : Fin 4) : Strip :=
  let z : Strip := k0_pay218 cc g b
  let s : Strip := divf (broadcast S512x128 (Scalar.ofBits .f32 0x3F800000#32)) (addf (broadcast S512x128 (Scalar.ofBits .f32 0x3F800000#32)) (exp (subf (broadcast S512x128 (Scalar.ofBits .f32 0x00000000#32)) z)))
  mulf (extractStridedSlice S512x128 ![0, 512 + h.val * 128] dm (sliceStrip h)) (mulf s (addf (broadcast S512x128 (Scalar.ofBits .f32 0x3F800000#32)) (mulf z (subf (broadcast S512x128 (Scalar.ofBits .f32 0x3F800000#32)) s))))

theorem norm128_at (cc : Strip) (p : Fin 512) (j : Fin 128) :
    k0_pay197 (F := Ideal) cc (ix2 p j) = xhE (Ideal.ofBits .f32 0x43000000#32) (fun l => cc (ix2 p l)) j := by
  pointwise [k0_pay197, k0_pay196, k0_pay195]
  rfl

theorem rs128_at (cc : Strip) (p : Fin 512) :
    k0_pay196 (F := Ideal) cc (ix2 p 0) = rsE (Ideal.ofBits .f32 0x43000000#32) (fun l => cc (ix2 p l)) := by
  pointwise [k0_pay196, k0_pay195]
  rfl

theorem z_at (cc : Strip) (g b : FVec Ideal S1x128 .f32) (p : Fin 512) (j : Fin 128) :
    k0_pay218 (F := Ideal) cc g b (ix2 p j)
      = xhE (Ideal.ofBits .f32 0x43000000#32) (fun l => cc (ix2 p l)) j * g (ix2 0 j) + b (ix2 0 j) := by
  rw [← norm128_at]
  pointwise [k0_pay218]
  rfl

theorem dzStrip_at (dm : Wide) (cc : Strip) (g b : FVec Ideal S1x128 .f32) (h : Fin 4) (p : Fin 512) (j : Fin 128) :
    dzStrip dm cc g b h (ix2 p j) = dm (ix2 p (hi (hc h j))) * dsiluE (k0_pay218 (F := Ideal) cc g b (ix2 p j)) := by
  pointwise [dzStrip]
  refine congrArg₂ _ (congrArg dm (congrArg₂ ix2 rfl (Fin.ext (by simp only [hc, hi]; omega)))) ?_
  simp only [dsiluE, sgE, Ideal.ofBits_zero_f32, zero_sub, ofBits_one, EReal.coe_one]

/-- The gradient of the normalisation over a head's columns. -/
theorem lnb128_at (rs : FVec Ideal S512x1 .f32) (xh d : Strip) (g : FVec Ideal S1x128 .f32) (p : Fin 512) (j : Fin 128) :
    k0_pay203 (F := Ideal) rs xh d g (ix2 p j)
      = rs (ix2 p 0) * (d (ix2 p j) * g (ix2 0 j) - Ideal.div (∑ l : Fin 128, d (ix2 p l) * g (ix2 0 l)) (Ideal.ofBits .f32 0x43000000#32)
        - xh (ix2 p j) * Ideal.div (∑ l : Fin 128, d (ix2 p l) * g (ix2 0 l) * xh (ix2 p l)) (Ideal.ofBits .f32 0x43000000#32)) := by
  pointwise [k0_pay203]

/-- A head's column sum added to what stands there. -/
theorem acc128_at (d : Strip) (acc : FVec Ideal S1x128 .f32) (j : Fin 128) :
    k0_pay209 (F := Ideal) d acc (ix2 0 j) = acc (ix2 0 j) + ∑ p : Fin 512, d (ix2 p j) := by
  pointwise [k0_pay209]

theorem accMul128_at (x d : Strip) (acc : FVec Ideal S1x128 .f32) (j : Fin 128) :
    k0_pay210 (F := Ideal) x d acc (ix2 0 j) = acc (ix2 0 j) + ∑ p : Fin 512, d (ix2 p j) * x (ix2 p j) := by
  pointwise [k0_pay210]

/-! ## The block -/

theorem dm_at (ct : FVec Ideal S512x1024 .bf16) (wo : FVec Ideal S1024x1024 .bf16) (p : Fin 512) (k : Fin 1024) :
    k0_pay22 (F := Ideal) ct wo (ix2 p k) = ∑ l : Fin 1024, ct (ix2 p l) * wo (ix2 k l) := by
  pointwise [k0_pay22]

theorem dwo_at (acc : FVec Ideal S1x1024x1024 .f32) (mx ct : FVec Ideal S512x1024 .bf16) (k l : Fin 1024) :
    k0_pay21 (F := Ideal) acc mx ct (ix3 0 k l) = acc (ix3 0 k l) + ∑ p : Fin 512, mx (ix2 p k) * ct (ix2 p l) := by
  pointwise [k0_pay21]

theorem cdfU_at (u : Sq) (p k : Fin 512) {x : ℝ} (h : u (ix2 p k) = (x : EReal)) : k0_pay25 (F := Ideal) u (ix2 p k) = (cdfR x : EReal) := by
  refine Eq.trans ?_ (cdf_coe x)
  rw [← h]
  pointwise [k0_pay25, k0_pay23]
  rfl

theorem geluU_at (u : Sq) (p k : Fin 512) {x : ℝ} (h : u (ix2 p k) = (x : EReal)) : k0_pay26 (F := Ideal) u (ix2 p k) = (geluR x : EReal) := by
  have e : k0_pay26 (F := Ideal) u (ix2 p k) = u (ix2 p k) * k0_pay25 (F := Ideal) u (ix2 p k) := by
    pointwise [k0_pay26, k0_pay23]
  rw [e, cdfU_at u p k h, h, ← EReal.coe_mul]; rfl

theorem cdfV_at (v : Sq) (p k : Fin 512) {x : ℝ} (h : v (ix2 p k) = (x : EReal)) :
    k0_pay27 (F := Ideal) (k0_pay24 v) κh (ix2 p k) = (cdfR x : EReal) := by
  refine Eq.trans ?_ (cdf_coe x)
  rw [← h]
  pointwise [k0_pay27, k0_pay24]
  rfl

/-- The normalised GELU of the second half, before scale and shift. -/
theorem norm512_at (v : Sq) (p k : Fin 512) {y : Fin 512 → ℝ} (h : ∀ l, v (ix2 p l) = (y l : EReal)) :
    k0_pay30 (F := Ideal) (k0_pay24 v) κh (ix2 p k) = (xhR (fun l => geluR (y l)) k : EReal)
      ∧ k0_pay29 (F := Ideal) (k0_pay24 v) κh (ix2 p 0) = (rsR (fun l => geluR (y l)) : EReal) := by
  have hg : (fun l => k0_pay24 (F := Ideal) v (ix2 p l) * k0_pay27 (F := Ideal) (k0_pay24 v) κh (ix2 p l)) = fun l => ((geluR (y l) : ℝ) : EReal) := by
    funext l
    rw [cdfV_at v p l (h l), show k0_pay24 (F := Ideal) v (ix2 p l) = v (ix2 p l) by pointwise [k0_pay24], h l, ← EReal.coe_mul]; rfl
  constructor
  · rw [← xhE_coe ofBits_512 (by decide), ← hg]
    generalize k0_pay24 (F := Ideal) v = v'
    pointwise [k0_pay30, k0_pay29, k0_pay28]
    rfl
  · rw [← rsE_coe ofBits_512 (by decide), ← hg]
    generalize k0_pay24 (F := Ideal) v = v'
    pointwise [k0_pay29, k0_pay28]
    rfl

theorem vn_at (v : Sq) (lg lb : FVec Ideal S1x512 .f32) (p k : Fin 512) :
    k0_pay31 (F := Ideal) (k0_pay24 v) κh lg lb (ix2 p k)
      = k0_pay30 (F := Ideal) (k0_pay24 v) κh (ix2 p k) * lg (ix2 0 k) + lb (ix2 0 k) := by
  pointwise [k0_pay31]

/-- The weight under the mask, in the product's format. -/
theorem wm_at (w : FVec Ideal S1x128x128 .f32) (r s : Fin 128) :
    k0_pay33 (F := Ideal) w (ix2 r s) = if s ≤ r then w (ix3 0 r s) else 0 := by
  refine Eq.trans ?_ (mask_word r s _ _)
  pointwise [k0_pay33, k0_pay32]

/-- The gradient at the second half: the normalisation's, then the GELU's. -/
theorem dva_at (v : Sq) (cu : Sq) (rs : FVec Ideal S512x1 .f32) (xh d : Sq) (g : FVec Ideal S1x512 .f32) (p k : Fin 512) :
    k0_pay184 (F := Ideal) v cu rs xh d g (ix2 p k)
      = rs (ix2 p 0) * (d (ix2 p k) * g (ix2 0 k) - Ideal.div (∑ l : Fin 512, d (ix2 p l) * g (ix2 0 l)) (Ideal.ofBits .f32 0x44000000#32)
        - xh (ix2 p k) * Ideal.div (∑ l : Fin 512, d (ix2 p l) * g (ix2 0 l) * xh (ix2 p l)) (Ideal.ofBits .f32 0x44000000#32))
        * (cu (ix2 p k) + v (ix2 p k) * ((((9465531 / 16777216) * (Real.sqrt 2)⁻¹ : ℝ) : EReal)
          * Ideal.exp (Ideal.ofBits .f32 0xBF000000#32 * v (ix2 p k) * v (ix2 p k)))) := by
  pointwise [k0_pay184]
  rfl

theorem dlb_at (d : Sq) (acc : FVec Ideal S1x512 .f32) (k : Fin 512) :
    k0_pay182 (F := Ideal) d acc (ix2 0 k) = acc (ix2 0 k) + ∑ p : Fin 512, d (ix2 p k) := by
  pointwise [k0_pay182]

theorem dlg_at (x d : Sq) (acc : FVec Ideal S1x512 .f32) (k : Fin 512) :
    k0_pay183 (F := Ideal) x d acc (ix2 0 k) = acc (ix2 0 k) + ∑ p : Fin 512, d (ix2 p k) * x (ix2 p k) := by
  pointwise [k0_pay183]

end Cert.Kernel3Ideal.Mix

end
-- ==== Proof.MixBlock.lean ====
/- One grid point's text in reals: where its blocks hold the reals of the mixer's inputs, every tile holds the gradients'. -/
module

public import proofs.«01_k».proof.Proof.MixTile

@[expose] public section

set_option maxRecDepth 16384

noncomputable section

namespace Cert.Kernel3Ideal.Mix

open Cert.Kernel3Ideal Cert.Kernel3Ideal.Gen Idealize.ShloMosaic Cert.Ereal Cert.MixMath

/-- Row `p` of block `t`, and the chunk its tile `q` is. -/
def tok (t : Fin 8) (p : Fin 512) : Fin 4096 := ⟨512 * t.val + p.val, by omega⟩
def ck (t : Fin 8) (q : Fin 4) : Fin 32 := ⟨4 * t.val + q.val, by omega⟩

theorem tok_rw4 (t : Fin 8) (q : Fin 4) (r : Fin 128) : tok t (rw4 q r) = tk (ck t q) r :=
  Fin.ext (by simp only [tok, rw4, tk, ck]; omega)

/-- The blocks of grid point `t` hold the reals of `a`. -/
structure Blk (a : Inp) (t : Fin 8) (ct : FVec Ideal S512x1024 .bf16) (wo : FVec Ideal S1024x1024 .bf16) (u v : Sq) (lg lb : FVec Ideal S1x512 .f32)
    (w : Fin 4 → FVec Ideal S1x128x128 .f32) (b : Fin 4 → FVec Ideal S128x1 .f32) (cc : Fin 4 → Strip) (clg clb : Fin 4 → FVec Ideal S1x128 .f32) : Prop where
  u : ∀ p k, u (ix2 p k) = (a.u (tok t p) k : EReal)
  v : ∀ p k, v (ix2 p k) = (a.v (tok t p) k : EReal)
  da : ∀ p k, ∑ l, ct (ix2 p l) * wo (ix2 (lo k) l) = (a.da (tok t p) k : EReal)
  dz : ∀ p k, ∑ l, ct (ix2 p l) * wo (ix2 (hi k) l) = (a.dz (tok t p) k : EReal)
  lg : ∀ k, lg (ix2 0 k) = (a.lg k : EReal)
  lb : ∀ k, lb (ix2 0 k) = (a.lb k : EReal)
  w : ∀ h r s, w h (ix3 0 r s) = (a.w h r s : EReal)
  b : ∀ h r, b h (ix2 r 0) = (a.bs h r : EReal)
  cc : ∀ h p j, cc h (ix2 p j) = (a.c (tok t p) (hc h j) : EReal)
  clg : ∀ h j, clg h (ix2 0 j) = (a.clg (hc h j) : EReal)
  clb : ∀ h j, clb h (ix2 0 j) = a.clb (hc h j)

variable {a : Inp} {t : Fin 8} {ct : FVec Ideal S512x1024 .bf16} {wo : FVec Ideal S1024x1024 .bf16} {u v : Sq} {lg lb : FVec Ideal S1x512 .f32}
  {w : Fin 4 → FVec Ideal S1x128x128 .f32} {b : Fin 4 → FVec Ideal S128x1 .f32} {cc : Fin 4 → Strip} {clg clb : Fin 4 → FVec Ideal S1x128 .f32}

/-- The block's intermediate arrays. -/
abbrev DM (ct : FVec Ideal S512x1024 .bf16) (wo : FVec Ideal S1024x1024 .bf16) : Wide := k0_pay22 ct wo
abbrev VN (v : Sq) (lg lb : FVec Ideal S1x512 .f32) : Sqb := k0_pay31 (k0_pay24 v) κh lg lb
abbrev RS (v : Sq) : FVec Ideal S512x1 .f32 := k0_pay29 (k0_pay24 v) κh
abbrev XH (v : Sq) : Sq := k0_pay30 (k0_pay24 v) κh

variable (R : Blk a t ct wo u v lg lb w b cc clg clb)
include R

namespace Blk

theorem da_at (p k : Fin 512) : DM ct wo (ix2 p (lo k)) = (a.da (tok t p) k : EReal) := (dm_at _ _ p _).trans (R.da p k)
theorem dz_at (p k : Fin 512) : DM ct wo (ix2 p (hi k)) = (a.dz (tok t p) k : EReal) := (dm_at _ _ p _).trans (R.dz p k)
theorem gu_at (p k : Fin 512) : k0_pay26 (F := Ideal) u (ix2 p k) = (a.gu (tok t p) k : EReal) := geluU_at _ p k (R.u p k)
theorem xh_at (p k : Fin 512) : XH v (ix2 p k) = (a.xh (tok t p) k : EReal) := (norm512_at v p k (R.v p)).1
theorem rs_at (p : Fin 512) : RS v (ix2 p 0) = (rsR (a.gv (tok t p)) : EReal) := (norm512_at v p 0 (R.v p)).2

theorem vn_at (p k : Fin 512) : VN v lg lb (ix2 p k) = (a.vn (tok t p) k : EReal) := by
  refine (Mix.vn_at v lg lb p k).trans ?_
  show XH v (ix2 p k) * lg (ix2 0 k) + lb (ix2 0 k) = _
  rw [R.xh_at p k, R.lg k, R.lb k, ← EReal.coe_mul, ← EReal.coe_add]; rfl

theorem wm_at (h : Fin 4) (r s : Fin 128) : k0_pay33 (F := Ideal) (w h) (ix2 r s) = (a.wm h r s : EReal) := by
  rw [Mix.wm_at, R.w h r s]; unfold Inp.wm
  split
  · rfl
  · rfl

theorem du_at (q h : Fin 4) (r j : Fin 128) :
    duTile (DM ct wo) u (k0_pay25 u) (VN v lg lb) (k0_pay33 (w h)) (b h) q h (ix2 r j) = (a.du (tok t (rw4 q r)) (hc h j) : EReal) := by
  rw [duTile_at, R.da_at, R.u, cdfU_at u _ _ (R.u _ _), dgelu_coe, R.b]
  simp only [R.wm_at, R.vn_at, ← EReal.coe_mul, ← coe_sum, ← EReal.coe_add, tok_rw4]
  unfold Inp.du Inp.mixed
  rw [ch_tk, ps_tk, hd_hc, cl_hc]

theorem dmx_at (q h : Fin 4) (r j : Fin 128) :
    dmxTile (DM ct wo) (k0_pay26 u) q h (ix2 r j) = (a.dmx (tk (ck t q) r) (hc h j) : EReal) := by
  rw [dmxTile_at, R.da_at, R.gu_at, ← EReal.coe_mul, tok_rw4]; rfl

theorem dv_at (q h : Fin 4) (r j : Fin 128) :
    dvTile (DM ct wo) (k0_pay26 u) (k0_pay33 (w h)) q h (ix2 r j) = (a.dv (tok t (rw4 q r)) (hc h j) : EReal) := by
  rw [dvTile_at]
  simp only [R.wm_at, R.dmx_at, ← EReal.coe_mul, ← coe_sum, tok_rw4]
  unfold Inp.dv
  rw [ch_tk, ps_tk, hd_hc]

theorem dw_at (q h : Fin 4) (acc : FVec Ideal S1x128x128 .f32) (r s : Fin 128) :
    dwTile (DM ct wo) (k0_pay26 u) (VN v lg lb) q h acc (ix3 0 r s)
      = acc (ix3 0 r s) + ((∑ j, a.dmx (tk (ck t q) r) (hc h j) * a.vn (tk (ck t q) s) (hc h j) : ℝ) : EReal) := by
  rw [dwTile_at]
  simp only [R.dmx_at, R.vn_at, ← EReal.coe_mul, ← coe_sum, tok_rw4]

theorem db_at (q h : Fin 4) (acc : Tile) (r j : Fin 128) :
    dbTile (DM ct wo) (k0_pay26 u) q h acc (ix2 r j) = acc (ix2 r j) + (a.dmx (tk (ck t q) r) (hc h j) : EReal) := by
  rw [dbTile_at, R.dmx_at]

theorem dva_at {d : Sq} (hd : ∀ p k, d (ix2 p k) = (a.dv (tok t p) k : EReal)) (p k : Fin 512) :
    k0_pay184 (F := Ideal) (k0_pay24 v) (k0_pay27 (k0_pay24 v) κh) (RS v) (XH v) d lg (ix2 p k) = (a.dva (tok t p) k : EReal) := by
  have hv : k0_pay24 (F := Ideal) v (ix2 p k) = (a.v (tok t p) k : EReal) := by
    rw [← R.v p k]; pointwise [k0_pay24]
  rw [Mix.dva_at, hv, cdfV_at v p k (R.v p k), dgelu_coe]
  refine Eq.trans (congrArg (· * (dgeluR (a.v (tok t p) k) : EReal)) (Eq.trans ?_ (lnbE_coe ofBits_512 (by decide) (a.gv (tok t p)) (fun l => a.dv (tok t p) l * a.lg l) k))) ?_
  · unfold lnbE
    simp only [xhE_coe ofBits_512 (by decide), rsE_coe ofBits_512 (by decide), R.rs_at, R.xh_at, hd, R.lg, EReal.coe_mul]
    rfl
  · rw [← EReal.coe_mul]; rfl

theorem ccrow (h : Fin 4) (p : Fin 512) : (fun l => cc h (ix2 p l)) = fun l => (a.crow (tok t p) h l : EReal) := funext fun l => R.cc h p l

theorem cxh_at (h : Fin 4) (p : Fin 512) (j : Fin 128) : k0_pay197 (F := Ideal) (cc h) (ix2 p j) = (a.cxh (tok t p) (hc h j) : EReal) := by
  rw [norm128_at, R.ccrow, xhE_coe ofBits_128 (by decide)]
  unfold Inp.cxh
  rw [hd_hc, cl_hc]

theorem crs_at (h : Fin 4) (p : Fin 512) : k0_pay196 (F := Ideal) (cc h) (ix2 p 0) = (rsR (a.crow (tok t p) h) : EReal) := by
  rw [rs128_at, R.ccrow, rsE_coe ofBits_128 (by decide)]

theorem dzz_at (h : Fin 4) (p : Fin 512) (j : Fin 128) :
    dzStrip (DM ct wo) (cc h) (clg h) (clb h) h (ix2 p j) = (a.dzz (tok t p) (hc h j) : EReal) := by
  rw [dzStrip_at, R.dz_at, z_at, ← norm128_at, R.cxh_at, R.clg, R.clb, dsilu_coe, ← EReal.coe_mul]; rfl

theorem dc_at (h : Fin 4) (p : Fin 512) (j : Fin 128) :
    k0_pay203 (F := Ideal) (k0_pay196 (cc h)) (k0_pay197 (cc h)) (dzStrip (DM ct wo) (cc h) (clg h) (clb h) h) (clg h) (ix2 p j)
      = (a.dc (tok t p) (hc h j) : EReal) := by
  rw [lnb128_at]
  refine Eq.trans ?_ ((lnbE_coe ofBits_128 (by decide) (a.crow (tok t p) h) (fun l => a.dzz (tok t p) (hc h l) * a.clg (hc h l)) j).trans ?_)
  · unfold lnbE
    simp only [xhE_coe ofBits_128 (by decide), rsE_coe ofBits_128 (by decide), R.crs_at, R.cxh_at, R.dzz_at, R.clg, EReal.coe_mul, Inp.cxh, hd_hc, cl_hc]
  · unfold Inp.dc
    rw [hd_hc, cl_hc]

end Blk

end Cert.Kernel3Ideal.Mix

end
-- ==== Proof.RefMixOps.lean ====
/- The operations that differentiation prints for the mixer, in stages, each read at an index: the exact GELU and its
   derivative, the two layer normalisations and their gradients, the causal mask, the spatial mixing and its gradients. -/
module

public import proofs.«01_k».proof.Proof.MixMath
public import proofs.«01_k».proof.Proof.Gen.Reference3Ideal

@[expose] public section

set_option maxRecDepth 16384

noncomputable section

namespace Cert.Reference3Ideal.Mix

open Cert.Reference3Ideal Cert.Reference3Ideal.Gen Idealize.ShloMosaic Idealize.ShloMosaic.StableHlo Cert.Ereal Cert.MixMath
open Idealize.ShloMosaic.Pointwise

abbrev Half := FVec Ideal S4096x512 .f32
abbrev Heads := FVec Ideal S4096x4x128 .f32

/-- A constant over the half. -/
def kT (b : BitVec 32) : Half := broadcastInDim S4096x512 ![] bcast_S_S4096x512 (constant S_ .f32 b)

def root2T : FVec Ideal S_ .f32 := Host.sqrt (constant S_ .f32 0x40000000#32)

/-- The argument over the root of two, and one plus its error function. -/
def quT (x : Half) : Half := Host.divf x (broadcastInDim S4096x512 ![] bcast_S_S4096x512 root2T)
def oneErfT (x : Half) : Half := addf (kT 0x3F800000#32) (Host.erf (quT x))
def geluT (x : Half) : Half := mulf (mulf (kT 0x3F000000#32) x) (oneErfT x)
def dgeluT (x g : Half) : Half :=
  addf (Host.divf (mulf (mulf (kT 0x3F906EBB#32) (mulf (mulf (kT 0x3F000000#32) x) g)) (Host.exp (Host.negf (mulf (quT x) (quT x)))))
      (broadcastInDim S4096x512 ![] bcast_S_S4096x512 root2T))
    (mulf (kT 0x3F000000#32) (mulf g (oneErfT x)))

theorem geluT_at (x : Half) (r : ℝ) (i : Fin 4096) (k : Fin 512) (h : x (ix2 i k) = (r : EReal)) : geluT x (ix2 i k) = (geluR r : EReal) := by
  pointwise [geluT, oneErfT, quT, kT, root2T]
  rw [h, sqrt_two]
  refine Eq.trans ?_ (gelu_ref_coe r)
  simp only [ofBits_one, EReal.coe_one]

theorem dgeluT_at (x g : Half) (r q : ℝ) (i : Fin 4096) (k : Fin 512) (h : x (ix2 i k) = (r : EReal)) (hg : g (ix2 i k) = (q : EReal)) :
    dgeluT x g (ix2 i k) = ((q * dgeluR r : ℝ) : EReal) := by
  pointwise [dgeluT, oneErfT, quT, kT, root2T]
  rw [h, hg, sqrt_two]
  refine Eq.trans ?_ (dgelu_ref_coe r q)
  simp only [ofBits_one, EReal.coe_one]

/-! ## The normalisation of a row of 512 -/

abbrev d512 : EReal := Ideal.ofBits .f32 0x44000000#32

def muT (x : Half) : FVec Ideal S4096x1 .f32 :=
  Host.divf (broadcastInDim S4096x1 ![0] bcast_S4096_S4096x1_0 (Host.reduceAdd x (constant S_ .f32 0x00000000#32) reducesTo_S4096x512_S4096_d1 h_S_))
    (broadcastInDim S4096x1 ![] bcast_S_S4096x1 (constant S_ .f32 0x44000000#32))
def xcT (x : Half) : Half := subf x (broadcastInDim S4096x512 ![0, 1] bcast_S4096x1_S4096x512_0_1 (muT x))
def veT (x : Half) : FVec Ideal S4096x1 .f32 :=
  addf (Host.divf (broadcastInDim S4096x1 ![0] bcast_S4096_S4096x1_0 (Host.reduceAdd (mulf (xcT x) (xcT x)) (constant S_ .f32 0x00000000#32) reducesTo_S4096x512_S4096_d1 h_S_))
    (broadcastInDim S4096x1 ![] bcast_S_S4096x1 (constant S_ .f32 0x44000000#32))) (broadcastInDim S4096x1 ![] bcast_S_S4096x1 (constant S_ .f32 0x358637BD#32))
def xhT (x : Half) : Half := mulf (xcT x) (broadcastInDim S4096x512 ![0, 1] bcast_S4096x1_S4096x512_0_1 (Host.rsqrt (veT x)))

/-- A vector over the rows. -/
def rowT (g : FVec Ideal S512 .f32) : Half :=
  broadcastInDim S4096x512 ![0, 1] bcast_S1x512_S4096x512_0_1 (broadcastInDim S1x512 ![1] bcast_S512_S1x512_1 g)
def vnT (x : Half) (g b : FVec Ideal S512 .f32) : Half := addf (mulf (xhT x) (rowT g)) (rowT b)

/-- The two terms of the normalisation's gradient, and the gradient. -/
def nrT (x d : Half) : Half := mulf d (broadcastInDim S4096x512 ![0, 1] bcast_S4096x1_S4096x512_0_1 (Host.rsqrt (veT x)))
def nvT (x d : Half) : Half :=
  mulf (broadcastInDim S4096x512 ![0] bcast_S4096_S4096x512_0 (Host.reduceAdd (Host.divf (mulf (shapeCast _ (Host.reduceAdd (mulf (xcT x) d) (constant S_ .f32 0x00000000#32) reducesTo_S4096x512_S4096_d1 h_S_) shapeCasts_S4096_S4096x1) (mulf (broadcastInDim S4096x1 ![] bcast_S_S4096x1 (constant S_ .f32 0xBF000000#32)) (Host.divf (Host.rsqrt (veT x)) (veT x)))) (broadcastInDim S4096x1 ![] bcast_S_S4096x1 (constant S_ .f32 0x44000000#32))) (constant S_ .f32 0x00000000#32) reducesTo_S4096x1_S4096_d1 h_S_))
    (mulf (kT 0x40000000#32) (xcT x))
def lnbT (x d : Half) : Half :=
  addf (addf (nrT x d) (nvT x d)) (broadcastInDim S4096x512 ![0] bcast_S4096_S4096x512_0 (Host.reduceAdd (Host.divf (addf (shapeCast _ (Host.reduceAdd (Host.negf (nrT x d)) (constant S_ .f32 0x00000000#32) reducesTo_S4096x512_S4096_d1 h_S_) shapeCasts_S4096_S4096x1) (shapeCast _ (Host.reduceAdd (Host.negf (nvT x d)) (constant S_ .f32 0x00000000#32) reducesTo_S4096x512_S4096_d1 h_S_) shapeCasts_S4096_S4096x1)) (broadcastInDim S4096x1 ![] bcast_S_S4096x1 (constant S_ .f32 0x44000000#32))) (constant S_ .f32 0x00000000#32) reducesTo_S4096x1_S4096_d1 h_S_))

section
variable (x d : Half) (i : Fin 4096) (k : Fin 512)

theorem muT_at : muT x (ix2 i 0) = muE d512 fun l => x (ix2 i l) := by pointwise [muT, muE]
theorem xcT_at : xcT x (ix2 i k) = xcE d512 (fun l => x (ix2 i l)) k := by pointwise [xcT, xcE]; rw [muT_at]
theorem veT_at : veT x (ix2 i 0) = veE d512 fun l => x (ix2 i l) := by pointwise [veT, veE]; simp only [xcT_at]
theorem xhT_at : xhT x (ix2 i k) = xhE d512 (fun l => x (ix2 i l)) k := by pointwise [xhT, xhE, rsE]; rw [xcT_at, veT_at]
theorem rowT_at (g : FVec Ideal S512 .f32) : rowT g (ix2 i k) = g (ix1 k) := by pointwise [rowT]
theorem nrT_at : nrT x d (ix2 i k) = d (ix2 i k) * rsE d512 fun l => x (ix2 i l) := by pointwise [nrT, rsE]; rw [veT_at]
theorem nvT_at : nvT x d (ix2 i k) = vgE d512 (fun l => x (ix2 i l)) (fun l => d (ix2 i l))
    * (Ideal.ofBits .f32 0x40000000#32 * xcE d512 (fun l => x (ix2 i l)) k) := by
  pointwise [nvT, vgE, rsE, kT]
  simp only [Fin.sum_univ_one, xcT_at, veT_at]
theorem lnbT_at : lnbT x d (ix2 i k) = lnbChain d512 (fun l => x (ix2 i l)) (fun l => d (ix2 i l)) k := by
  pointwise [lnbT, lnbChain]
  simp only [Fin.sum_univ_one, nrT_at, nvT_at]
end

/-! ## The normalisation of each head's row of 128 -/

abbrev d128 : EReal := Ideal.ofBits .f32 0x43000000#32

def muH (x : Heads) : FVec Ideal S4096x4x1 .f32 :=
  Host.divf (broadcastInDim S4096x4x1 ![0, 1] bcast_S4096x4_S4096x4x1_0_1 (Host.reduceAdd x (constant S_ .f32 0x00000000#32) reducesTo_S4096x4x128_S4096x4_d2 h_S_))
    (broadcastInDim S4096x4x1 ![] bcast_S_S4096x4x1 (constant S_ .f32 0x43000000#32))
def xcH (x : Heads) : Heads := subf x (broadcastInDim S4096x4x128 ![0, 1, 2] bcast_S4096x4x1_S4096x4x128_0_1_2 (muH x))
def veH (x : Heads) : FVec Ideal S4096x4x1 .f32 :=
  addf (Host.divf (broadcastInDim S4096x4x1 ![0, 1] bcast_S4096x4_S4096x4x1_0_1 (Host.reduceAdd (mulf (xcH x) (xcH x)) (constant S_ .f32 0x00000000#32) reducesTo_S4096x4x128_S4096x4_d2 h_S_))
    (broadcastInDim S4096x4x1 ![] bcast_S_S4096x4x1 (constant S_ .f32 0x43000000#32))) (broadcastInDim S4096x4x1 ![] bcast_S_S4096x4x1 (constant S_ .f32 0x358637BD#32))
def xhH (x : Heads) : Heads := mulf (xcH x) (broadcastInDim S4096x4x128 ![0, 1, 2] bcast_S4096x4x1_S4096x4x128_0_1_2 (Host.rsqrt (veH x)))
def rowH (g : FVec Ideal S512 .f32) : Heads :=
  broadcastInDim S4096x4x128 ![0, 1, 2] bcast_S1x4x128_S4096x4x128_0_1_2 (broadcastInDim S1x4x128 ![1, 2] bcast_S4x128_S1x4x128_1_2 (shapeCast _ g shapeCasts_S512_S4x128))
def zH (x : Heads) (g b : FVec Ideal S512 .f32) : Heads := addf (mulf (xhH x) (rowH g)) (rowH b)
def oneH : Heads := broadcastInDim S4096x4x128 ![] bcast_S_S4096x4x128 (constant S_ .f32 0x3F800000#32)
def sgH (z : Heads) : Heads := Host.divf oneH (addf oneH (Host.exp (Host.negf z)))
/-- The gradient through the swish. -/
def dsH (z d : Heads) : Heads := addf (mulf d (sgH z)) (mulf (mulf z d) (mulf (sgH z) (subf oneH (sgH z))))
def nrH (x d : Heads) : Heads := mulf d (broadcastInDim S4096x4x128 ![0, 1, 2] bcast_S4096x4x1_S4096x4x128_0_1_2 (Host.rsqrt (veH x)))
def nvH (x d : Heads) : Heads :=
  mulf (broadcastInDim S4096x4x128 ![0, 1] bcast_S4096x4_S4096x4x128_0_1 (Host.reduceAdd (Host.divf (mulf (shapeCast _ (Host.reduceAdd (mulf (xcH x) d) (constant S_ .f32 0x00000000#32) reducesTo_S4096x4x128_S4096x4_d2 h_S_) shapeCasts_S4096x4_S4096x4x1) (mulf (broadcastInDim S4096x4x1 ![] bcast_S_S4096x4x1 (constant S_ .f32 0xBF000000#32)) (Host.divf (Host.rsqrt (veH x)) (veH x)))) (broadcastInDim S4096x4x1 ![] bcast_S_S4096x4x1 (constant S_ .f32 0x43000000#32))) (constant S_ .f32 0x00000000#32) reducesTo_S4096x4x1_S4096x4_d2 h_S_))
    (mulf (broadcastInDim S4096x4x128 ![] bcast_S_S4096x4x128 (constant S_ .f32 0x40000000#32)) (xcH x))
def lnbH (x d : Heads) : Heads :=
  addf (addf (nrH x d) (nvH x d)) (broadcastInDim S4096x4x128 ![0, 1] bcast_S4096x4_S4096x4x128_0_1 (Host.reduceAdd (Host.divf (addf (shapeCast _ (Host.reduceAdd (Host.negf (nrH x d)) (constant S_ .f32 0x00000000#32) reducesTo_S4096x4x128_S4096x4_d2 h_S_) shapeCasts_S4096x4_S4096x4x1) (shapeCast _ (Host.reduceAdd (Host.negf (nvH x d)) (constant S_ .f32 0x00000000#32) reducesTo_S4096x4x128_S4096x4_d2 h_S_) shapeCasts_S4096x4_S4096x4x1)) (broadcastInDim S4096x4x1 ![] bcast_S_S4096x4x1 (constant S_ .f32 0x43000000#32))) (constant S_ .f32 0x00000000#32) reducesTo_S4096x4x1_S4096x4_d2 h_S_))

section
variable (x d : Heads) (i : Fin 4096) (h : Fin 4) (j : Fin 128)

theorem muH_at : muH x (ix3 i h 0) = muE d128 fun l => x (ix3 i h l) := by pointwise [muH, muE]
theorem xcH_at : xcH x (ix3 i h j) = xcE d128 (fun l => x (ix3 i h l)) j := by pointwise [xcH, xcE]; rw [muH_at]
theorem veH_at : veH x (ix3 i h 0) = veE d128 fun l => x (ix3 i h l) := by pointwise [veH, veE]; simp only [xcH_at]
theorem xhH_at : xhH x (ix3 i h j) = xhE d128 (fun l => x (ix3 i h l)) j := by pointwise [xhH, xhE, rsE]; rw [xcH_at, veH_at]
theorem rowH_at (g : FVec Ideal S512 .f32) : rowH g (ix3 i h j) = g (ix1 (hc h j)) := by
  pointwise [rowH]
  exact congrArg g (congrArg ix1 (Fin.ext (by simp only [hc]; omega)))
theorem dsH_at (z d : Heads) (r : ℝ) (hd : d (ix3 i h j) = (r : EReal)) : dsH z d (ix3 i h j) = ((r * dsiluR (z (ix3 i h j)) : ℝ) : EReal) := by
  pointwise [dsH, sgH, oneH]
  rw [hd]
  refine Eq.trans ?_ (dsilu_ref _ _)
  simp only [sgE, ofBits_one, EReal.coe_one]
theorem nrH_at : nrH x d (ix3 i h j) = d (ix3 i h j) * rsE d128 fun l => x (ix3 i h l) := by pointwise [nrH, rsE]; rw [veH_at]
theorem nvH_at : nvH x d (ix3 i h j) = vgE d128 (fun l => x (ix3 i h l)) (fun l => d (ix3 i h l))
    * (Ideal.ofBits .f32 0x40000000#32 * xcE d128 (fun l => x (ix3 i h l)) j) := by
  pointwise [nvH, vgE, rsE]
  simp only [Fin.sum_univ_one, xcH_at, veH_at]
theorem lnbH_at : lnbH x d (ix3 i h j) = lnbChain d128 (fun l => x (ix3 i h l)) (fun l => d (ix3 i h l)) j := by
  pointwise [lnbH, lnbChain]
  simp only [Fin.sum_univ_one, nrH_at, nvH_at]
end

/-! ## The causal mask and the spatial mixing -/

/-- The lower triangle. -/
def trilT : FVec Ideal S1x128x128 .f32 :=
  broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))
def maskT (w : FVec Ideal S4x128x128 .f32) : FVec Ideal S4x128x128 .f32 :=
  mulf w (broadcastInDim S4x128x128 ![0, 1, 2] bcast_S1x128x128_S4x128x128_0_1_2 trilT)
/-- The half cut into chunks and heads. -/
def cutT (x : Half) : FVec Ideal S32x128x4x128 .f32 := shapeCast _ x shapeCasts_S4096x512_S32x128x4x128
def mixedT (v : Half) (w : FVec Ideal S4x128x128 .f32) (b : FVec Ideal S4x128 .f32) : Half :=
  shapeCast _ (addf (transpose S32x128x4x128 [1, 3, 0, 2] (Host.dotGeneral dot_S32x128x4x128_S4x128x128_S4x32x128x128_1_2_03_1_2_0 none (cutT v) (maskT w)) transposes_S4x32x128x128_S32x128x4x128_1_3_0_2) (broadcastInDim S32x128x4x128 ![0, 1, 2, 3] bcast_S1x128x4x1_S32x128x4x128_0_1_2_3 (broadcastInDim S1x128x4x1 ![1, 2] bcast_S128x4_S1x128x4x1_1_2 (transpose S128x4 [1, 0] b transposes_S4x128_S128x4_1_0)))) shapeCasts_S32x128x4x128_S4096x512
def turnT (x : Half) : FVec Ideal S4x32x128x128 .f32 := transpose S4x32x128x128 [2, 0, 3, 1] (cutT x) transposes_S32x128x4x128_S4x32x128x128_2_0_3_1
def dvT (x : Half) (w : FVec Ideal S4x128x128 .f32) : Half :=
  shapeCast _ (transpose S32x128x4x128 [1, 3, 0, 2] (Host.dotGeneral dot_S4x32x128x128_S4x128x128_S4x32x128x128_3_1_12_2_0_0 none (turnT x) (maskT w)) transposes_S4x32x128x128_S32x128x4x128_1_3_0_2) shapeCasts_S32x128x4x128_S4096x512
def dwT (x v : Half) : FVec Ideal S4x128x128 .f32 :=
  mulf (Host.dotGeneral dot_S4x32x128x128_S32x128x4x128_S4x128x128_12_03_3_1_0_2 none (turnT x) (cutT v)) (broadcastInDim S4x128x128 ![0, 1, 2] bcast_S1x128x128_S4x128x128_0_1_2 trilT)
def dbsT (x : Half) : FVec Ideal S4x128 .f32 :=
  transpose S4x128 [1, 0] (Host.reduceAdd (shapeCast _ (Host.reduceAdd (cutT x) (constant S_ .f32 0x00000000#32) reducesTo_S32x128x4x128_S128x4_d0_3 h_S_) shapeCasts_S128x4_S1x128x4x1) (constant S_ .f32 0x00000000#32) reducesTo_S1x128x4x1_S128x4_d0_3 h_S_) transposes_S128x4_S4x128_1_0

/-- The host's sum over the first and the last of four axes. -/
theorem sum_ends {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (a : Fin n1) (b : Fin n2) :
    Ideal.hostReduceAdd h v init (ix2 a b) = init + ∑ k : Fin n0, ∑ l : Fin n3, v (ix4 k a b l) := by
  refine congrArg (init + ·) ((Finset.sum_filter_eq_sum_of_fiber _ (fun k : Fin n0 × Fin n3 => ix4 k.1 a b k.2)
    (fun _ _ e => Prod.ext (congrFun e 0) (congrFun e 3)) (fun i => ⟨fun e => ⟨(i 0, i 3), ?_⟩, ?_⟩) v).trans ?_)
  · funext x; apply Fin.ext
    match x with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext x; apply Fin.ext
    match x with
    | ⟨0, _⟩ => rfl
    | ⟨1, _⟩ => rfl
  · simp only [Fintype.sum_prod_type]

theorem trilT_at (t s : Fin 128) : trilT (ix3 0 t s) = if s ≤ t then ((1 : ℝ) : EReal) else 0 := by
  pointwise [trilT]
  rw [show IntOp.addi (BitVec.ofNat 32 t.val) 0#32 = BitVec.ofNat 32 t.val from BitVec.add_zero _,
    mask_word, EReal.coe_one]
theorem cutT_at (x : Half) (n : Fin 32) (s : Fin 128) (h : Fin 4) (j : Fin 128) : cutT x (ix4 n s h j) = x (ix2 (tk n s) (hc h j)) := by
  pointwise [cutT]
  exact congrArg x (congrArg₂ ix2 (Fin.ext (by simp only [tk]; omega)) (Fin.ext (by simp only [hc]; omega)))
theorem turnT_at (x : Half) (n : Fin 32) (s : Fin 128) (h : Fin 4) (j : Fin 128) : turnT x (ix4 h n j s) = x (ix2 (tk n s) (hc h j)) := by
  pointwise [turnT]
  rw [cutT_at]
theorem mixedT_at (v : Half) (w : FVec Ideal S4x128x128 .f32) (b : FVec Ideal S4x128 .f32) (i : Fin 4096) (k : Fin 512) :
    mixedT v w b (ix2 i k) = (∑ s, maskT w (ix3 (hd k) (ps i) s) * v (ix2 (tk (ch i) s) k)) + b (ix2 (hd k) (ps i)) := by
  pointwise [mixedT]
  refine congrArg₂ (· + ·) (Finset.sum_congr rfl fun s _ => ?_) rfl
  rw [cutT_at, mul_comm]
  exact congrArg₂ (· * ·) rfl (congrArg v (congrArg₂ ix2 rfl (hc_hd k)))
theorem dvT_at (x : Half) (w : FVec Ideal S4x128x128 .f32) (i : Fin 4096) (k : Fin 512) :
    dvT x w (ix2 i k) = ∑ t, maskT w (ix3 (hd k) t (ps i)) * x (ix2 (tk (ch i) t) k) := by
  pointwise [dvT]
  refine Finset.sum_congr rfl fun t _ => ?_
  rw [turnT_at, mul_comm]
  exact congrArg₂ (· * ·) rfl (congrArg x (congrArg₂ ix2 rfl (hc_hd k)))
theorem dwT_at (x v : Half) (h : Fin 4) (t s : Fin 128) :
    dwT x v (ix3 h t s) = (∑ n, ∑ j, x (ix2 (tk n t) (hc h j)) * v (ix2 (tk n s) (hc h j))) * trilT (ix3 0 t s) := by
  pointwise [dwT]
  simp only [turnT_at, cutT_at]
theorem dbsT_at (x : Half) (h : Fin 4) (t : Fin 128) : dbsT x (ix2 h t) = ∑ j, ∑ n, x (ix2 (tk n t) (hc h j)) := by
  pointwise [dbsT]
  rw [sum_ends, Fin.sum_univ_one, Fin.sum_univ_one, zero_add]
  pointwise []
  rw [sum_ends, Finset.sum_comm, zero_add]
  simp only [cutT_at]

/-! ## The inputs: the projection and the causal convolution -/

def projT (x : FVec Ideal S4096x1024 .f32) (g : FVec Ideal S1024 .f32) (w : FVec Ideal S1024x2048 .f32) : FVec Ideal S4096x2048 .f32 :=
  Host.dotGeneral dot_S4096x1024_S1024x2048_S4096x2048_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) w
/-- The row that tap `k` of row `t` reads. -/
def tapsT : IVec S4096x31 32 := addi (iotaInDim S4096x31 32 0) (iotaInDim S4096x31 32 1)
/-- The convolution of the gated half, the bias added. -/
def convT (p : FVec Ideal S4096x2048 .f32) (w : FVec Ideal S31x512 .f32) (b : FVec Ideal S512 .f32) : Half :=
  (addf (Host.reduceAdd (mulf (broadcastInDim S4096x31x512 ![0, 1, 2] bcast_S1x31x512_S4096x31x512_0_1_2 (broadcastInDim S1x31x512 ![1, 2] bcast_S31x512_S1x31x512_1_2 w)) (Host.gather gather_S4126x512_S4096x31x1_S4096x31x512_2_0_n_n_0_2_1512 (pad S4126x512 ![30, 0] ![0, 0] ![0, 0] (mulf (extractStridedSlice S4096x512 ![0, 1024] p slices_S4096x2048_S4096x512_0_1024) (Host.divf (broadcastInDim S4096x512 ![] bcast_S_S4096x512 (constant S_ .f32 0x3F800000#32)) (addf (broadcastInDim S4096x512 ![] bcast_S_S4096x512 (constant S_ .f32 0x3F800000#32)) (Host.exp (Host.negf (extractStridedSlice S4096x512 ![0, 1536] p slices_S4096x2048_S4096x512_0_1536)))))) (sitofp .f32 (constantI S_ 32 0#32)) pads_S4096x512_S4126x512_3000_000 h_S_) (broadcastInDim S4096x31x1 ![0, 1] bcast_S4096x31_S4096x31x1_0_1 (select (cmpi .slt tapsT (broadcastInDim S4096x31 ![] bcast_S_S4096x31 (constantI S_ 32 0#32))) (addi tapsT (broadcastInDim S4096x31 ![] bcast_S_S4096x31 (constantI S_ 32 4126#32))) tapsT)))) (constant S_ .f32 0x00000000#32) reducesTo_S4096x31x512_S4096x512_d1 h_S_) (broadcastInDim S4096x512 ![0, 1] bcast_S1x512_S4096x512_0_1 (broadcastInDim S1x512 ![1] bcast_S512_S1x512_1 b)))

/-! ## The results in stages -/

def uT (p : FVec Ideal S4096x2048 .f32) : Half :=
  extractStridedSlice S4096x512 ![0, 0] (extractStridedSlice S4096x1024 ![0, 0] p slices_S4096x2048_S4096x1024_0_0) slices_S4096x1024_S4096x512_0_0
def vT (p : FVec Ideal S4096x2048 .f32) : Half :=
  extractStridedSlice S4096x512 ![0, 512] (extractStridedSlice S4096x1024 ![0, 0] p slices_S4096x2048_S4096x1024_0_0) slices_S4096x1024_S4096x512_0_512
def headsT (x : Half) : Heads := shapeCast _ x shapeCasts_S4096x512_S4096x4x128
def flatT (x : Heads) : Half := shapeCast _ x shapeCasts_S4096x4x128_S4096x512
/-- The cotangent of the concatenated halves, and its two halves. -/
def dmixT (ct : FVec Ideal S4096x1024 .f32) (wo : FVec Ideal S1024x1024 .f32) : FVec Ideal S4096x1024 .f32 :=
  Host.dotGeneral dot_S4096x1024_S1024x1024_S4096x1024_1_1_0_0_n_n none ct wo
def daT (d : FVec Ideal S4096x1024 .f32) : Half := extractStridedSlice S4096x512 ![0, 0] d slices_S4096x1024_S4096x512_0_0
def dzT (d : FVec Ideal S4096x1024 .f32) : Half := extractStridedSlice S4096x512 ![0, 512] d slices_S4096x1024_S4096x512_0_512
/-- The concatenated halves. -/
def mixT (p : FVec Ideal S4096x2048 .f32) (v : Half) (lg lb : FVec Ideal S512 .f32) (w : FVec Ideal S4x128x128 .f32)
    (bs : FVec Ideal S4x128 .f32) (clg clb : FVec Ideal S512 .f32) : FVec Ideal S4096x1024 .f32 :=
  let z : Heads := zH (headsT v) clg clb
  concatenate S4096x1024 1 [⟨S4096x512, mulf (geluT (uT p)) (mixedT (vnT (geluT (vT p)) lg lb) w bs)⟩, ⟨S4096x512, flatT (mulf z (sgH z))⟩]
    concatenates_S4096x512_S4096x512_S4096x1024_d1
/-- The two halves' gradients side by side. -/
def sideT (a b : Half) : FVec Ideal S4096x1024 .f32 :=
  addf (pad S4096x1024 ![0, 512] ![0, 0] ![0, 0] b (constant S_ .f32 0x00000000#32) pads_S4096x512_S4096x1024_000_51200 h_S_)
    (pad S4096x1024 ![0, 0] ![0, 512] ![0, 0] a (constant S_ .f32 0x00000000#32) pads_S4096x512_S4096x1024_000_05120 h_S_)
/-- The sum over the rows. -/
def colsT (x : Half) : FVec Ideal S1x512 .f32 :=
  shapeCast _ (Host.reduceAdd (shapeCast _ (Host.reduceAdd x (constant S_ .f32 0x00000000#32) reducesTo_S4096x512_S512_d0 h_S_) shapeCasts_S512_S1x512) (constant S_ .f32 0x00000000#32) reducesTo_S1x512_S512_d0 h_S_) shapeCasts_S512_S1x512
def colsH (x : Heads) : FVec Ideal S1x512 .f32 :=
  shapeCast _ (shapeCast _ (Host.reduceAdd (shapeCast _ (Host.reduceAdd x (constant S_ .f32 0x00000000#32) reducesTo_S4096x4x128_S4x128_d0 h_S_) shapeCasts_S4x128_S1x4x128) (constant S_ .f32 0x00000000#32) reducesTo_S1x4x128_S4x128_d0 h_S_) shapeCasts_S4x128_S512) shapeCasts_S512_S1x512
/-- The output projection's gradient. -/
def dwoT (ct x : FVec Ideal S4096x1024 .f32) : FVec Ideal S1024x1024 .f32 :=
  transpose S1024x1024 [1, 0] (Host.dotGeneral dot_S4096x1024_S4096x1024_S1024x1024_0_0_1_1_n_n none ct x) transposes_S1024x1024_S1024x1024_1_0

theorem uT_at (p : FVec Ideal S4096x2048 .f32) (i : Fin 4096) (k : Fin 512) : uT p (ix2 i k) = p (ix2 i (pc 0 k)) := by
  pointwise [uT]
  exact congrArg p (congrArg (ix2 i) (Fin.ext (by simp [pc])))
theorem vT_at (p : FVec Ideal S4096x2048 .f32) (i : Fin 4096) (k : Fin 512) : vT p (ix2 i k) = p (ix2 i (pc 1 k)) := by
  pointwise [vT]
  exact congrArg p (congrArg (ix2 i) (Fin.ext (by simp [pc]; try omega)))
theorem headsT_at (x : Half) (i : Fin 4096) (h : Fin 4) (j : Fin 128) : headsT x (ix3 i h j) = x (ix2 i (hc h j)) := by
  pointwise [headsT]
  exact congrArg x (congrArg (ix2 i) (Fin.ext (by simp only [hc]; omega)))
theorem flatT_at (x : Heads) (i : Fin 4096) (k : Fin 512) : flatT x (ix2 i k) = x (ix3 i (hd k) (cl k)) := by
  pointwise [flatT]
  rfl
theorem daT_at (ct : FVec Ideal S4096x1024 .f32) (wo : FVec Ideal S1024x1024 .f32) (i : Fin 4096) (k : Fin 512) :
    daT (dmixT ct wo) (ix2 i k) = ∑ l, ct (ix2 i l) * wo (ix2 (lo k) l) := by
  pointwise [daT, dmixT]
  rfl
theorem dzT_at (ct : FVec Ideal S4096x1024 .f32) (wo : FVec Ideal S1024x1024 .f32) (i : Fin 4096) (k : Fin 512) :
    dzT (dmixT ct wo) (ix2 i k) = ∑ l, ct (ix2 i l) * wo (ix2 (hi k) l) := by
  pointwise [dzT, dmixT]
  rfl
theorem colsT_at (x : Half) (k : Fin 512) : colsT x (ix2 0 k) = ∑ i, x (ix2 i k) := by
  pointwise [colsT]
  rw [Fin.sum_univ_one]
theorem colsH_at (x : Heads) (k : Fin 512) : colsH x (ix2 0 k) = ∑ i, x (ix3 i (hd k) (cl k)) := by
  pointwise [colsH]
  rw [Fin.sum_univ_one]
  rfl
theorem sideT_lo (a b : Half) (i : Fin 4096) (k : Fin 512) : sideT a b (ix2 i (lo k)) = a (ix2 i k) := by
  pointwise [sideT, lo]
  rw [dif_neg (fun h => h.1), zero_add]
theorem sideT_hi (a b : Half) (i : Fin 4096) (k : Fin 512) : sideT a b (ix2 i (hi k)) = b (ix2 i k) := by
  pointwise [sideT, hi]
theorem dwoT_at (ct x : FVec Ideal S4096x1024 .f32) (k l : Fin 1024) : dwoT ct x (ix2 k l) = ∑ i, x (ix2 i k) * ct (ix2 i l) := by
  pointwise [dwoT]
  exact Finset.sum_congr rfl fun i _ => mul_comm _ _

end Cert.Reference3Ideal.Mix

end
-- ==== Proof.MixEntry.lean ====
/- What the region of the mixer's backward call reads: the host's projection, convolution, forward value and the arguments. -/
module

public import proofs.«01_k».proof.Proof.MixBlock
public import proofs.«01_k».proof.Proof.RefMixOps
public import proofs.«01_k».proof.Proof.Gen.Kernel3Ideal.Frame.Runs
public import Idealize.ShloMosaic.Lib.Pipeline.ValueKit
public import Idealize.ShloMosaic.Lib.Pointwise

@[expose] public section

set_option maxRecDepth 16384
set_option maxHeartbeats 4000000

noncomputable section

namespace Cert.Kernel3Ideal.Mix

open Idealize.ShloMosaic Idealize.ShloMosaic.TcCoe Idealize.SL.Sem
open Idealize.ShloMosaic.Pipeline (Dat)
open Cert.Kernel3Ideal Cert.Kernel3Ideal.Gen Cert.Ereal Cert.MixMath
open Cert.Reference3Ideal.Mix (projT convT mixT)

variable (m : (ℓ : Loc nD τ sig) → Buf (Elt Ideal) ℓ)

/-- The thirteen arguments. -/
abbrev X (c : Dev nD) : FVec Ideal S4096x1024 .f32 := m ((c : Thread nD τ).loc main_arg0)
abbrev N1 (c : Dev nD) : FVec Ideal S1024 .f32 := m ((c : Thread nD τ).loc main_arg1)
abbrev WI (c : Dev nD) : FVec Ideal S1024x2048 .f32 := m ((c : Thread nD τ).loc main_arg2)
abbrev LG (c : Dev nD) : FVec Ideal S512 .f32 := m ((c : Thread nD τ).loc main_arg3)
abbrev LB (c : Dev nD) : FVec Ideal S512 .f32 := m ((c : Thread nD τ).loc main_arg4)
abbrev W (c : Dev nD) : FVec Ideal S4x128x128 .f32 := m ((c : Thread nD τ).loc main_arg5)
abbrev BS (c : Dev nD) : FVec Ideal S4x128 .f32 := m ((c : Thread nD τ).loc main_arg6)
abbrev CW (c : Dev nD) : FVec Ideal S31x512 .f32 := m ((c : Thread nD τ).loc main_arg7)
abbrev CB (c : Dev nD) : FVec Ideal S512 .f32 := m ((c : Thread nD τ).loc main_arg8)
abbrev CLG (c : Dev nD) : FVec Ideal S512 .f32 := m ((c : Thread nD τ).loc main_arg9)
abbrev CLB (c : Dev nD) : FVec Ideal S512 .f32 := m ((c : Thread nD τ).loc main_arg10)
abbrev WO (c : Dev nD) : FVec Ideal S1024x1024 .f32 := m ((c : Thread nD τ).loc main_arg11)
abbrev CT (c : Dev nD) : FVec Ideal S4096x1024 .f32 := m ((c : Thread nD τ).loc main_arg12)

/-- The projection, the convolution and the mixer's output. -/
abbrev PJ (c : Dev nD) : FVec Ideal S4096x2048 .f32 := projT (X m c) (N1 m c) (WI m c)
abbrev CV (c : Dev nD) : FVec Ideal S4096x512 .f32 := convT (PJ m c) (CW m c) (CB m c)
abbrev MIX (c : Dev nD) : FVec Ideal S4096x1024 .f32 := mixT (PJ m c) (CV m c) (LG m c) (LB m c) (W m c) (BS m c) (CLG m c) (CLB m c)

/-! ## What the region finds -/

theorem pj_read (c : Dev nD) : (show FVec Ideal S4096x2048 .f32 from V m c main_v13) = PJ m c := by
  simp only [V, hostOps0, hostOps0_1, hostOps0_2, hostOps0_3, hostOps0_4, hostOps0_5, hostOps0_6, List.flatten_cons, List.flatten_nil, List.append_nil, List.cons_append, List.nil_append]
  entry_read
  rfl

theorem cv_read (c : Dev nD) : (show FVec Ideal S4096x512 .f32 from V m c main_v40) = CV m c := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  rfl

/-- The two halves of the gated projection are its columns below 512 and from 512 to 1024. -/
theorem uT_eq (p : FVec Ideal S4096x2048 .f32) : Cert.Reference3Ideal.Mix.uT p = extractStridedSlice S4096x512 ![0, 0] p slices_S4096x2048_S4096x512_0_0 := by
  funext j
  rw [eq_ix2 j]
  pointwise [Cert.Reference3Ideal.Mix.uT]
theorem vT_eq (p : FVec Ideal S4096x2048 .f32) : Cert.Reference3Ideal.Mix.vT p = extractStridedSlice S4096x512 ![0, 512] p slices_S4096x2048_S4096x512_0_512 := by
  funext j
  rw [eq_ix2 j]
  pointwise [Cert.Reference3Ideal.Mix.vT]

theorem mix_read (c : Dev nD) : (show FVec Ideal S4096x1024 .bf16 from V m c main_v131) = truncf (F := Ideal) .bf16 (MIX m c) bitsLt_bf16_f32 := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  unfold MIX mixT
  rw [uT_eq, vT_eq]
  rfl

theorem ct_read (c : Dev nD) (i : Fin 4096) (j : Fin 1024) :
    (show FVec Ideal S4096x1024 .bf16 from V m c main_v132) (ix2 i j) = CT m c (ix2 i j) := by
  simp only [V, hostOps0, hostOps0_1, hostOps0_2, hostOps0_3, hostOps0_4, hostOps0_5, hostOps0_6, List.flatten_cons, List.flatten_nil, List.append_nil, List.cons_append, List.nil_append]
  entry_read
  pointwise

theorem wo_read (c : Dev nD) (i : Fin 1024) (j : Fin 1024) :
    (show FVec Ideal S1024x1024 .bf16 from V m c main_v133) (ix2 i j) = WO m c (ix2 i j) := by
  simp only [V, hostOps0, hostOps0_1, hostOps0_2, hostOps0_3, hostOps0_4, hostOps0_5, hostOps0_6, List.flatten_cons, List.flatten_nil, List.append_nil, List.cons_append, List.nil_append]
  entry_read
  pointwise

theorem bs_read (c : Dev nD) (r : Fin 128) (h : Fin 4) :
    (show FVec Ideal S128x4 .f32 from V m c main_v136) (ix2 r h) = BS m c (ix2 h r) := by
  simp only [V, hostOps0, hostOps0_1, hostOps0_2, hostOps0_3, hostOps0_4, hostOps0_5, hostOps0_6, List.flatten_cons, List.flatten_nil, List.append_nil, List.cons_append, List.nil_append]
  entry_read
  pointwise

theorem rows_read (c : Dev nD) (k : Fin 512) :
    (show FVec Ideal S1x512 .f32 from V m c main_v134) (ix2 0 k) = LG m c (ix1 k)
    ∧ (show FVec Ideal S1x512 .f32 from V m c main_v135) (ix2 0 k) = LB m c (ix1 k)
    ∧ (show FVec Ideal S1x512 .f32 from V m c main_v137) (ix2 0 k) = CLG m c (ix1 k)
    ∧ (show FVec Ideal S1x512 .f32 from V m c main_v138) (ix2 0 k) = CLB m c (ix1 k) := by
  refine ⟨?_, ?_, ?_, ?_⟩
  all_goals
    simp only [V, hostOps0, hostOps0_1, hostOps0_2, hostOps0_3, hostOps0_4, hostOps0_5, hostOps0_6, List.flatten_cons, List.flatten_nil, List.append_nil, List.cons_append, List.nil_append]
    entry_read
    pointwise

end Cert.Kernel3Ideal.Mix

end
-- ==== Proof.MixBlocks.lean ====
/- A grid point's blocks of the mixer's backward call hold the reals of its inputs. -/
module

public import proofs.«01_k».proof.Proof.MixEntry

@[expose] public section

set_option maxRecDepth 16384
set_option maxHeartbeats 1000000

noncomputable section

namespace Cert.Kernel3Ideal.Mix

open Idealize.ShloMosaic Idealize.ShloMosaic.TcCoe Idealize.SL.Sem
open Idealize.ShloMosaic.Pipeline (Dat)
open Cert.Kernel3Ideal Cert.Kernel3Ideal.Gen Cert.Ereal Cert.MixMath

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![0, 0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ t.val < 8 :=
  (by decide +kernel : ∀ t : Fin grid0.N, _)

/-- The grid point as a number below eight. -/
def pt (t : Fin cfg0.N) : Fin 8 := ⟨t.val, (idx t).2.2.2.2.2.2.2.2.2.2.2.2.2⟩

/-! ## The blocks and their parts -/

abbrev CTb (c : Dev nD) (t : Fin cfg0.N) : FVec Ideal S512x1024 .bf16 := iblk m c 0 t
abbrev WOb (c : Dev nD) (t : Fin cfg0.N) : FVec Ideal S1024x1024 .bf16 := iblk m c 1 t
abbrev PJb (c : Dev nD) (t : Fin cfg0.N) : FVec Ideal S512x2048 .f32 := iblk m c 2 t
abbrev CVb (c : Dev nD) (t : Fin cfg0.N) : Sq := iblk m c 3 t
abbrev LGb (c : Dev nD) (t : Fin cfg0.N) : FVec Ideal S1x512 .f32 := iblk m c 4 t
abbrev LBb (c : Dev nD) (t : Fin cfg0.N) : FVec Ideal S1x512 .f32 := iblk m c 5 t
abbrev Wb (c : Dev nD) (t : Fin cfg0.N) : FVec Ideal S4x128x128 .f32 := iblk m c 6 t
abbrev BSb (c : Dev nD) (t : Fin cfg0.N) : FVec Ideal S128x4 .f32 := iblk m c 7 t
abbrev CLGb (c : Dev nD) (t : Fin cfg0.N) : FVec Ideal S1x512 .f32 := iblk m c 8 t
abbrev CLBb (c : Dev nD) (t : Fin cfg0.N) : FVec Ideal S1x512 .f32 := iblk m c 9 t
abbrev MXb (c : Dev nD) (t : Fin cfg0.N) : FVec Ideal S512x1024 .bf16 := iblk m c 10 t

/-- The projection's first and second 512 columns. -/
abbrev uP (x : FVec Ideal S512x2048 .f32) : Sq :=
  View.ld (Val := Elt Ideal) (S := S512x2048) (e' := .f32) x (Rect.unit ![0, 0] ![512, 512] inb_S512x2048_S512x512_0_0)
abbrev vP (x : FVec Ideal S512x2048 .f32) : Sq :=
  View.ld (Val := Elt Ideal) (S := S512x2048) (e' := .f32) x (Rect.unit ![0, 512] ![512, 512] inb_S512x2048_S512x512_0_512)
/-- A head's weight, bias column, convolution strip and strip of a row. -/
def wP (x : FVec Ideal S4x128x128 .f32) (h : Fin 4) : FVec Ideal S1x128x128 .f32 :=
  View.ld (Val := Elt Ideal) (S := S4x128x128) (e' := .f32) x (Rect.unit ![h.val, 0, 0] ![1, 128, 128] (by revert h; decide))
def bP (x : FVec Ideal S128x4 .f32) (h : Fin 4) : FVec Ideal S128x1 .f32 :=
  View.ld (Val := Elt Ideal) (S := S128x4) (e' := .f32) x (Rect.unit ![0, h.val] ![128, 1] (by revert h; decide))
def cP (x : Sq) (h : Fin 4) : Strip :=
  View.ld (Val := Elt Ideal) (S := S512x512) (e' := .f32) x (Rect.unit ![0, h.val * 128] ![512, 128] (by revert h; decide))
def rP (x : FVec Ideal S1x512 .f32) (h : Fin 4) : FVec Ideal S1x128 .f32 :=
  View.ld (Val := Elt Ideal) (S := S1x512) (e' := .f32) x (Rect.unit ![0, h.val * 128] ![1, 128] (by revert h; decide))

theorem uP_at (x : FVec Ideal S512x2048 .f32) (p k : Fin 512) : uP x (ix2 p k) = x (ix2 p (pc 0 k)) := by
  refine View.ld_unit_apply_of (Val := Elt Ideal) (e := .f32) x _ _ _ (ix2 p k) (ix2 p (pc 0 k)) fun a => ?_
  fin_cases a <;> simp [pc, ix2]
theorem vP_at (x : FVec Ideal S512x2048 .f32) (p k : Fin 512) : vP x (ix2 p k) = x (ix2 p (pc 1 k)) := by
  refine View.ld_unit_apply_of (Val := Elt Ideal) (e := .f32) x _ _ _ (ix2 p k) (ix2 p (pc 1 k)) fun a => ?_
  fin_cases a <;> simp [pc, ix2]
theorem wP_at (x : FVec Ideal S4x128x128 .f32) (h : Fin 4) (r s : Fin 128) : wP x h (ix3 0 r s) = x (ix3 h r s) := by
  unfold wP
  refine View.ld_unit_apply_of (Val := Elt Ideal) (e := .f32) x _ _ _ (ix3 0 r s) (ix3 h r s) fun a => ?_
  fin_cases a <;> simp [ix3]
theorem bP_at (x : FVec Ideal S128x4 .f32) (h : Fin 4) (r : Fin 128) : bP x h (ix2 r 0) = x (ix2 r h) := by
  unfold bP
  refine View.ld_unit_apply_of (Val := Elt Ideal) (e := .f32) x _ _ _ (ix2 r 0) (ix2 r h) fun a => ?_
  fin_cases a <;> simp [ix2]
theorem cP_at (x : Sq) (h : Fin 4) (p : Fin 512) (j : Fin 128) : cP x h (ix2 p j) = x (ix2 p (hc h j)) := by
  unfold cP
  refine View.ld_unit_apply_of (Val := Elt Ideal) (e := .f32) x _ _ _ (ix2 p j) (ix2 p (hc h j)) fun a => ?_
  fin_cases a <;> simp [hc, ix2, Nat.mul_comm]
theorem rP_at (x : FVec Ideal S1x512 .f32) (h : Fin 4) (j : Fin 128) : rP x h (ix2 0 j) = x (ix2 0 (hc h j)) := by
  unfold rP
  refine View.ld_unit_apply_of (Val := Elt Ideal) (e := .f32) x _ _ _ (ix2 0 j) (ix2 0 (hc h j)) fun a => ?_
  fin_cases a <;> simp [hc, ix2, Nat.mul_comm]

/-! ## What the blocks hold -/

variable (c : Dev nD) (t : Fin cfg0.N)

theorem ctb_at (p : Fin 512) (k : Fin 1024) : CTb m c t (ix2 p k) = CT m c (ix2 (tok (pt t) p) k) := by
  refine Eq.trans ?_ (ct_read m c _ k)
  blk_ext [iblk, idx t, tok, pt]
theorem wob_at (p : Fin 1024) (k : Fin 1024) : WOb m c t (ix2 p k) = WO m c (ix2 p k) := by
  refine Eq.trans ?_ (wo_read m c p k)
  blk_ext [iblk, idx t]
theorem pjb_at (p : Fin 512) (k : Fin 2048) : PJb m c t (ix2 p k) = PJ m c (ix2 (tok (pt t) p) k) := by
  refine Eq.trans ?_ (congrFun (pj_read m c) (ix2 (tok (pt t) p) k))
  blk_ext [iblk, idx t, tok, pt]
theorem cvb_at (p : Fin 512) (k : Fin 512) : CVb m c t (ix2 p k) = CV m c (ix2 (tok (pt t) p) k) := by
  refine Eq.trans ?_ (congrFun (cv_read m c) (ix2 (tok (pt t) p) k))
  blk_ext [iblk, idx t, tok, pt]
theorem lgb_at (k : Fin 512) : LGb m c t (ix2 0 k) = LG m c (ix1 k) := by
  refine Eq.trans ?_ (rows_read m c k).1
  blk_ext [iblk, idx t]
theorem lbb_at (k : Fin 512) : LBb m c t (ix2 0 k) = LB m c (ix1 k) := by
  refine Eq.trans ?_ (rows_read m c k).2.1
  blk_ext [iblk, idx t]
theorem clgb_at (k : Fin 512) : CLGb m c t (ix2 0 k) = CLG m c (ix1 k) := by
  refine Eq.trans ?_ (rows_read m c k).2.2.1
  blk_ext [iblk, idx t]
theorem clbb_at (k : Fin 512) : CLBb m c t (ix2 0 k) = CLB m c (ix1 k) := by
  refine Eq.trans ?_ (rows_read m c k).2.2.2
  blk_ext [iblk, idx t]
theorem wb_at (h : Fin 4) (r s : Fin 128) : Wb m c t (ix3 h r s) = W m c (ix3 h r s) := by
  rw [show W m c = V m c main_arg5 from (V_main_arg5 m c).symm]
  blk_ext [iblk, idx t]
theorem bsb_at (r : Fin 128) (h : Fin 4) : BSb m c t (ix2 r h) = BS m c (ix2 h r) := by
  refine Eq.trans ?_ (bs_read m c r h)
  blk_ext [iblk, idx t]
theorem mxb_at (p : Fin 512) (k : Fin 1024) : MXb m c t (ix2 p k) = MIX m c (ix2 (tok (pt t) p) k) := by
  refine Eq.trans ?_ (congrFun (mix_read m c) (ix2 (tok (pt t) p) k))
  blk_ext [iblk, idx t, tok, pt]

/-- The kernel's arrays hold the reals of `a`. -/
abbrev Holds (m : (ℓ : Loc nD τ sig) → Buf (Elt Ideal) ℓ) (c : Dev nD) (a : Inp) : Prop :=
  Reads a (fun i k => PJ m c (ix2 i k)) (fun i k => CV m c (ix2 i k)) (fun k => LG m c (ix1 k)) (fun k => LB m c (ix1 k))
    (fun k => CLG m c (ix1 k)) (fun k => CLB m c (ix1 k)) (fun h t s => W m c (ix3 h t s)) (fun h t => BS m c (ix2 h t))
    (fun k l => WO m c (ix2 k l)) (fun i l => CT m c (ix2 i l))

variable {m c} in
theorem blk {a : Inp} (R : Holds m c a) (t : Fin cfg0.N) :
    Blk a (pt t) (CTb m c t) (WOb m c t) (uP (PJb m c t)) (vP (PJb m c t)) (LGb m c t) (LBb m c t)
      (wP (Wb m c t)) (bP (BSb m c t)) (cP (CVb m c t)) (rP (CLGb m c t)) (rP (CLBb m c t)) where
  u p k := ((uP_at _ p k).trans (pjb_at m c t p _)).trans (R.u _ k)
  v p k := ((vP_at _ p k).trans (pjb_at m c t p _)).trans (R.v _ k)
  da p k := (Finset.sum_congr rfl fun l _ => congrArg₂ (· * ·) (ctb_at m c t p l) (wob_at m c t _ l)).trans (R.da _ k)
  dz p k := (Finset.sum_congr rfl fun l _ => congrArg₂ (· * ·) (ctb_at m c t p l) (wob_at m c t _ l)).trans (R.dz _ k)
  lg k := (lgb_at m c t k).trans (R.lg k)
  lb k := (lbb_at m c t k).trans (R.lb k)
  w h r s := ((wP_at _ h r s).trans (wb_at m c t h r s)).trans (R.w h r s)
  b h r := ((bP_at _ h r).trans (bsb_at m c t r h)).trans (R.bs h r)
  cc h p j := ((cP_at _ h p j).trans (cvb_at m c t p _)).trans (R.c _ _)
  clg h j := ((rP_at _ h j).trans (clgb_at m c t _)).trans (R.clg _)
  clb h j := ((rP_at _ h j).trans (clbb_at m c t _)).trans (R.clb _)

end Cert.Kernel3Ideal.Mix

end
-- ==== Proof.MixTools.lean ====
/- The stores of a grid point as blocks of one function of the rows and columns. -/
module

public import proofs.«01_k».proof.Proof.MixBlocks
public import proofs.«01_k».proof.Proof.Gen.Kernel3Ideal.Value
public import Idealize.ShloMosaic.Lib.Pipeline.ReadBack
public import Idealize.ShloMosaic.Lib.Claim

@[expose] public section

set_option maxRecDepth 16384
set_option maxHeartbeats 1000000

noncomputable section

namespace Cert.Kernel3Ideal.Mix

open Idealize.ShloMosaic Idealize.ShloMosaic.TcCoe Idealize.SL.Sem
open Idealize.ShloMosaic.Pipeline (Dat)
open Cert.Kernel3Ideal Cert.Kernel3Ideal.Gen Cert.Ereal Cert.MixMath

variable (m : (ℓ : Loc nD τ sig) → Buf (Elt Ideal) ℓ) (c : Dev nD) (t : Fin cfg0.N)

/-- The intermediate arrays of a grid point's blocks. -/
abbrev DMb : Wide := DM (CTb m c t) (WOb m c t)
abbrev GUb : Sq := k0_pay26 (uP (PJb m c t))
abbrev VNb : Sqb := VN (vP (PJb m c t)) (LGb m c t) (LBb m c t)
abbrev XHb : Sq := XH (vP (PJb m c t))

theorem pay23_eq (x : Sq) : k0_pay23 (F := Ideal) x = x := by
  funext i
  rw [eq_ix2 i]
  pointwise [k0_pay23]

/-- A store under which another of the same rectangle lies hides it. -/
theorem canon_cons_same {s : Shape} {e : EltTy} (r : Rect s) (w w' : r.shape.Idx → Elt Ideal e) (L : List (View.Piece (Elt Ideal) s e)) :
    View.canon (⟨r, w⟩ :: ⟨r, w'⟩ :: L) = View.canon (⟨r, w⟩ :: L) := by
  funext y
  by_cases h : y ∈ r.set
  · obtain ⟨x, rfl⟩ := r.exists_idx_of_mem h
    exact (View.canon_cons_emb r w _ x).trans (View.canon_cons_emb r w _ x).symm
  · exact (View.canon_cons_of_not_mem ⟨r, w⟩ _ h).trans ((View.canon_cons_of_not_mem ⟨r, w'⟩ _ h).trans (View.canon_cons_of_not_mem ⟨r, w⟩ _ h).symm)

theorem idx128 (q h : Fin 4) {w : Nat} (hb : ∀ a, (![q.val * 128, h.val * 128] : Fin 2 → Nat) a + S128x128.size a ≤ (⟨2, ![512, w]⟩ : Shape).size a)
    (x : (Rect.unit (s := ⟨2, ![512, w]⟩) ![q.val * 128, h.val * 128] S128x128.size hb).shape.Idx) :
    (Rect.unit (s := ⟨2, ![512, w]⟩) ![q.val * 128, h.val * 128] S128x128.size hb).idx x 0 = rw4 q (x 0)
      ∧ ((Rect.unit (s := ⟨2, ![512, w]⟩) ![q.val * 128, h.val * 128] S128x128.size hb).idx x 1).val = (hc h (x 1)).val :=
  ⟨Fin.ext (Rect.idx_unit_val _ _ hb x 0), (Rect.idx_unit_val _ _ hb x 1).trans (by simp only [hc]; exact congrArg (· + _) (Nat.mul_comm _ _))⟩

variable {m c}
variable {a : Inp} (R : Holds m c a)
include R

/-! ## The weighted cotangent -/

theorem dvPiece (q h : Fin 4) (hb : ∀ a, (![q.val * 128, h.val * 128] : Fin 2 → Nat) a + S128x128.size a ≤ S512x512.size a)
    (x : (Rect.unit (s := S512x512) ![q.val * 128, h.val * 128] S128x128.size hb).shape.Idx) :
    dvTile (DMb m c t) (GUb m c t) (k0_pay33 (wP (Wb m c t) h)) q h x
      = (a.dv (tok (pt t) ((Rect.unit (s := S512x512) ![q.val * 128, h.val * 128] S128x128.size hb).idx x 0))
          ((Rect.unit (s := S512x512) ![q.val * 128, h.val * 128] S128x128.size hb).idx x 1) : EReal) := by
  obtain ⟨e0, e1⟩ := idx128 q h hb x
  rw [e0, show (Rect.unit (s := S512x512) ![q.val * 128, h.val * 128] S128x128.size hb).idx x 1 = hc h (x 1) from Fin.ext e1]
  exact (congrArg _ (eq_ix2 x)).trans ((blk R t).dv_at q h (x 0) (x 1))

/-- The sixteen tiles, the last store first. -/
def dvL (f : Fin 4 → Fin 4 → Tile) : List (View.Piece (Elt Ideal) S512x512 .f32) :=
  [⟨Rect.unit ![384, 384] ![128, 128] inb_S512x512_S128x128_384_384, f 3 3⟩, ⟨Rect.unit ![256, 384] ![128, 128] inb_S512x512_S128x128_256_384, f 2 3⟩,
   ⟨Rect.unit ![128, 384] ![128, 128] inb_S512x512_S128x128_128_384, f 1 3⟩, ⟨Rect.unit ![0, 384] ![128, 128] inb_S512x512_S128x128_0_384, f 0 3⟩,
   ⟨Rect.unit ![384, 256] ![128, 128] inb_S512x512_S128x128_384_256, f 3 2⟩, ⟨Rect.unit ![256, 256] ![128, 128] inb_S512x512_S128x128_256_256, f 2 2⟩,
   ⟨Rect.unit ![128, 256] ![128, 128] inb_S512x512_S128x128_128_256, f 1 2⟩, ⟨Rect.unit ![0, 256] ![128, 128] inb_S512x512_S128x128_0_256, f 0 2⟩,
   ⟨Rect.unit ![384, 128] ![128, 128] inb_S512x512_S128x128_384_128, f 3 1⟩, ⟨Rect.unit ![256, 128] ![128, 128] inb_S512x512_S128x128_256_128, f 2 1⟩,
   ⟨Rect.unit ![128, 128] ![128, 128] inb_S512x512_S128x128_128_128, f 1 1⟩, ⟨Rect.unit ![0, 128] ![128, 128] inb_S512x512_S128x128_0_128, f 0 1⟩,
   ⟨Rect.unit ![384, 0] ![128, 128] inb_S512x512_S128x128_384_0, f 3 0⟩, ⟨Rect.unit ![256, 0] ![128, 128] inb_S512x512_S128x128_256_0, f 2 0⟩,
   ⟨Rect.unit ![128, 0] ![128, 128] inb_S512x512_S128x128_128_0, f 1 0⟩, ⟨Rect.unit ![0, 0] ![128, 128] inb_S512x512_S128x128_0_0, f 0 0⟩]

abbrev dvT : Fin 4 → Fin 4 → Tile := fun q h => dvTile (DMb m c t) (GUb m c t) (k0_pay33 (wP (Wb m c t) h)) q h

theorem dvAll {κ : Kind} {sp : Space} (v : View sig κ sp S512x512 .f32) (p k : Fin 512) :
    v.readCov (Val := Elt Ideal) (dvL (dvT (m := m) (c := c) t)) (Rect.unit (s := S512x512) ![0, 0] ![512, 512] inb_S512x512_S512x512_0_0).toLoadRect (ix2 p k)
      = (a.dv (tok (pt t) p) k : EReal) := by
  rw [View.readCov_eq_canon']
  have e : (Rect.unit (s := S512x512) ![0, 0] ![512, 512] inb_S512x512_S512x512_0_0).toLoadRect.idx (ix2 p k) = ix2 p k := by
    funext a
    refine Fin.ext ((Rect.idx_unit_val _ _ inb_S512x512_S512x512_0_0 (ix2 p k) a).trans ?_)
    fin_cases a <;> simp
  show View.canon _ _ = _
  rw [e]
  refine View.canon_apply_of_pieces (S := S512x512) (Val := Elt Ideal) (e := .f32) (fun y => ((a.dv (tok (pt t) (y 0)) (y 1) : ℝ) : EReal)) _ ?_ (ix2 p k) ?_
  · refine View.PiecesOf.mem (Val := Elt Ideal) (s := S512x512) (e := .f32) (G := fun y => ((a.dv (tok (pt t) (y 0)) (y 1) : ℝ) : EReal)) ?_
    exact ⟨dvPiece t R 3 3 inb_S512x512_S128x128_384_384, dvPiece t R 2 3 inb_S512x512_S128x128_256_384, dvPiece t R 1 3 inb_S512x512_S128x128_128_384, dvPiece t R 0 3 inb_S512x512_S128x128_0_384, dvPiece t R 3 2 inb_S512x512_S128x128_384_256, dvPiece t R 2 2 inb_S512x512_S128x128_256_256, dvPiece t R 1 2 inb_S512x512_S128x128_128_256, dvPiece t R 0 2 inb_S512x512_S128x128_0_256,
      dvPiece t R 3 1 inb_S512x512_S128x128_384_128, dvPiece t R 2 1 inb_S512x512_S128x128_256_128, dvPiece t R 1 1 inb_S512x512_S128x128_128_128, dvPiece t R 0 1 inb_S512x512_S128x128_0_128, dvPiece t R 3 0 inb_S512x512_S128x128_384_0, dvPiece t R 2 0 inb_S512x512_S128x128_256_0, dvPiece t R 1 0 inb_S512x512_S128x128_128_0, dvPiece t R 0 0 inb_S512x512_S128x128_0_0, trivial⟩
  · exact View.cover_of_tiledL (s := S512x512) (dvL (dvT (m := m) (c := c) t)) S128x128.size (by sl_kernel_rfl) (ix2 p k)

/-! ## The projection's and the convolution's cotangent -/

theorem duPiece (q h : Fin 4) (hb : ∀ a, (![q.val * 128, h.val * 128] : Fin 2 → Nat) a + S128x128.size a ≤ S512x1024.size a)
    (x : (Rect.unit (s := S512x1024) ![q.val * 128, h.val * 128] S128x128.size hb).shape.Idx) :
    duTile (DMb m c t) (k0_pay23 (uP (PJb m c t))) (k0_pay25 (uP (PJb m c t))) (VNb m c t) (k0_pay33 (wP (Wb m c t) h)) (bP (BSb m c t) h) q h x
      = (a.dpa (tok (pt t) ((Rect.unit (s := S512x1024) ![q.val * 128, h.val * 128] S128x128.size hb).idx x 0))
          ((Rect.unit (s := S512x1024) ![q.val * 128, h.val * 128] S128x128.size hb).idx x 1) : EReal) := by
  obtain ⟨e0, e1⟩ := idx128 q h hb x
  rw [e0, pay23_eq]
  refine (congrArg _ (eq_ix2 x)).trans (((blk R t).du_at q h (x 0) (x 1)).trans ?_)
  unfold Inp.dpa
  rw [dif_pos (show ((Rect.unit (s := S512x1024) ![q.val * 128, h.val * 128] S128x128.size hb).idx x 1).val < 512 from e1 ▸ (hc h (x 1)).isLt)]
  exact congrArg _ (congrArg _ (Fin.ext e1.symm))

theorem dvaPiece {d : Sq} (hd : ∀ p k, d (ix2 p k) = (a.dv (tok (pt t) p) k : EReal))
    (x : (Rect.unit (s := S512x1024) ![0, 512] ![512, 512] inb_S512x1024_S512x512_0_512).shape.Idx) :
    k0_pay184 (F := Ideal) (k0_pay24 (vP (PJb m c t))) (k0_pay27 (k0_pay24 (vP (PJb m c t))) κh) (RS (vP (PJb m c t))) (XHb m c t) d (LGb m c t) x
      = (a.dpa (tok (pt t) ((Rect.unit (s := S512x1024) ![0, 512] ![512, 512] inb_S512x1024_S512x512_0_512).idx x 0))
          ((Rect.unit (s := S512x1024) ![0, 512] ![512, 512] inb_S512x1024_S512x512_0_512).idx x 1) : EReal) := by
  have e0 : (Rect.unit (s := S512x1024) ![0, 512] ![512, 512] inb_S512x1024_S512x512_0_512).idx x 0 = x 0 :=
    Fin.ext ((Rect.idx_unit_val _ _ inb_S512x1024_S512x512_0_512 x 0).trans (by simp))
  have e1 : ((Rect.unit (s := S512x1024) ![0, 512] ![512, 512] inb_S512x1024_S512x512_0_512).idx x 1).val = 512 + (x 1).val :=
    Rect.idx_unit_val _ _ inb_S512x1024_S512x512_0_512 x 1
  rw [e0]
  refine (congrArg _ (eq_ix2 x)).trans (((blk R t).dva_at hd (x 0) (x 1)).trans ?_)
  unfold Inp.dpa
  rw [dif_neg (by omega)]
  exact congrArg _ (congrArg _ (Fin.ext (show (x 1).val = _ by simp only [e1]; omega)))

theorem dcPiece (h : Fin 4) (hb : ∀ a, (![0, h.val * 128] : Fin 2 → Nat) a + S512x128.size a ≤ S512x512.size a)
    (x : (Rect.unit (s := S512x512) ![0, h.val * 128] S512x128.size hb).shape.Idx) :
    k0_pay203 (F := Ideal) (k0_pay196 (cP (CVb m c t) h)) (k0_pay197 (cP (CVb m c t) h))
        (dzStrip (DMb m c t) (cP (CVb m c t) h) (rP (CLGb m c t) h) (rP (CLBb m c t) h) h) (rP (CLGb m c t) h) x
      = (a.dc (tok (pt t) ((Rect.unit (s := S512x512) ![0, h.val * 128] S512x128.size hb).idx x 0))
          ((Rect.unit (s := S512x512) ![0, h.val * 128] S512x128.size hb).idx x 1) : EReal) := by
  rw [show (Rect.unit (s := S512x512) ![0, h.val * 128] S512x128.size hb).idx x 0 = x 0 from Fin.ext ((Rect.idx_unit_val _ _ hb x 0).trans (by simp)),
    show (Rect.unit (s := S512x512) ![0, h.val * 128] S512x128.size hb).idx x 1 = hc h (x 1) from
      Fin.ext ((Rect.idx_unit_val _ _ hb x 1).trans (by simp only [hc]; exact congrArg (· + _) (Nat.mul_comm _ _)))]
  exact (congrArg _ (eq_ix2 x)).trans ((blk R t).dc_at h (x 0) (x 1))

end Cert.Kernel3Ideal.Mix

end
-- ==== Proof.MixOut.lean ====
/- The cotangents the mixer's backward call leaves block by block: at the projection and at the convolution. -/
module

public import proofs.«01_k».proof.Proof.MixTools

@[expose] public section

set_option maxRecDepth 16384
set_option maxHeartbeats 1000000

noncomputable section

namespace Cert.Kernel3Ideal.Mix

open Idealize.ShloMosaic Idealize.ShloMosaic.TcCoe Idealize.SL.Sem
open Idealize.ShloMosaic.Pipeline (Dat)
open Cert.Kernel3Ideal Cert.Kernel3Ideal.Gen Cert.Ereal Cert.MixMath

variable {m : (ℓ : Loc nD τ sig) → Buf (Elt Ideal) ℓ} {c : Dev nD} {a : Inp} (R : Holds m c a)
include R

/-! ## The projection's cotangent -/

theorem final11 : (dats m 0 c).arrAt 11 (cfgs 0).N = fun i => ((a.dpa (i 0) (i 1) : ℝ) : EReal) := by
  refine (dats m 0 c).arrAt_eq_of_covers 11 _ (by decide +kernel) fun t hf y => ?_
  blk_simp
  rw [after0_11]
  have key : ∀ i : S4096x1024.Idx, (i 0).val = t.val * 512 + (y 0).val → (i 1).val = (y 1).val →
      ((a.dpa (tok (pt t) (y 0)) (y 1) : ℝ) : EReal) = ((a.dpa (i 0) (i 1) : ℝ) : EReal) := fun i h0 h1 => by
    rw [show i 0 = tok (pt t) (y 0) from Fin.ext (h0.trans (by simp only [tok, pt]; omega)), show i 1 = y 1 from Fin.ext h1]
  by_cases h0 : t.val % 8 = 0
  on_goal 1 => rw [outsAt0_A m c t h0 (by omega)]; frame_out
  on_goal 2 => by_cases h1 : t.val % 8 = 7
  on_goal 2 => rw [outsAt0_C m c t h0 h1]; frame_out
  on_goal 3 => rw [outsAt0_B m c t h0 h1]; frame_out
  all_goals
    refine Eq.trans (b := ((a.dpa (tok (pt t) (y 0)) (y 1) : ℝ) : EReal)) ?_ (key _ ?_ ?_)
    · refine View.canon_apply_of_pieces (S := S512x1024) (Val := Elt Ideal) (e := .bf16)
        (fun y => ((a.dpa (tok (pt t) (y 0)) (y 1) : ℝ) : EReal)) _ ?_ y ?_
      · refine View.PiecesOf.mem (Val := Elt Ideal) (s := S512x1024) (e := .bf16)
          (G := fun y => ((a.dpa (tok (pt t) (y 0)) (y 1) : ℝ) : EReal)) ?_
        exact ⟨dvaPiece t R (dvAll t R _),
          duPiece t R 3 3 inb_S512x1024_S128x128_384_384, duPiece t R 2 3 inb_S512x1024_S128x128_256_384, duPiece t R 1 3 inb_S512x1024_S128x128_128_384, duPiece t R 0 3 inb_S512x1024_S128x128_0_384,
          duPiece t R 3 2 inb_S512x1024_S128x128_384_256, duPiece t R 2 2 inb_S512x1024_S128x128_256_256, duPiece t R 1 2 inb_S512x1024_S128x128_128_256, duPiece t R 0 2 inb_S512x1024_S128x128_0_256,
          duPiece t R 3 1 inb_S512x1024_S128x128_384_128, duPiece t R 2 1 inb_S512x1024_S128x128_256_128, duPiece t R 1 1 inb_S512x1024_S128x128_128_128, duPiece t R 0 1 inb_S512x1024_S128x128_0_128,
          duPiece t R 3 0 inb_S512x1024_S128x128_384_0, duPiece t R 2 0 inb_S512x1024_S128x128_256_0, duPiece t R 1 0 inb_S512x1024_S128x128_128_0, duPiece t R 0 0 inb_S512x1024_S128x128_0_0, trivial⟩
      · exact View.cover_of_tiledBy (s := S512x1024) _ ![128, 128] (by sl_kernel_rfl) y
    · blk_simp [idx t]
    · blk_simp [idx t]

/-! ## The convolution's cotangent -/

theorem final12 : (dats m 0 c).arrAt 12 (cfgs 0).N = fun i => ((a.dc (i 0) (i 1) : ℝ) : EReal) := by
  refine (dats m 0 c).arrAt_eq_of_covers 12 _ (by decide +kernel) fun t hf y => ?_
  blk_simp
  rw [after0_12]
  have key : ∀ i : S4096x512.Idx, (i 0).val = t.val * 512 + (y 0).val → (i 1).val = (y 1).val →
      ((a.dc (tok (pt t) (y 0)) (y 1) : ℝ) : EReal) = ((a.dc (i 0) (i 1) : ℝ) : EReal) := fun i h0 h1 => by
    rw [show i 0 = tok (pt t) (y 0) from Fin.ext (h0.trans (by simp only [tok, pt]; omega)), show i 1 = y 1 from Fin.ext h1]
  by_cases h0 : t.val % 8 = 0
  on_goal 1 => rw [outsAt0_A m c t h0 (by omega)]; frame_out
  on_goal 2 => by_cases h1 : t.val % 8 = 7
  on_goal 2 => rw [outsAt0_C m c t h0 h1]; frame_out
  on_goal 3 => rw [outsAt0_B m c t h0 h1]; frame_out
  all_goals
    refine Eq.trans (b := ((a.dc (tok (pt t) (y 0)) (y 1) : ℝ) : EReal)) ?_ (key _ ?_ ?_)
    · refine View.canon_apply_of_pieces (S := S512x512) (Val := Elt Ideal) (e := .f32)
        (fun y => ((a.dc (tok (pt t) (y 0)) (y 1) : ℝ) : EReal)) _ ?_ y ?_
      · refine View.PiecesOf.mem (Val := Elt Ideal) (s := S512x512) (e := .f32)
          (G := fun y => ((a.dc (tok (pt t) (y 0)) (y 1) : ℝ) : EReal)) ?_
        exact ⟨dcPiece t R 3 inb_S512x512_S512x128_0_384, dcPiece t R 2 inb_S512x512_S512x128_0_256,
          dcPiece t R 1 inb_S512x512_S512x128_0_128, dcPiece t R 0 inb_S512x512_S512x128_0_0, trivial⟩
      · exact View.cover_of_tiledL (s := S512x512) _ S512x128.size (by sl_kernel_rfl) y
    · blk_simp [idx t]
    · blk_simp [idx t]

end Cert.Kernel3Ideal.Mix

end
-- ==== Proof.MixAcc.lean ====
/- The sums the mixer's backward call adds up over its blocks: the normalisation's scale and shift, and the plain product. -/
module

public import proofs.«01_k».proof.Proof.MixTools

@[expose] public section

set_option maxRecDepth 16384
set_option maxHeartbeats 1000000

noncomputable section

namespace Cert.Kernel3Ideal.Mix

open Idealize.ShloMosaic Idealize.ShloMosaic.TcCoe Idealize.SL.Sem
open Idealize.ShloMosaic.Pipeline (Dat)
open Cert.Kernel3Ideal Cert.Kernel3Ideal.Gen Cert.Ereal Cert.MixMath

variable {m : (ℓ : Loc nD τ sig) → Buf (Elt Ideal) ℓ} {c : Dev nD} {a : Inp} (R : Holds m c a)
include R

/-! ## The sums over the blocks -/

omit R in
/-- What the points add from block to block ends as the sum over all rows. -/
theorem rows_sum {ι : Type} (f : (n : Nat) → n < cfg0.N → ι → EReal) (g : ι → Fin 4096 → EReal)
    (h0 : ∀ t : Fin cfg0.N, t.val % 8 = 0 → ∀ j, f t.val t.isLt j = 0 + ∑ p : Fin 512, g j (tok (pt t) p))
    (hs : ∀ t : Fin cfg0.N, ¬t.val % 8 = 0 → ∀ j, f t.val t.isLt j = f (t.val - 1) (Nat.lt_of_le_of_lt (Nat.sub_le _ _) t.isLt) j + ∑ p : Fin 512, g j (tok (pt t) p)) (j : ι) :
    f t0_7.val t0_7.isLt j = ∑ i, g j i := by
  rw [Pipeline.eq_sum_fin_of_reset_step_apply_last f 8 (fun _ => 0) (fun t j => ∑ p : Fin 512, g j (tok (pt t) p)) h0 hs (le_of_eq N_0) t0_7 rfl j, zero_add]
  refine Eq.trans ?_ (Fin.sum_mul_add_fin (L := 4096) 8 512 (g j))
  exact Finset.sum_congr rfl fun t _ => Finset.sum_congr rfl fun p _ => congrArg (g j) (Fin.ext (by simp only [tok, pt]; omega))

omit R in
theorem row_ix (j : S1x512.Idx) : ∃ k, j = ix2 0 k := ⟨j 1, (eq_ix2 j).trans (congrArg (ix2 · _) (Subsingleton.elim (α := Fin 1) _ _))⟩

omit R in
theorem zeros (j : S1x512.Idx) : k0_pay12 (F := Ideal) j = 0 ∧ k0_pay13 (F := Ideal) j = 0 ∧ k0_pay16 (F := Ideal) j = 0 ∧ k0_pay17 (F := Ideal) j = 0
    ∧ k0_pay18 (F := Ideal) j = 0 := by
  rw [eq_ix2 j]
  refine ⟨?_, ?_, ?_, ?_, ?_⟩
  · pointwise [k0_pay12]
  · pointwise [k0_pay13]
  · pointwise [k0_pay16]
  · pointwise [k0_pay17]
  · pointwise [k0_pay18]

/-! ## The normalisation's scale and shift -/

theorem step13 (t : Fin cfg0.N) (d : Sq) (hd : ∀ p k, d (ix2 p k) = (a.dv (tok (pt t) p) k : EReal)) (acc : FVec Ideal S1x512 .f32) (j : S1x512.Idx) :
    k0_pay183 (F := Ideal) (XHb m c t) d acc j = acc j + ∑ p : Fin 512, ((a.dv (tok (pt t) p) (j 1) * a.xh (tok (pt t) p) (j 1) : ℝ) : EReal) := by
  obtain ⟨k, rfl⟩ := row_ix j
  refine (dlg_at _ _ _ k).trans (congrArg₂ _ rfl (Finset.sum_congr rfl fun p _ => ?_))
  exact (congrArg₂ (· * ·) (hd p k) ((blk R t).xh_at p k)).trans (EReal.coe_mul _ _).symm

theorem step14 (t : Fin cfg0.N) (d : Sq) (hd : ∀ p k, d (ix2 p k) = (a.dv (tok (pt t) p) k : EReal)) (acc : FVec Ideal S1x512 .f32) (j : S1x512.Idx) :
    k0_pay182 (F := Ideal) d acc j = acc j + ∑ p : Fin 512, ((a.dv (tok (pt t) p) (j 1) : ℝ) : EReal) := by
  obtain ⟨k, rfl⟩ := row_ix j
  exact (dlb_at _ _ k).trans (congrArg₂ _ rfl (Finset.sum_congr rfl fun p _ => hd p k))

theorem final13 : (dats m 0 c).arrAt 13 (cfgs 0).N = fun i => ((a.dlg (i 1) : ℝ) : EReal) := by
  refine (dats m 0 c).arrAt_eq_of_after_last 13 t0_7 (by decide +kernel) _ fun j => ?_
  blk_simp
  rw [after0_13]
  refine (rows_sum (fun n h => (outsAt0 m c n h).2.2.1) (fun j i => ((a.dv i (j 1) * a.xh i (j 1) : ℝ) : EReal)) (fun t h j => ?_) (fun t h j => ?_) j).trans (coe_sum _ _).symm
  · show (outsAt0 m c t.val t.isLt).2.2.1 j = _
    rw [outsAt0_A m c t h (by omega)]; frame_out
    exact (step13 R t _ (dvAll t R _) _ j).trans (by rw [(zeros j).1])
  · show (outsAt0 m c t.val t.isLt).2.2.1 j = _
    by_cases h1 : t.val % 8 = 7
    · rw [outsAt0_C m c t h h1]; frame_out
      exact step13 R t _ (dvAll t R _) _ j
    · rw [outsAt0_B m c t h h1]; frame_out
      exact step13 R t _ (dvAll t R _) _ j

theorem final14 : (dats m 0 c).arrAt 14 (cfgs 0).N = fun i => ((a.dlb (i 1) : ℝ) : EReal) := by
  refine (dats m 0 c).arrAt_eq_of_after_last 14 t0_7 (by decide +kernel) _ fun j => ?_
  blk_simp
  rw [after0_14]
  refine (rows_sum (fun n h => (outsAt0 m c n h).2.2.2.1) (fun j i => ((a.dv i (j 1) : ℝ) : EReal)) (fun t h j => ?_) (fun t h j => ?_) j).trans (coe_sum _ _).symm
  · show (outsAt0 m c t.val t.isLt).2.2.2.1 j = _
    rw [outsAt0_A m c t h (by omega)]; frame_out
    exact (step14 R t _ (dvAll t R _) _ j).trans (by rw [(zeros j).2.1])
  · show (outsAt0 m c t.val t.isLt).2.2.2.1 j = _
    by_cases h1 : t.val % 8 = 7
    · rw [outsAt0_C m c t h h1]; frame_out
      exact step14 R t _ (dvAll t R _) _ j
    · rw [outsAt0_B m c t h h1]; frame_out
      exact step14 R t _ (dvAll t R _) _ j

/-! ## The plain product -/

omit R in
theorem zero20 (j : S1x1024x1024.Idx) : k0_pay20 (F := Ideal) j = 0 := by
  rw [eq_ix3 j]
  pointwise [k0_pay20]

omit R in
theorem step20 (t : Fin cfg0.N) (acc : FVec Ideal S1x1024x1024 .f32) (j : S1x1024x1024.Idx) :
    k0_pay21 (F := Ideal) acc (MXb m c t) (CTb m c t) j
      = acc j + ∑ p : Fin 512, MIX m c (ix2 (tok (pt t) p) (j 1)) * CT m c (ix2 (tok (pt t) p) (j 2)) := by
  obtain ⟨k, l, rfl⟩ : ∃ k l, j = ix3 0 k l := ⟨j 1, j 2, (eq_ix3 j).trans (congrArg (ix3 · _ _) (Subsingleton.elim (α := Fin 1) _ _))⟩
  exact (dwo_at _ _ _ k l).trans (congrArg₂ _ rfl (Finset.sum_congr rfl fun p _ => congrArg₂ (· * ·) (mxb_at m c t p k) (ctb_at m c t p l)))

omit R in
theorem last20 (j : S1x1024x1024.Idx) : (outsAt0 m c t0_7.val t0_7.isLt).2.2.2.2.2.2.2.2.2.1 j = ∑ i, MIX m c (ix2 i (j 1)) * CT m c (ix2 i (j 2)) := by
  refine rows_sum (fun n h => (outsAt0 m c n h).2.2.2.2.2.2.2.2.2.1) (fun j i => MIX m c (ix2 i (j 1)) * CT m c (ix2 i (j 2))) (fun t h j => ?_) (fun t h j => ?_) j
  · show (outsAt0 m c t.val t.isLt).2.2.2.2.2.2.2.2.2.1 j = _
    rw [outsAt0_A m c t h (by omega)]; frame_out
    exact (step20 t _ j).trans (by rw [zero20])
  · show (outsAt0 m c t.val t.isLt).2.2.2.2.2.2.2.2.2.1 j = _
    by_cases h1 : t.val % 8 = 7
    · rw [outsAt0_C m c t h h1]; frame_out
      exact step20 t _ j
    · rw [outsAt0_B m c t h h1]; frame_out
      exact step20 t _ j

omit R in
theorem final20 : (dats m 0 c).arrAt 20 (cfgs 0).N = fun j => ∑ i, MIX m c (ix2 i (j 1)) * CT m c (ix2 i (j 2)) := by
  refine (dats m 0 c).arrAt_eq_of_after_last 20 t0_7 (by decide +kernel) _ fun j => ?_
  blk_simp
  rw [after0_20]
  exact last20 j

omit R in
theorem final21 : (dats m 0 c).arrAt 21 (cfgs 0).N = fun j => ∑ i, MIX m c (ix2 i (j 1)) * CT m c (ix2 i (j 2)) := by
  refine (dats m 0 c).arrAt_eq_of_after_last 21 t0_7 (by decide +kernel) _ fun j => ?_
  blk_simp
  rw [after0_21]
  refine Eq.trans ?_ (last20 (c := c) (m := m) j)
  show (outsAt0 m c t0_7.val t0_7.isLt).2.2.2.2.2.2.2.2.2.2.1 j = _
  rw [outsAt0_C m c t0_7 (by decide) (by decide)]; frame_out
  obtain ⟨k, l, rfl⟩ : ∃ k l, j = ix3 0 k l := ⟨j 1, j 2, (eq_ix3 j).trans (congrArg (ix3 · _ _) (Subsingleton.elim (α := Fin 1) _ _))⟩
  pointwise [k0_pay6]

end Cert.Kernel3Ideal.Mix

end
-- ==== Proof.MixConv.lean ====
/- The sums over the blocks of the convolution's bias, and of its normalisation's scale and shift. -/
module

public import proofs.«01_k».proof.Proof.MixAcc

@[expose] public section

set_option maxRecDepth 16384
set_option maxHeartbeats 1000000

noncomputable section

namespace Cert.Kernel3Ideal.Mix

open Idealize.ShloMosaic Idealize.ShloMosaic.TcCoe Idealize.SL.Sem
open Idealize.ShloMosaic.Pipeline (Dat)
open Cert.Kernel3Ideal Cert.Kernel3Ideal.Gen Cert.Ereal Cert.MixMath

variable {m : (ℓ : Loc nD τ sig) → Buf (Elt Ideal) ℓ} {c : Dev nD} {a : Inp} (R : Holds m c a)
include R

/-! ## The convolution's bias, scale and shift -/

omit R in
theorem strip_idx (h : Fin 4) (hb : ∀ a, (![0, h.val * 128] : Fin 2 → Nat) a + S1x128.size a ≤ S1x512.size a)
    (x : (Rect.unit (s := S1x512) ![0, h.val * 128] S1x128.size hb).shape.Idx) :
    (Rect.unit (s := S1x512) ![0, h.val * 128] S1x128.size hb).idx x 1 = hc h (x 1) :=
  Fin.ext ((Rect.idx_unit_val _ _ hb x 1).trans (by simp only [hc]; exact congrArg (· + _) (Nat.mul_comm _ _)))

omit R in
theorem ld_strip (prev : FVec Ideal S1x512 .f32) (h : Fin 4) (hb : ∀ a, (![0, h.val * 128] : Fin 2 → Nat) a + S1x128.size a ≤ S1x512.size a) (x : S1x128.Idx) :
    View.ld (Val := Elt Ideal) (S := S1x512) (e' := .f32) prev (Rect.unit ![0, h.val * 128] S1x128.size hb) x
      = prev ((Rect.unit (s := S1x512) ![0, h.val * 128] S1x128.size hb).idx x) := rfl

omit R in
theorem row128 (x : S1x128.Idx) : x = ix2 0 (x 1) := (eq_ix2 x).trans (congrArg (ix2 · _) (Subsingleton.elim (α := Fin 1) _ _))

abbrev dzS (m : (ℓ : Loc nD τ sig) → Buf (Elt Ideal) ℓ) (c : Dev nD) (t : Fin cfg0.N) (h : Fin 4) : Strip :=
  dzStrip (DMb m c t) (cP (CVb m c t) h) (rP (CLGb m c t) h) (rP (CLBb m c t) h) h

variable (t : Fin cfg0.N) (prev : FVec Ideal S1x512 .f32)

theorem piece17 (h : Fin 4) (hb : ∀ a, (![0, h.val * 128] : Fin 2 → Nat) a + S1x128.size a ≤ S1x512.size a)
    (x : (Rect.unit (s := S1x512) ![0, h.val * 128] S1x128.size hb).shape.Idx) :
    k0_pay209 (F := Ideal) (k0_pay203 (k0_pay196 (cP (CVb m c t) h)) (k0_pay197 (cP (CVb m c t) h)) (dzS m c t h) (rP (CLGb m c t) h))
        (View.ld (Val := Elt Ideal) (S := S1x512) (e' := .f32) prev (Rect.unit ![0, h.val * 128] S1x128.size hb)) x
      = prev ((Rect.unit (s := S1x512) ![0, h.val * 128] S1x128.size hb).idx x)
        + ∑ p : Fin 512, ((a.dc (tok (pt t) p) ((Rect.unit (s := S1x512) ![0, h.val * 128] S1x128.size hb).idx x 1) : ℝ) : EReal) := by
  rw [strip_idx]
  refine (congrArg _ (row128 x)).trans ((acc128_at _ _ (x 1)).trans (congrArg₂ _ ?_ (Finset.sum_congr rfl fun p _ => (blk R t).dc_at h p (x 1))))
  exact congrArg _ (row128 x).symm

theorem piece18 (h : Fin 4) (hb : ∀ a, (![0, h.val * 128] : Fin 2 → Nat) a + S1x128.size a ≤ S1x512.size a)
    (x : (Rect.unit (s := S1x512) ![0, h.val * 128] S1x128.size hb).shape.Idx) :
    k0_pay210 (F := Ideal) (k0_pay197 (cP (CVb m c t) h)) (dzS m c t h)
        (View.ld (Val := Elt Ideal) (S := S1x512) (e' := .f32) prev (Rect.unit ![0, h.val * 128] S1x128.size hb)) x
      = prev ((Rect.unit (s := S1x512) ![0, h.val * 128] S1x128.size hb).idx x)
        + ∑ p : Fin 512, ((a.dzz (tok (pt t) p) ((Rect.unit (s := S1x512) ![0, h.val * 128] S1x128.size hb).idx x 1)
          * a.cxh (tok (pt t) p) ((Rect.unit (s := S1x512) ![0, h.val * 128] S1x128.size hb).idx x 1) : ℝ) : EReal) := by
  rw [strip_idx]
  refine (congrArg _ (row128 x)).trans ((accMul128_at _ _ _ (x 1)).trans (congrArg₂ _ ?_ (Finset.sum_congr rfl fun p _ =>
    (congrArg₂ (· * ·) ((blk R t).dzz_at h p (x 1)) ((blk R t).cxh_at h p (x 1))).trans (EReal.coe_mul _ _).symm)))
  exact congrArg _ (row128 x).symm

theorem piece19 (h : Fin 4) (hb : ∀ a, (![0, h.val * 128] : Fin 2 → Nat) a + S1x128.size a ≤ S1x512.size a)
    (x : (Rect.unit (s := S1x512) ![0, h.val * 128] S1x128.size hb).shape.Idx) :
    k0_pay209 (F := Ideal) (dzS m c t h)
        (View.ld (Val := Elt Ideal) (S := S1x512) (e' := .f32) prev (Rect.unit ![0, h.val * 128] S1x128.size hb)) x
      = prev ((Rect.unit (s := S1x512) ![0, h.val * 128] S1x128.size hb).idx x)
        + ∑ p : Fin 512, ((a.dzz (tok (pt t) p) ((Rect.unit (s := S1x512) ![0, h.val * 128] S1x128.size hb).idx x 1) : ℝ) : EReal) := by
  rw [strip_idx]
  refine (congrArg _ (row128 x)).trans ((acc128_at _ _ (x 1)).trans (congrArg₂ _ ?_ (Finset.sum_congr rfl fun p _ => (blk R t).dzz_at h p (x 1))))
  exact congrArg _ (row128 x).symm

theorem final17 : (dats m 0 c).arrAt 17 (cfgs 0).N = fun i => ((a.dcb (i 1) : ℝ) : EReal) := by
  refine (dats m 0 c).arrAt_eq_of_after_last 17 t0_7 (by decide +kernel) _ fun j => ?_
  blk_simp
  rw [after0_17]
  refine (rows_sum (fun n h => (outsAt0 m c n h).2.2.2.2.2.2.1) (fun j i => ((a.dc i (j 1) : ℝ) : EReal)) (fun t h j => ?_) (fun t h j => ?_) j).trans (coe_sum _ _).symm
  · show (outsAt0 m c t.val t.isLt).2.2.2.2.2.2.1 j = _
    rw [outsAt0_A m c t h (by omega)]
    frame_open
    simp (disch := decide) only [↓View.readCov_skip, ↓View.readCov_cons_toLoadRect, ↓View.readCov_fill]
    frame_out
    refine (View.canon_append_of_piecesOf (Val := Elt Ideal) (s := S1x512) (e := .f32)
      (fun j => k0_pay16 (F := Ideal) j + ∑ p : Fin 512, ((a.dc (tok (pt t) p) (j 1) : ℝ) : EReal)) [_] [_, _, _, _]
      ⟨piece17 R t _ 3 inb_S1x512_S1x128_0_384, piece17 R t _ 2 inb_S1x512_S1x128_0_256, piece17 R t _ 1 inb_S1x512_S1x128_0_128, piece17 R t _ 0 inb_S1x512_S1x128_0_0, trivial⟩ j
      (View.cover_of_tiledL (s := S1x512) _ S1x128.size (by sl_kernel_rfl) j)).trans (by rw [(zeros j).2.2.1])
  · show (outsAt0 m c t.val t.isLt).2.2.2.2.2.2.1 j = _
    by_cases h1 : t.val % 8 = 7
    on_goal 1 => rw [outsAt0_C m c t h h1]; frame_out
    on_goal 2 => rw [outsAt0_B m c t h h1]; frame_out
    all_goals
      exact View.canon_append_of_piecesOf (Val := Elt Ideal) (s := S1x512) (e := .f32)
        (fun j => (outsAt0 m c (t.val - 1) _).2.2.2.2.2.2.1 j + ∑ p : Fin 512, ((a.dc (tok (pt t) p) (j 1) : ℝ) : EReal)) [] [_, _, _, _]
        ⟨piece17 R t _ 3 inb_S1x512_S1x128_0_384, piece17 R t _ 2 inb_S1x512_S1x128_0_256, piece17 R t _ 1 inb_S1x512_S1x128_0_128, piece17 R t _ 0 inb_S1x512_S1x128_0_0, trivial⟩ j
        (View.cover_of_tiledL (s := S1x512) _ S1x128.size (by sl_kernel_rfl) j)

theorem final18 : (dats m 0 c).arrAt 18 (cfgs 0).N = fun i => ((a.dclg (i 1) : ℝ) : EReal) := by
  refine (dats m 0 c).arrAt_eq_of_after_last 18 t0_7 (by decide +kernel) _ fun j => ?_
  blk_simp
  rw [after0_18]
  refine (rows_sum (fun n h => (outsAt0 m c n h).2.2.2.2.2.2.2.1) (fun j i => ((a.dzz i (j 1) * a.cxh i (j 1) : ℝ) : EReal)) (fun t h j => ?_) (fun t h j => ?_) j).trans (coe_sum _ _).symm
  · show (outsAt0 m c t.val t.isLt).2.2.2.2.2.2.2.1 j = _
    rw [outsAt0_A m c t h (by omega)]
    frame_open
    simp (disch := decide) only [↓View.readCov_skip, ↓View.readCov_cons_toLoadRect, ↓View.readCov_fill]
    frame_out
    refine (View.canon_append_of_piecesOf (Val := Elt Ideal) (s := S1x512) (e := .f32)
      (fun j => k0_pay17 (F := Ideal) j + ∑ p : Fin 512, ((a.dzz (tok (pt t) p) (j 1) * a.cxh (tok (pt t) p) (j 1) : ℝ) : EReal)) [_] [_, _, _, _]
      ⟨piece18 R t _ 3 inb_S1x512_S1x128_0_384, piece18 R t _ 2 inb_S1x512_S1x128_0_256, piece18 R t _ 1 inb_S1x512_S1x128_0_128, piece18 R t _ 0 inb_S1x512_S1x128_0_0, trivial⟩ j
      (View.cover_of_tiledL (s := S1x512) _ S1x128.size (by sl_kernel_rfl) j)).trans (by rw [(zeros j).2.2.2.1])
  · show (outsAt0 m c t.val t.isLt).2.2.2.2.2.2.2.1 j = _
    by_cases h1 : t.val % 8 = 7
    on_goal 1 => rw [outsAt0_C m c t h h1]; frame_out
    on_goal 2 => rw [outsAt0_B m c t h h1]; frame_out
    all_goals
      exact View.canon_append_of_piecesOf (Val := Elt Ideal) (s := S1x512) (e := .f32)
        (fun j => (outsAt0 m c (t.val - 1) _).2.2.2.2.2.2.2.1 j + ∑ p : Fin 512, ((a.dzz (tok (pt t) p) (j 1) * a.cxh (tok (pt t) p) (j 1) : ℝ) : EReal)) [] [_, _, _, _]
        ⟨piece18 R t _ 3 inb_S1x512_S1x128_0_384, piece18 R t _ 2 inb_S1x512_S1x128_0_256, piece18 R t _ 1 inb_S1x512_S1x128_0_128, piece18 R t _ 0 inb_S1x512_S1x128_0_0, trivial⟩ j
        (View.cover_of_tiledL (s := S1x512) _ S1x128.size (by sl_kernel_rfl) j)

theorem final19 : (dats m 0 c).arrAt 19 (cfgs 0).N = fun i => ((a.dclb (i 1) : ℝ) : EReal) := by
  refine (dats m 0 c).arrAt_eq_of_after_last 19 t0_7 (by decide +kernel) _ fun j => ?_
  blk_simp
  rw [after0_19]
  refine (rows_sum (fun n h => (outsAt0 m c n h).2.2.2.2.2.2.2.2.1) (fun j i => ((a.dzz i (j 1) : ℝ) : EReal)) (fun t h j => ?_) (fun t h j => ?_) j).trans (coe_sum _ _).symm
  · show (outsAt0 m c t.val t.isLt).2.2.2.2.2.2.2.2.1 j = _
    rw [outsAt0_A m c t h (by omega)]
    frame_open
    simp (disch := decide) only [↓View.readCov_skip, ↓View.readCov_cons_toLoadRect, ↓View.readCov_fill]
    frame_out
    refine (View.canon_append_of_piecesOf (Val := Elt Ideal) (s := S1x512) (e := .f32)
      (fun j => k0_pay18 (F := Ideal) j + ∑ p : Fin 512, ((a.dzz (tok (pt t) p) (j 1) : ℝ) : EReal)) [_] [_, _, _, _]
      ⟨piece19 R t _ 3 inb_S1x512_S1x128_0_384, piece19 R t _ 2 inb_S1x512_S1x128_0_256, piece19 R t _ 1 inb_S1x512_S1x128_0_128, piece19 R t _ 0 inb_S1x512_S1x128_0_0, trivial⟩ j
      (View.cover_of_tiledL (s := S1x512) _ S1x128.size (by sl_kernel_rfl) j)).trans (by rw [(zeros j).2.2.2.2])
  · show (outsAt0 m c t.val t.isLt).2.2.2.2.2.2.2.2.1 j = _
    by_cases h1 : t.val % 8 = 7
    on_goal 1 => rw [outsAt0_C m c t h h1]; frame_out
    on_goal 2 => rw [outsAt0_B m c t h h1]; frame_out
    all_goals
      exact View.canon_append_of_piecesOf (Val := Elt Ideal) (s := S1x512) (e := .f32)
        (fun j => (outsAt0 m c (t.val - 1) _).2.2.2.2.2.2.2.2.1 j + ∑ p : Fin 512, ((a.dzz (tok (pt t) p) (j 1) : ℝ) : EReal)) [] [_, _, _, _]
        ⟨piece19 R t _ 3 inb_S1x512_S1x128_0_384, piece19 R t _ 2 inb_S1x512_S1x128_0_256, piece19 R t _ 1 inb_S1x512_S1x128_0_128, piece19 R t _ 0 inb_S1x512_S1x128_0_0, trivial⟩ j
        (View.cover_of_tiledL (s := S1x512) _ S1x128.size (by sl_kernel_rfl) j)

end Cert.Kernel3Ideal.Mix

end
-- ==== Proof.MixW.lean ====
/- The spatial weight's gradient: four chunks' products a block, the blocks' sum, and the mask at the last. -/
module

public import proofs.«01_k».proof.Proof.MixTools

@[expose] public section

set_option maxRecDepth 16384
set_option maxHeartbeats 1000000

noncomputable section

namespace Cert.Kernel3Ideal.Mix

open Idealize.ShloMosaic Idealize.ShloMosaic.TcCoe Idealize.SL.Sem
open Idealize.ShloMosaic.Pipeline (Dat)
open Cert.Kernel3Ideal Cert.Kernel3Ideal.Gen Cert.Ereal Cert.MixMath

variable {m : (ℓ : Loc nD τ sig) → Buf (Elt Ideal) ℓ} {c : Dev nD} {a : Inp} (R : Holds m c a)
include R

/-! ## The sums over the chunks -/

omit R in
/-- What the points before the last add up to, with what the last adds: the sum over all chunks. -/
theorem chunks_sum {ι : Type} (f : (n : Nat) → n < cfg0.N → ι → EReal) (g : ι → Fin 32 → EReal)
    (h0 : ∀ t : Fin cfg0.N, t.val % 8 = 0 → ∀ j, f t.val t.isLt j = 0 + ∑ q : Fin 4, g j (ck (pt t) q))
    (hs : ∀ t : Fin cfg0.N, ¬t.val % 8 = 0 → ¬t.val % 8 = 7 → ∀ j,
      f t.val t.isLt j = f (t.val - 1) (Nat.lt_of_le_of_lt (Nat.sub_le _ _) t.isLt) j + ∑ q : Fin 4, g j (ck (pt t) q)) (j : ι) :
    f (t0_7.val - 1) (Nat.lt_of_le_of_lt (Nat.sub_le _ _) t0_7.isLt) j + ∑ q : Fin 4, g j (ck (pt t0_7) q) = ∑ n, g j n := by
  have e := Pipeline.eq_sum_fin_of_reset_step_apply_last
    (fun n h j => if n % 8 = 7 then f (n - 1) (Nat.lt_of_le_of_lt (Nat.sub_le _ _) h) j + ∑ q : Fin 4, g j (ck (pt ⟨n, h⟩) q) else f n h j) 8 (fun _ => 0)
    (fun t j => ∑ q : Fin 4, g j (ck (pt t) q))
    (fun t h j => (if_neg (by omega)).trans (h0 t h j))
    (fun t h j => by
      by_cases h1 : t.val % 8 = 7
      · rw [if_pos h1, if_neg (by omega)]
      · rw [if_neg h1, if_neg (by omega)]; exact hs t h h1 j) (le_of_eq N_0) t0_7 rfl j
  rw [zero_add] at e
  refine ((if_pos (by decide)).symm.trans e).trans (Eq.trans ?_ (Fin.sum_mul_add_fin (L := 32) 8 4 (g j)))
  exact Finset.sum_congr rfl fun t _ => Finset.sum_congr rfl fun p _ => congrArg (g j) (Fin.ext (by simp only [ck, pt]; omega))

omit R in
theorem overlay_same {s : Shape} {α : Type} (r : Rect s) (f : s.Idx → α) (w w' : r.shape.Idx → α) : r.overlay (r.overlay f w') w = r.overlay f w := by
  funext y
  by_cases h : y ∈ r.set
  · obtain ⟨x, rfl⟩ := r.exists_idx_of_mem h
    exact (r.overlay_emb _ w x).trans (r.overlay_emb _ w x).symm
  · exact (r.overlay_of_not_mem _ w h).trans ((r.overlay_of_not_mem _ w' h).trans (r.overlay_of_not_mem _ w h).symm)

omit R in
/-- Four stores that are blocks of `G` leave `G` at an index one of them covers, whatever lies under them. -/
theorem overlay4 {s : Shape} {α : Type} (G f : s.Idx → α) (r3 r2 r1 r0 : Rect s) {w3 : r3.shape.Idx → α} {w2 : r2.shape.Idx → α} {w1 : r1.shape.Idx → α}
    {w0 : r0.shape.Idx → α} (h3 : ∀ x, w3 x = G (r3.idx x)) (h2 : ∀ x, w2 x = G (r2.idx x)) (h1 : ∀ x, w1 x = G (r1.idx x)) (h0 : ∀ x, w0 x = G (r0.idx x))
    (y : s.Idx) (hc : y ∈ r3.set ∨ y ∈ r2.set ∨ y ∈ r1.set ∨ y ∈ r0.set) :
    r3.overlay (r2.overlay (r1.overlay (r0.overlay f w0) w1) w2) w3 y = G y := by
  by_cases m3 : y ∈ r3.set
  · obtain ⟨x, rfl⟩ := r3.exists_idx_of_mem m3
    exact (r3.overlay_emb _ _ x).trans (h3 x)
  rw [r3.overlay_of_not_mem _ _ m3]
  by_cases m2 : y ∈ r2.set
  · obtain ⟨x, rfl⟩ := r2.exists_idx_of_mem m2
    exact (r2.overlay_emb _ _ x).trans (h2 x)
  rw [r2.overlay_of_not_mem _ _ m2]
  by_cases m1 : y ∈ r1.set
  · obtain ⟨x, rfl⟩ := r1.exists_idx_of_mem m1
    exact (r1.overlay_emb _ _ x).trans (h1 x)
  rw [r1.overlay_of_not_mem _ _ m1]
  obtain ⟨x, rfl⟩ := r0.exists_idx_of_mem (((hc.resolve_left m3).resolve_left m2).resolve_left m1)
  exact (r0.overlay_emb _ _ x).trans (h0 x)

omit R in
theorem cover4 {s : Shape} (r3 r2 r1 r0 : Rect s) (size : Fin s.rank → Nat)
    (h : View.Piece.tiledL (Val := Elt Ideal) (s := s) (e := .f32) [⟨r3, fun _ => (0 : EReal)⟩, ⟨r2, fun _ => (0 : EReal)⟩, ⟨r1, fun _ => (0 : EReal)⟩, ⟨r0, fun _ => (0 : EReal)⟩] size = true)
    (y : s.Idx) : y ∈ r3.set ∨ y ∈ r2.set ∨ y ∈ r1.set ∨ y ∈ r0.set := by
  obtain ⟨p, hp, hy⟩ := View.cover_of_tiledL _ size h y
  simp only [List.mem_cons, List.not_mem_nil, or_false] at hp
  rcases hp with rfl | rfl | rfl | rfl
  · exact .inl hy
  · exact .inr (.inl hy)
  · exact .inr (.inr (.inl hy))
  · exact .inr (.inr (.inr hy))

omit R in
theorem row128s (x : S1x128x128.Idx) : x = ix3 0 (x 1) (x 2) := (eq_ix3 x).trans (congrArg (ix3 · _ _) (Subsingleton.elim (α := Fin 1) _ _))

variable (t : Fin cfg0.N)

/-! ## The spatial weight -/

/-- A chunk's product at a weight's entry. -/
abbrev dwg (a : Inp) (h : Fin 4) (r s : Fin 128) (n : Fin 32) : EReal := ((∑ j, a.dmx (tk n r) (hc h j) * a.vn (tk n s) (hc h j) : ℝ) : EReal)

/-- A head's four chunks, one after the other. -/
def dwHead (dm : Wide) (gu : Sq) (vb : Sqb) (h : Fin 4) (acc : FVec Ideal S1x128x128 .f32) : FVec Ideal S1x128x128 .f32 :=
  dwTile dm gu vb 3 h (dwTile dm gu vb 2 h (dwTile dm gu vb 1 h (dwTile dm gu vb 0 h acc)))

section
variable (dm : Wide) (gu v : Sq) (vb : Sqb) (lg lb : FVec Ideal S1x512 .f32) (acc : FVec Ideal S1x128x128 .f32)
omit R

theorem head0 : k0_pay67 (F := Ideal) (k0_pay66 dm gu (k0_pay31 v κh lg lb) (k0_pay58 dm gu (k0_pay31 v κh lg lb) (k0_pay49 dm gu (k0_pay31 v κh lg lb)
    (k0_pay41 dm gu (k0_pay34 v κh lg lb) acc)))) = dwHead dm gu (k0_pay31 v κh lg lb) 0 acc := rfl
theorem head1 : k0_pay107 (F := Ideal) gu (k0_pay96 vb) (k0_pay97 dm) (k0_pay94 gu (k0_pay88 vb) (k0_pay89 dm)
    (k0_pay86 (k0_pay79 vb) (k0_pay80 dm) (k0_pay82 gu) (k0_pay77 (k0_pay70 vb) (k0_pay74 dm gu) acc))) = dwHead dm gu vb 1 acc := rfl
theorem head2 : k0_pay143 (F := Ideal) (k0_pay142 dm gu vb (k0_pay134 dm gu vb (k0_pay125 dm gu (k0_pay119 vb) (k0_pay117 dm gu (k0_pay110 vb) acc))))
    = dwHead dm gu vb 2 acc := rfl
theorem head3 : k0_pay180 (F := Ideal) gu (k0_pay171 vb) (k0_pay172 dm) (k0_pay169 gu (k0_pay163 vb) (k0_pay164 dm)
    (k0_pay161 (k0_pay155 vb) (k0_pay159 dm gu) (k0_pay153 (k0_pay146 vb) (k0_pay150 dm gu) acc))) = dwHead dm gu vb 3 acc := rfl
theorem masks (w : IVec S128x128 1) : k0_pay9 (F := Ideal) w acc = k0_pay7 w acc ∧ k0_pay2 (F := Ideal) (k0_pay11 w acc) = k0_pay7 w acc
    ∧ k0_pay4 (F := Ideal) w acc = k0_pay7 w acc := ⟨rfl, rfl, rfl⟩
end

abbrev dwAll (m : (ℓ : Loc nD τ sig) → Buf (Elt Ideal) ℓ) (c : Dev nD) (t : Fin cfg0.N) (h : Fin 4) (acc : FVec Ideal S1x128x128 .f32) : FVec Ideal S1x128x128 .f32 :=
  dwHead (DMb m c t) (GUb m c t) (VNb m c t) h acc

theorem dwAll_at (h : Fin 4) (acc : FVec Ideal S1x128x128 .f32) (x : S1x128x128.Idx) :
    dwAll m c t h acc x = acc x + ∑ q : Fin 4, dwg a h (x 1) (x 2) (ck (pt t) q) := by
  refine (congrArg _ (row128s x)).trans ?_
  unfold dwAll dwHead
  refine ((blk R t).dw_at 3 h _ (x 1) (x 2)).trans ?_
  refine (congrArg (· + _) (((blk R t).dw_at 2 h _ (x 1) (x 2)).trans (congrArg (· + _) (((blk R t).dw_at 1 h _ (x 1) (x 2)).trans
    (congrArg (· + _) ((blk R t).dw_at 0 h _ (x 1) (x 2))))))).trans ?_
  rw [Fin.sum_univ_four, ← add_assoc, ← add_assoc, ← add_assoc]
  exact congrArg (· + _ + _ + _ + _) (congrArg acc (row128s x).symm)

omit R in
theorem w_idx (h : Fin 4) (hb : ∀ a, (![h.val, 0, 0] : Fin 3 → Nat) a + S1x128x128.size a ≤ S4x128x128.size a)
    (x : (Rect.unit (s := S4x128x128) ![h.val, 0, 0] S1x128x128.size hb).shape.Idx) :
    (Rect.unit (s := S4x128x128) ![h.val, 0, 0] S1x128x128.size hb).idx x = ix3 h (x 1) (x 2) := by
  funext a
  refine Fin.ext ((Rect.idx_unit_val _ _ hb x a).trans ?_)
  have := (x 0).isLt
  fin_cases a
  · show h.val + (x 0).val = h.val
    have e : (x 0).val < 1 := this
    omega
  · exact Nat.zero_add _
  · exact Nat.zero_add _

theorem piece15 (prev : FVec Ideal S4x128x128 .f32) (h : Fin 4) (hb : ∀ a, (![h.val, 0, 0] : Fin 3 → Nat) a + S1x128x128.size a ≤ S4x128x128.size a)
    (x : (Rect.unit (s := S4x128x128) ![h.val, 0, 0] S1x128x128.size hb).shape.Idx) :
    dwAll m c t h (View.ld (Val := Elt Ideal) (S := S4x128x128) (e' := .f32) prev (Rect.unit ![h.val, 0, 0] S1x128x128.size hb)) x
      = (fun y : S4x128x128.Idx => prev y + ∑ q : Fin 4, dwg a (y 0) (y 1) (y 2) (ck (pt t) q)) ((Rect.unit (s := S4x128x128) ![h.val, 0, 0] S1x128x128.size hb).idx x) := by
  refine (dwAll_at R t h _ x).trans ?_
  show prev ((Rect.unit (s := S4x128x128) ![h.val, 0, 0] S1x128x128.size hb).idx x) + _ = _
  rw [w_idx]
  rfl

omit R in
theorem masked_at (y : FVec Ideal S1x128x128 .f32) (r s : Fin 128) : k0_pay7 (F := Ideal) k0_pay32 y (ix3 0 r s) = if s ≤ r then y (ix3 0 r s) else 0 := by
  refine Eq.trans ?_ (mask_word r s _ _)
  pointwise [k0_pay7, k0_pay32]

theorem mpiece15 (prev : FVec Ideal S4x128x128 .f32) (h : Fin 4) (hb : ∀ a, (![h.val, 0, 0] : Fin 3 → Nat) a + S1x128x128.size a ≤ S4x128x128.size a)
    (x : (Rect.unit (s := S4x128x128) ![h.val, 0, 0] S1x128x128.size hb).shape.Idx) :
    k0_pay7 (F := Ideal) k0_pay32 (dwAll m c t h (View.ld (Val := Elt Ideal) (S := S4x128x128) (e' := .f32) prev (Rect.unit ![h.val, 0, 0] S1x128x128.size hb))) x
      = (fun y : S4x128x128.Idx => if (show Fin 128 from y 2) ≤ (show Fin 128 from y 1) then prev y + ∑ q : Fin 4, dwg a (y 0) (y 1) (y 2) (ck (pt t) q) else 0)
          ((Rect.unit (s := S4x128x128) ![h.val, 0, 0] S1x128x128.size hb).idx x) := by
  refine ((congrArg _ (row128s x)).trans (masked_at _ (x 1) (x 2))).trans ?_
  have e := (congrArg (dwAll m c t h _) (row128s x)).symm.trans (piece15 R t prev h hb x)
  rw [w_idx] at e ⊢
  exact if_congr Iff.rfl e rfl

omit R in
theorem zero14 (j : S4x128x128.Idx) : k0_pay14 (F := Ideal) j = 0 := by
  rw [eq_ix3 j]
  pointwise [k0_pay14]

theorem left15 (f : S4x128x128.Idx → EReal) (prev : FVec Ideal S4x128x128 .f32) (y : S4x128x128.Idx) :
    (Rect.unit (s := S4x128x128) ![3, 0, 0] ![1, 128, 128] inb_S4x128x128_S1x128x128_3_0_0).overlay ((Rect.unit (s := S4x128x128) ![2, 0, 0] ![1, 128, 128] inb_S4x128x128_S1x128x128_2_0_0).overlay ((Rect.unit (s := S4x128x128) ![1, 0, 0] ![1, 128, 128] inb_S4x128x128_S1x128x128_1_0_0).overlay ((Rect.unit (s := S4x128x128) ![0, 0, 0] ![1, 128, 128] inb_S4x128x128_S1x128x128_0_0_0).overlay f
      (dwAll m c t 0 (View.ld (Val := Elt Ideal) (S := S4x128x128) (e' := .f32) prev (Rect.unit ![0, 0, 0] ![1, 128, 128] inb_S4x128x128_S1x128x128_0_0_0))))
      (dwAll m c t 1 (View.ld (Val := Elt Ideal) (S := S4x128x128) (e' := .f32) prev (Rect.unit ![1, 0, 0] ![1, 128, 128] inb_S4x128x128_S1x128x128_1_0_0))))
      (dwAll m c t 2 (View.ld (Val := Elt Ideal) (S := S4x128x128) (e' := .f32) prev (Rect.unit ![2, 0, 0] ![1, 128, 128] inb_S4x128x128_S1x128x128_2_0_0))))
      (dwAll m c t 3 (View.ld (Val := Elt Ideal) (S := S4x128x128) (e' := .f32) prev (Rect.unit ![3, 0, 0] ![1, 128, 128] inb_S4x128x128_S1x128x128_3_0_0))) y
    = prev y + ∑ q : Fin 4, dwg a (y 0) (y 1) (y 2) (ck (pt t) q) :=
  overlay4 (fun y : S4x128x128.Idx => prev y + ∑ q : Fin 4, dwg a (y 0) (y 1) (y 2) (ck (pt t) q)) f _ _ _ _
    (piece15 R t prev 3 _) (piece15 R t prev 2 _) (piece15 R t prev 1 _) (piece15 R t prev 0 _) y (cover4 _ _ _ _ ![1, 128, 128] (by sl_kernel_rfl) y)

theorem last15 (f : S4x128x128.Idx → EReal) (prev : FVec Ideal S4x128x128 .f32) (y : S4x128x128.Idx) :
    (Rect.unit (s := S4x128x128) ![3, 0, 0] ![1, 128, 128] inb_S4x128x128_S1x128x128_3_0_0).overlay ((Rect.unit (s := S4x128x128) ![2, 0, 0] ![1, 128, 128] inb_S4x128x128_S1x128x128_2_0_0).overlay ((Rect.unit (s := S4x128x128) ![1, 0, 0] ![1, 128, 128] inb_S4x128x128_S1x128x128_1_0_0).overlay ((Rect.unit (s := S4x128x128) ![0, 0, 0] ![1, 128, 128] inb_S4x128x128_S1x128x128_0_0_0).overlay f
      (k0_pay7 (F := Ideal) k0_pay32 (dwAll m c t 0 (View.ld (Val := Elt Ideal) (S := S4x128x128) (e' := .f32) prev (Rect.unit ![0, 0, 0] ![1, 128, 128] inb_S4x128x128_S1x128x128_0_0_0)))))
      (k0_pay7 (F := Ideal) k0_pay32 (dwAll m c t 1 (View.ld (Val := Elt Ideal) (S := S4x128x128) (e' := .f32) prev (Rect.unit ![1, 0, 0] ![1, 128, 128] inb_S4x128x128_S1x128x128_1_0_0)))))
      (k0_pay7 (F := Ideal) k0_pay32 (dwAll m c t 2 (View.ld (Val := Elt Ideal) (S := S4x128x128) (e' := .f32) prev (Rect.unit ![2, 0, 0] ![1, 128, 128] inb_S4x128x128_S1x128x128_2_0_0)))))
      (k0_pay7 (F := Ideal) k0_pay32 (dwAll m c t 3 (View.ld (Val := Elt Ideal) (S := S4x128x128) (e' := .f32) prev (Rect.unit ![3, 0, 0] ![1, 128, 128] inb_S4x128x128_S1x128x128_3_0_0)))) y
    = if (show Fin 128 from y 2) ≤ (show Fin 128 from y 1) then prev y + ∑ q : Fin 4, dwg a (y 0) (y 1) (y 2) (ck (pt t) q) else 0 :=
  overlay4 (fun y : S4x128x128.Idx => if (show Fin 128 from y 2) ≤ (show Fin 128 from y 1) then prev y + ∑ q : Fin 4, dwg a (y 0) (y 1) (y 2) (ck (pt t) q) else 0) f _ _ _ _
    (mpiece15 R t prev 3 _) (mpiece15 R t prev 2 _) (mpiece15 R t prev 1 _) (mpiece15 R t prev 0 _) y (cover4 _ _ _ _ ![1, 128, 128] (by sl_kernel_rfl) y)

theorem final15 : (dats m 0 c).arrAt 15 (cfgs 0).N = fun i => ((a.dw (i 0) (i 1) (i 2) : ℝ) : EReal) := by
  refine (dats m 0 c).arrAt_eq_of_after_last 15 t0_7 (by decide +kernel) _ fun j => ?_
  blk_simp
  rw [after0_15]
  have e := chunks_sum (fun n h => (outsAt0 m c n h).2.2.2.2.1) (fun j n => dwg a (j 0) (j 1) (j 2) n) (fun t h j => by
    show (outsAt0 m c t.val t.isLt).2.2.2.2.1 j = _
    rw [outsAt0_A m c t h (by omega)]
    frame_open
    simp (disch := decide) only [↓View.readCov_skip, ↓View.readCov_cons_toLoadRect, ↓View.readCov_fill]
    frame_out
    simp only [View.canon_cons, overlay_same]
    simp only [head0, head1, head2, head3, masks]
    exact (left15 R t _ _ j).trans (by rw [zero14]))
    (fun t h h1 j => by
    show (outsAt0 m c t.val t.isLt).2.2.2.2.1 j = _
    rw [outsAt0_B m c t h h1]
    frame_open
    simp (disch := decide) only [↓View.readCov_skip, ↓View.readCov_cons_toLoadRect, ↓View.readCov_fill]
    frame_out
    simp only [View.canon_cons, overlay_same]
    simp only [head0, head1, head2, head3, masks]
    exact left15 R t _ _ j) j
  refine Eq.trans (b := if (show Fin 128 from j 2) ≤ (show Fin 128 from j 1) then ∑ n, dwg a (j 0) (j 1) (j 2) n else 0) ?_ ?_
  · rw [← e]
    show (outsAt0 m c t0_7.val t0_7.isLt).2.2.2.2.1 j = _
    rw [outsAt0_C m c t0_7 (by decide) (by decide)]
    frame_open
    simp (disch := decide) only [↓View.readCov_skip, ↓View.readCov_cons_toLoadRect, ↓View.readCov_fill]
    frame_out
    simp only [View.canon_cons, overlay_same]
    simp only [head0, head1, head2, head3, masks]
    exact last15 R t0_7 _ _ j
  · unfold Inp.dw
    split
    · exact (coe_sum _ _).symm
    · rfl

end Cert.Kernel3Ideal.Mix

end
-- ==== Proof.MixB.lean ====
/- The spatial bias's gradient: the blocks' sum in a scratch array, its row sums at the last block. -/
module

public import proofs.«01_k».proof.Proof.MixW

@[expose] public section

set_option maxRecDepth 16384
set_option maxHeartbeats 1000000

noncomputable section

namespace Cert.Kernel3Ideal.Mix

open Idealize.ShloMosaic Idealize.ShloMosaic.TcCoe Idealize.SL.Sem
open Idealize.ShloMosaic.Pipeline (Dat)
open Cert.Kernel3Ideal Cert.Kernel3Ideal.Gen Cert.Ereal Cert.MixMath

variable {m : (ℓ : Loc nD τ sig) → Buf (Elt Ideal) ℓ} {c : Dev nD} {a : Inp} (R : Holds m c a)
include R

variable (t : Fin cfg0.N)

/-! ## The spatial bias -/

/-- A head's four chunks, one after the other. -/
def dbHead (dm : Wide) (gu : Sq) (h : Fin 4) (acc : Tile) : Tile := dbTile dm gu 3 h (dbTile dm gu 2 h (dbTile dm gu 1 h (dbTile dm gu 0 h acc)))

section
variable (dm : Wide) (gu : Sq) (acc : Tile)
omit R

theorem bhead0 : k0_pay68 (F := Ideal) (k0_pay63 dm gu) (k0_pay59 (k0_pay55 dm gu) (k0_pay51 (k0_pay50 dm gu (k0_pay42 dm gu acc)))) = dbHead dm gu 0 acc := rfl
theorem bhead1 : k0_pay108 (F := Ideal) gu (k0_pay97 dm) (k0_pay95 gu (k0_pay89 dm) (k0_pay87 (k0_pay80 dm) (k0_pay82 gu) (k0_pay78 (k0_pay73 dm gu) acc)))
    = dbHead dm gu 1 acc := rfl
theorem bhead2 : k0_pay144 (F := Ideal) (k0_pay139 dm gu) (k0_pay135 (k0_pay131 dm gu) (k0_pay127 (k0_pay126 dm gu (k0_pay118 dm gu acc)))) = dbHead dm gu 2 acc := rfl
theorem bhead3 : k0_pay181 (F := Ideal) gu (k0_pay172 dm) (k0_pay170 gu (k0_pay164 dm) (k0_pay162 (k0_pay158 dm gu) (k0_pay154 (k0_pay149 dm gu) acc)))
    = dbHead dm gu 3 acc := rfl
theorem colsums : k0_pay10 (F := Ideal) acc = k0_pay8 acc ∧ k0_pay3 (F := Ideal) acc = k0_pay8 acc ∧ k0_pay5 (F := Ideal) acc = k0_pay8 acc := ⟨rfl, rfl, rfl⟩
end

abbrev dbAll (m : (ℓ : Loc nD τ sig) → Buf (Elt Ideal) ℓ) (c : Dev nD) (t : Fin cfg0.N) (h : Fin 4) (acc : Tile) : Tile :=
  dbHead (DMb m c t) (GUb m c t) h acc

theorem dbAll_at (h : Fin 4) (acc : Tile) (r j : Fin 128) :
    dbAll m c t h acc (ix2 r j) = acc (ix2 r j) + ∑ q : Fin 4, (a.dmx (tk (ck (pt t) q) r) (hc h j) : EReal) := by
  unfold dbAll dbHead
  refine ((blk R t).db_at 3 h _ r j).trans ?_
  refine (congrArg (· + _) (((blk R t).db_at 2 h _ r j).trans (congrArg (· + _) (((blk R t).db_at 1 h _ r j).trans
    (congrArg (· + _) ((blk R t).db_at 0 h _ r j)))))).trans ?_
  rw [Fin.sum_univ_four, ← add_assoc, ← add_assoc, ← add_assoc]

omit R in
theorem db_idx (h : Fin 4) (hb : ∀ a, (![0, h.val * 128] : Fin 2 → Nat) a + S128x128.size a ≤ S128x512.size a)
    (x : (Rect.unit (s := S128x512) ![0, h.val * 128] S128x128.size hb).shape.Idx) :
    (Rect.unit (s := S128x512) ![0, h.val * 128] S128x128.size hb).idx x = ix2 (x 0) (hc h (x 1)) := by
  funext a
  refine Fin.ext ((Rect.idx_unit_val _ _ hb x a).trans ?_)
  fin_cases a
  · exact Nat.zero_add _
  · show h.val * 128 + (x 1).val = 128 * h.val + (x 1).val
    omega

theorem pieceDb (prev : FVec Ideal S128x512 .f32) (h : Fin 4) (hb : ∀ a, (![0, h.val * 128] : Fin 2 → Nat) a + S128x128.size a ≤ S128x512.size a)
    (x : (Rect.unit (s := S128x512) ![0, h.val * 128] S128x128.size hb).shape.Idx) :
    dbAll m c t h (View.ld (Val := Elt Ideal) (S := S128x512) (e' := .f32) prev (Rect.unit ![0, h.val * 128] S128x128.size hb)) x
      = (fun y : S128x512.Idx => prev y + ∑ q : Fin 4, (a.dmx (tk (ck (pt t) q) (y 0)) (y 1) : EReal)) ((Rect.unit (s := S128x512) ![0, h.val * 128] S128x128.size hb).idx x) := by
  refine (congrArg _ (eq_ix2 x)).trans ((dbAll_at R t h _ (x 0) (x 1)).trans ?_)
  rw [← eq_ix2 x]
  show prev ((Rect.unit (s := S128x512) ![0, h.val * 128] S128x128.size hb).idx x) + _ = _
  rw [db_idx]
  rfl

omit R in
theorem colsum_at (y : Tile) (r : Fin 128) : k0_pay8 (F := Ideal) y (ix2 0 r) = ∑ j, y (ix2 r j) := by
  pointwise [k0_pay8]

omit R in
theorem row_idx (h : Fin 4) (hb : ∀ a, (![h.val, 0] : Fin 2 → Nat) a + S1x128.size a ≤ S4x128.size a)
    (x : (Rect.unit (s := S4x128) ![h.val, 0] S1x128.size hb).shape.Idx) :
    (Rect.unit (s := S4x128) ![h.val, 0] S1x128.size hb).idx x = ix2 h (x 1) := by
  funext a
  refine Fin.ext ((Rect.idx_unit_val _ _ hb x a).trans ?_)
  have := (x 0).isLt
  fin_cases a
  · show h.val + (x 0).val = h.val
    have e : (x 0).val < 1 := this
    omega
  · exact Nat.zero_add _

theorem piece16 (prev : FVec Ideal S128x512 .f32) (h : Fin 4) (hb : ∀ a, (![0, h.val * 128] : Fin 2 → Nat) a + S128x128.size a ≤ S128x512.size a)
    (hr : ∀ a, (![h.val, 0] : Fin 2 → Nat) a + S1x128.size a ≤ S4x128.size a)
    (x : (Rect.unit (s := S4x128) ![h.val, 0] S1x128.size hr).shape.Idx) :
    k0_pay8 (F := Ideal) (dbAll m c t h (View.ld (Val := Elt Ideal) (S := S128x512) (e' := .f32) prev (Rect.unit ![0, h.val * 128] S128x128.size hb))) x
      = (fun y : S4x128.Idx => ∑ j : Fin 128, (prev (ix2 (y 1) (hc (y 0) j)) + ∑ q : Fin 4, (a.dmx (tk (ck (pt t) q) (y 1)) (hc (y 0) j) : EReal)))
          ((Rect.unit (s := S4x128) ![h.val, 0] S1x128.size hr).idx x) := by
  rw [row_idx]
  refine ((congrArg _ ((eq_ix2 x).trans (congrArg (ix2 · _) (Subsingleton.elim (α := Fin 1) _ _)))).trans (colsum_at _ (x 1))).trans
    (Finset.sum_congr rfl fun j _ => ?_)
  refine (pieceDb R t prev h hb (ix2 (x 1) j)).trans ?_
  rw [db_idx]
  rfl

omit R in
theorem zero19 (j : S128x512.Idx) : k0_pay19 (F := Ideal) j = 0 := by
  rw [eq_ix2 j]
  pointwise [k0_pay19]

theorem leftDb (f : S128x512.Idx → EReal) (prev : FVec Ideal S128x512 .f32) (y : S128x512.Idx) :
    (Rect.unit (s := S128x512) ![0, 384] ![128, 128] inb_S128x512_S128x128_0_384).overlay ((Rect.unit (s := S128x512) ![0, 256] ![128, 128] inb_S128x512_S128x128_0_256).overlay ((Rect.unit (s := S128x512) ![0, 128] ![128, 128] inb_S128x512_S128x128_0_128).overlay ((Rect.unit (s := S128x512) ![0, 0] ![128, 128] inb_S128x512_S128x128_0_0).overlay f
      (dbAll m c t 0 (View.ld (Val := Elt Ideal) (S := S128x512) (e' := .f32) prev (Rect.unit ![0, 0] ![128, 128] inb_S128x512_S128x128_0_0))))
      (dbAll m c t 1 (View.ld (Val := Elt Ideal) (S := S128x512) (e' := .f32) prev (Rect.unit ![0, 128] ![128, 128] inb_S128x512_S128x128_0_128))))
      (dbAll m c t 2 (View.ld (Val := Elt Ideal) (S := S128x512) (e' := .f32) prev (Rect.unit ![0, 256] ![128, 128] inb_S128x512_S128x128_0_256))))
      (dbAll m c t 3 (View.ld (Val := Elt Ideal) (S := S128x512) (e' := .f32) prev (Rect.unit ![0, 384] ![128, 128] inb_S128x512_S128x128_0_384))) y
    = prev y + ∑ q : Fin 4, (a.dmx (tk (ck (pt t) q) (y 0)) (y 1) : EReal) :=
  overlay4 (fun y : S128x512.Idx => prev y + ∑ q : Fin 4, (a.dmx (tk (ck (pt t) q) (y 0)) (y 1) : EReal)) f _ _ _ _
    (pieceDb R t prev 3 _) (pieceDb R t prev 2 _) (pieceDb R t prev 1 _) (pieceDb R t prev 0 _) y (cover4 _ _ _ _ ![128, 128] (by sl_kernel_rfl) y)

theorem last16 (f : S4x128.Idx → EReal) (prev : FVec Ideal S128x512 .f32) (y : S4x128.Idx) :
    (Rect.unit (s := S4x128) ![3, 0] ![1, 128] inb_S4x128_S1x128_3_0).overlay ((Rect.unit (s := S4x128) ![2, 0] ![1, 128] inb_S4x128_S1x128_2_0).overlay ((Rect.unit (s := S4x128) ![1, 0] ![1, 128] inb_S4x128_S1x128_1_0).overlay ((Rect.unit (s := S4x128) ![0, 0] ![1, 128] inb_S4x128_S1x128_0_0).overlay f
      (k0_pay8 (F := Ideal) (dbAll m c t 0 (View.ld (Val := Elt Ideal) (S := S128x512) (e' := .f32) prev (Rect.unit ![0, 0] ![128, 128] inb_S128x512_S128x128_0_0)))))
      (k0_pay8 (F := Ideal) (dbAll m c t 1 (View.ld (Val := Elt Ideal) (S := S128x512) (e' := .f32) prev (Rect.unit ![0, 128] ![128, 128] inb_S128x512_S128x128_0_128)))))
      (k0_pay8 (F := Ideal) (dbAll m c t 2 (View.ld (Val := Elt Ideal) (S := S128x512) (e' := .f32) prev (Rect.unit ![0, 256] ![128, 128] inb_S128x512_S128x128_0_256)))))
      (k0_pay8 (F := Ideal) (dbAll m c t 3 (View.ld (Val := Elt Ideal) (S := S128x512) (e' := .f32) prev (Rect.unit ![0, 384] ![128, 128] inb_S128x512_S128x128_0_384)))) y
    = ∑ k : Fin 128, (prev (ix2 (y 1) (hc (y 0) k)) + ∑ q : Fin 4, (a.dmx (tk (ck (pt t) q) (y 1)) (hc (y 0) k) : EReal)) :=
  overlay4 (fun y : S4x128.Idx => ∑ k : Fin 128, (prev (ix2 (y 1) (hc (y 0) k)) + ∑ q : Fin 4, (a.dmx (tk (ck (pt t) q) (y 1)) (hc (y 0) k) : EReal))) f _ _ _ _
    (piece16 R t prev 3 inb_S128x512_S128x128_0_384 _)
    (piece16 R t prev 2 inb_S128x512_S128x128_0_256 _)
    (piece16 R t prev 1 inb_S128x512_S128x128_0_128 _)
    (piece16 R t prev 0 inb_S128x512_S128x128_0_0 _) y (cover4 _ _ _ _ ![1, 128] (by sl_kernel_rfl) y)

theorem final16 : (dats m 0 c).arrAt 16 (cfgs 0).N = fun i => ((a.dbs (i 0) (i 1) : ℝ) : EReal) := by
  refine (dats m 0 c).arrAt_eq_of_after_last 16 t0_7 (by decide +kernel) _ fun j => ?_
  blk_simp
  rw [after0_16]
  have e := chunks_sum (fun n h => (outsAt0 m c n h).2.2.2.2.2.2.2.2.2.2.2) (fun j n => (a.dmx (tk n (j 0)) (j 1) : EReal)) (fun t h j => by
    show (outsAt0 m c t.val t.isLt).2.2.2.2.2.2.2.2.2.2.2 j = _
    rw [outsAt0_A m c t h (by omega)]
    frame_open
    simp (disch := decide) only [↓View.readCov_skip, ↓View.readCov_cons_toLoadRect, ↓View.readCov_fill]
    frame_out
    simp only [View.canon_cons, overlay_same]
    simp only [bhead0, bhead1, bhead2, bhead3]
    exact (leftDb R t _ _ j).trans (by rw [zero19]))
    (fun t h h1 j => by
    show (outsAt0 m c t.val t.isLt).2.2.2.2.2.2.2.2.2.2.2 j = _
    rw [outsAt0_B m c t h h1]
    frame_open
    simp (disch := decide) only [↓View.readCov_skip, ↓View.readCov_cons_toLoadRect, ↓View.readCov_fill]
    frame_out
    simp only [View.canon_cons, overlay_same, read_unread_whole]
    simp only [bhead0, bhead1, bhead2, bhead3, colsums]
    exact leftDb R t _ _ j)
  refine Eq.trans (b := ∑ k : Fin 128, ∑ n, (a.dmx (tk n (j 1)) (hc (j 0) k) : EReal)) ?_ ?_
  · refine Eq.trans ?_ (Finset.sum_congr rfl fun k _ => e (ix2 (j 1) (hc (j 0) k)))
    show (outsAt0 m c t0_7.val t0_7.isLt).2.2.2.2.2.1 j = _
    rw [outsAt0_C m c t0_7 (by decide) (by decide)]
    frame_open
    simp (disch := decide) only [↓View.readCov_skip, ↓View.readCov_cons_toLoadRect, ↓View.readCov_fill]
    frame_out
    simp only [View.canon_cons, overlay_same, read_unread_whole]
    simp only [bhead0, bhead1, bhead2, bhead3, colsums]
    exact last16 R t0_7 _ _ j
  · unfold Inp.dbs
    simp only [coe_sum]

end Cert.Kernel3Ideal.Mix

end
-- ==== Proof.MixFinite.lean ====
/- The arguments named finite hold reals, hence so do the projection, the convolution and the cotangents of the mixer's two
   halves: the reals the mixer's gradients are stated in. -/
module

public import proofs.«01_k».proof.Proof.RefMixOps
public import proofs.«01_k».proof.Pre_finite_args
public import Idealize.ShloMosaic.Lib.ReduceAll

@[expose] public section

set_option maxRecDepth 16384

noncomputable section

namespace Cert.Reference3Ideal.Mix

open Cert.Reference3Ideal Cert.Reference3Ideal.Gen Idealize.ShloMosaic Idealize.ShloMosaic.StableHlo Cert.Ereal Cert.MixMath
open Idealize.ShloMosaic.Pointwise

/-- An extended real that is a real. -/
def Rl (x : EReal) : Prop := x = (x.toReal : EReal)

theorem rl_coe (r : ℝ) : Rl (r : EReal) := by unfold Rl; rw [EReal.toReal_coe]
theorem rl_of {x : EReal} {r : ℝ} (h : x = r) : Rl x := h ▸ rl_coe r
theorem Rl.mul {x y : EReal} (hx : Rl x) (hy : Rl y) : Rl (x * y) := by
  rw [hx, hy, ← EReal.coe_mul]; exact rl_coe _
theorem Rl.add {x y : EReal} (hx : Rl x) (hy : Rl y) : Rl (x + y) := by
  rw [hx, hy, ← EReal.coe_add]; exact rl_coe _
theorem Rl.sum {ι : Type} {s : Finset ι} {f : ι → EReal} (h : ∀ i, Rl (f i)) : Rl (∑ i ∈ s, f i) := by
  rw [show f = fun i => ((f i).toReal : EReal) from funext h, ← coe_sum]; exact rl_coe _

/-- An array of finite values holds reals. -/
theorem rl_of_lt {s : Shape} {x : FVec Ideal s .f32} {c : FVec Ideal s .f32} {i : s.Idx}
    (hc : c i = Ideal.ofBits .f32 0x7F800000#32) (h : cmpf .olt (Host.absf x) c i = 1#1) : Rl (x i) := by
  have h' : Ideal.cmp .olt (max (x i : EReal) (-(x i : EReal))) (c i) = 1#1 := h
  rw [hc, show Ideal.ofBits .f32 0x7F800000#32 = ⊤ by simp [Ideal.ofBits, Ideal.ieee]] at h'
  unfold Ideal.cmp at h'
  have hlt : max (x i : EReal) (-(x i : EReal)) < ⊤ := by
    by_contra hn
    simp [hn] at h'
  rw [max_lt_iff] at hlt
  refine (EReal.coe_toReal hlt.1.ne fun hb => ?_).symm
  rw [hb] at hlt
  exact absurd hlt.2 (by simp)

section
variable [Cert.Pre_finite_args.Facts]

variable {x : FVec Ideal S4096x1024 .f32} {g : FVec Ideal S1024 .f32} {wi : FVec Ideal S1024x2048 .f32} {lg lb : FVec Ideal S512 .f32}
  {w : FVec Ideal S4x128x128 .f32} {bs : FVec Ideal S4x128 .f32} {cw : FVec Ideal S31x512 .f32} {cb clg clb : FVec Ideal S512 .f32}
  {wo : FVec Ideal S1024x1024 .f32} {ct : FVec Ideal S4096x1024 .f32}

/-- Every argument but the last layer normalisation's offset holds reals. -/
theorem args_rl (h : Cert.Pre_finite_args.fn (F := Ideal) x g wi lg lb w bs cw cb clg clb wo ct = fun _ => 1#1) :
    (∀ i, Rl (x i)) ∧ (∀ i, Rl (g i)) ∧ (∀ i, Rl (wi i)) ∧ (∀ i, Rl (lg i)) ∧ (∀ i, Rl (lb i)) ∧ (∀ i, Rl (w i)) ∧ (∀ i, Rl (bs i))
      ∧ (∀ i, Rl (cw i)) ∧ (∀ i, Rl (cb i)) ∧ (∀ i, Rl (clg i)) ∧ (∀ i, Rl (wo i)) ∧ (∀ i, Rl (ct i)) := by
  haveI : Subsingleton Cert.Pre_finite_args.S_.Idx := ⟨fun a b => funext fun k => k.elim0⟩
  have h0 := congrFun h (Shape.Idx.first (by decide))
  unfold Cert.Pre_finite_args.fn Cert.Pre_finite_args.fn_part1 Cert.Pre_finite_args.fn_part2 Cert.Pre_finite_args.fn_part3 at h0
  obtain ⟨h0, hct⟩ := IntOp.andi_eq_one.1 h0
  obtain ⟨h0, hwo⟩ := IntOp.andi_eq_one.1 h0
  obtain ⟨h0, hclg⟩ := IntOp.andi_eq_one.1 h0
  obtain ⟨h0, hcb⟩ := IntOp.andi_eq_one.1 h0
  obtain ⟨h0, hcw⟩ := IntOp.andi_eq_one.1 h0
  obtain ⟨h0, hbs⟩ := IntOp.andi_eq_one.1 h0
  obtain ⟨h0, hw⟩ := IntOp.andi_eq_one.1 h0
  obtain ⟨h0, hlb⟩ := IntOp.andi_eq_one.1 h0
  obtain ⟨h0, hlg⟩ := IntOp.andi_eq_one.1 h0
  obtain ⟨h0, hwi⟩ := IntOp.andi_eq_one.1 h0
  obtain ⟨hx, hg⟩ := IntOp.andi_eq_one.1 h0
  exact ⟨fun i => rl_of_lt rfl (Host.reduce_andi_all _ _ _ _ _ hx i), fun i => rl_of_lt rfl (Host.reduce_andi_all _ _ _ _ _ hg i),
    fun i => rl_of_lt rfl (Host.reduce_andi_all _ _ _ _ _ hwi i), fun i => rl_of_lt rfl (Host.reduce_andi_all _ _ _ _ _ hlg i),
    fun i => rl_of_lt rfl (Host.reduce_andi_all _ _ _ _ _ hlb i), fun i => rl_of_lt rfl (Host.reduce_andi_all _ _ _ _ _ hw i),
    fun i => rl_of_lt rfl (Host.reduce_andi_all _ _ _ _ _ hbs i), fun i => rl_of_lt rfl (Host.reduce_andi_all _ _ _ _ _ hcw i),
    fun i => rl_of_lt rfl (Host.reduce_andi_all _ _ _ _ _ hcb i), fun i => rl_of_lt rfl (Host.reduce_andi_all _ _ _ _ _ hclg i),
    fun i => rl_of_lt rfl (Host.reduce_andi_all _ _ _ _ _ hwo i), fun i => rl_of_lt rfl (Host.reduce_andi_all _ _ _ _ _ hct i)⟩

end

theorem projT_at (x : FVec Ideal S4096x1024 .f32) (g : FVec Ideal S1024 .f32) (w : FVec Ideal S1024x2048 .f32) (i : Fin 4096) (j : Fin 2048) :
    projT x g w (ix2 i j) = ∑ k : Fin 1024, x (ix2 i k) * rst (fun l => x (ix2 i l)) * g (ix1 k) * w (ix2 k j) := by
  pointwise [projT]
  rfl

/-- The projection of reals is real: the mean square is at least ε. -/
theorem projT_rl {x : FVec Ideal S4096x1024 .f32} {g : FVec Ideal S1024 .f32} {w : FVec Ideal S1024x2048 .f32}
    (hx : ∀ i, Rl (x i)) (hg : ∀ i, Rl (g i)) (hw : ∀ i, Rl (w i)) (i : Fin 4096) (j : Fin 2048) : Rl (projT x g w (ix2 i j)) := by
  rw [projT_at]
  have hr : Rl (rst (fun l => x (ix2 i l))) := by
    rw [show (fun l => x (ix2 i l)) = fun l => ((x (ix2 i l)).toReal : EReal) from funext fun l => hx _]
    exact rl_of (rst_coe _)
  exact Rl.sum fun k => (((hx _).mul hr).mul (hg _)).mul (hw _)

theorem sumTaps_at (A : FVec Ideal S4096x31x512 .f32) (i : Fin 4096) (k : Fin 512) :
    Host.reduceAdd A (constant S_ .f32 0x00000000#32) reducesTo_S4096x31x512_S4096x512_d1 h_S_ (ix2 i k) = ∑ j : Fin 31, A (ix3 i j k) := by
  pointwise []

/-- The gated half: a column times the sigmoid of another. -/
theorem gated_rl {p : FVec Ideal S4096x2048 .f32} (hp : ∀ i j, Rl (p (ix2 i j))) (i : Fin 4096) (k : Fin 512) :
    Rl (mulf (extractStridedSlice S4096x512 ![0, 1024] p slices_S4096x2048_S4096x512_0_1024) (Host.divf (broadcastInDim S4096x512 ![] bcast_S_S4096x512 (constant S_ .f32 0x3F800000#32)) (addf (broadcastInDim S4096x512 ![] bcast_S_S4096x512 (constant S_ .f32 0x3F800000#32)) (Host.exp (Host.negf (extractStridedSlice S4096x512 ![0, 1536] p slices_S4096x2048_S4096x512_0_1536))))) (ix2 i k)) := by
  have hs : ∀ z : EReal, Rl z → Rl (sgE z) := fun z hz => by rw [hz]; exact rl_of (sgE_real _)
  have e1 : extractStridedSlice S4096x512 ![0, 1024] p slices_S4096x2048_S4096x512_0_1024 (ix2 i k) = p (ix2 i ⟨1024 + k.val, by omega⟩) := by pointwise []
  have e2 : extractStridedSlice S4096x512 ![0, 1536] p slices_S4096x2048_S4096x512_0_1536 (ix2 i k) = p (ix2 i ⟨1536 + k.val, by omega⟩) := by pointwise []
  exact Rl.mul (e1 ▸ hp _ _) (hs _ (e2 ▸ hp _ _))

theorem gather_rl {s si t : Shape} {v : Nat} (d : GatherDims s si t) {x : s.Idx → EReal} (idx : IVec si v) (h : ∀ i, Rl (x i)) (j : t.Idx) :
    Rl (Host.gather d x idx j) := h _

theorem pad_rl {s t u : Shape} {lo hi it : Fin s.rank → Nat} {x : s.Idx → EReal} {v : u.Idx → EReal} (h : s.Pads lo hi it t) (hu : 0 < u.numel)
    (hx : ∀ i, Rl (x i)) (hv : ∀ i, Rl (v i)) (j : t.Idx) : Rl (pad t lo hi it x v h hu j) := by
  unfold pad
  split
  · exact hx _
  · exact hv _

/-- The convolution of reals is real. -/
theorem convT_rl {p : FVec Ideal S4096x2048 .f32} {w : FVec Ideal S31x512 .f32} {b : FVec Ideal S512 .f32}
    (hp : ∀ i j, Rl (p (ix2 i j))) (hw : ∀ i, Rl (w i)) (hb : ∀ i, Rl (b i)) (i : Fin 4096) (k : Fin 512) : Rl (convT p w b (ix2 i k)) := by
  unfold convT
  refine Rl.add ?_ (hb _)
  rw [sumTaps_at]
  refine Rl.sum fun j => Rl.mul (hw _) (gather_rl _ _ (pad_rl _ _ (fun q => ?_) fun q => ?_) _)
  · rw [eq_ix2 q]; exact gated_rl hp (q 0) (q 1)
  · exact rl_of (r := (((0#32 : BitVec 32).toInt : ℤ) : ℝ)) rfl

/-- The reals of the arguments. -/
def inpOf (p : FVec Ideal S4096x2048 .f32) (c : Half) (lg lb : FVec Ideal S512 .f32) (w : FVec Ideal S4x128x128 .f32) (bs : FVec Ideal S4x128 .f32)
    (clg clb : FVec Ideal S512 .f32) (wo : FVec Ideal S1024x1024 .f32) (ct : FVec Ideal S4096x1024 .f32) : Inp where
  u i k := (p (ix2 i (pc 0 k))).toReal
  v i k := (p (ix2 i (pc 1 k))).toReal
  c i k := (c (ix2 i k)).toReal
  da i k := (∑ l, ct (ix2 i l) * wo (ix2 (lo k) l) : EReal).toReal
  dz i k := (∑ l, ct (ix2 i l) * wo (ix2 (hi k) l) : EReal).toReal
  lg k := (lg (ix1 k)).toReal
  lb k := (lb (ix1 k)).toReal
  clg k := (clg (ix1 k)).toReal
  clb k := clb (ix1 k)
  w h t s := (w (ix3 h t s)).toReal
  bs h t := (bs (ix2 h t)).toReal

/-- Finite arguments: the arrays hold the reals of `inpOf`. -/
theorem reads_of_finite [Cert.Pre_finite_args.Facts] {x : FVec Ideal S4096x1024 .f32} {g : FVec Ideal S1024 .f32} {wi : FVec Ideal S1024x2048 .f32}
    {lg lb : FVec Ideal S512 .f32} {w : FVec Ideal S4x128x128 .f32} {bs : FVec Ideal S4x128 .f32} {cw : FVec Ideal S31x512 .f32}
    {cb clg clb : FVec Ideal S512 .f32} {wo : FVec Ideal S1024x1024 .f32} {ct : FVec Ideal S4096x1024 .f32}
    (h : Cert.Pre_finite_args.fn (F := Ideal) x g wi lg lb w bs cw cb clg clb wo ct = fun _ => 1#1) :
    Reads (inpOf (projT x g wi) (convT (projT x g wi) cw cb) lg lb w bs clg clb wo ct) (fun i k => projT x g wi (ix2 i k))
      (fun i k => convT (projT x g wi) cw cb (ix2 i k)) (fun k => lg (ix1 k)) (fun k => lb (ix1 k)) (fun k => clg (ix1 k)) (fun k => clb (ix1 k))
      (fun h t s => w (ix3 h t s)) (fun h t => bs (ix2 h t)) (fun k l => wo (ix2 k l)) (fun i l => ct (ix2 i l)) := by
  obtain ⟨hx, hg, hwi, hlg, hlb, hw, hbs, hcw, hcb, hclg, hwo, hct⟩ := args_rl h
  have hp : ∀ i j, Rl (projT x g wi (ix2 i j)) := projT_rl hx hg hwi
  exact { u := fun i k => hp _ _, v := fun i k => hp _ _, c := fun i k => convT_rl hp hcw hcb i k,
          da := fun i k => Rl.sum fun l => (hct _).mul (hwo _), dz := fun i k => Rl.sum fun l => (hct _).mul (hwo _),
          lg := fun k => hlg _, lb := fun k => hlb _, clg := fun k => hclg _, clb := fun k => rfl, w := fun h t s => hw _, bs := fun h t => hbs _ }

end Cert.Reference3Ideal.Mix

end
-- ==== Proof.RefMix.lean ====
module

public import proofs.«01_k».proof.Proof.RefMixOps
public import proofs.«01_k».proof.Proof.Gen.Reference3Ideal.Run

@[expose] public section

set_option maxRecDepth 16384

noncomputable section

namespace Cert.Reference3Ideal.Mix

open Cert.Reference3Ideal Cert.Reference3Ideal.Gen Cert.Reference3Ideal.Value Idealize.ShloMosaic Idealize.ShloMosaic.TcCoe Idealize.SL.Sem
open Idealize.ShloMosaic.StableHlo Cert.Ereal Cert.MixMath

variable (m : (ℓ : Loc nD τ sig) → Buf (Elt Ideal) ℓ)

abbrev X (c : Dev nD) : FVec Ideal S4096x1024 .f32 := m ((c : Thread nD τ).loc main_arg0)
abbrev N1 (c : Dev nD) : FVec Ideal S1024 .f32 := m ((c : Thread nD τ).loc main_arg1)
abbrev WI (c : Dev nD) : FVec Ideal S1024x2048 .f32 := m ((c : Thread nD τ).loc main_arg2)
abbrev LG (c : Dev nD) : FVec Ideal S512 .f32 := m ((c : Thread nD τ).loc main_arg3)
abbrev LB (c : Dev nD) : FVec Ideal S512 .f32 := m ((c : Thread nD τ).loc main_arg4)
abbrev W (c : Dev nD) : FVec Ideal S4x128x128 .f32 := m ((c : Thread nD τ).loc main_arg5)
abbrev BS (c : Dev nD) : FVec Ideal S4x128 .f32 := m ((c : Thread nD τ).loc main_arg6)
abbrev CW (c : Dev nD) : FVec Ideal S31x512 .f32 := m ((c : Thread nD τ).loc main_arg7)
abbrev CB (c : Dev nD) : FVec Ideal S512 .f32 := m ((c : Thread nD τ).loc main_arg8)
abbrev CLG (c : Dev nD) : FVec Ideal S512 .f32 := m ((c : Thread nD τ).loc main_arg9)
abbrev CLB (c : Dev nD) : FVec Ideal S512 .f32 := m ((c : Thread nD τ).loc main_arg10)
abbrev WO (c : Dev nD) : FVec Ideal S1024x1024 .f32 := m ((c : Thread nD τ).loc main_arg11)
abbrev CT (c : Dev nD) : FVec Ideal S4096x1024 .f32 := m ((c : Thread nD τ).loc main_arg12)
abbrev PJ (c : Dev nD) : FVec Ideal S4096x2048 .f32 := projT (X m c) (N1 m c) (WI m c)
abbrev CV (c : Dev nD) : Half := convT (PJ m c) (CW m c) (CB m c)

section
variable (c : Dev nD)

/-- The stages of the gradient. -/
abbrev GU : Half := geluT (uT (PJ m c))
abbrev GV : Half := geluT (vT (PJ m c))
abbrev DA : Half := daT (dmixT (CT m c) (WO m c))
abbrev ZH : Heads := zH (headsT (CV m c)) (CLG m c) (CLB m c)
abbrev MIX : FVec Ideal S4096x1024 .f32 := mixT (PJ m c) (CV m c) (LG m c) (LB m c) (W m c) (BS m c) (CLG m c) (CLB m c)
def vnM : Half := vnT (GV m c) (LG m c) (LB m c)
def duM : Half := dgeluT (uT (PJ m c)) (mulf (DA m c) (mixedT (vnM m c) (W m c) (BS m c)))
def dmxM : Half := mulf (GU m c) (DA m c)
def dvM : Half := dvT (dmxM m c) (W m c)
def dvgM : Half := lnbT (GV m c) (mulf (dvM m c) (rowT (LG m c)))
def dzzM : Heads := dsH (ZH m c) (headsT (dzT (dmixT (CT m c) (WO m c))))
def dcM : Half := flatT (lnbH (headsT (CV m c)) (mulf (dzzM m c) (rowH (CLG m c))))

theorem e13 : res_main_v13 (F := Ideal) (launchContents m c) = PJ m c := rfl
theorem e53 : res_main_v53 (F := Ideal) (launchContents m c) = GU m c := rfl
theorem e66 : res_main_v66 (F := Ideal) (launchContents m c) = GV m c := rfl
theorem e96 : res_main_v96 (F := Ideal) (launchContents m c) = cutT (vnM m c) := rfl
theorem e108 : res_main_v108 (F := Ideal) (launchContents m c) = mixedT (vnM m c) (W m c) (BS m c) := rfl
theorem e113 : res_main_v113 (F := Ideal) (launchContents m c) = headsT (CV m c) := rfl
theorem e144 : res_main_v144 (F := Ideal) (launchContents m c) = ZH m c := rfl
theorem e147 : res_main_v147 (F := Ideal) (launchContents m c) = MIX m c := rfl
theorem e155 : res_main_v155 (F := Ideal) (launchContents m c) = dzzM m c := rfl
theorem e197 : res_main_v197 (F := Ideal) (launchContents m c) = cutT (dmxM m c) := rfl
theorem e208 : res_main_v208 (F := Ideal) (launchContents m c) = dvM m c := rfl
theorem e241 : res_main_v241 (F := Ideal) (launchContents m c) = dvgM m c := rfl

variable {m c} {a : Inp}

/-- The reference's arrays hold the reals of `a`. -/
abbrev Holds (m : (ℓ : Loc nD τ sig) → Buf (Elt Ideal) ℓ) (c : Dev nD) (a : Inp) : Prop :=
  Reads a (fun i k => PJ m c (ix2 i k)) (fun i k => CV m c (ix2 i k)) (fun k => LG m c (ix1 k)) (fun k => LB m c (ix1 k))
    (fun k => CLG m c (ix1 k)) (fun k => CLB m c (ix1 k)) (fun h t s => W m c (ix3 h t s)) (fun h t => BS m c (ix2 h t))
    (fun k l => WO m c (ix2 k l)) (fun i l => CT m c (ix2 i l))

variable (R : Holds m c a) (i : Fin 4096) (k : Fin 512)
include R

theorem gu_at : GU m c (ix2 i k) = (a.gu i k : EReal) := geluT_at _ _ i k ((uT_at _ i k).trans (R.u i k))
theorem gv_at : GV m c (ix2 i k) = (a.gv i k : EReal) := geluT_at _ _ i k ((vT_at _ i k).trans (R.v i k))
theorem da_at : DA m c (ix2 i k) = (a.da i k : EReal) := (daT_at _ _ i k).trans (R.da i k)

theorem gv_row : (fun l => GV m c (ix2 i l)) = fun l => (a.gv i l : EReal) := funext fun l => gv_at R i l

theorem xh_at : xhT (GV m c) (ix2 i k) = (a.xh i k : EReal) := by
  rw [xhT_at, gv_row R i]; exact xhE_coe ofBits_512 (by norm_num) _ k

theorem vn_at : vnM m c (ix2 i k) = (a.vn i k : EReal) := by
  unfold vnM vnT
  pointwise []
  rw [xh_at R, rowT_at, rowT_at, R.lg k, R.lb k, ← EReal.coe_mul, ← EReal.coe_add]; rfl

theorem mask_at (h : Fin 4) (t s : Fin 128) : maskT (W m c) (ix3 h t s) = (a.wm h t s : EReal) := by
  pointwise [maskT]
  rw [trilT_at, R.w h t s]
  unfold Inp.wm
  split
  · rw [← EReal.coe_mul, mul_one]
  · rw [mul_zero, EReal.coe_zero]

theorem mixed_at : mixedT (vnM m c) (W m c) (BS m c) (ix2 i k) = (a.mixed (ch i) (ps i) (hd k) (cl k) : EReal) := by
  rw [mixedT_at, R.bs]
  simp only [mask_at R, vn_at R, ← EReal.coe_mul, ← coe_sum, ← EReal.coe_add]
  unfold Inp.mixed
  rw [hc_hd]

theorem du_at : duM m c (ix2 i k) = (a.du i k : EReal) := by
  refine dgeluT_at _ _ _ (a.da i k * a.mixed (ch i) (ps i) (hd k) (cl k)) i k ((uT_at _ i k).trans (R.u i k)) ?_
  pointwise []
  rw [da_at R, mixed_at R, EReal.coe_mul]

theorem dmx_at : dmxM m c (ix2 i k) = (a.dmx i k : EReal) := by
  unfold dmxM
  pointwise []
  rw [gu_at R, da_at R, ← EReal.coe_mul, mul_comm]; rfl

theorem dv_at : dvM m c (ix2 i k) = (a.dv i k : EReal) := by
  unfold dvM
  rw [dvT_at]
  simp only [mask_at R, dmx_at R, ← EReal.coe_mul, ← coe_sum]; rfl

theorem dvg_at : dvgM m c (ix2 i k) = (a.dvg i k : EReal) := by
  unfold dvgM
  rw [lnbT_at, gv_row R i]
  refine Eq.trans ?_ (lnbChain_coe ofBits_512 (by norm_num) (a.gv i) (fun l => a.dv i l * a.lg l) k)
  refine congrArg (fun d => lnbChain _ _ d k) (funext fun l => ?_)
  pointwise []
  rw [dv_at R, rowT_at, R.lg l, EReal.coe_mul]

theorem dva_at : dgeluT (vT (PJ m c)) (dvgM m c) (ix2 i k) = (a.dva i k : EReal) :=
  dgeluT_at _ _ _ _ i k ((vT_at _ i k).trans (R.v i k)) (dvg_at R i k)

omit i k in
theorem dw_at (h : Fin 4) (t s : Fin 128) : dwT (dmxM m c) (vnM m c) (ix3 h t s) = (a.dw h t s : EReal) := by
  rw [dwT_at, trilT_at]
  simp only [dmx_at R, vn_at R, ← EReal.coe_mul, ← coe_sum]
  unfold Inp.dw
  split
  · rw [← EReal.coe_mul, mul_one]
  · rw [mul_zero, EReal.coe_zero]

omit i k in
theorem dbs_at (h : Fin 4) (t : Fin 128) : dbsT (dmxM m c) (ix2 h t) = (a.dbs h t : EReal) := by
  rw [dbsT_at]
  simp only [dmx_at R, ← coe_sum]; rfl

theorem dlb_at : colsT (dvM m c) (ix2 0 k) = (a.dlb k : EReal) := by
  rw [colsT_at]
  simp only [dv_at R, ← coe_sum]; rfl

theorem dlg_at : colsT (mulf (xhT (GV m c)) (dvM m c)) (ix2 0 k) = (a.dlg k : EReal) := by
  rw [colsT_at]
  simp only [show ∀ (x y : Half) j, mulf x y j = x j * y j from fun _ _ _ => rfl, xh_at R, dv_at R, ← EReal.coe_mul, ← coe_sum]
  exact congrArg _ (Finset.sum_congr rfl fun i _ => mul_comm _ _)

omit k in
theorem c_row (h : Fin 4) : (fun l => headsT (CV m c) (ix3 i h l)) = fun l => (a.crow i h l : EReal) :=
  funext fun l => (headsT_at _ i h l).trans (R.c i (hc h l))

theorem cxh_at : xhH (headsT (CV m c)) (ix3 i (hd k) (cl k)) = (a.cxh i k : EReal) := by
  rw [xhH_at, c_row R i]; exact xhE_coe ofBits_128 (by norm_num) _ (cl k)

theorem z_at : ZH m c (ix3 i (hd k) (cl k)) = a.z i k := by
  unfold ZH zH
  pointwise []
  rw [cxh_at R, rowH_at, rowH_at, hc_hd, R.clg k, R.clb k]; rfl

theorem dzz_at : dzzM m c (ix3 i (hd k) (cl k)) = (a.dzz i k : EReal) := by
  refine (dsH_at i (hd k) (cl k) _ _ (a.dz i k) ?_).trans (by rw [z_at R]; rfl)
  rw [headsT_at, hc_hd]
  exact (dzT_at _ _ i k).trans (R.dz i k)

theorem dc_at : dcM m c (ix2 i k) = (a.dc i k : EReal) := by
  unfold dcM
  rw [flatT_at, lnbH_at, c_row R i]
  refine Eq.trans ?_ (lnbChain_coe ofBits_128 (by norm_num) (a.crow i (hd k)) (fun l => a.dzz i (hc (hd k) l) * a.clg (hc (hd k) l)) (cl k))
  refine congrArg (fun d => lnbChain _ _ d (cl k)) (funext fun l => ?_)
  have e := dzz_at R i (hc (hd k) l)
  rw [hd_hc, cl_hc] at e
  pointwise []
  rw [e, rowH_at, R.clg, EReal.coe_mul]

theorem dcb_at : colsT (dcM m c) (ix2 0 k) = (a.dcb k : EReal) := by
  rw [colsT_at]
  simp only [dc_at R, ← coe_sum]; rfl

theorem dclb_at : colsH (dzzM m c) (ix2 0 k) = (a.dclb k : EReal) := by
  rw [colsH_at]
  simp only [dzz_at R, ← coe_sum]; rfl

theorem dclg_at : colsH (mulf (xhH (headsT (CV m c))) (dzzM m c)) (ix2 0 k) = (a.dclg k : EReal) := by
  rw [colsH_at]
  simp only [show ∀ (x y : Heads) j, mulf x y j = x j * y j from fun _ _ _ => rfl, cxh_at R, dzz_at R, ← EReal.coe_mul, ← coe_sum]
  exact congrArg _ (Finset.sum_congr rfl fun i _ => mul_comm _ _)

omit k in
theorem dpa_at (k : Fin 1024) : sideT (duM m c) (dgeluT (vT (PJ m c)) (dvgM m c)) (ix2 i k) = (a.dpa i k : EReal) := by
  unfold Inp.dpa
  split
  · rename_i h; exact (sideT_lo _ _ i ⟨k.val, h⟩).trans (du_at R i _)
  · rename_i h
    have e : k = hi ⟨k.val - 512, by omega⟩ := Fin.ext (by simp only [hi]; omega)
    exact (congrArg (fun l => sideT (duM m c) (dgeluT (vT (PJ m c)) (dvgM m c)) (ix2 i l)) e).trans
      ((sideT_hi _ _ i _).trans (dva_at R i _))

/-! ## The run -/

/-- The output projection's gradient, over the concatenated halves. -/
abbrev dwoM (m : (ℓ : Loc nD τ sig) → Buf (Elt Ideal) ℓ) (c : Dev nD) (k l : Fin 1024) : EReal :=
  ∑ i, MIX m c (ix2 i k) * CT m c (ix2 i l)

omit R in
theorem dwo_read (x : FVec Ideal S1024x1024 .f32) (f : Fin 1024 → Fin 1024 → EReal) (h : ∀ k l, x (ix2 k l) = f k l) (i : S1x1024x1024.Idx) :
    shapeCast S1x1024x1024 x shapeCasts_S1024x1024_S1x1024x1024 i = f (i 1) (i 2) := by
  obtain ⟨k, l, rfl⟩ : ∃ k l, i = ix3 0 k l := ⟨i 1, i 2, by rw [eq_ix3 i]; congr 1; exact Subsingleton.elim _ _⟩
  pointwise []
  exact h k l

omit R in
theorem one_row {f : FVec Ideal S1x512 .f32} {r : Fin 512 → ℝ} (h : ∀ k, f (ix2 0 k) = (r k : EReal)) : f = fun i => (r (i 1) : EReal) := by
  funext i
  obtain ⟨k, rfl⟩ : ∃ k, i = ix2 0 k := ⟨i 1, by rw [eq_ix2 i]; congr 1; exact Subsingleton.elim _ _⟩
  exact h k
end

variable (m : (ℓ : Loc nD τ sig) → Buf (Elt Ideal) ℓ)

/-- THE REFERENCE'S RUN. -/
theorem run (g : Dev nD → PrngReg) (a : Dev nD → Inp) (R : ∀ c, Holds m c (a c)) :
    θ_run defs (onTc (τ := τ) (main (F := Ideal))) ⟨m, fun _ => 0, g⟩ fun r => ∀ c : Dev nD,
    r.2.mem ((c.tc : Thread nD τ).loc main_v265) = (fun i => ((a c).dpa (i 0) (i 1) : EReal))
    ∧ r.2.mem ((c.tc : Thread nD τ).loc main_v191) = (fun i => ((a c).dc (i 0) (i 1) : EReal))
    ∧ r.2.mem ((c.tc : Thread nD τ).loc main_v266) = (fun i => ((a c).dlg (i 1) : EReal))
    ∧ r.2.mem ((c.tc : Thread nD τ).loc main_v267) = (fun i => ((a c).dlb (i 1) : EReal))
    ∧ r.2.mem ((c.tc : Thread nD τ).loc main_v207) = (fun i => ((a c).dw (i 0) (i 1) (i 2) : EReal))
    ∧ r.2.mem ((c.tc : Thread nD τ).loc main_v201) = (fun i => ((a c).dbs (i 0) (i 1) : EReal))
    ∧ r.2.mem ((c.tc : Thread nD τ).loc main_v268) = (fun i => ((a c).dcb (i 1) : EReal))
    ∧ r.2.mem ((c.tc : Thread nD τ).loc main_v269) = (fun i => ((a c).dclg (i 1) : EReal))
    ∧ r.2.mem ((c.tc : Thread nD τ).loc main_v270) = (fun i => ((a c).dclb (i 1) : EReal))
    ∧ r.2.mem ((c.tc : Thread nD τ).loc main_v271) = (fun i => dwoM m c (i 1) (i 2))
    ∧ r.2.mem ((c.tc : Thread nD τ).loc main_v273) = (fun i => dwoM m c (i 1) (i 2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) := by
  refine (θ_run _ _ _).mono (fun r h c => ?_) (Cert.Reference3Ideal.Value.run m g)
  obtain ⟨h0, h1, h2, h3, h4, h5, h6, h7, h8, h9, h10, hargs⟩ := h c
  refine ⟨h0.trans ?_, h1.trans ?_, h2.trans ?_, h3.trans ?_, h4.trans ?_, h5.trans ?_, h6.trans ?_, h7.trans ?_, h8.trans ?_, h9.trans ?_, h10.trans ?_, hargs⟩
  · funext i
    refine Eq.trans (congrArg (sideT (duM m c) (dgeluT (vT (PJ m c)) (dvgM m c))) (eq_ix2 i)) ?_
    exact dpa_at (R c) (i 0) (i 1)
  · funext i
    exact (congrArg (dcM m c) (eq_ix2 i)).trans (dc_at (R c) (i 0) (i 1))
  · exact one_row (dlg_at (R c))
  · exact one_row (dlb_at (R c))
  · funext i
    exact (congrArg (dwT (dmxM m c) (vnM m c)) (eq_ix3 i)).trans (dw_at (R c) (i 0) (i 1) (i 2))
  · funext i
    exact (congrArg (dbsT (dmxM m c)) (eq_ix2 i)).trans (dbs_at (R c) (i 0) (i 1))
  · exact one_row (dcb_at (R c))
  · exact one_row (dclg_at (R c))
  · exact one_row (dclb_at (R c))
  · funext i
    exact dwo_read (dwoT (CT m c) (MIX m c)) _ (dwoT_at _ _) i
  · funext i
    exact dwo_read (dwoT (CT m c) (MIX m c)) _ (dwoT_at _ _) i

end Cert.Reference3Ideal.Mix

end
-- ==== Proof.MixFwdRef.lean ====
/- The mixer's forward values at an index: the gated half, the causal convolution, the spatial gating, the swish half, the
   output projection and the norm, as functions of the projection and the parameters; and the host's operations read as them. -/
module

public import proofs.«01_k».proof.Proof.RefMixOps
public import proofs.«01_k».proof.Proof.Gen.Reference4Ideal.Run

@[expose] public section

set_option maxRecDepth 16384
set_option maxHeartbeats 1000000

noncomputable section

namespace Cert.MixFwd

open Idealize.ShloMosaic Idealize.ShloMosaic.StableHlo Cert.Ereal Cert.MixMath Cert.Reference3Ideal.Mix
open Cert.Reference3Ideal Cert.Reference3Ideal.Gen
open Idealize.ShloMosaic.Pointwise

/-! ## The values -/

/-- The exact GELU of an extended real. -/
def geE (x : EReal) : EReal :=
  Ideal.ofBits .f32 0x3F000000#32 * x * (Ideal.ofBits .f32 0x3F800000#32 + Ideal.erf (Ideal.div x ((Real.sqrt 2 : ℝ) : EReal)))

/-- The kernel's form of it: the argument times the root of a half. -/
theorem geE_mul (x : EReal) :
    x * (Ideal.ofBits .f32 0x3F000000#32 * (Ideal.ofBits .f32 0x3F800000#32 + Ideal.erf (x * (((Real.sqrt 2)⁻¹ : ℝ) : EReal)))) = geE x := by
  unfold geE
  rw [div_real sqrt_two_pos.ne', ← mul_assoc, mul_comm x]

section
variable (P : FVec Ideal S4096x2048 .f32) (lg lb : FVec Ideal S512 .f32) (w : FVec Ideal S4x128x128 .f32) (bs : FVec Ideal S4x128 .f32)
  (cw : FVec Ideal S31x512 .f32) (cb clg clb : FVec Ideal S512 .f32)

/-- The gated half, and its rows after thirty rows of zeros. -/
def gl (i : Fin 4096) (k : Fin 512) : EReal := P (ix2 i (pc 2 k)) * sgE (P (ix2 i (pc 3 k)))
def gpad (n : ℕ) (k : Fin 512) : EReal := if h : 30 ≤ n ∧ n - 30 < 4096 then gl P ⟨n - 30, h.2⟩ k else 0
/-- The convolution. -/
def cv (i : Fin 4096) (k : Fin 512) : EReal := (∑ j : Fin 31, cw (ix2 j k) * gpad P (i.val + j.val) k) + cb (ix1 k)
/-- The normalised second half. -/
def vn (i : Fin 4096) (k : Fin 512) : EReal := xhE d512 (fun l => geE (P (ix2 i (pc 1 l)))) k * lg (ix1 k) + lb (ix1 k)
/-- The weight under the mask. -/
def wm (h : Fin 4) (t s : Fin 128) : EReal := if s ≤ t then w (ix3 h t s) else 0
/-- The spatial gating. -/
def lov (i : Fin 4096) (k : Fin 512) : EReal :=
  geE (P (ix2 i (pc 0 k))) * ((∑ s, wm w (hd k) (ps i) s * vn P lg lb (tk (ch i) s) k) + bs (ix2 (hd k) (ps i)))
/-- The swish of the convolution's normalised heads. -/
def zv (i : Fin 4096) (h : Fin 4) (j : Fin 128) : EReal := xhE d128 (fun l => cv P cw cb i (hc h l)) j * clg (ix1 (hc h j)) + clb (ix1 (hc h j))
def hiv (i : Fin 4096) (h : Fin 4) (j : Fin 128) : EReal := zv P cw cb clg clb i h j * sgE (zv P cw cb clg clb i h j)

/-- The convolution, the mixer's output. -/
abbrev CVT : Half := convT P cw cb
abbrev MXT : FVec Ideal S4096x1024 .f32 := mixT P (CVT P cw cb) lg lb w bs clg clb

/-! ## The host's operations read as them -/

/-- The gather of a window's rows: the operand's row at the index, clamped into it. -/
theorem taps_gather {α : Type} (x : S4126x512.Idx → α) (idx : IVec S4096x31x1 32) (i : Fin 4096) (j : Fin 31) (k : Fin 512) :
    Host.gather gather_S4126x512_S4096x31x1_S4096x31x512_2_0_n_n_0_2_1512 x idx (ix3 i j k)
      = x (ix2 ⟨min (idx (ix3 i j 0)).toInt.toNat 4125, by omega⟩ k) := by
  unfold Host.gather
  congr 1
  funext a
  refine Fin.ext ?_
  have h01 : a = 0 ∨ a = 1 := by
    match a with
    | ⟨0, _⟩ => exact Or.inl rfl
    | ⟨1, _⟩ => exact Or.inr rfl
  rcases h01 with rfl | rfl
  · show GatherDims.start _ (ix3 i j k) idx 0 + GatherDims.batchCoord _ (ix3 i j k) 0 + GatherDims.offCoord _ (ix3 i j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S4126x512_S4096x31x1_S4096x31x512_2_0_n_n_0_2_1512).startIndexMap from List.mem_singleton.mpr rfl)]
    have hsi : (gather_S4126x512_S4096x31x1_S4096x31x512_2_0_n_n_0_2_1512).siIdx (ix3 i j k)
        ⟨List.idxOf (0 : Fin 2) (gather_S4126x512_S4096x31x1_S4096x31x512_2_0_n_n_0_2_1512).startIndexMap,
          List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl
  · show GatherDims.start _ (ix3 i j k) idx 1 + GatherDims.batchCoord _ (ix3 i j k) 1 + GatherDims.offCoord _ (ix3 i j k) 1 = _
    rw [GatherDims.batchCoord_eq_zero _ _ _ List.not_mem_nil]
    unfold GatherDims.start
    rw [dif_neg (by decide)]
    simp only [Nat.zero_add, Nat.add_zero]
    rfl

/-- The gated half as the reference has it. -/
def glT : Half :=
  mulf (extractStridedSlice S4096x512 ![0, 1024] P slices_S4096x2048_S4096x512_0_1024) (Host.divf (broadcastInDim S4096x512 ![] bcast_S_S4096x512 (constant S_ .f32 0x3F800000#32)) (addf (broadcastInDim S4096x512 ![] bcast_S_S4096x512 (constant S_ .f32 0x3F800000#32)) (Host.exp (Host.negf (extractStridedSlice S4096x512 ![0, 1536] P slices_S4096x2048_S4096x512_0_1536)))))

theorem glT_at (i : Fin 4096) (k : Fin 512) : glT P (ix2 i k) = gl P i k := by
  pointwise [glT]
  unfold gl sgE
  refine congrArg₂ (· * ·) (congrArg P (congrArg (ix2 i) (Fin.ext ?_))) ?_
  · rfl
  · rw [ofBits_one, EReal.coe_one]
    exact congrArg (fun q => Ideal.div 1 (1 + Ideal.exp (-P (ix2 i q)))) (Fin.ext rfl)

theorem geluT_ge (x : Half) (i : Fin 4096) (k : Fin 512) : geluT x (ix2 i k) = geE (x (ix2 i k)) := by
  pointwise [geluT, oneErfT, quT, kT, root2T]
  rw [sqrt_two]; unfold geE; rw [ofBits_one, EReal.coe_one]

/-- The padded gated half at a row. -/
def padT : FVec Ideal S4126x512 .f32 := pad S4126x512 ![30, 0] ![0, 0] ![0, 0] (glT P) (sitofp .f32 (constantI S_ 32 0#32)) pads_S4096x512_S4126x512_3000_000 h_S_

theorem padT_at (n : Fin 4126) (k : Fin 512) : padT P (ix2 n k) = gpad P n.val k := by
  unfold padT gpad
  pointwise []
  split
  · exact glT_at P _ k
  · show (((0#32 : BitVec 32).toInt : ℝ) : EReal) = 0
    simp

theorem tapsT_at (i : Fin 4096) (j : Fin 31) : tapsT (ix2 i j) = BitVec.ofNat 32 (i.val + j.val) := by
  pointwise [tapsT]
  exact (BitVec.ofNat_add _ _).symm

theorem convT_at (i : Fin 4096) (k : Fin 512) : convT P cw cb (ix2 i k) = cv P cw cb i k := by
  have e : convT P cw cb = addf (Host.reduceAdd (mulf (broadcastInDim S4096x31x512 ![0, 1, 2] bcast_S1x31x512_S4096x31x512_0_1_2 (broadcastInDim S1x31x512 ![1, 2] bcast_S31x512_S1x31x512_1_2 cw)) (Host.gather gather_S4126x512_S4096x31x1_S4096x31x512_2_0_n_n_0_2_1512 (padT P) (broadcastInDim S4096x31x1 ![0, 1] bcast_S4096x31_S4096x31x1_0_1 (select (cmpi .slt tapsT (broadcastInDim S4096x31 ![] bcast_S_S4096x31 (constantI S_ 32 0#32))) (addi tapsT (broadcastInDim S4096x31 ![] bcast_S_S4096x31 (constantI S_ 32 4126#32))) tapsT)))) (constant S_ .f32 0x00000000#32) reducesTo_S4096x31x512_S4096x512_d1 h_S_) (rowT cb) := rfl
  rw [e]
  pointwise []
  rw [rowT_at]
  unfold cv
  refine congrArg (· + _) (Finset.sum_congr rfl fun j _ => congrArg (_ * ·) ?_)
  rw [taps_gather, padT_at]
  pointwise []
  rw [tapsT_at]
  have hb : (BitVec.ofNat 32 (i.val + j.val)).toInt = (i.val + j.val : ℕ) := by
    rw [BitVec.toInt_eq_toNat_of_lt] <;> simp <;> omega
  have hs : Scalar.select (IntOp.cmpi .slt (BitVec.ofNat 32 (i.val + j.val)) 0#32) (IntOp.addi (BitVec.ofNat 32 (i.val + j.val)) 4126#32)
      (BitVec.ofNat 32 (i.val + j.val)) = BitVec.ofNat 32 (i.val + j.val) := by
    rw [show (0#32 : BitVec 32) = BitVec.ofNat 32 0 from rfl, WordCmp.cmpi_slt_ofNat (by omega) (by omega), Scalar.select]
    simp
  rw [hs, hb]
  congr 1
  simp; omega

theorem lo_at (i : Fin 4096) (k : Fin 512) : MXT P lg lb w bs cw cb clg clb (ix2 i (lo k)) = lov P lg lb w bs i k := by
  unfold MXT mixT
  pointwise [lo]
  rw [geluT_ge, uT_at, mixedT_at]
  unfold lov
  refine congrArg (_ * ·) (congrArg (· + _) (Finset.sum_congr rfl fun s _ => congrArg₂ (· * ·) ?_ ?_))
  · unfold wm
    pointwise [maskT]
    rw [trilT_at]
    split
    · rw [EReal.coe_one, mul_one]
    · rw [mul_zero]
  · unfold vn vnT
    pointwise []
    rw [xhT_at, rowT_at, rowT_at]
    simp only [geluT_ge, vT_at]

theorem hi_at (i : Fin 4096) (k : Fin 512) : MXT P lg lb w bs cw cb clg clb (ix2 i (hi k)) = hiv P cw cb clg clb i (hd k) (cl k) := by
  unfold MXT mixT
  pointwise [hi]
  have hz : ∀ h j, zH (headsT (CVT P cw cb)) clg clb (ix3 i h j) = zv P cw cb clg clb i h j := fun h j => by
    unfold zH zv
    pointwise []
    rw [xhH_at, rowH_at, rowH_at]
    simp only [headsT_at, CVT, convT_at]
  rw [flatT_at]
  unfold hiv
  pointwise [sgH, oneH]
  rw [hz]
  unfold sgE
  rw [ofBits_one, EReal.coe_one]

/-! ## The output projection and the norm -/

section
variable (X : FVec Ideal S4096x1024 .f32) (wo : FVec Ideal S1024x1024 .f32) (g : FVec Ideal S1024 .f32)

/-- The residual with the projected halves added, and its norm. -/
def x1v (i : Fin 4096) (d : Fin 1024) : EReal :=
  X (ix2 i d) + ((∑ k, lov P lg lb w bs i k * wo (ix2 (lo k) d)) + ∑ k, hiv P cw cb clg clb i (hd k) (cl k) * wo (ix2 (hi k) d))
def h2v (i : Fin 4096) (d : Fin 1024) : EReal :=
  x1v P lg lb w bs cw cb clg clb X wo i d * rst (x1v P lg lb w bs cw cb clg clb X wo i) * g (ix1 d)

/-- A sum over both halves. -/
theorem sum_halves (f : Fin 1024 → EReal) : ∑ l, f l = (∑ k, f (lo k)) + ∑ k, f (hi k) :=
  (Fin.sum_univ_add (a := 512) (b := 512) f).trans rfl

def x1T : FVec Ideal S4096x1024 .f32 :=
  addf X (Host.dotGeneral Cert.Reference4Ideal.dot_S4096x1024_S1024x1024_S4096x1024_1_0_0_1_n_n none (MXT P lg lb w bs cw cb clg clb) wo)
def h2T (x : FVec Ideal S4096x1024 .f32) : FVec Ideal S4096x1024 .bf16 :=
  truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32

theorem x1T_at (i : Fin 4096) (d : Fin 1024) : x1T P lg lb w bs cw cb clg clb X wo (ix2 i d) = x1v P lg lb w bs cw cb clg clb X wo i d := by
  pointwise [x1T]
  rw [sum_halves]
  simp only [lo_at, hi_at]
  rfl

theorem h2T_at (i : Fin 4096) (d : Fin 1024) :
    h2T g (x1T P lg lb w bs cw cb clg clb X wo) (ix2 i d) = h2v P lg lb w bs cw cb clg clb X wo g i d := by
  pointwise [h2T]
  simp only [x1T_at]
  rfl

end

end

end Cert.MixFwd

end
-- ==== Proof.MixFwdConv.lean ====
/- The causal convolution of a grid point's block of 512 rows. Its gated rows, after 32 rows of the block before, lie in a
   buffer eight times, copy `p` shifted by `p` rows; a tile of 64 rows and 128 columns is the sum of 31 taps read from it. -/
module

public import proofs.«01_k».proof.Proof.MixFwdRef
public import proofs.«01_k».proof.Proof.MixTile
public import proofs.«01_k».proof.Proof.Gen.Kernel4Ideal.Skeleton
public import Idealize.ShloMosaic.Lib.Pipeline.ValueKit
public import Idealize.ShloMosaic.Lib.Pipeline.ReadBack

@[expose] public section

set_option maxRecDepth 16384
set_option maxHeartbeats 1000000

noncomputable section

namespace Cert.Kernel4Ideal.Mix

open Idealize.ShloMosaic Idealize.ShloMosaic.TcCoe Idealize.SL.Sem
open Cert.Kernel4Ideal Cert.Kernel4Ideal.Gen Cert.Ereal Cert.MixMath
open Idealize.ShloMosaic.Pointwise

/-- The buffer's stores, the last first. -/
abbrev GPs := List (View.Piece (Elt Ideal) S8x4x544x128 .f32)

theorem cast536 (X : S1x1x536x128.Idx → EReal) (h1 : S1x1x536x128.ShapeCasts S536x128) (h2 : S536x128.ShapeCasts S1x1x536x128) (r : Fin 536) (l : Fin 128) :
    shapeCast S1x1x536x128 (shapeCast S536x128 X h1) h2 (ix4 0 0 r l) = X (ix4 0 0 r l) := by
  pointwise []
theorem cast64 (X : S1x1x64x128.Idx → EReal) (h : S1x1x64x128.ShapeCasts S64x128) (i : Fin 64) (l : Fin 128) :
    shapeCast S64x128 X h (ix2 i l) = X (ix4 0 0 i l) := by
  pointwise []
theorem mulRow (X : FVec Ideal S64x128 .f32) (W : FVec Ideal S1x128 .f32) (h : S1x128.Broadcasts S64x128) (i : Fin 64) (l : Fin 128) :
    mulf X (broadcastTo S64x128 W h) (ix2 i l) = X (ix2 i l) * W (ix2 0 l) := by
  pointwise []
theorem addRow (X : FVec Ideal S64x128 .f32) (W : FVec Ideal S1x128 .f32) (h' : S1x128.ShapeCasts S1x128) (h : S1x128.Broadcasts S64x128) (i : Fin 64) (l : Fin 128) :
    addf X (broadcastTo S64x128 (shapeCast S1x128 W h') h) (ix2 i l) = X (ix2 i l) + W (ix2 0 l) := by
  pointwise []

/-! ## The shifted copies -/

section
variable {κ : Kind} {sp : Space} (v : View sig κ sp S8x4x544x128 .f32) (G : Fin 4 → Fin 128 → ℕ → EReal)

/-- The first `n` parts of the buffer hold the rows of `G`, copy `p` from row `p` on. -/
def Holds (n : ℕ) (L : GPs) : Prop :=
  ∀ (p : Fin 8) (q : Fin 4) (r : Fin 544) (l : Fin 128), p.val * 4 + q.val < n → p.val = 0 ∨ r.val < 536 →
    View.canon (Val := Elt Ideal) L (ix4 p q r l) = G q l (r.val + p.val)

variable {G}

/-- One shifted copy. -/
theorem holds_step {L : GPs} (p q : ℕ) (hp : 0 < p) (hp8 : p < 8) (hq : q < 4)
    {hb : ∀ a, (![p, q, 0, 0] : Fin 4 → ℕ) a + (![1, 1, 536, 128] : Fin 4 → ℕ) a ≤ S8x4x544x128.size a}
    {hb' : ∀ a, (![0, q, p, 0] : Fin 4 → ℕ) a + (![1, 1, 536, 128] : Fin 4 → ℕ) a ≤ S8x4x544x128.size a}
    {h1 : S1x1x536x128.ShapeCasts S536x128} {h2 : S536x128.ShapeCasts S1x1x536x128} (H : Holds G (p * 4 + q) L) :
    Holds G (p * 4 + q + 1) (⟨Rect.unit (s := S8x4x544x128) ![p, q, 0, 0] ![1, 1, 536, 128] hb,
      shapeCast S1x1x536x128 (shapeCast S536x128 (v.readCov (Val := Elt Ideal) L (Rect.unit (s := S8x4x544x128) ![0, q, p, 0] ![1, 1, 536, 128] hb').toLoadRect) h1) h2⟩ :: L) := by
  intro p' q' r l hn hr
  by_cases e : p'.val = p ∧ q'.val = q
  · obtain ⟨e1, e2⟩ := e
    have hr' : r.val < 536 := by omega
    have ei : (ix4 p' q' r l : S8x4x544x128.Idx) = (Rect.unit (s := S8x4x544x128) ![p, q, 0, 0] ![1, 1, 536, 128] hb).emb (ix4 0 0 ⟨r.val, hr'⟩ l) := by
      funext a
      refine Fin.ext (Eq.trans ?_ (Rect.idx_unit_val _ _ hb _ a).symm)
      fin_cases a
      · show p'.val = p + 0; omega
      · show q'.val = q + 0; omega
      · show r.val = 0 + r.val; omega
      · show l.val = 0 + l.val; omega
    rw [ei, View.canon_cons_emb]
    refine (cast536 _ _ _ _ _).trans ?_
    · rw [View.readCov_eq_canon']
      refine Eq.trans (congrArg (View.canon (Val := Elt Ideal) L) (?_ : _ = ix4 (0 : Fin 8) q' ⟨p + r.val, by omega⟩ l)) ?_
      · funext a
        refine Fin.ext ((Rect.idx_unit_val _ _ hb' _ a).trans ?_)
        fin_cases a
        · rfl
        · show q + 0 = q'.val; omega
        · rfl
        · show 0 + l.val = l.val; omega
      · rw [H 0 q' ⟨p + r.val, by omega⟩ l (by have := q'.isLt; simp only [Fin.val_zero]; omega) (Or.inl rfl)]
        exact congrArg (G q' l) (by simp only [Fin.val_zero]; omega)
  · rw [View.canon_cons_of_not_mem]
    · refine H p' q' r l ?_ hr
      by_contra hc
      refine e ⟨by omega, by omega⟩
    · intro hm
      have hm' := (Rect.mem_set_unit (s := S8x4x544x128) (off := ![p, q, 0, 0]) (size := ![1, 1, 536, 128]) (inb := hb)).mp hm
      have m0 := hm' 0
      have m1 := hm' 1
      have a0 : p ≤ p'.val ∧ p'.val < p + 1 := m0
      have a1 : q ≤ q'.val ∧ q'.val < q + 1 := m1
      exact e ⟨by omega, by omega⟩

theorem inbT {p q r : ℕ} (hp : p < 8) (hq : q < 4) (hr : r + 64 ≤ 544) :
    ∀ a, (![p, q, r, 0] : Fin 4 → ℕ) a + (![1, 1, 64, 128] : Fin 4 → ℕ) a ≤ S8x4x544x128.size a := by
  intro a
  fin_cases a
  · show p + 1 ≤ 8; omega
  · show q + 1 ≤ 4; omega
  · show r + 64 ≤ 544; omega
  · show 0 + 128 ≤ 128; omega

/-- Sixty-four rows of a copy. -/
theorem tap_at {L : GPs} (H : Holds G 32 L) {p q r : ℕ} (hp : p < 8) (hq : q < 4) (hr : r + 64 ≤ 544) (hpr : p = 0 ∨ r + 64 ≤ 536)
    (hc : S1x1x64x128.ShapeCasts S64x128) (i : Fin 64) (l : Fin 128) :
    shapeCast S64x128 (v.readCov (Val := Elt Ideal) L (Rect.unit (s := S8x4x544x128) ![p, q, r, 0] ![1, 1, 64, 128] (inbT hp hq hr)).toLoadRect) hc (ix2 i l)
      = G ⟨q, hq⟩ l (r + i.val + p) := by
  refine (cast64 _ _ _ _).trans ?_
  · rw [View.readCov_eq_canon']
    refine Eq.trans (congrArg (View.canon (Val := Elt Ideal) L) (?_ : _ = ix4 (⟨p, hp⟩ : Fin 8) ⟨q, hq⟩ ⟨r + i.val, by omega⟩ l)) ?_
    · funext a
      refine Fin.ext ((Rect.idx_unit_val _ _ (inbT hp hq hr) _ a).trans ?_)
      fin_cases a
      · rfl
      · rfl
      · rfl
      · show 0 + l.val = l.val; omega
    · exact H ⟨p, hp⟩ ⟨q, hq⟩ ⟨r + i.val, by omega⟩ l (by simp only; omega) (by simp only; omega)

end

/-! ## A tile of the convolution -/

section
variable {κ : Kind} {sp : Space} (v : View sig κ sp S8x4x544x128 .f32) (L : GPs)
  (w : (r : Rect S31x512) → r.shape.Idx → EReal) (b : (r : Rect S1x512) → r.shape.Idx → EReal)

theorem inbW {k : ℕ} (hk : k < 31) (q : Fin 4) : ∀ a, (![k, q.val * 128] : Fin 2 → ℕ) a + (![1, 128] : Fin 2 → ℕ) a ≤ S31x512.size a := by
  intro a
  have := q.isLt
  fin_cases a
  · show k + 1 ≤ 31; omega
  · show q.val * 128 + 128 ≤ 512; omega
theorem inbB (q : Fin 4) : ∀ a, (![0, q.val * 128] : Fin 2 → ℕ) a + (![1, 128] : Fin 2 → ℕ) a ≤ S1x512.size a := by
  revert q; decide

/-- Tap `k` of the tile of the rows from `64 n` and the columns from `128 q`. -/
def tap (n : Fin 8) (q : Fin 4) (k : Fin 31) : FVec Ideal S64x128 .f32 :=
  mulf (shapeCast S64x128 (v.readCov (Val := Elt Ideal) L (Rect.unit (s := S8x4x544x128) ![(2 + k.val) % 8, q.val, n.val * 64 + (2 + k.val) / 8 * 8, 0] ![1, 1, 64, 128] (inbT (by omega) q.isLt (by omega))).toLoadRect) shapeCasts_S1x1x64x128_S64x128)
    (broadcastTo S64x128 (w (Rect.unit (s := S31x512) ![k.val, q.val * 128] ![1, 128] (inbW k.isLt q))) broadcasts_S1x128_S64x128)

/-- The tile: the even and the odd taps, each in order from zero, and the bias. -/
def cvTile (n : Fin 8) (q : Fin 4) : FVec Ideal S64x128 .f32 :=
  let z : FVec Ideal S64x128 .f32 := broadcast S64x128 (Scalar.ofBits .f32 0x00000000#32)
  let t := tap v L w n q
  addf (addf
    (addf (addf (addf (addf (addf (addf (addf (addf (addf (addf (addf (addf (addf (addf (addf (addf z (t 0)) (t 2)) (t 4)) (t 6)) (t 8)) (t 10)) (t 12)) (t 14)) (t 16)) (t 18)) (t 20)) (t 22)) (t 24)) (t 26)) (t 28)) (t 30))
    (addf (addf (addf (addf (addf (addf (addf (addf (addf (addf (addf (addf (addf (addf (addf z (t 1)) (t 3)) (t 5)) (t 7)) (t 9)) (t 11)) (t 13)) (t 15)) (t 17)) (t 19)) (t 21)) (t 23)) (t 25)) (t 27)) (t 29)))
    (broadcastTo S64x128 (shapeCast S1x128 (b (Rect.unit (s := S1x512) ![0, q.val * 128] ![1, 128] (inbB q))) shapeCasts_S1x128_S1x128) broadcasts_S1x128_S64x128)

/-- The two chains are the sum of all taps. -/
theorem chains_nat (f : ℕ → EReal) :
    (0 + f 0 + f 2 + f 4 + f 6 + f 8 + f 10 + f 12 + f 14 + f 16 + f 18 + f 20 + f 22 + f 24 + f 26 + f 28 + f 30)
      + (0 + f 1 + f 3 + f 5 + f 7 + f 9 + f 11 + f 13 + f 15 + f 17 + f 19 + f 21 + f 23 + f 25 + f 27 + f 29)
      = ∑ k : Fin 31, f k.val := by
  rw [← Finset.sum_range]
  simp only [Finset.sum_range_succ, Finset.sum_range_zero]
  abel

theorem chains (f : Fin 31 → EReal) :
    (0 + f 0 + f 2 + f 4 + f 6 + f 8 + f 10 + f 12 + f 14 + f 16 + f 18 + f 20 + f 22 + f 24 + f 26 + f 28 + f 30)
      + (0 + f 1 + f 3 + f 5 + f 7 + f 9 + f 11 + f 13 + f 15 + f 17 + f 19 + f 21 + f 23 + f 25 + f 27 + f 29)
      = ∑ k : Fin 31, f k :=
  (chains_nat (fun j => if h : j < 31 then f ⟨j, h⟩ else 0)).trans (Finset.sum_congr rfl fun k _ => dif_pos k.isLt)

variable {L} {G : Fin 4 → Fin 128 → ℕ → EReal}

theorem tapV_at (H : Holds G 32 L) {cw : FVec Ideal S31x512 .f32} (hw : ∀ r x, w r x = cw (r.idx x)) (n : Fin 8) (q : Fin 4) (k : Fin 31) (i : Fin 64) (l : Fin 128) :
    tap v L w n q k (ix2 i l) = cw (ix2 k (hc q l)) * G q l (n.val * 64 + i.val + k.val + 2) := by
  have hn := n.isLt
  have hk := k.isLt
  refine (mulRow _ _ _ i l).trans ?_
  · rw [tap_at v H (by omega) q.isLt (by omega) (by omega) _ i l, hw, mul_comm]
    refine congrArg₂ (· * ·) (congrArg cw ?_) (congrArg (G q l) (by omega))
    funext a
    refine Fin.ext ((Rect.idx_unit_val _ _ (inbW k.isLt q) _ a).trans ?_)
    fin_cases a
    · rfl
    · show q.val * 128 + l.val = (hc q l).val
      simp only [hc]; omega

theorem cvTile_at (H : Holds G 32 L) {cw : FVec Ideal S31x512 .f32} (hw : ∀ r x, w r x = cw (r.idx x)) {cb : FVec Ideal S1x512 .f32} (hb : ∀ r x, b r x = cb (r.idx x))
    (n : Fin 8) (q : Fin 4) (i : Fin 64) (l : Fin 128) :
    cvTile v L w b n q (ix2 i l) = (∑ k : Fin 31, cw (ix2 k (hc q l)) * G q l (n.val * 64 + i.val + k.val + 2)) + cb (ix2 0 (hc q l)) := by
  unfold cvTile
  refine (addRow _ _ _ _ i l).trans (congrArg₂ (· + ·) ?_ ?_)
  · refine Eq.trans ?_ ((chains fun k => tap v L w n q k (ix2 i l)).trans (Finset.sum_congr rfl fun k _ => tapV_at v w H hw n q k i l))
    rw [← Ideal.ofBits_zero_f32]
    rfl
  · rw [hb]
    refine congrArg cb (funext fun a => Fin.ext ((Rect.idx_unit_val _ _ (inbB q) _ a).trans ?_))
    fin_cases a
    · rfl
    · show q.val * 128 + l.val = (hc q l).val
      simp only [hc]; omega

end

end Cert.Kernel4Ideal.Mix

end
-- ==== Proof.MixFwdTile.lean ====
/- One grid point's text of the mixer's forward call at an index: the gates, a tile of the spatial gating, a head's swish strip,
   the output projection and the norm. The tiles' and the strips' texts differ only by their offsets. -/
module

public import proofs.«01_k».proof.Proof.MixFwdConv
public import proofs.«01_k».proof.Proof.MixBlock

@[expose] public section

set_option maxRecDepth 16384
set_option maxHeartbeats 1000000

noncomputable section

namespace Cert.Kernel4Ideal.Mix

open Cert.Kernel4Ideal Cert.Kernel4Ideal.Gen Idealize.ShloMosaic Cert.Ereal Cert.MixMath Cert.MixFwd
open Idealize.ShloMosaic.Pointwise
open Cert.Reference3Ideal.Mix (d512 d128)
open Cert.Kernel3Ideal.Mix (Sq Sqb Tile Tileb Strip rw4 cutSq cutSq_at)

theorem gate_at (a b : Sq) (p k : Fin 512) : k0_pay30 (F := Ideal) a b (ix2 p k) = a (ix2 p k) * sgE (b (ix2 p k)) := by
  pointwise [k0_pay30]
  unfold sgE; rw [ofBits_one, EReal.coe_one, zero_sub]

theorem halo_at (a b : FVec Ideal S32x512 .f32) (p : Fin 32) (k : Fin 512) :
    k0_pay31 (F := Ideal) a b (ix2 p k) = a (ix2 p k) * sgE (b (ix2 p k)) := by
  pointwise [k0_pay31]
  unfold sgE; rw [ofBits_one, EReal.coe_one, zero_sub]

theorem gelu_at (u : Sq) (p k : Fin 512) : k0_pay2 (F := Ideal) u (ix2 p k) = geE (u (ix2 p k)) := by
  refine Eq.trans ?_ (geE_mul _)
  rw [ofBits_one, EReal.coe_one]
  pointwise [k0_pay2]
  rfl

theorem norm_at (v : Sq) (lg : FVec Ideal S1x512 .f32) (p k : Fin 512) :
    k0_pay3 (F := Ideal) v lg (ix2 p k) = xhE d512 (fun l => geE (v (ix2 p l))) k * lg (ix2 0 k) := by
  have e : (fun l => geE (v (ix2 p l))) = fun l => k0_pay2 (F := Ideal) v (ix2 p l) := funext fun l => (gelu_at v p l).symm
  rw [e]
  have e' : k0_pay3 (F := Ideal) v lg = mulf (mulf (subf (k0_pay2 (F := Ideal) v) (broadcastTo S512x512 (divf (shapeCast S512x1 (multiReduction .add [1] S512 (k0_pay2 (F := Ideal) v) 0x00000000#32 reduces_S512x512_S512 (.inl rfl) rfl) shapeCasts_S512_S512x1) (broadcast S512x1 (Scalar.ofBits .f32 0x44000000#32))) broadcasts_S512x1_S512x512))
      (broadcastTo S512x512 (rsqrt (addf (divf (shapeCast S512x1 (multiReduction .add [1] S512 (mulf (subf (k0_pay2 (F := Ideal) v) (broadcastTo S512x512 (divf (shapeCast S512x1 (multiReduction .add [1] S512 (k0_pay2 (F := Ideal) v) 0x00000000#32 reduces_S512x512_S512 (.inl rfl) rfl) shapeCasts_S512_S512x1) (broadcast S512x1 (Scalar.ofBits .f32 0x44000000#32))) broadcasts_S512x1_S512x512)) (subf (k0_pay2 (F := Ideal) v) (broadcastTo S512x512 (divf (shapeCast S512x1 (multiReduction .add [1] S512 (k0_pay2 (F := Ideal) v) 0x00000000#32 reduces_S512x512_S512 (.inl rfl) rfl) shapeCasts_S512_S512x1) (broadcast S512x1 (Scalar.ofBits .f32 0x44000000#32))) broadcasts_S512x1_S512x512))) 0x00000000#32 reduces_S512x512_S512 (.inl rfl) rfl) shapeCasts_S512_S512x1) (broadcast S512x1 (Scalar.ofBits .f32 0x44000000#32))) (broadcast S512x1 (Scalar.ofBits .f32 0x358637BD#32)))) broadcasts_S512x1_S512x512))
      (broadcastTo S512x512 (shapeCast S1x512 lg shapeCasts_S1x512_S1x512) broadcasts_S1x512_S512x512) := rfl
  rw [e']
  generalize k0_pay2 (F := Ideal) v = g
  pointwise []
  rfl

/-- The normalised second half of a block. -/
def VB (v : Sq) (lg lb : FVec Ideal S1x512 .f32) : Sqb := k0_pay4 (k0_pay3 v lg) lb

theorem VB_at (v : Sq) (lg lb : FVec Ideal S1x512 .f32) (p k : Fin 512) :
    VB v lg lb (ix2 p k) = xhE d512 (fun l => geE (v (ix2 p l))) k * lg (ix2 0 k) + lb (ix2 0 k) := by
  rw [← norm_at]
  unfold VB
  generalize k0_pay3 (F := Ideal) v lg = g
  pointwise [k0_pay4]

theorem wmF_at (w : FVec Ideal S1x128x128 .f32) (r s : Fin 128) :
    k0_pay6 (F := Ideal) w (ix2 r s) = if s ≤ r then w (ix3 0 r s) else 0 := by
  refine Eq.trans ?_ (mask_word r s _ _)
  pointwise [k0_pay6, k0_pay5]

/-- The gating of chunk `q` and head `h`. -/
def tileF (u : Sq) (vb : Sqb) (w : FVec Ideal S1x128x128 .f32) (b : FVec Ideal S128x1 .f32) (q h : Fin 4) : Tileb :=
  truncf .bf16 (mulf (cutSq u q h) (addf (matmul dot_S128x128_S128x128_S128x128_1_0_0_1_n_n none (k0_pay6 w) (cutSq vb q h) (constant S128x128 .f32 0x00000000#32))
    (broadcastTo S128x128 (shapeCast S128x1 b shapeCasts_S128x1_S128x1) broadcasts_S128x1_S128x128))) bitsLt_bf16_f32

theorem tileF_at (u : Sq) (vb : Sqb) (w : FVec Ideal S1x128x128 .f32) (b : FVec Ideal S128x1 .f32) (q h : Fin 4) (r j : Fin 128) :
    tileF u vb w b q h (ix2 r j)
      = u (ix2 (rw4 q r) (hc h j)) * ((∑ s : Fin 128, (if s ≤ r then w (ix3 0 r s) else 0) * vb (ix2 (rw4 q s) (hc h j))) + b (ix2 r 0)) := by
  simp only [← wmF_at]
  unfold tileF
  generalize k0_pay6 (F := Ideal) w = g
  pointwise []
  simp only [cutSq_at]

/-- A head's swish strip. -/
def stripF (cc : Strip) (g b : FVec Ideal S1x128 .f32) : FVec Ideal S512x128 .bf16 := k0_pay659 (k0_pay657 cc g b) (k0_pay658 cc g b)

theorem zF_at (cc : Strip) (g b : FVec Ideal S1x128 .f32) (p : Fin 512) (j : Fin 128) :
    k0_pay657 (F := Ideal) cc g b (ix2 p j) = xhE d128 (fun l => cc (ix2 p l)) j * g (ix2 0 j) + b (ix2 0 j) := by
  pointwise [k0_pay657]
  rfl

theorem stripF_at (cc : Strip) (g b : FVec Ideal S1x128 .f32) (p : Fin 512) (j : Fin 128) :
    stripF cc g b (ix2 p j) = k0_pay657 (F := Ideal) cc g b (ix2 p j) * sgE (k0_pay657 (F := Ideal) cc g b (ix2 p j)) := by
  unfold stripF
  have e : k0_pay658 (F := Ideal) cc g b = divf (broadcast S512x128 (Scalar.ofBits .f32 0x3F800000#32)) (addf (broadcast S512x128 (Scalar.ofBits .f32 0x3F800000#32)) (exp (subf (broadcast S512x128 (Scalar.ofBits .f32 0x00000000#32)) (k0_pay657 (F := Ideal) cc g b)))) := rfl
  rw [e]
  generalize k0_pay657 (F := Ideal) cc g b = z
  pointwise [k0_pay659]
  unfold sgE; rw [ofBits_one, EReal.coe_one, zero_sub]

/-- A product with half of the output weight, added. -/
theorem proj_at (x : FVec Ideal S512x1024 .f32) (mx : Sqb) (wo : FVec Ideal S512x1024 .bf16) (p : Fin 512) (d : Fin 1024) :
    k0_pay29 (F := Ideal) x mx wo (ix2 p d) = x (ix2 p d) + ∑ k : Fin 512, mx (ix2 p k) * wo (ix2 k d) := by
  pointwise [k0_pay29]

theorem rmsF_at (x : FVec Ideal S512x1024 .f32) (g : FVec Ideal S1x1024 .f32) (p : Fin 512) (d : Fin 1024) :
    k0_pay1 (F := Ideal) x (k0_pay666 x) g (ix2 p d) = x (ix2 p d) * rst (fun k => x (ix2 p k)) * g (ix2 0 d) := by
  pointwise [k0_pay1, k0_pay666]
  rfl

end Cert.Kernel4Ideal.Mix

end
-- ==== Proof.MixFwdPiece.lean ====
/- The buffers of a grid point of the mixer's forward call: the gated rows and their shifted copies, the convolution's tiles and
   the mixer's tiles and strips, each list of stores with the array it leaves. -/
module

public import proofs.«01_k».proof.Proof.MixFwdTile
public import Idealize.ShloMosaic.Lib.Ring

@[expose] public section

set_option maxRecDepth 16384
set_option maxHeartbeats 4000000

noncomputable section

namespace Cert.Kernel4Ideal.Mix

open Idealize.ShloMosaic Idealize.ShloMosaic.TcCoe Idealize.SL.Sem
open Cert.Kernel4Ideal Cert.Kernel4Ideal.Gen Cert.Ereal Cert.MixMath Cert.MixFwd
open Idealize.ShloMosaic.Pointwise
open Cert.Kernel3Ideal.Mix (Sq Sqb Tile Tileb Strip rw4 tok)

/-! ## The gated rows -/

theorem base512 (g : Sq) (q : Fin 4) (h : S512x512.Slices ![0, q.val * 128] S512x128) (h' : S512x128.ShapeCasts S1x1x512x128) (r : Fin 512) (l : Fin 128) :
    shapeCast S1x1x512x128 (extractStridedSlice S512x128 ![0, q.val * 128] g h) h' (ix4 0 0 r l) = g (ix2 r (hc q l)) := by
  pointwise []
  exact congrArg g (congrArg₂ ix2 rfl (Fin.ext (by simp only [hc]; omega)))
theorem base32 (g : FVec Ideal S32x512 .f32) (q : Fin 4) (h : S32x512.Slices ![0, q.val * 128] S32x128) (h' : S32x128.ShapeCasts S1x1x32x128) (r : Fin 32) (l : Fin 128) :
    shapeCast S1x1x32x128 (extractStridedSlice S32x128 ![0, q.val * 128] g h) h' (ix4 0 0 r l) = g (ix2 r (hc q l)) := by
  pointwise []
  exact congrArg g (congrArg₂ ix2 rfl (Fin.ext (by simp only [hc]; omega)))

/-- A head's columns of the block, in the buffer's shape. -/
def cut512 (g : Sq) (q : Fin 4) : S1x1x512x128.Idx → EReal :=
  shapeCast S1x1x512x128 (extractStridedSlice S512x128 ![0, q.val * 128] g (by revert q; decide)) shapeCasts_S512x128_S1x1x512x128
def cut32 (g : FVec Ideal S32x512 .f32) (q : Fin 4) : S1x1x32x128.Idx → EReal :=
  shapeCast S1x1x32x128 (extractStridedSlice S32x128 ![0, q.val * 128] g (by revert q; decide)) shapeCasts_S32x128_S1x1x32x128

theorem inbG (q : Fin 4) : ∀ a, (![0, q.val, 32, 0] : Fin 4 → ℕ) a + (![1, 1, 512, 128] : Fin 4 → ℕ) a ≤ S8x4x544x128.size a := by revert q; decide
theorem inbH (q : Fin 4) : ∀ a, (![0, q.val, 0, 0] : Fin 4 → ℕ) a + (![1, 1, 32, 128] : Fin 4 → ℕ) a ≤ S8x4x544x128.size a := by revert q; decide

abbrev rG (q : Fin 4) : Rect S8x4x544x128 := Rect.unit (s := S8x4x544x128) ![0, q.val, 32, 0] ![1, 1, 512, 128] (inbG q)
abbrev rH (q : Fin 4) : Rect S8x4x544x128 := Rect.unit (s := S8x4x544x128) ![0, q.val, 0, 0] ![1, 1, 32, 128] (inbH q)

/-- The block's rows after the 32 before it. -/
abbrev pG (g : Sq) (q : Fin 4) : View.Piece (Elt Ideal) S8x4x544x128 .f32 := ⟨rG q, cut512 g q⟩
abbrev pH (h : FVec Ideal S32x512 .f32) (q : Fin 4) : View.Piece (Elt Ideal) S8x4x544x128 .f32 := ⟨rH q, cut32 h q⟩
def baseL (g : Sq) (h : FVec Ideal S32x512 .f32) : GPs := [pG g 3, pG g 2, pG g 1, pG g 0, pH h 3, pH h 2, pH h 1, pH h 0]

/-- The padded gated rows of a block from two before it on. -/
def GG (P : FVec Ideal S4096x2048 .f32) (t : Fin 8) (q : Fin 4) (l : Fin 128) (n : ℕ) : EReal := gpad P (512 * t.val + n - 2) (hc q l)

section
variable {P : FVec Ideal S4096x2048 .f32} {t : Fin 8} {g : Sq} {h : FVec Ideal S32x512 .f32}
  (hg : ∀ p k, g (ix2 p k) = gl P (tok t p) k) (hh : ∀ p k, h (ix2 p k) = gpad P (512 * t.val + p.val - 2) k)
include hg hh

theorem holds_base : Holds (GG P t) 4 (baseL g h) := by
  intro p q r l hn _
  have hp : p = 0 := Fin.ext (by have := q.isLt; simp only [Fin.val_zero]; omega)
  subst hp
  refine View.canon_apply_of_pieces (S := S8x4x544x128) (Val := Elt Ideal) (e := .f32)
    (fun y => gpad P (512 * t.val + ((y 2).val + 0) - 2) (hc (y 1) (y 3))) (baseL g h) ?_ (ix4 0 q r l) ?_
  · have hG : ∀ q : Fin 4, ∀ x : (rG q).shape.Idx, cut512 g q x = gpad P (512 * t.val + (((rG q).emb x 2).val + 0) - 2)
        (hc ((rG q).emb x 1) ((rG q).emb x 3)) := by
      intro q x
      have e1 : (rG q).emb x 1 = q := Fin.ext ((Rect.idx_unit_val _ _ (inbG q) x 1).trans (by
        have : (x 1).val < 1 := (x 1).isLt
        show q.val + (x 1).val = q.val
        omega))
      have e2 : ((rG q).emb x 2).val = 32 + (x 2).val := Rect.idx_unit_val _ _ (inbG q) x 2
      have e3 : (rG q).emb x 3 = x 3 := Fin.ext ((Rect.idx_unit_val _ _ (inbG q) x 3).trans (Nat.zero_add _))
      rw [e1, e2, e3]
      have ex : x = ix4 (0 : Fin 1) (0 : Fin 1) (x 2) (x 3) := (eq_ix4 x).trans (by rw [show x 0 = (0 : Fin 1) from Subsingleton.elim (α := Fin 1) _ _, show x 1 = (0 : Fin 1) from Subsingleton.elim (α := Fin 1) _ _]; rfl)
      refine (congrArg (cut512 g q) ex).trans ((base512 g q _ _ (x 2) (x 3)).trans ((hg _ _).trans ?_))
      have hx : (x 2).val < 512 := (x 2).isLt
      have ht := t.isLt
      unfold gpad
      rw [dif_pos ⟨by omega, by omega⟩]
      exact congrArg (fun n => gl P n _) (Fin.ext (by simp only [tok]; omega))
    have hH : ∀ q : Fin 4, ∀ x : (rH q).shape.Idx, cut32 h q x = gpad P (512 * t.val + (((rH q).emb x 2).val + 0) - 2)
        (hc ((rH q).emb x 1) ((rH q).emb x 3)) := by
      intro q x
      have e1 : (rH q).emb x 1 = q := Fin.ext ((Rect.idx_unit_val _ _ (inbH q) x 1).trans (by
        have : (x 1).val < 1 := (x 1).isLt
        show q.val + (x 1).val = q.val
        omega))
      have e2 : ((rH q).emb x 2).val = (x 2).val := (Rect.idx_unit_val _ _ (inbH q) x 2).trans (Nat.zero_add _)
      have e3 : (rH q).emb x 3 = x 3 := Fin.ext ((Rect.idx_unit_val _ _ (inbH q) x 3).trans (Nat.zero_add _))
      rw [e1, e2, e3]
      have ex : x = ix4 (0 : Fin 1) (0 : Fin 1) (x 2) (x 3) := (eq_ix4 x).trans (by rw [show x 0 = (0 : Fin 1) from Subsingleton.elim (α := Fin 1) _ _, show x 1 = (0 : Fin 1) from Subsingleton.elim (α := Fin 1) _ _]; rfl)
      exact (congrArg (cut32 h q) ex).trans ((base32 h q _ _ (x 2) (x 3)).trans (hh _ _))
    refine View.PiecesOf.mem (Val := Elt Ideal) (s := S8x4x544x128) (e := .f32) (G := fun y => gpad P (512 * t.val + ((y 2).val + 0) - 2) (hc (y 1) (y 3))) ?_
    exact ⟨hG 3, hG 2, hG 1, hG 0, hH 3, hH 2, hH 1, hH 0, trivial⟩
  · have hr := r.isLt
    by_cases h32 : r.val < 32
    · refine ⟨pH h q, ?_, (Rect.mem_set_unit (s := S8x4x544x128) (off := ![0, q.val, 0, 0]) (size := ![1, 1, 32, 128]) (inb := inbH q)).mpr fun a => ?_⟩
      · unfold baseL; fin_cases q <;> simp
      · fin_cases a
        · exact ⟨Nat.le_refl 0, Nat.zero_lt_one⟩
        · exact ⟨Nat.le_refl _, Nat.lt_succ_self _⟩
        · exact ⟨Nat.zero_le _, show r.val < 0 + 32 by omega⟩
        · exact ⟨Nat.zero_le _, show l.val < 0 + 128 by omega⟩
    · refine ⟨pG g q, ?_, (Rect.mem_set_unit (s := S8x4x544x128) (off := ![0, q.val, 32, 0]) (size := ![1, 1, 512, 128]) (inb := inbG q)).mpr fun a => ?_⟩
      · unfold baseL; fin_cases q <;> simp
      · fin_cases a
        · exact ⟨Nat.le_refl 0, Nat.zero_lt_one⟩
        · exact ⟨Nat.le_refl _, Nat.lt_succ_self _⟩
        · exact ⟨show 32 ≤ r.val by omega, show r.val < 32 + 512 by omega⟩
        · exact ⟨Nat.zero_le _, show l.val < 0 + 128 by omega⟩

end

/-! ## The shifted copies -/

section
variable {κ : Kind} {sp : Space} (v : View sig κ sp S8x4x544x128 .f32)

theorem inbC {p q : ℕ} (hp : p < 8) (hq : q < 4) : ∀ a, (![p, q, 0, 0] : Fin 4 → ℕ) a + (![1, 1, 536, 128] : Fin 4 → ℕ) a ≤ S8x4x544x128.size a := by
  intro a
  fin_cases a
  · show p + 1 ≤ 8; omega
  · show q + 1 ≤ 4; omega
  · show 0 + 536 ≤ 544; omega
  · show 0 + 128 ≤ 128; omega
theorem inbC' {p q : ℕ} (hp : p < 8) (hq : q < 4) : ∀ a, (![0, q, p, 0] : Fin 4 → ℕ) a + (![1, 1, 536, 128] : Fin 4 → ℕ) a ≤ S8x4x544x128.size a := by
  intro a
  fin_cases a
  · show 0 + 1 ≤ 8; omega
  · show q + 1 ≤ 4; omega
  · show p + 536 ≤ 544; omega
  · show 0 + 128 ≤ 128; omega

/-- One copy more. -/
abbrev copyL (L : GPs) (p q : ℕ) (hb : ∀ a, (![p, q, 0, 0] : Fin 4 → ℕ) a + (![1, 1, 536, 128] : Fin 4 → ℕ) a ≤ S8x4x544x128.size a)
    (hb' : ∀ a, (![0, q, p, 0] : Fin 4 → ℕ) a + (![1, 1, 536, 128] : Fin 4 → ℕ) a ≤ S8x4x544x128.size a) : GPs :=
  ⟨Rect.unit (s := S8x4x544x128) ![p, q, 0, 0] ![1, 1, 536, 128] hb,
    shapeCast S1x1x536x128 (shapeCast S536x128 (v.readCov (Val := Elt Ideal) L (Rect.unit (s := S8x4x544x128) ![0, q, p, 0] ![1, 1, 536, 128] hb').toLoadRect) shapeCasts_S1x1x536x128_S536x128) shapeCasts_S536x128_S1x1x536x128⟩ :: L

/-- The four copies shifted by `p`. -/
def rowL (L : GPs) (p : ℕ) (hp : p < 8) : GPs :=
  copyL v (copyL v (copyL v (copyL v L p 0 (inbC hp (by decide)) (inbC' hp (by decide))) p 1 (inbC hp (by decide)) (inbC' hp (by decide))) p 2 (inbC hp (by decide)) (inbC' hp (by decide))) p 3 (inbC hp (by decide)) (inbC' hp (by decide))

theorem holds_row {G : Fin 4 → Fin 128 → ℕ → EReal} {L : GPs} (p : ℕ) (h0 : 0 < p) (hp : p < 8) (H : Holds G (p * 4) L) : Holds G (p * 4 + 4) (rowL v L p hp) :=
  holds_step v p 3 h0 hp (by decide) (holds_step v p 2 h0 hp (by decide) (holds_step v p 1 h0 hp (by decide) (holds_step v p 0 h0 hp (by decide) H)))

/-- All stores into the buffer, the last first. -/
def allL (g : Sq) (h : FVec Ideal S32x512 .f32) : GPs :=
  rowL v (rowL v (rowL v (rowL v (rowL v (rowL v (rowL v (baseL g h) 1 (by decide)) 2 (by decide)) 3 (by decide)) 4 (by decide)) 5 (by decide)) 6 (by decide)) 7 (by decide)

theorem holds_all {P : FVec Ideal S4096x2048 .f32} {t : Fin 8} {g : Sq} {h : FVec Ideal S32x512 .f32}
    (hg : ∀ p k, g (ix2 p k) = gl P (tok t p) k) (hh : ∀ p k, h (ix2 p k) = gpad P (512 * t.val + p.val - 2) k) : Holds (GG P t) 32 (allL v g h) :=
  holds_row v 7 (by decide) _ (holds_row v 6 (by decide) _ (holds_row v 5 (by decide) _ (holds_row v 4 (by decide) _ (holds_row v 3 (by decide) _ (holds_row v 2 (by decide) _ (holds_row v 1 (by decide) _ (holds_base hg hh)))))))

end

/-! ## The convolution's tiles -/

theorem inbV (n : Fin 8) (q : Fin 4) : ∀ a, (![n.val * 64, q.val * 128] : Fin 2 → ℕ) a + (![64, 128] : Fin 2 → ℕ) a ≤ S512x512.size a := by revert n q; decide
abbrev rV (n : Fin 8) (q : Fin 4) : Rect S512x512 := Rect.unit (s := S512x512) ![n.val * 64, q.val * 128] ![64, 128] (inbV n q)
abbrev pV (f : Fin 8 → Fin 4 → FVec Ideal S64x128 .f32) (n : Fin 8) (q : Fin 4) : View.Piece (Elt Ideal) S512x512 .f32 :=
  ⟨rV n q, f n q⟩
def cvL (f : Fin 8 → Fin 4 → FVec Ideal S64x128 .f32) : List (View.Piece (Elt Ideal) S512x512 .f32) :=
  [pV f 7 3, pV f 6 3, pV f 5 3, pV f 4 3, pV f 3 3, pV f 2 3, pV f 1 3, pV f 0 3, pV f 7 2, pV f 6 2, pV f 5 2, pV f 4 2, pV f 3 2, pV f 2 2, pV f 1 2, pV f 0 2, pV f 7 1, pV f 6 1, pV f 5 1, pV f 4 1, pV f 3 1, pV f 2 1, pV f 1 1, pV f 0 1, pV f 7 0, pV f 6 0, pV f 5 0, pV f 4 0, pV f 3 0, pV f 2 0, pV f 1 0, pV f 0 0]

theorem cvL_at {f : Fin 8 → Fin 4 → FVec Ideal S64x128 .f32} {Y : Fin 512 → Fin 512 → EReal}
    (hf : ∀ (n : Fin 8) (q : Fin 4) (i : Fin 64) (l : Fin 128), f n q (ix2 i l) = Y ⟨n.val * 64 + i.val, by omega⟩ (hc q l)) (y : S512x512.Idx) :
    View.canon (Val := Elt Ideal) (cvL f) y = Y (y 0) (y 1) := by
  refine View.canon_apply_of_pieces (S := S512x512) (Val := Elt Ideal) (e := .f32) (fun y => Y (y 0) (y 1)) (cvL f) ?_ y ?_
  · have hV : ∀ (n : Fin 8) (q : Fin 4) (x : (rV n q).shape.Idx), f n q x = Y ((rV n q).emb x 0) ((rV n q).emb x 1) := by
      intro n q x
      refine (congrArg (f n q) (eq_ix2 x)).trans ((hf n q (x 0) (x 1)).trans (congrArg₂ Y (Fin.ext ?_) (Fin.ext ?_)))
      · exact (Rect.idx_unit_val _ _ (inbV n q) x 0).symm
      · exact Eq.trans (by simp only [hc]; exact congrArg (· + _) (Nat.mul_comm _ _)) (Rect.idx_unit_val _ _ (inbV n q) x 1).symm
    refine View.PiecesOf.mem (Val := Elt Ideal) (s := S512x512) (e := .f32) (G := fun y => Y (y 0) (y 1)) ?_
    exact ⟨hV 7 3, hV 6 3, hV 5 3, hV 4 3, hV 3 3, hV 2 3, hV 1 3, hV 0 3, hV 7 2, hV 6 2, hV 5 2, hV 4 2, hV 3 2, hV 2 2, hV 1 2, hV 0 2, hV 7 1, hV 6 1, hV 5 1, hV 4 1, hV 3 1, hV 2 1, hV 1 1, hV 0 1, hV 7 0, hV 6 0, hV 5 0, hV 4 0, hV 3 0, hV 2 0, hV 1 0, hV 0 0, trivial⟩
  · exact View.cover_of_tiledL (s := S512x512) (cvL f) ![64, 128] (by sl_kernel_rfl) y

/-! ## The mixer's tiles and strips -/

theorem inbM (q h : Fin 4) : ∀ a, (![q.val * 128, h.val * 128] : Fin 2 → ℕ) a + (![128, 128] : Fin 2 → ℕ) a ≤ S512x1024.size a := by revert q h; decide
theorem inbS (q : Fin 4) : ∀ a, (![0, 512 + q.val * 128] : Fin 2 → ℕ) a + (![512, 128] : Fin 2 → ℕ) a ≤ S512x1024.size a := by revert q; decide
abbrev rM (q h : Fin 4) : Rect S512x1024 := Rect.unit (s := S512x1024) ![q.val * 128, h.val * 128] ![128, 128] (inbM q h)
abbrev rS (q : Fin 4) : Rect S512x1024 := Rect.unit (s := S512x1024) ![0, 512 + q.val * 128] ![512, 128] (inbS q)
abbrev pM (f : Fin 4 → Fin 4 → Tileb) (q h : Fin 4) : View.Piece (Elt Ideal) S512x1024 .bf16 :=
  ⟨rM q h, f q h⟩
abbrev pS (s : Fin 4 → FVec Ideal S512x128 .bf16) (q : Fin 4) : View.Piece (Elt Ideal) S512x1024 .bf16 :=
  ⟨rS q, s q⟩
def loL (f : Fin 4 → Fin 4 → Tileb) : List (View.Piece (Elt Ideal) S512x1024 .bf16) :=
  [pM f 3 3, pM f 2 3, pM f 1 3, pM f 0 3, pM f 3 2, pM f 2 2, pM f 1 2, pM f 0 2, pM f 3 1, pM f 2 1, pM f 1 1, pM f 0 1, pM f 3 0, pM f 2 0, pM f 1 0, pM f 0 0]
def mxL (f : Fin 4 → Fin 4 → Tileb) (s : Fin 4 → FVec Ideal S512x128 .bf16) : List (View.Piece (Elt Ideal) S512x1024 .bf16) :=
  pS s 3 :: pS s 2 :: pS s 1 :: pS s 0 :: loL f

section
variable {f : Fin 4 → Fin 4 → Tileb} {s : Fin 4 → FVec Ideal S512x128 .bf16} {Y : Fin 512 → Fin 1024 → EReal}
  (hf : ∀ (q h : Fin 4) (r j : Fin 128), f q h (ix2 r j) = Y (rw4 q r) (lo (hc h j)))
  (hs : ∀ (h : Fin 4) (p : Fin 512) (j : Fin 128), s h (ix2 p j) = Y p (hi (hc h j)))
include hf

theorem pM_at (q h : Fin 4) (x : (rM q h).shape.Idx) : f q h x = Y ((rM q h).emb x 0) ((rM q h).emb x 1) := by
  refine (congrArg (f q h) (eq_ix2 x)).trans ((hf q h (x 0) (x 1)).trans (congrArg₂ Y (Fin.ext ?_) (Fin.ext ?_)))
  · exact (Rect.idx_unit_val _ _ (inbM q h) x 0).symm
  · exact Eq.trans (by simp only [hc, lo]; exact congrArg (· + _) (Nat.mul_comm _ _)) (Rect.idx_unit_val _ _ (inbM q h) x 1).symm

theorem pMs : View.PiecesOf (Val := Elt Ideal) (s := S512x1024) (e := .bf16) (fun y => Y (y 0) (y 1)) (loL f) :=
  ⟨pM_at hf 3 3, pM_at hf 2 3, pM_at hf 1 3, pM_at hf 0 3, pM_at hf 3 2, pM_at hf 2 2, pM_at hf 1 2, pM_at hf 0 2, pM_at hf 3 1, pM_at hf 2 1, pM_at hf 1 1, pM_at hf 0 1, pM_at hf 3 0, pM_at hf 2 0, pM_at hf 1 0, pM_at hf 0 0, trivial⟩

/-- The first half of the columns. -/
theorem loL_at (p : Fin 512) (k : Fin 512) : View.canon (Val := Elt Ideal) (loL f) (ix2 p (lo k)) = Y p (lo k) := by
  refine View.canon_apply_of_pieces (S := S512x1024) (Val := Elt Ideal) (e := .bf16) (fun y => Y (y 0) (y 1)) (loL f) (View.PiecesOf.mem (pMs hf)) (ix2 p (lo k)) ?_
  have hp := p.isLt
  have hk := k.isLt
  obtain ⟨q, hq⟩ : ∃ q : Fin 4, q.val = p.val / 128 := ⟨⟨p.val / 128, by omega⟩, rfl⟩
  obtain ⟨h, hh⟩ : ∃ h : Fin 4, h.val = k.val / 128 := ⟨⟨k.val / 128, by omega⟩, rfl⟩
  refine ⟨pM f q h, ?_, (Rect.mem_set_unit (s := S512x1024) (off := ![q.val * 128, h.val * 128]) (size := ![128, 128]) (inb := inbM q h)).mpr fun a => ?_⟩
  · unfold loL; clear hq hh; fin_cases q <;> fin_cases h <;> simp
  · fin_cases a
    · exact ⟨show q.val * 128 ≤ p.val by omega, show p.val < q.val * 128 + 128 by omega⟩
    · exact ⟨show h.val * 128 ≤ (lo k).val by simp only [lo]; omega, show (lo k).val < h.val * 128 + 128 by simp only [lo]; omega⟩

include hs

theorem pS_at (h : Fin 4) (x : (rS h).shape.Idx) : s h x = Y ((rS h).emb x 0) ((rS h).emb x 1) := by
  refine (congrArg (s h) (eq_ix2 x)).trans ((hs h (x 0) (x 1)).trans (congrArg₂ Y (Fin.ext ?_) (Fin.ext ?_)))
  · exact ((Rect.idx_unit_val _ _ (inbS h) x 0).trans (Nat.zero_add _)).symm
  · exact Eq.trans (show (hi (hc h (x 1))).val = 512 + h.val * 128 + (x 1).val by simp only [hc, hi]; omega) (Rect.idx_unit_val _ _ (inbS h) x 1).symm

/-- All columns. -/
theorem mxL_at (y : S512x1024.Idx) : View.canon (Val := Elt Ideal) (mxL f s) y = Y (y 0) (y 1) := by
  refine View.canon_apply_of_pieces (S := S512x1024) (Val := Elt Ideal) (e := .bf16) (fun y => Y (y 0) (y 1)) (mxL f s) ?_ y ?_
  · refine View.PiecesOf.mem (Val := Elt Ideal) (s := S512x1024) (e := .bf16) (G := fun y => Y (y 0) (y 1)) ?_
    exact ⟨pS_at hf hs 3, pS_at hf hs 2, pS_at hf hs 1, pS_at hf hs 0, pMs hf⟩
  · exact View.cover_of_tiledBy (s := S512x1024) (mxL f s) ![128, 128] (by sl_kernel_rfl) y

end

end Cert.Kernel4Ideal.Mix

end
-- ==== Proof.MixFwdBlocks.lean ====
/- What the region of the mixer's forward call reads, and what a grid point's blocks hold of it. -/
module

public import proofs.«01_k».proof.Proof.MixFwdConv
public import proofs.«01_k».proof.Proof.MixBlock
public import proofs.«01_k».proof.Proof.Gen.Kernel4Ideal.Frame.Runs
public import Idealize.ShloMosaic.Lib.Pointwise

@[expose] public section

set_option maxRecDepth 16384
set_option maxHeartbeats 4000000

noncomputable section

namespace Cert.Kernel4Ideal.Mix

open Idealize.ShloMosaic Idealize.ShloMosaic.TcCoe Idealize.SL.Sem
open Idealize.ShloMosaic.Pipeline (Dat)
open Cert.Kernel4Ideal Cert.Kernel4Ideal.Gen Cert.Ereal Cert.MixMath Cert.MixFwd
open Cert.Reference3Ideal.Mix (projT)
open Cert.Kernel3Ideal.Mix (tok)

variable (m : (ℓ : Loc nD τ sig) → Buf (Elt Ideal) ℓ) (c : Dev nD)

/-- The thirteen arguments and the projection. -/
abbrev X : FVec Ideal S4096x1024 .f32 := m ((c : Thread nD τ).loc main_arg0)
abbrev N1 : FVec Ideal S1024 .f32 := m ((c : Thread nD τ).loc main_arg1)
abbrev WI : FVec Ideal S1024x2048 .f32 := m ((c : Thread nD τ).loc main_arg2)
abbrev LG : FVec Ideal S512 .f32 := m ((c : Thread nD τ).loc main_arg3)
abbrev LB : FVec Ideal S512 .f32 := m ((c : Thread nD τ).loc main_arg4)
abbrev W : FVec Ideal S4x128x128 .f32 := m ((c : Thread nD τ).loc main_arg5)
abbrev BS : FVec Ideal S4x128 .f32 := m ((c : Thread nD τ).loc main_arg6)
abbrev CW : FVec Ideal S31x512 .f32 := m ((c : Thread nD τ).loc main_arg7)
abbrev CB : FVec Ideal S512 .f32 := m ((c : Thread nD τ).loc main_arg8)
abbrev CLG : FVec Ideal S512 .f32 := m ((c : Thread nD τ).loc main_arg9)
abbrev CLB : FVec Ideal S512 .f32 := m ((c : Thread nD τ).loc main_arg10)
abbrev WO : FVec Ideal S1024x1024 .f32 := m ((c : Thread nD τ).loc main_arg11)
abbrev N2 : FVec Ideal S1024 .f32 := m ((c : Thread nD τ).loc main_arg12)
abbrev PJ : FVec Ideal S4096x2048 .f32 := projT (X m c) (N1 m c) (WI m c)

/-! ## What the region finds -/

theorem pj_read : (show FVec Ideal S4096x2048 .f32 from V m c main_v13) = PJ m c := by
  simp only [V, hostOps0]
  entry_read
  rfl

theorem wo_read (i : Fin 1024) (j : Fin 1024) :
    (show FVec Ideal S1024x1024 .bf16 from V m c main_v20) (ix2 i j) = WO m c (ix2 i j) := by
  simp only [V, hostOps0]
  entry_read
  pointwise

theorem bs_read (r : Fin 128) (h : Fin 4) :
    (show FVec Ideal S128x4 .f32 from V m c main_v16) (ix2 r h) = BS m c (ix2 h r) := by
  simp only [V, hostOps0]
  entry_read
  pointwise

theorem n2_read (k : Fin 1024) : (show FVec Ideal S1x1024 .f32 from V m c main_v21) (ix2 0 k) = N2 m c (ix1 k) := by
  simp only [V, hostOps0]
  entry_read
  pointwise

theorem rows_read (k : Fin 512) :
    (show FVec Ideal S1x512 .f32 from V m c main_v14) (ix2 0 k) = LG m c (ix1 k)
    ∧ (show FVec Ideal S1x512 .f32 from V m c main_v15) (ix2 0 k) = LB m c (ix1 k)
    ∧ (show FVec Ideal S1x512 .f32 from V m c main_v17) (ix2 0 k) = CB m c (ix1 k)
    ∧ (show FVec Ideal S1x512 .f32 from V m c main_v18) (ix2 0 k) = CLG m c (ix1 k)
    ∧ (show FVec Ideal S1x512 .f32 from V m c main_v19) (ix2 0 k) = CLB m c (ix1 k) := by
  refine ⟨?_, ?_, ?_, ?_, ?_⟩
  all_goals
    simp only [V, hostOps0]
    entry_read
    pointwise

/-! ## The windows' block indices -/

theorem idx : ∀ t : Fin cfg0.N, win0_0.index t = ![t.val, 0] ∧ win0_1.index t = ![16 * t.val - 1, 1] ∧ win0_2.index t = ![0, 0]
    ∧ win0_3.index t = ![0, 0] ∧ win0_4.index t = ![0, 0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![0, 0] ∧ win0_13.index t = ![t.val, 0] ∧ win0_14.index t = ![t.val, 0]
    ∧ win0_15.index t = ![t.val, 0] ∧ win0_16.index t = ![t.val, 0] ∧ win0_17.index t = ![t.val, 0] ∧ t.val < 8 :=
  (by decide +kernel : ∀ t : Fin grid0.N, _)

theorem lt8 (t : Fin cfg0.N) : t.val < 8 := (idx t).2.2.2.2.2.2.2.2.2.2.2.2.2.2.2.2.2.2

/-- The grid point as a number below eight. -/
def pt (t : Fin cfg0.N) : Fin 8 := ⟨t.val, lt8 t⟩

/-! ## What the blocks hold -/

variable (t : Fin cfg0.N)

abbrev PJb : FVec Ideal S512x2048 .f32 := iblk m c 0 t
abbrev PHb : FVec Ideal S32x1024 .f32 := iblk m c 1 t
abbrev LGb : FVec Ideal S1x512 .f32 := iblk m c 2 t
abbrev LBb : FVec Ideal S1x512 .f32 := iblk m c 3 t
abbrev Wb : FVec Ideal S4x128x128 .f32 := iblk m c 4 t
abbrev BSb : FVec Ideal S128x4 .f32 := iblk m c 5 t
abbrev CWb : FVec Ideal S31x512 .f32 := iblk m c 6 t
abbrev CBb : FVec Ideal S1x512 .f32 := iblk m c 7 t
abbrev CLGb : FVec Ideal S1x512 .f32 := iblk m c 8 t
abbrev CLBb : FVec Ideal S1x512 .f32 := iblk m c 9 t
abbrev WOb : FVec Ideal S1024x1024 .bf16 := iblk m c 10 t
abbrev Xb : FVec Ideal S512x1024 .f32 := iblk m c 11 t
abbrev N2b : FVec Ideal S1x1024 .f32 := iblk m c 12 t

theorem pjb_at (p : Fin 512) (k : Fin 2048) : PJb m c t (ix2 p k) = PJ m c (ix2 (tok (pt t) p) k) := by
  refine Eq.trans ?_ (congrFun (pj_read m c) (ix2 (tok (pt t) p) k))
  blk_ext [iblk, idx t, tok, pt]
theorem phb_at (h : 0 < t.val) (p : Fin 32) (k : Fin 1024) :
    PHb m c t (ix2 p k) = PJ m c (ix2 ⟨t.val * 512 + p.val - 32, by have := lt8 t; omega⟩ ⟨1024 + k.val, by omega⟩) := by
  refine Eq.trans ?_ (congrFun (pj_read m c) (ix2 ⟨t.val * 512 + p.val - 32, by have := lt8 t; omega⟩ ⟨1024 + k.val, by omega⟩))
  blk_ext [iblk, idx t]
theorem lgb_at (k : Fin 512) : LGb m c t (ix2 0 k) = LG m c (ix1 k) := by
  refine Eq.trans ?_ (rows_read m c k).1
  blk_ext [iblk, idx t]
theorem lbb_at (k : Fin 512) : LBb m c t (ix2 0 k) = LB m c (ix1 k) := by
  refine Eq.trans ?_ (rows_read m c k).2.1
  blk_ext [iblk, idx t]
theorem cbb_at (k : Fin 512) : CBb m c t (ix2 0 k) = CB m c (ix1 k) := by
  refine Eq.trans ?_ (rows_read m c k).2.2.1
  blk_ext [iblk, idx t]
theorem clgb_at (k : Fin 512) : CLGb m c t (ix2 0 k) = CLG m c (ix1 k) := by
  refine Eq.trans ?_ (rows_read m c k).2.2.2.1
  blk_ext [iblk, idx t]
theorem clbb_at (k : Fin 512) : CLBb m c t (ix2 0 k) = CLB m c (ix1 k) := by
  refine Eq.trans ?_ (rows_read m c k).2.2.2.2
  blk_ext [iblk, idx t]
theorem wb_at (h : Fin 4) (r s : Fin 128) : Wb m c t (ix3 h r s) = W m c (ix3 h r s) := by
  rw [show W m c = V m c main_arg5 from (V_main_arg5 m c).symm]
  blk_ext [iblk, idx t]
theorem cwb_at (j : Fin 31) (k : Fin 512) : CWb m c t (ix2 j k) = CW m c (ix2 j k) := by
  rw [show CW m c = V m c main_arg7 from (V_main_arg7 m c).symm]
  blk_ext [iblk, idx t]
theorem bsb_at (r : Fin 128) (h : Fin 4) : BSb m c t (ix2 r h) = BS m c (ix2 h r) := by
  refine Eq.trans ?_ (bs_read m c r h)
  blk_ext [iblk, idx t]
theorem wob_at (p : Fin 1024) (k : Fin 1024) : WOb m c t (ix2 p k) = WO m c (ix2 p k) := by
  refine Eq.trans ?_ (wo_read m c p k)
  blk_ext [iblk, idx t]
theorem xb_at (p : Fin 512) (k : Fin 1024) : Xb m c t (ix2 p k) = X m c (ix2 (tok (pt t) p) k) := by
  rw [show X m c = V m c main_arg0 from (V_main_arg0 m c).symm]
  blk_ext [iblk, idx t, tok, pt]
theorem n2b_at (k : Fin 1024) : N2b m c t (ix2 0 k) = N2 m c (ix1 k) := by
  refine Eq.trans ?_ (n2_read m c k)
  blk_ext [iblk, idx t]

end Cert.Kernel4Ideal.Mix

end
-- ==== Proof.MixFwdText.lean ====
/- A grid point's text of the mixer's forward call: what it loads, and the arrays it computes from that. -/
module

public import proofs.«01_k».proof.Proof.MixFwdPiece
public import proofs.«01_k».proof.Proof.MixFwdBlocks

@[expose] public section

set_option maxRecDepth 65536
set_option maxHeartbeats 40000000

noncomputable section

namespace Cert.Kernel4Ideal.Mix

open Idealize.ShloMosaic Idealize.ShloMosaic.TcCoe Idealize.SL.Sem
open Idealize.ShloMosaic.Pipeline (Dat)
open Cert.Kernel4Ideal Cert.Kernel4Ideal.Gen Cert.Ereal Cert.MixMath Cert.MixFwd
open Cert.Kernel3Ideal.Mix (Sq Sqb Tile Tileb Strip rw4 tok)

variable (m : (ℓ : Loc nD τ sig) → Buf (Elt Ideal) ℓ) (c : Dev nD) (t : Fin cfg0.N)

/-! ## What a grid point loads from its blocks -/

abbrev rd0 (r : Rect S512x2048) : r.shape.Idx → EReal := View.readAt (Elt Ideal) (ms0_0 t).view r.toLoadRect ((hs0_0 t).unread (iblk m c 0 t))
abbrev rd1 (r : Rect S32x1024) : r.shape.Idx → EReal := View.readAt (Elt Ideal) (ms0_1 t).view r.toLoadRect ((hs0_1 t).unread (iblk m c 1 t))
abbrev rd2 (r : Rect S1x512) : r.shape.Idx → EReal := View.readAt (Elt Ideal) (ms0_2 t).view r.toLoadRect ((hs0_2 t).unread (iblk m c 2 t))
abbrev rd3 (r : Rect S1x512) : r.shape.Idx → EReal := View.readAt (Elt Ideal) (ms0_3 t).view r.toLoadRect ((hs0_3 t).unread (iblk m c 3 t))
abbrev rd4 (r : Rect S4x128x128) : r.shape.Idx → EReal := View.readAt (Elt Ideal) (ms0_4 t).view r.toLoadRect ((hs0_4 t).unread (iblk m c 4 t))
abbrev rd5 (r : Rect S128x4) : r.shape.Idx → EReal := View.readAt (Elt Ideal) (ms0_5 t).view r.toLoadRect ((hs0_5 t).unread (iblk m c 5 t))
abbrev rd6 (r : Rect S31x512) : r.shape.Idx → EReal := View.readAt (Elt Ideal) (ms0_6 t).view r.toLoadRect ((hs0_6 t).unread (iblk m c 6 t))
abbrev rd7 (r : Rect S1x512) : r.shape.Idx → EReal := View.readAt (Elt Ideal) (ms0_7 t).view r.toLoadRect ((hs0_7 t).unread (iblk m c 7 t))
abbrev rd8 (r : Rect S1x512) : r.shape.Idx → EReal := View.readAt (Elt Ideal) (ms0_8 t).view r.toLoadRect ((hs0_8 t).unread (iblk m c 8 t))
abbrev rd9 (r : Rect S1x512) : r.shape.Idx → EReal := View.readAt (Elt Ideal) (ms0_9 t).view r.toLoadRect ((hs0_9 t).unread (iblk m c 9 t))
abbrev rd10 (r : Rect S1024x1024) : r.shape.Idx → EReal := View.readAt (Elt Ideal) (ms0_10 t).view r.toLoadRect ((hs0_10 t).unread (iblk m c 10 t))
abbrev rd11 (r : Rect S512x1024) : r.shape.Idx → EReal := View.readAt (Elt Ideal) (ms0_11 t).view r.toLoadRect ((hs0_11 t).unread (iblk m c 11 t))
abbrev rd12 (r : Rect S1x1024) : r.shape.Idx → EReal := View.readAt (Elt Ideal) (ms0_12 t).view r.toLoadRect ((hs0_12 t).unread (iblk m c 12 t))

/-! ## What a grid point computes -/

def uB : Sq := rd0 m c t (Rect.unit (s := S512x2048) ![0, 0] ![512, 512] (by decide))
def vB : Sq := rd0 m c t (Rect.unit (s := S512x2048) ![0, 512] ![512, 512] (by decide))
/-- The gated rows, and the rows before the block, zero at the first point. -/
def gB : Sq := k0_pay30 (rd0 m c t (Rect.unit (s := S512x2048) ![0, 1024] ![512, 512] (by decide))) (rd0 m c t (Rect.unit (s := S512x2048) ![0, 1536] ![512, 512] (by decide)))
def hB : FVec Ideal S32x512 .f32 := k0_pay32 (BitVec.ofNat 32 (grid0.coords t 0).val)
  (k0_pay31 (rd1 m c t (Rect.unit (s := S32x1024) ![0, 0] ![32, 512] (by decide))) (rd1 m c t (Rect.unit (s := S32x1024) ![0, 512] ![32, 512] (by decide))))
/-- The convolution's tiles. -/
def fV (n : Fin 8) (q : Fin 4) : FVec Ideal S64x128 .f32 :=
  cvTile (View.whole cc0_scratch0) (allL (View.whole cc0_scratch0) (gB m c t) (hB m c t)) (fun r => rd6 m c t r) (fun r => rd7 m c t r) n q
/-- The mixer's strips and tiles. -/
def sS (q : Fin 4) : FVec Ideal S512x128 .bf16 :=
  stripF ((ms0_14 t).view.readCov (Val := Elt Ideal) (cvL (fV m c t)) (Rect.unit (s := S512x512) ![0, q.val * 128] ![512, 128] (by revert q; decide)).toLoadRect)
    (rd8 m c t (Rect.unit (s := S1x512) ![0, q.val * 128] ![1, 128] (by revert q; decide))) (rd9 m c t (Rect.unit (s := S1x512) ![0, q.val * 128] ![1, 128] (by revert q; decide)))
def fM (q h : Fin 4) : Tileb :=
  tileF (k0_pay2 (uB m c t)) (VB (vB m c t) (rd2 m c t (Rect.unit (s := S1x512) ![0, 0] ![1, 512] (by decide))) (rd3 m c t (Rect.unit (s := S1x512) ![0, 0] ![1, 512] (by decide))))
    (rd4 m c t (Rect.unit (s := S4x128x128) ![h.val, 0, 0] ![1, 128, 128] (by revert h; decide))) (rd5 m c t (Rect.unit (s := S128x4) ![0, h.val] ![128, 1] (by revert h; decide))) q h
/-- The residual with the first and with both halves projected. -/
def xA : FVec Ideal S512x1024 .f32 :=
  k0_pay29 (rd11 m c t (Rect.unit (s := S512x1024) ![0, 0] ![512, 1024] (by decide)))
    ((ms0_13 t).view.readCov (Val := Elt Ideal) (loL (fM m c t)) (Rect.unit (s := S512x1024) ![0, 0] ![512, 512] (by decide)).toLoadRect)
    (rd10 m c t (Rect.unit (s := S1024x1024) ![0, 0] ![512, 1024] (by decide)))
def xB : FVec Ideal S512x1024 .f32 :=
  k0_pay29 (shapeCast S512x1024 ((ms0_16 t).view.readCov (Val := Elt Ideal) [⟨Rect.unit (s := S512x1024) ![0, 0] ![512, 1024] (by decide), xA m c t⟩] (Rect.unit (s := S512x1024) ![0, 0] ![512, 1024] (by decide)).toLoadRect) shapeCasts_S512x1024_S512x1024)
    ((ms0_13 t).view.readCov (Val := Elt Ideal) (mxL (fM m c t) (sS m c t)) (Rect.unit (s := S512x1024) ![0, 512] ![512, 512] (by decide)).toLoadRect)
    (rd10 m c t (Rect.unit (s := S1024x1024) ![512, 0] ![512, 1024] (by decide)))
def hO : FVec Ideal S512x1024 .bf16 := k0_pay1 (xB m c t) (k0_pay666 (xB m c t)) (rd12 m c t (Rect.unit (s := S1x1024) ![0, 0] ![1, 1024] (by decide)))

end Cert.Kernel4Ideal.Mix

end
-- ==== Proof.MixFwdVal.lean ====
/- The values a grid point of the mixer's forward call computes, as the forward's values at the block's rows. -/
module

public import proofs.«01_k».proof.Proof.MixFwdText

@[expose] public section

set_option maxRecDepth 16384
set_option maxHeartbeats 4000000

noncomputable section

namespace Cert.Kernel4Ideal.Mix

open Idealize.ShloMosaic Idealize.ShloMosaic.TcCoe Idealize.SL.Sem
open Cert.Kernel4Ideal Cert.Kernel4Ideal.Gen Cert.Ereal Cert.MixMath Cert.MixFwd
open Cert.Kernel3Ideal.Mix (Sq Sqb Tile Tileb Strip rw4 tok ck tok_rw4)

/-- A whole block's part as loaded from its buffer. -/
theorem rd_at {κ : Kind} {sp : Space} {S : Shape} {e : EltTy} {M : Memref sig κ sp S e} (h : M.IsWhole) (f : S.Idx → Elt Ideal e) (r : Rect S) (x : r.shape.Idx) :
    View.readAt (Elt Ideal) M.view r.toLoadRect (h.unread f) x = f (r.idx x) := by
  rw [View.readAt_eq_ld, Memref.IsWhole.read_unread]

theorem idx2 {a b a' b' : ℕ} {o1 o2 : ℕ} {hb : ∀ i, (![o1, o2] : Fin 2 → ℕ) i + (![a', b'] : Fin 2 → ℕ) i ≤ (⟨2, ![a, b]⟩ : Shape).size i} (p : Fin a') (k : Fin b') (p' : Fin a) (k' : Fin b)
    (h1 : p'.val = o1 + p.val) (h2 : k'.val = o2 + k.val) : (Rect.unit (s := ⟨2, ![a, b]⟩) ![o1, o2] ![a', b'] hb).idx (ix2 p k) = ix2 p' k' := by
  funext i
  refine Fin.ext ((Rect.idx_unit_val _ _ hb _ i).trans ?_)
  fin_cases i
  · exact h1.symm
  · exact h2.symm

variable (m : (ℓ : Loc nD τ sig) → Buf (Elt Ideal) ℓ) (c : Dev nD) (t : Fin cfg0.N)

theorem uB_at (p k : Fin 512) : uB m c t (ix2 p k) = PJ m c (ix2 (tok (pt t) p) (pc 0 k)) :=
  (rd_at (hs0_0 t) _ _ _).trans ((congrArg (PJb m c t) (idx2 p k p (pc 0 k) (Nat.zero_add _).symm (by simp [pc]))).trans (pjb_at m c t p _))
theorem vB_at (p k : Fin 512) : vB m c t (ix2 p k) = PJ m c (ix2 (tok (pt t) p) (pc 1 k)) :=
  (rd_at (hs0_0 t) _ _ _).trans ((congrArg (PJb m c t) (idx2 p k p (pc 1 k) (Nat.zero_add _).symm (by simp [pc]))).trans (pjb_at m c t p _))

theorem gB_at (p k : Fin 512) : gB m c t (ix2 p k) = gl (PJ m c) (tok (pt t) p) k := by
  refine (gate_at _ _ p k).trans (congrArg₂ (fun a b => a * sgE b) ?_ ?_)
  · exact (rd_at (hs0_0 t) _ _ _).trans ((congrArg (PJb m c t) (idx2 p k p (pc 2 k) (Nat.zero_add _).symm (by simp [pc]))).trans (pjb_at m c t p _))
  · exact (rd_at (hs0_0 t) _ _ _).trans ((congrArg (PJb m c t) (idx2 p k p (pc 3 k) (Nat.zero_add _).symm (by simp [pc]))).trans (pjb_at m c t p _))

theorem coord_eq : ∀ t : Fin cfg0.N, (grid0.coords t 0).val = t.val := (by decide +kernel : ∀ t : Fin grid0.N, (grid0.coords t 0).val = t.val)

theorem first_point : ∀ n : Fin 8, Scalar.cmpi .sgt (BitVec.ofNat 32 n.val) 0#32 = if 0 < n.val then 1#1 else 0#1 := by decide

theorem hB_at (p : Fin 32) (k : Fin 512) : hB m c t (ix2 p k) = gpad (PJ m c) (512 * (pt t).val + p.val - 2) k := by
  have e : hB m c t = Scalar.select (if 0 < t.val then 1#1 else 0#1) (k0_pay31 (rd1 m c t (Rect.unit (s := S32x1024) ![0, 0] ![32, 512] (by decide))) (rd1 m c t (Rect.unit (s := S32x1024) ![0, 512] ![32, 512] (by decide))))
      (broadcast S32x512 (Scalar.ofBits (F := Ideal) .f32 0x00000000#32)) := by
    refine Eq.trans ?_ (congrArg (fun b => Scalar.select b _ _) (first_point (pt t)))
    unfold hB
    rw [coord_eq]
    rfl
  rw [e]
  have ht := lt8 t
  have hp := p.isLt
  have hpt : (pt t).val = t.val := rfl
  unfold gpad
  by_cases h0 : 0 < t.val
  · rw [if_pos h0, dif_pos ⟨by omega, by omega⟩]
    refine (show Scalar.select 1#1 (k0_pay31 (F := Ideal) _ _) _ (ix2 p k) = k0_pay31 (F := Ideal) _ _ (ix2 p k) from rfl).trans ?_
    refine (halo_at _ _ p k).trans (congrArg₂ (fun a b => a * sgE b) ?_ ?_)
    · refine (rd_at (hs0_1 t) _ _ _).trans ((congrArg (PHb m c t) (idx2 p k p ⟨k.val, by omega⟩ (Nat.zero_add _).symm (Nat.zero_add _).symm)).trans ((phb_at m c t h0 p _).trans ?_))
      exact congrArg (PJ m c) (congrArg₂ ix2 (Fin.ext (by simp only; omega)) (Fin.ext (by simp only [pc]; omega)))
    · refine (rd_at (hs0_1 t) _ _ _).trans ((congrArg (PHb m c t) (idx2 p k p ⟨512 + k.val, by omega⟩ (Nat.zero_add _).symm rfl)).trans ((phb_at m c t h0 p _).trans ?_))
      exact congrArg (PJ m c) (congrArg₂ ix2 (Fin.ext (by simp only; omega)) (Fin.ext (by simp only [pc]; omega)))
  · rw [if_neg h0, dif_neg (by omega)]
    exact Ideal.ofBits_zero_f32

/-- The convolution of the block's rows. -/
theorem fV_at (n : Fin 8) (q : Fin 4) (i : Fin 64) (l : Fin 128) :
    fV m c t n q (ix2 i l) = cv (PJ m c) (CW m c) (CB m c) (tok (pt t) ⟨n.val * 64 + i.val, by omega⟩) (hc q l) := by
  refine (cvTile_at (View.whole cc0_scratch0) _ _ (holds_all _ (gB_at m c t) (hB_at m c t)) (cw := CWb m c t) (cb := CBb m c t) (fun r x => rd_at (hs0_6 t) _ r x) (fun r x => rd_at (hs0_7 t) _ r x) n q i l).trans ?_
  unfold cv
  refine congrArg₂ (· + ·) (Finset.sum_congr rfl fun k _ => congrArg₂ (· * ·) (cwb_at m c t k _) ?_) (cbb_at m c t _)
  unfold GG
  exact congrArg (fun n => gpad (PJ m c) n _) (by simp only [tok]; omega)

abbrev Ycv (p k : Fin 512) : EReal := cv (PJ m c) (CW m c) (CB m c) (tok (pt t) p) k

theorem cvC (y : S512x512.Idx) : View.canon (Val := Elt Ideal) (cvL (fV m c t)) y = Ycv m c t (y 0) (y 1) := cvL_at (fV_at m c t) y

abbrev hiV (i : Fin 4096) (h : Fin 4) (j : Fin 128) : EReal := hiv (PJ m c) (CW m c) (CB m c) (CLG m c) (CLB m c) i h j
abbrev loV (i : Fin 4096) (k : Fin 512) : EReal := lov (PJ m c) (LG m c) (LB m c) (W m c) (BS m c) i k

theorem sS_at (q : Fin 4) (p : Fin 512) (j : Fin 128) : sS m c t q (ix2 p j) = hiV m c (tok (pt t) p) q j := by
  have hb : ∀ a, (![0, q.val * 128] : Fin 2 → ℕ) a + (![512, 128] : Fin 2 → ℕ) a ≤ S512x512.size a := by revert q; decide
  have hb' : ∀ a, (![0, q.val * 128] : Fin 2 → ℕ) a + (![1, 128] : Fin 2 → ℕ) a ≤ S1x512.size a := by revert q; decide
  have hq : ∀ j : Fin 128, (hc q j).val = q.val * 128 + j.val := fun j => by simp only [hc]; omega
  have hz : ∀ j, k0_pay657 (F := Ideal) ((ms0_14 t).view.readCov (Val := Elt Ideal) (cvL (fV m c t)) (Rect.unit (s := S512x512) ![0, q.val * 128] ![512, 128] hb).toLoadRect)
      (rd8 m c t (Rect.unit (s := S1x512) ![0, q.val * 128] ![1, 128] hb')) (rd9 m c t (Rect.unit (s := S1x512) ![0, q.val * 128] ![1, 128] hb')) (ix2 p j)
        = zv (PJ m c) (CW m c) (CB m c) (CLG m c) (CLB m c) (tok (pt t) p) q j := fun j => by
    refine (zF_at _ _ _ p j).trans ?_
    unfold zv
    refine congrArg₂ (· + ·) (congrArg₂ (· * ·) (congrArg (fun f => xhE _ f j) (funext fun l => ?_)) ?_) ?_
    · rw [View.readCov_eq_canon']
      refine (congrArg (View.canon (Val := Elt Ideal) (cvL (fV m c t))) (idx2 (hb := hb) p l p (hc q l) (Nat.zero_add _).symm (hq l))).trans (cvC m c t _)
    · exact (rd_at (hs0_8 t) _ _ _).trans ((congrArg (CLGb m c t) (idx2 (hb := hb') 0 j 0 (hc q j) rfl (hq j))).trans (clgb_at m c t _))
    · exact (rd_at (hs0_9 t) _ _ _).trans ((congrArg (CLBb m c t) (idx2 (hb := hb') 0 j 0 (hc q j) rfl (hq j))).trans (clbb_at m c t _))
  refine (stripF_at _ _ _ p j).trans ?_
  rw [hz j]
  rfl

theorem fM_at (q h : Fin 4) (r j : Fin 128) : fM m c t q h (ix2 r j) = loV m c (tok (pt t) (rw4 q r)) (hc h j) := by
  refine (tileF_at _ _ _ _ q h r j).trans ?_
  unfold loV lov
  rw [tok_rw4, ch_tk, ps_tk, hd_hc, ← tok_rw4]
  refine congrArg₂ (· * ·) ((gelu_at _ _ _).trans (congrArg geE (uB_at m c t _ _))) (congrArg₂ (· + ·) (Finset.sum_congr rfl fun s _ => congrArg₂ (· * ·) ?_ ?_) ?_)
  · unfold wm
    split
    · refine (rd_at (hs0_4 t) _ _ _).trans ((congrArg (Wb m c t) ?_).trans (wb_at m c t h r s))
      funext i
      refine Fin.ext ((Rect.idx_unit_val _ _ _ _ i).trans ?_)
      fin_cases i
      · rfl
      · exact Nat.zero_add _
      · exact Nat.zero_add _
    · rfl
  · refine (VB_at _ _ _ _ _).trans ?_
    rw [← tok_rw4]
    unfold vn
    refine congrArg₂ (· + ·) (congrArg₂ (· * ·) (congrArg (fun f => xhE _ f (hc h j)) (funext fun l => congrArg geE (vB_at m c t _ l))) ?_) ?_
    · exact (rd_at (hs0_2 t) _ _ _).trans ((congrArg (LGb m c t) (idx2 0 (hc h j) 0 (hc h j) rfl (Nat.zero_add _).symm)).trans (lgb_at m c t _))
    · exact (rd_at (hs0_3 t) _ _ _).trans ((congrArg (LBb m c t) (idx2 0 (hc h j) 0 (hc h j) rfl (Nat.zero_add _).symm)).trans (lbb_at m c t _))
  · exact (rd_at (hs0_5 t) _ _ _).trans ((congrArg (BSb m c t) (idx2 r 0 r h (Nat.zero_add _).symm rfl)).trans (bsb_at m c t r h))

/-- The mixer's output at a row. -/
def Ymx (p : Fin 512) (d : Fin 1024) : EReal :=
  MXT (PJ m c) (LG m c) (LB m c) (W m c) (BS m c) (CW m c) (CB m c) (CLG m c) (CLB m c) (ix2 (tok (pt t) p) d)

theorem fM_Y (q h : Fin 4) (r j : Fin 128) : fM m c t q h (ix2 r j) = Ymx m c t (rw4 q r) (lo (hc h j)) := (fM_at m c t q h r j).trans (lo_at ..).symm
theorem sS_Y (h : Fin 4) (p : Fin 512) (j : Fin 128) : sS m c t h (ix2 p j) = Ymx m c t p (hi (hc h j)) := by
  refine (sS_at m c t h p j).trans (Eq.trans ?_ (hi_at ..).symm)
  rw [hd_hc, cl_hc]

theorem mxC (y : S512x1024.Idx) : View.canon (Val := Elt Ideal) (mxL (fM m c t) (sS m c t)) y = Ymx m c t (y 0) (y 1) := mxL_at (fM_Y m c t) (sS_Y m c t) y

theorem xA_at (p : Fin 512) (d : Fin 1024) :
    xA m c t (ix2 p d) = X m c (ix2 (tok (pt t) p) d) + ∑ k, loV m c (tok (pt t) p) k * WO m c (ix2 (lo k) d) := by
  refine (proj_at _ _ _ p d).trans (congrArg₂ (· + ·) ?_ (Finset.sum_congr rfl fun k _ => congrArg₂ (· * ·) ?_ ?_))
  · exact (rd_at (hs0_11 t) _ _ _).trans ((congrArg (Xb m c t) (idx2 p d p d (Nat.zero_add _).symm (Nat.zero_add _).symm)).trans (xb_at m c t p d))
  · rw [View.readCov_eq_canon']
    refine (congrArg (View.canon (Val := Elt Ideal) (loL (fM m c t))) (idx2 (hb := by decide) p k p (lo k) (Nat.zero_add _).symm (Nat.zero_add _).symm)).trans ((loL_at (fM_Y m c t) p k).trans (lo_at ..))
  · exact (rd_at (hs0_10 t) _ _ _).trans ((congrArg (WOb m c t) (idx2 k d (lo k) d (Nat.zero_add _).symm (Nat.zero_add _).symm)).trans (wob_at m c t _ d))

theorem same_cast (x : FVec Ideal S512x1024 .f32) (h : S512x1024.ShapeCasts S512x1024) (p : Fin 512) (d : Fin 1024) : shapeCast S512x1024 x h (ix2 p d) = x (ix2 p d) := by
  pointwise []

/-- A whole part's value, whatever was stored before it. -/
theorem canon_full {n k : ℕ} {e : EltTy} (hb : ∀ i, (![0, 0] : Fin 2 → ℕ) i + (![n, k] : Fin 2 → ℕ) i ≤ (⟨2, ![n, k]⟩ : Shape).size i) (f : (⟨2, ![n, k]⟩ : Shape).Idx → Elt Ideal e)
    (L : List (View.Piece (Elt Ideal) (⟨2, ![n, k]⟩ : Shape) e)) : View.canon (Val := Elt Ideal) (⟨Rect.unit (s := ⟨2, ![n, k]⟩) ![0, 0] ![n, k] hb, f⟩ :: L) = f :=
  View.canon_cons_unit_lit (S := ⟨2, ![n, k]⟩) (off := ![0, 0]) hb f L (show ∀ a : Fin 2, (![0, 0] : Fin 2 → ℕ) a = 0 by decide)

/-- The residual with the output added. -/
abbrev x1V (i : Fin 4096) (d : Fin 1024) : EReal :=
  x1v (PJ m c) (LG m c) (LB m c) (W m c) (BS m c) (CW m c) (CB m c) (CLG m c) (CLB m c) (X m c) (WO m c) i d

theorem xB_at (p : Fin 512) (d : Fin 1024) : xB m c t (ix2 p d) = x1V m c (tok (pt t) p) d := by
  unfold x1V x1v
  rw [← add_assoc]
  refine (proj_at _ _ _ p d).trans (congrArg₂ (· + ·) ?_ (Finset.sum_congr rfl fun k _ => congrArg₂ (· * ·) ?_ ?_))
  · refine (same_cast _ _ p d).trans (Eq.trans ?_ (xA_at m c t p d))
    rw [View.readCov_eq_canon']
    rw [canon_full]
    exact congrArg (xA m c t) (idx2 (hb := by decide) p d p d (Nat.zero_add _).symm (Nat.zero_add _).symm)
  · rw [View.readCov_eq_canon']
    refine (congrArg (View.canon (Val := Elt Ideal) (mxL (fM m c t) (sS m c t))) (idx2 (hb := by decide) p k p (hi k) (Nat.zero_add _).symm (by simp [hi]))).trans ((mxC m c t _).trans (hi_at ..))
  · exact (rd_at (hs0_10 t) _ _ _).trans ((congrArg (WOb m c t) (idx2 k d (hi k) d (by simp [hi]) (Nat.zero_add _).symm)).trans (wob_at m c t _ d))

theorem hO_at (p : Fin 512) (d : Fin 1024) :
    hO m c t (ix2 p d) = h2v (PJ m c) (LG m c) (LB m c) (W m c) (BS m c) (CW m c) (CB m c) (CLG m c) (CLB m c) (X m c) (WO m c) (N2 m c) (tok (pt t) p) d := by
  refine (rmsF_at _ _ p d).trans ?_
  unfold h2v
  refine congrArg₂ (· * ·) (congrArg₂ (· * ·) (xB_at m c t p d) (congrArg rst (funext fun k => xB_at m c t p k))) ?_
  exact (rd_at (hs0_12 t) _ _ _).trans ((congrArg (N2b m c t) (idx2 0 d 0 d rfl (Nat.zero_add _).symm)).trans (n2b_at m c t d))

end Cert.Kernel4Ideal.Mix

end
-- ==== Proof.MixFwdOut.lean ====
/- What a grid point of the mixer's forward call leaves in the buffers of its five outputs. -/
module

public import proofs.«01_k».proof.Proof.MixFwdText
public import proofs.«01_k».proof.Proof.Gen.Kernel4Ideal.Frame
public import proofs.«01_k».proof.Proof.Gen.Kernel4Ideal.Value

@[expose] public section

set_option maxRecDepth 65536
set_option maxHeartbeats 40000000

noncomputable section

namespace Cert.Kernel4Ideal.Mix

open Idealize.ShloMosaic Idealize.ShloMosaic.TcCoe Idealize.SL.Sem
open Idealize.ShloMosaic.Pipeline (Dat)
open Cert.Kernel4Ideal Cert.Kernel4Ideal.Gen Cert.Ereal Cert.MixMath Cert.MixFwd
open Cert.Kernel3Ideal.Mix (Sq Sqb Tile Tileb Strip rw4 tok)

variable (m : (ℓ : Loc nD τ sig) → Buf (Elt Ideal) ℓ) (c : Dev nD) (t : Fin cfg0.N)

/-! ## What a grid point leaves in the outputs' buffers -/

theorem out15 : (outsAt0 m c t).2.2.1 = View.canon (Val := Elt Ideal) [⟨Rect.unit (s := S512x512) ![0, 0] ![512, 512] (by decide), gB m c t⟩] := by
  unfold outsAt0
  dsimp only
  frame_open
  simp (disch := decide) only [View.read_writes_junk_eq_canon]
  rfl

theorem out14 : (outsAt0 m c t).2.1 = View.canon (Val := Elt Ideal) (cvL (fV m c t)) := by
  unfold outsAt0
  dsimp only
  frame_open
  simp (disch := decide) only [View.read_writes_junk_eq_canon]
  rfl

theorem out13 : (outsAt0 m c t).1 = View.canon (Val := Elt Ideal) (mxL (fM m c t) (sS m c t)) := by
  unfold outsAt0
  dsimp only
  frame_open
  simp (disch := decide) only [View.read_writes_junk_eq_canon]
  rfl

theorem out16 : (outsAt0 m c t).2.2.2.1 = View.canon (Val := Elt Ideal) [⟨Rect.unit (s := S512x1024) ![0, 0] ![512, 1024] (by decide), xB m c t⟩, ⟨Rect.unit (s := S512x1024) ![0, 0] ![512, 1024] (by decide), xA m c t⟩] := by
  unfold outsAt0
  dsimp only
  frame_open
  simp (disch := decide) only [View.read_writes_junk_eq_canon]
  rfl

theorem out17 : (outsAt0 m c t).2.2.2.2 = View.canon (Val := Elt Ideal) [⟨Rect.unit (s := S512x1024) ![0, 0] ![512, 1024] (by decide), hO m c t⟩] := by
  unfold outsAt0
  dsimp only
  frame_open
  simp (disch := decide) only [View.read_writes_junk_eq_canon]
  rfl

end Cert.Kernel4Ideal.Mix

end
-- ==== Proof.MixFwdFinal.lean ====
/- The arrays the mixer's forward call ends with. -/
module

public import proofs.«01_k».proof.Proof.MixFwdVal
public import proofs.«01_k».proof.Proof.MixFwdOut
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
set_option maxHeartbeats 4000000

noncomputable section

namespace Cert.Kernel4Ideal.Mix

open Idealize.ShloMosaic Idealize.ShloMosaic.TcCoe Idealize.SL.Sem
open Idealize.ShloMosaic.Pipeline (Dat)
open Cert.Kernel4Ideal Cert.Kernel4Ideal.Gen Cert.Ereal Cert.MixMath Cert.MixFwd
open Cert.Kernel3Ideal.Mix (tok)

variable (m : (ℓ : Loc nD τ sig) → Buf (Elt Ideal) ℓ) (c : Dev nD)

/-- The whole arrays of the five results. -/
abbrev mxA : FVec Ideal S4096x1024 .f32 := MXT (PJ m c) (LG m c) (LB m c) (W m c) (BS m c) (CW m c) (CB m c) (CLG m c) (CLB m c)
abbrev x1A : FVec Ideal S4096x1024 .f32 := fun i => x1V m c (i 0) (i 1)
abbrev h2A : FVec Ideal S4096x1024 .bf16 := fun i =>
  h2v (PJ m c) (LG m c) (LB m c) (W m c) (BS m c) (CW m c) (CB m c) (CLG m c) (CLB m c) (X m c) (WO m c) (N2 m c) (i 0) (i 1)

/-- The array's entry the block's entry lies at. -/
theorem at_block {n : ℕ} (F : Fin 4096 → Fin n → EReal) (t : Fin cfg0.N) (r : Fin 512) (k : Fin n) (i0 : Fin 4096) (i1 : Fin n)
    (h0 : i0.val = t.val * 512 + r.val) (h1 : i1.val = k.val) : F (tok (pt t) r) k = F i0 i1 := by
  rw [show i0 = tok (pt t) r from Fin.ext (h0.trans (by simp only [tok, pt]; omega)), show i1 = k from Fin.ext h1]

theorem final13 : (dats m 0 c).arrAt 13 (cfgs 0).N = fun i => mxA m c (ix2 (i 0) (i 1)) := by
  refine (dats m 0 c).arrAt_eq_of_covers 13 _ (by decide +kernel) fun t hf y => ?_
  blk_simp
  rw [after0_13, out13]
  refine (mxC m c t y).trans (at_block (fun i k => mxA m c (ix2 i k)) t (y 0) (y 1) _ _ ?_ ?_) <;> blk_simp [idx t]

theorem final14 : (dats m 0 c).arrAt 14 (cfgs 0).N = fun i => cv (PJ m c) (CW m c) (CB m c) (i 0) (i 1) := by
  refine (dats m 0 c).arrAt_eq_of_covers 14 _ (by decide +kernel) fun t hf y => ?_
  blk_simp
  rw [after0_14, out14]
  refine (cvC m c t y).trans (at_block (cv (PJ m c) (CW m c) (CB m c)) t (y 0) (y 1) _ _ ?_ ?_) <;> blk_simp [idx t]

theorem final15 : (dats m 0 c).arrAt 15 (cfgs 0).N = fun i => gl (PJ m c) (i 0) (i 1) := by
  refine (dats m 0 c).arrAt_eq_of_covers 15 _ (by decide +kernel) fun t hf y => ?_
  blk_simp
  rw [after0_15, out15, canon_full]
  refine ((congrArg (gB m c t) (eq_ix2 y)).trans (gB_at m c t (y 0) (y 1))).trans (at_block (gl (PJ m c)) t (y 0) (y 1) _ _ ?_ ?_) <;> blk_simp [idx t]

theorem final16 : (dats m 0 c).arrAt 16 (cfgs 0).N = x1A m c := by
  refine (dats m 0 c).arrAt_eq_of_covers 16 _ (by decide +kernel) fun t hf y => ?_
  blk_simp
  rw [after0_16, out16, canon_full]
  refine ((congrArg (xB m c t) (eq_ix2 y)).trans (xB_at m c t (y 0) (y 1))).trans (at_block (x1V m c) t (y 0) (y 1) _ _ ?_ ?_) <;> blk_simp [idx t]

theorem final17 : (dats m 0 c).arrAt 17 (cfgs 0).N = h2A m c := by
  refine (dats m 0 c).arrAt_eq_of_covers 17 _ (by decide +kernel) fun t hf y => ?_
  blk_simp
  rw [after0_17, out17, canon_full]
  refine ((congrArg (hO m c t) (eq_ix2 y)).trans (hO_at m c t (y 0) (y 1))).trans
    (at_block (h2v (PJ m c) (LG m c) (LB m c) (W m c) (BS m c) (CW m c) (CB m c) (CLG m c) (CLB m c) (X m c) (WO m c) (N2 m c)) t (y 0) (y 1) _ _ ?_ ?_) <;> blk_simp [idx t]

end Cert.Kernel4Ideal.Mix

end
-- ==== Proof.MixFwdRun.lean ====
/- The results of the mixer's forward reference: the mixer's output, the convolution, the gated half, the residual and its
   norm, at the host's operations of the arguments. -/
module

public import proofs.«01_k».proof.Proof.MixFwdRef
public import proofs.«01_k».proof.Proof.Gen.Reference4Ideal.Run

@[expose] public section

set_option maxRecDepth 16384
set_option maxHeartbeats 1000000

noncomputable section

namespace Cert.Reference4Ideal.Mix

open Cert.Reference4Ideal Cert.Reference4Ideal.Gen Cert.Reference4Ideal.Value Idealize.ShloMosaic Idealize.ShloMosaic.TcCoe Idealize.SL.Sem
open Idealize.ShloMosaic.StableHlo Cert.Ereal Cert.MixMath Cert.MixFwd
open Cert.Reference3Ideal.Mix (projT convT mixT uT vT)

variable (m : (ℓ : Loc nD τ sig) → Buf (Elt Ideal) ℓ) (c : Dev nD)

abbrev X : FVec Ideal S4096x1024 .f32 := m ((c : Thread nD τ).loc main_arg0)
abbrev N1 : FVec Ideal S1024 .f32 := m ((c : Thread nD τ).loc main_arg1)
abbrev WI : FVec Ideal S1024x2048 .f32 := m ((c : Thread nD τ).loc main_arg2)
abbrev LG : FVec Ideal S512 .f32 := m ((c : Thread nD τ).loc main_arg3)
abbrev LB : FVec Ideal S512 .f32 := m ((c : Thread nD τ).loc main_arg4)
abbrev W : FVec Ideal S4x128x128 .f32 := m ((c : Thread nD τ).loc main_arg5)
abbrev BS : FVec Ideal S4x128 .f32 := m ((c : Thread nD τ).loc main_arg6)
abbrev CW : FVec Ideal S31x512 .f32 := m ((c : Thread nD τ).loc main_arg7)
abbrev CB : FVec Ideal S512 .f32 := m ((c : Thread nD τ).loc main_arg8)
abbrev CLG : FVec Ideal S512 .f32 := m ((c : Thread nD τ).loc main_arg9)
abbrev CLB : FVec Ideal S512 .f32 := m ((c : Thread nD τ).loc main_arg10)
abbrev WO : FVec Ideal S1024x1024 .f32 := m ((c : Thread nD τ).loc main_arg11)
abbrev N2 : FVec Ideal S1024 .f32 := m ((c : Thread nD τ).loc main_arg12)
abbrev PJ : FVec Ideal S4096x2048 .f32 := projT (X m c) (N1 m c) (WI m c)
abbrev MX : FVec Ideal S4096x1024 .f32 := MXT (PJ m c) (LG m c) (LB m c) (W m c) (BS m c) (CW m c) (CB m c) (CLG m c) (CLB m c)
abbrev X1 : FVec Ideal S4096x1024 .f32 := x1T (PJ m c) (LG m c) (LB m c) (W m c) (BS m c) (CW m c) (CB m c) (CLG m c) (CLB m c) (X m c) (WO m c)

theorem uT_eq (p : FVec Ideal S4096x2048 .f32) : uT p = extractStridedSlice S4096x512 ![0, 0] p slices_S4096x2048_S4096x512_0_0 := by
  funext j
  rw [eq_ix2 j]
  pointwise [uT]
theorem vT_eq (p : FVec Ideal S4096x2048 .f32) : vT p = extractStridedSlice S4096x512 ![0, 512] p slices_S4096x2048_S4096x512_0_512 := by
  funext j
  rw [eq_ix2 j]
  pointwise [vT]

theorem e13 : res_main_v13 (F := Ideal) (launchContents m c) = PJ m c := rfl

theorem e41 : res_main_v41 (F := Ideal) (launchContents m c) = uT (PJ m c) := by rw [uT_eq]; rfl

theorem e130 : res_main_v130 (F := Ideal) (launchContents m c) = MX m c := by
  unfold MX MXT mixT
  rw [uT_eq, vT_eq]
  rfl

theorem e132 : res_main_v132 (F := Ideal) (launchContents m c) = X1 m c := by
  unfold res_main_v132
  rw [e130]
  rfl

/-- Every run of the reference ends with its five results at these arrays. -/
theorem run_mix (ρ : Dev nD → PrngReg) :
    θ_run defs (onTc (τ := τ) (main (F := Ideal))) ⟨m, fun _ => 0, ρ⟩ fun r => ∀ c : Dev nD,
      r.2.mem ((c.tc : Thread nD τ).loc main_v133) = truncf (F := Ideal) .bf16 (MX m c) bitsLt_bf16_f32
      ∧ r.2.mem ((c.tc : Thread nD τ).loc main_v40) = convT (PJ m c) (CW m c) (CB m c)
      ∧ r.2.mem ((c.tc : Thread nD τ).loc main_v22) = glT (PJ m c)
      ∧ r.2.mem ((c.tc : Thread nD τ).loc main_v132) = X1 m c
      ∧ r.2.mem ((c.tc : Thread nD τ).loc main_v147) = h2T (N2 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run _ _ _).mono (fun r h c => ?_) (Cert.Reference4Ideal.Value.run (F := Ideal) m ρ)
  obtain ⟨h1, h2, h3, h4, h5, ha⟩ := h c
  refine ⟨h1.trans (by rw [e130]), h2.trans rfl, h3.trans rfl, h4.trans (e132 m c), h5.trans ?_, ha⟩
  rw [e132]
  rfl

end Cert.Reference4Ideal.Mix

end
-- ==== Proof.FwdIn.lean ====
/- The mixer's first call: the normalised rows of the tokens, and their product with the first weight, column tile by column
   tile in the kernel, whole in the reference. -/
module

public import proofs.«01_k».proof.Proof.RefLoss
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
set_option maxHeartbeats 1000000

noncomputable section

namespace Cert.FwdIn

open Idealize.ShloMosaic Cert.Ereal Cert.Mlp

/-- The normalised rows. -/
def nrm (x : Tok) (g : Gain) (i : Fin 4096) (d : Fin 1024) : EReal := x (ix2 i d) * rst (row x i) * g (ix1 d)

/-- … times the first weight. -/
def prj (x : Tok) (g : Gain) (w : FVec Ideal ⟨2, ![1024, 2048]⟩ .f32) (i : Fin 4096) (k : Fin 2048) : EReal :=
  ∑ d : Fin 1024, nrm x g i d * w (ix2 d k)

end Cert.FwdIn

namespace Cert.Kernel5Ideal.FwdIn

open Idealize.ShloMosaic Idealize.ShloMosaic.TcCoe Idealize.SL.Sem
open Idealize.ShloMosaic.Pipeline (Dat)
open Cert.Kernel5Ideal Cert.Kernel5Ideal.Gen Cert.Ereal Cert.Mlp Cert.FwdIn

variable (m : (ℓ : Loc nD τ sig) → Buf (Elt Ideal) ℓ) (c : Dev nD)

abbrev X : Tok := m ((c : Thread nD τ).loc main_arg0)
abbrev G : Gain := m ((c : Thread nD τ).loc main_arg1)
abbrev W : FVec Ideal S1024x2048 .f32 := m ((c : Thread nD τ).loc main_arg2)

/-- Column `l` of column tile `j`. -/
def col (j : Fin 8) (l : Fin 256) : Fin 2048 := ⟨j.val * 256 + l.val, by omega⟩

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] ∧ t.val < 4 :=
  (by decide +kernel : ∀ t : Fin grid0.N, _)

/-- The token of block `t`'s row `r`. -/
def tok (t : Fin cfg0.N) (r : Fin 1024) : Fin 4096 := ⟨t.val * 1024 + r.val, by have := (idx t).2.2.2.2.2; omega⟩

theorem w_read (j : Fin 8) (k : Fin 1024) (l : Fin 256) :
    (show FVec Ideal S8x1024x256 .bf16 from V m c main_v2) (ix3 j k l) = W m c (ix2 k (col j l)) := by
  simp only [V, hostOps0]
  entry_read
  pointwise
  rfl

theorem g_read (j : Fin 1024) : (show FVec Ideal S1x1024 .f32 from V m c main_v3) (ix2 0 j) = G m c (ix1 j) := by
  simp only [V, hostOps0]
  entry_read
  pointwise

theorem blk0 (t : Fin cfg0.N) (r j : Fin 1024) :
    (show FVec Ideal S1024x1024 .f32 from iblk m c 0 t) (ix2 r j) = X m c (ix2 (tok t r) j) := by
  rw [show X m c = V m c main_arg0 from (V_main_arg0 m c).symm]
  blk_ext [iblk, idx t, tok]

theorem blk1 (t : Fin cfg0.N) (j : Fin 1024) : (show FVec Ideal S1x1024 .f32 from iblk m c 1 t) (ix2 0 j) = G m c (ix1 j) := by
  refine Eq.trans ?_ (g_read m c j)
  blk_ext [iblk, idx t]

theorem blk2 (t : Fin cfg0.N) (j : Fin 8) (k : Fin 1024) (l : Fin 256) :
    (show FVec Ideal S8x1024x256 .bf16 from iblk m c 2 t) (ix3 j k l) = W m c (ix2 k (col j l)) := by
  refine Eq.trans ?_ (w_read m c j k l)
  blk_ext [iblk, idx t]

/-- Leading index `j` of the weight. -/
def gT (x : FVec Ideal S8x1024x256 .bf16) (j : Fin 8) : FVec Ideal S1x1024x256 .bf16 :=
  View.ld (Val := Elt Ideal) (S := S8x1024x256) (e' := .bf16) x (Rect.unit ![j.val, 0, 0] ![1, 1024, 256] (by intro a; have := j.isLt; fin_cases a <;> simp <;> omega))

theorem gT_at (x : FVec Ideal S8x1024x256 .bf16) (j : Fin 8) (k : Fin 1024) (l : Fin 256) : gT x j (ix3 0 k l) = x (ix3 j k l) := by
  unfold gT
  refine View.ld_unit_apply_of (Val := Elt Ideal) (e := .bf16) x _ _ _ (ix3 0 k l) (ix3 j k l) fun a => ?_
  fin_cases a <;> simp [ix3]

theorem pay6_at (x : FVec Ideal S1024x1024 .f32) (g : FVec Ideal S1x1024 .f32) (r j : Fin 1024) :
    k0_pay6 (F := Ideal) x g (ix2 r j) = x (ix2 r j) * rst (fun k => x (ix2 r k)) * g (ix2 0 j) := by
  pointwise [k0_pay6, rst, msq]

theorem pay1_at (h : FVec Ideal S1024x1024 .bf16) (w : FVec Ideal S1x1024x256 .bf16) (r : Fin 1024) (l : Fin 256) :
    k0_pay1 (F := Ideal) h w (ix2 r l) = ∑ k, h (ix2 r k) * w (ix3 0 k l) := by
  pointwise [k0_pay1]

/-- A block's normalised rows. -/
theorem nrm_at (t : Fin cfg0.N) (r j : Fin 1024) :
    k0_pay6 (F := Ideal) (iblk m c 0 t) (iblk m c 1 t) (ix2 r j) = nrm (X m c) (G m c) (tok t r) j :=
  (pay6_at _ _ r j).trans (congrArg₂ (· * ·) (congrArg₂ (· * ·) (blk0 m c t r j) (congrArg rst (funext fun k => blk0 m c t r k))) (blk1 m c t j))

theorem prj_at (t : Fin cfg0.N) (j : Fin 8) (r : Fin 1024) (l : Fin 256) :
    k0_pay1 (F := Ideal) (k0_pay6 (iblk m c 0 t) (iblk m c 1 t)) (gT (iblk m c 2 t) j) (ix2 r l)
      = prj (X m c) (G m c) (W m c) (tok t r) (col j l) :=
  (pay1_at _ _ r l).trans (Finset.sum_congr rfl fun k _ => congrArg₂ (· * ·) (nrm_at m c t r k) ((gT_at _ j k l).trans (blk2 m c t j k l)))

theorem final3 : (dats m 0 c).arrAt 3 (cfgs 0).N = fun i => nrm (X m c) (G m c) (i 0) (i 1) := by
  refine (dats m 0 c).arrAt_eq_of_covers 3 _ (by decide +kernel) fun t hf y => ?_
  blk_simp
  rw [after0_3]
  unfold out0_3
  frame_out
  have key : ∀ i : S4096x1024.Idx, (i 0).val = t.val * 1024 + (y 0).val → (i 1).val = (y 1).val →
      nrm (X m c) (G m c) (tok t (y 0)) (y 1) = nrm (X m c) (G m c) (i 0) (i 1) := fun i h0 h1 => by
    rw [show i 0 = tok t (y 0) from Fin.ext h0, show i 1 = y 1 from Fin.ext h1]
  refine (congrArg _ (eq_ix2 y)).trans ((nrm_at m c t (y 0) (y 1)).trans (key _ ?_ ?_)) <;> blk_simp [idx t]

theorem final4 : (dats m 0 c).arrAt 4 (cfgs 0).N = fun i => prj (X m c) (G m c) (W m c) (i 0) (i 1) := by
  refine (dats m 0 c).arrAt_eq_of_covers 4 _ (by decide +kernel) fun t hf y => ?_
  blk_simp
  rw [after0_4]
  unfold out0_4 k0_pay10
  frame_out
  have key : ∀ i : S4096x2048.Idx, (i 0).val = t.val * 1024 + (y 0).val → (i 1).val = (y 1).val →
      prj (X m c) (G m c) (W m c) (tok t (y 0)) (y 1) = prj (X m c) (G m c) (W m c) (i 0) (i 1) := fun i h0 h1 => by
    rw [show i 0 = tok t (y 0) from Fin.ext h0, show i 1 = y 1 from Fin.ext h1]
  have piece : ∀ (j : Fin 8) (h : ∀ a, (![0, j.val * 256] : Fin 2 → Nat) a + S1024x256.size a ≤ S1024x2048.size a) (x : (Rect.unit (s := S1024x2048) ![0, j.val * 256] S1024x256.size h).shape.Idx),
      k0_pay1 (F := Ideal) (k0_pay6 (iblk m c 0 t) (iblk m c 1 t)) (gT (iblk m c 2 t) j) x
        = prj (X m c) (G m c) (W m c) (tok t ((Rect.unit (s := S1024x2048) ![0, j.val * 256] S1024x256.size h).idx x 0))
            ((Rect.unit (s := S1024x2048) ![0, j.val * 256] S1024x256.size h).idx x 1) := fun j h x => by
    rw [show (Rect.unit (s := S1024x2048) ![0, j.val * 256] S1024x256.size h).idx x 0 = x 0 from Fin.ext ((Rect.idx_unit_val _ _ h x 0).trans (by simp)),
      show (Rect.unit (s := S1024x2048) ![0, j.val * 256] S1024x256.size h).idx x 1 = col j (x 1) from Fin.ext (Rect.idx_unit_val _ _ h x 1)]
    exact (congrArg _ (eq_ix2 x)).trans (prj_at m c t j (x 0) (x 1))
  refine Eq.trans (b := prj (X m c) (G m c) (W m c) (tok t (y 0)) (y 1)) ?_ (key _ ?_ ?_)
  · refine View.canon_apply_of_pieces (S := S1024x2048) (Val := Elt Ideal) (e := .f32)
      (fun y => prj (X m c) (G m c) (W m c) (tok t (y 0)) (y 1)) _ ?_ y ?_
    · refine View.PiecesOf.mem (Val := Elt Ideal) (s := S1024x2048) (e := .f32)
        (G := fun y => prj (X m c) (G m c) (W m c) (tok t (y 0)) (y 1)) ?_
      exact ⟨piece 7 inb_S1024x2048_S1024x256_0_1792, piece 6 inb_S1024x2048_S1024x256_0_1536,
        piece 5 inb_S1024x2048_S1024x256_0_1280, piece 4 inb_S1024x2048_S1024x256_0_1024,
        piece 3 inb_S1024x2048_S1024x256_0_768, piece 2 inb_S1024x2048_S1024x256_0_512,
        piece 1 inb_S1024x2048_S1024x256_0_256, piece 0 inb_S1024x2048_S1024x256_0_0, trivial⟩
    · exact View.cover_of_tiledL (s := S1024x2048) _ S1024x256.size (by sl_kernel_rfl) y
  · blk_simp [idx t]
  · blk_simp [idx t]

end Cert.Kernel5Ideal.FwdIn

namespace Cert.Reference5Ideal.FwdIn

open Cert.Reference5Ideal Cert.Reference5Ideal.Gen Cert.Reference5Ideal.Value Idealize.ShloMosaic Idealize.ShloMosaic.TcCoe Idealize.SL.Sem
open Idealize.ShloMosaic.StableHlo Cert.Ereal Cert.Mlp Cert.FwdIn
open Cert.ReferenceIdeal.Loss (normT gainT normT_at gainT_at)

variable (m : (ℓ : Loc nD τ sig) → Buf (Elt Ideal) ℓ) (c : Dev nD)

abbrev X : Tok := m ((c : Thread nD τ).loc main_arg0)
abbrev G : Gain := m ((c : Thread nD τ).loc main_arg1)
abbrev W : FVec Ideal S1024x2048 .f32 := m ((c : Thread nD τ).loc main_arg2)

/-- The reference's normalised rows and their product, at its own operations. -/
def nT (x : FVec Ideal S4096x1024 .f32) (g : FVec Ideal S1024 .f32) : FVec Ideal S4096x1024 .f32 := mulf (normT x) (gainT g)
def pT (x : FVec Ideal S4096x1024 .f32) (g : FVec Ideal S1024 .f32) (w : FVec Ideal S1024x2048 .f32) : FVec Ideal S4096x2048 .f32 :=
  Host.dotGeneral dot_S4096x1024_S1024x2048_S4096x2048_1_0_0_1_n_n none (nT x g) w

theorem nT_at (x : FVec Ideal S4096x1024 .f32) (g : FVec Ideal S1024 .f32) (i : Fin 4096) (d : Fin 1024) : nT x g (ix2 i d) = nrm x g i d := by
  show normT x (ix2 i d) * gainT g (ix2 i d) = _
  simp only [normT_at, gainT_at, nrm, row]

theorem pT_at (x : FVec Ideal S4096x1024 .f32) (g : FVec Ideal S1024 .f32) (w : FVec Ideal S1024x2048 .f32) (i : Fin 4096) (k : Fin 2048) :
    pT x g w (ix2 i k) = prj x g w i k := by
  pointwise [pT, prj]
  simp only [nT_at]

/-- THE REFERENCE'S RUN. -/
theorem run (g : Dev nD → PrngReg) : θ_run defs (onTc (τ := τ) (main (F := Ideal))) ⟨m, fun _ => 0, g⟩ fun r => ∀ c : Dev nD,
    r.2.mem ((c.tc : Thread nD τ).loc main_v13) = (fun i => nrm (X m c) (G m c) (i 0) (i 1))
    ∧ r.2.mem ((c.tc : Thread nD τ).loc main_v15) = (fun i => prj (X m c) (G m c) (W m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run _ _ _).mono (fun r h c => ⟨(h c).1.trans (funext fun i => (congrArg (nT (X m c) (G m c)) (eq_ix2 i)).trans (nT_at _ _ (i 0) (i 1))),
    (h c).2.1.trans (funext fun i => (congrArg (pT (X m c) (G m c) (W m c)) (eq_ix2 i)).trans (pT_at _ _ _ (i 0) (i 1))),
    (h c).2.2⟩) (Cert.Reference5Ideal.Value.run m g)

end Cert.Reference5Ideal.FwdIn

end
-- ==== Proof.FwdRelu.lean ====
/- The multilayer perceptron's first call: the relu of a product, column tile by column tile in the kernel, whole in the
   reference. -/
module

public import proofs.«01_k».proof.Proof.Mlp
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
set_option maxHeartbeats 1000000

noncomputable section

namespace Cert.FwdRelu

open Idealize.ShloMosaic Cert.Ereal Cert.Mlp

/-- The relu of the product. -/
def rel (h : FVec Ideal ⟨2, ![4096, 1024]⟩ .bf16) (w : WIn) (i f : Fin 4096) : EReal := max (∑ d : Fin 1024, h (ix2 i d) * w (ix2 d f)) 0

end Cert.FwdRelu

namespace Cert.Kernel6Ideal.FwdRelu

open Idealize.ShloMosaic Idealize.ShloMosaic.TcCoe Idealize.SL.Sem
open Idealize.ShloMosaic.Pipeline (Dat)
open Cert.Kernel6Ideal Cert.Kernel6Ideal.Gen Cert.Ereal Cert.Mlp Cert.FwdRelu

variable (m : (ℓ : Loc nD τ sig) → Buf (Elt Ideal) ℓ) (c : Dev nD)

abbrev H : FVec Ideal S4096x1024 .bf16 := m ((c : Thread nD τ).loc main_arg0)
abbrev W : WIn := m ((c : Thread nD τ).loc main_arg1)

/-- Column `l` of column tile `j`. -/
def col (j : Fin 8) (l : Fin 512) : Fin 4096 := ⟨j.val * 512 + l.val, by omega⟩

theorem idx : ∀ t : Fin cfg0.N, win0_0.index t = ![t.val, 0] ∧ win0_1.index t = ![0, 0, 0] ∧ win0_2.index t = ![t.val, 0] ∧ t.val < 4 :=
  (by decide +kernel : ∀ t : Fin grid0.N, _)

/-- The token of block `t`'s row `r`. -/
def tok (t : Fin cfg0.N) (r : Fin 1024) : Fin 4096 := ⟨t.val * 1024 + r.val, by have := (idx t).2.2.2; omega⟩

theorem w_read (j : Fin 8) (k : Fin 1024) (l : Fin 512) :
    (show FVec Ideal S8x1024x512 .bf16 from V m c main_v2) (ix3 j k l) = W m c (ix2 k (col j l)) := by
  simp only [V, hostOps0]
  entry_read
  pointwise
  rfl

theorem blk0 (t : Fin cfg0.N) (r j : Fin 1024) :
    (show FVec Ideal S1024x1024 .bf16 from iblk m c 0 t) (ix2 r j) = H m c (ix2 (tok t r) j) := by
  rw [show H m c = V m c main_arg0 from (V_main_arg0 m c).symm]
  blk_ext [iblk, idx t, tok]

theorem blk1 (t : Fin cfg0.N) (j : Fin 8) (k : Fin 1024) (l : Fin 512) :
    (show FVec Ideal S8x1024x512 .bf16 from iblk m c 1 t) (ix3 j k l) = W m c (ix2 k (col j l)) := by
  refine Eq.trans ?_ (w_read m c j k l)
  blk_ext [iblk, idx t]

/-- Leading index `j` of the weight. -/
def gT (x : FVec Ideal S8x1024x512 .bf16) (j : Fin 8) : FVec Ideal S1x1024x512 .bf16 :=
  View.ld (Val := Elt Ideal) (S := S8x1024x512) (e' := .bf16) x (Rect.unit ![j.val, 0, 0] ![1, 1024, 512] (by intro a; have := j.isLt; fin_cases a <;> simp <;> omega))

theorem gT_at (x : FVec Ideal S8x1024x512 .bf16) (j : Fin 8) (k : Fin 1024) (l : Fin 512) : gT x j (ix3 0 k l) = x (ix3 j k l) := by
  unfold gT
  refine View.ld_unit_apply_of (Val := Elt Ideal) (e := .bf16) x _ _ _ (ix3 0 k l) (ix3 j k l) fun a => ?_
  fin_cases a <;> simp [ix3]

theorem pay1_at (h : FVec Ideal S1024x1024 .bf16) (w : FVec Ideal S1x1024x512 .bf16) (r : Fin 1024) (l : Fin 512) :
    k0_pay1 (F := Ideal) h w (ix2 r l) = max (∑ k, h (ix2 r k) * w (ix3 0 k l)) 0 := by
  pointwise [k0_pay1]

theorem rel_at (t : Fin cfg0.N) (j : Fin 8) (r : Fin 1024) (l : Fin 512) :
    k0_pay1 (F := Ideal) (iblk m c 0 t) (gT (iblk m c 1 t) j) (ix2 r l) = rel (H m c) (W m c) (tok t r) (col j l) :=
  (pay1_at _ _ r l).trans (congrArg (max · 0) (Finset.sum_congr rfl fun k _ => congrArg₂ (· * ·) (blk0 m c t r k) ((gT_at _ j k l).trans (blk1 m c t j k l))))

theorem final2 : (dats m 0 c).arrAt 2 (cfgs 0).N = fun i => rel (H m c) (W m c) (i 0) (i 1) := by
  refine (dats m 0 c).arrAt_eq_of_covers 2 _ (by decide +kernel) fun t hf y => ?_
  blk_simp
  rw [after0_2]
  unfold out0_2
  frame_out
  have key : ∀ i : S4096x4096.Idx, (i 0).val = t.val * 1024 + (y 0).val → (i 1).val = (y 1).val →
      rel (H m c) (W m c) (tok t (y 0)) (y 1) = rel (H m c) (W m c) (i 0) (i 1) := fun i h0 h1 => by
    rw [show i 0 = tok t (y 0) from Fin.ext h0, show i 1 = y 1 from Fin.ext h1]
  have piece : ∀ (j : Fin 8) (h : ∀ a, (![0, j.val * 512] : Fin 2 → Nat) a + S1024x512.size a ≤ S1024x4096.size a) (x : (Rect.unit (s := S1024x4096) ![0, j.val * 512] S1024x512.size h).shape.Idx),
      k0_pay1 (F := Ideal) (iblk m c 0 t) (gT (iblk m c 1 t) j) x
        = rel (H m c) (W m c) (tok t ((Rect.unit (s := S1024x4096) ![0, j.val * 512] S1024x512.size h).idx x 0))
            ((Rect.unit (s := S1024x4096) ![0, j.val * 512] S1024x512.size h).idx x 1) := fun j h x => by
    rw [show (Rect.unit (s := S1024x4096) ![0, j.val * 512] S1024x512.size h).idx x 0 = x 0 from Fin.ext ((Rect.idx_unit_val _ _ h x 0).trans (by simp)),
      show (Rect.unit (s := S1024x4096) ![0, j.val * 512] S1024x512.size h).idx x 1 = col j (x 1) from Fin.ext (Rect.idx_unit_val _ _ h x 1)]
    exact (congrArg _ (eq_ix2 x)).trans (rel_at m c t j (x 0) (x 1))
  refine Eq.trans (b := rel (H m c) (W m c) (tok t (y 0)) (y 1)) ?_ (key _ ?_ ?_)
  · refine View.canon_apply_of_pieces (S := S1024x4096) (Val := Elt Ideal) (e := .bf16)
      (fun y => rel (H m c) (W m c) (tok t (y 0)) (y 1)) _ ?_ y ?_
    · refine View.PiecesOf.mem (Val := Elt Ideal) (s := S1024x4096) (e := .bf16)
        (G := fun y => rel (H m c) (W m c) (tok t (y 0)) (y 1)) ?_
      exact ⟨piece 7 inb_S1024x4096_S1024x512_0_3584, piece 6 inb_S1024x4096_S1024x512_0_3072,
        piece 5 inb_S1024x4096_S1024x512_0_2560, piece 4 inb_S1024x4096_S1024x512_0_2048,
        piece 3 inb_S1024x4096_S1024x512_0_1536, piece 2 inb_S1024x4096_S1024x512_0_1024,
        piece 1 inb_S1024x4096_S1024x512_0_512, piece 0 inb_S1024x4096_S1024x512_0_0, trivial⟩
    · exact View.cover_of_tiledL (s := S1024x4096) _ S1024x512.size (by sl_kernel_rfl) y
  · blk_simp [idx t]
  · blk_simp [idx t]

end Cert.Kernel6Ideal.FwdRelu

namespace Cert.Reference6Ideal.FwdRelu

open Cert.Reference6Ideal Cert.Reference6Ideal.Gen Cert.Reference6Ideal.Value Idealize.ShloMosaic Idealize.ShloMosaic.TcCoe Idealize.SL.Sem
open Idealize.ShloMosaic.StableHlo Cert.Ereal Cert.Mlp Cert.FwdRelu

variable (m : (ℓ : Loc nD τ sig) → Buf (Elt Ideal) ℓ) (c : Dev nD)

abbrev H : FVec Ideal S4096x1024 .bf16 := m ((c : Thread nD τ).loc main_arg0)
abbrev W : WIn := m ((c : Thread nD τ).loc main_arg1)

/-- The reference's result, at its own operations. -/
def rT (h : FVec Ideal S4096x1024 .bf16) (w : FVec Ideal S1024x4096 .f32) : FVec Ideal S4096x4096 .bf16 :=
  truncf .bf16 (maximumf (Host.dotGeneral dot_S4096x1024_S1024x4096_S4096x4096_1_0_0_1_n_n none h (truncf .bf16 w bitsLt_bf16_f32))
    (broadcastInDim S4096x4096 ![] bcast_S_S4096x4096 (constant S_ .f32 0x00000000#32))) bitsLt_bf16_f32

theorem rT_at (h : FVec Ideal S4096x1024 .bf16) (w : FVec Ideal S1024x4096 .f32) (i f : Fin 4096) : rT h w (ix2 i f) = rel h w i f := by
  pointwise [rT, rel]

/-- THE REFERENCE'S RUN. -/
theorem run (g : Dev nD → PrngReg) : θ_run defs (onTc (τ := τ) (main (F := Ideal))) ⟨m, fun _ => 0, g⟩ fun r => ∀ c : Dev nD,
    r.2.mem ((c.tc : Thread nD τ).loc main_v3) = (fun i => rel (H m c) (W m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run _ _ _).mono (fun r h c => ⟨(h c).1.trans (funext fun i => (congrArg (rT (H m c) (W m c)) (eq_ix2 i)).trans (rT_at _ _ (i 0) (i 1))),
    (h c).2⟩) (Cert.Reference6Ideal.Value.run m g)

end Cert.Reference6Ideal.FwdRelu

end
-- ==== Proof.FwdSquare.lean ====
/- The multilayer perceptron's second call: the relu's square times the second weight, added to the layer's input, block of rows
   by block of rows in the kernel, whole in the reference. -/
module

public import proofs.«01_k».proof.Proof.Mlp
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
set_option maxHeartbeats 1000000

noncomputable section

namespace Cert.FwdSquare

open Idealize.ShloMosaic Cert.Ereal Cert.Mlp

/-- The layer's output: its input and the product of the square. -/
def sqo (r : FVec Ideal ⟨2, ![4096, 4096]⟩ .bf16) (w : FVec Ideal ⟨2, ![4096, 1024]⟩ .f32) (x : Tok) (i : Fin 4096) (d : Fin 1024) : EReal :=
  x (ix2 i d) + ∑ f : Fin 4096, r (ix2 i f) * r (ix2 i f) * w (ix2 f d)

end Cert.FwdSquare

namespace Cert.Kernel7Ideal.FwdSquare

open Idealize.ShloMosaic Idealize.ShloMosaic.TcCoe Idealize.SL.Sem
open Idealize.ShloMosaic.Pipeline (Dat)
open Cert.Kernel7Ideal Cert.Kernel7Ideal.Gen Cert.Ereal Cert.Mlp Cert.FwdSquare

variable (m : (ℓ : Loc nD τ sig) → Buf (Elt Ideal) ℓ) (c : Dev nD)

abbrev R : FVec Ideal S4096x4096 .bf16 := m ((c : Thread nD τ).loc main_arg0)
abbrev W : FVec Ideal S4096x1024 .f32 := m ((c : Thread nD τ).loc main_arg1)
abbrev X : Tok := m ((c : Thread nD τ).loc main_arg2)

theorem idx : ∀ t : Fin cfg0.N, win0_0.index t = ![t.val, 0] ∧ win0_1.index t = ![0, 0] ∧ win0_2.index t = ![t.val, 0]
    ∧ win0_3.index t = ![t.val, 0] ∧ t.val < 4 :=
  (by decide +kernel : ∀ t : Fin grid0.N, _)

/-- The token of block `t`'s row `r`. -/
def tok (t : Fin cfg0.N) (r : Fin 1024) : Fin 4096 := ⟨t.val * 1024 + r.val, by have := (idx t).2.2.2.2; omega⟩

theorem w_read (k : Fin 4096) (l : Fin 1024) : (show FVec Ideal S4096x1024 .bf16 from V m c main_v0) (ix2 k l) = W m c (ix2 k l) := by
  simp only [V, hostOps0]
  entry_read
  rfl

theorem blk0 (t : Fin cfg0.N) (r : Fin 1024) (j : Fin 4096) :
    (show FVec Ideal S1024x4096 .bf16 from iblk m c 0 t) (ix2 r j) = R m c (ix2 (tok t r) j) := by
  rw [show R m c = V m c main_arg0 from (V_main_arg0 m c).symm]
  blk_ext [iblk, idx t, tok]

theorem blk1 (t : Fin cfg0.N) (k : Fin 4096) (l : Fin 1024) :
    (show FVec Ideal S4096x1024 .bf16 from iblk m c 1 t) (ix2 k l) = W m c (ix2 k l) := by
  refine Eq.trans ?_ (w_read m c k l)
  blk_ext [iblk, idx t]

theorem blk2 (t : Fin cfg0.N) (r j : Fin 1024) :
    (show FVec Ideal S1024x1024 .f32 from iblk m c 2 t) (ix2 r j) = X m c (ix2 (tok t r) j) := by
  rw [show X m c = V m c main_arg2 from (V_main_arg2 m c).symm]
  blk_ext [iblk, idx t, tok]

theorem pay1_at (r : FVec Ideal S1024x4096 .bf16) (x : FVec Ideal S1024x1024 .f32) (w : FVec Ideal S4096x1024 .bf16) (i d : Fin 1024) :
    k0_pay1 (F := Ideal) r x w (ix2 i d) = x (ix2 i d) + ∑ f, r (ix2 i f) * r (ix2 i f) * w (ix2 f d) := by
  pointwise [k0_pay1]

/-- A block's rows of the output. -/
theorem sqo_at (t : Fin cfg0.N) (r d : Fin 1024) :
    k0_pay1 (F := Ideal) (iblk m c 0 t) (iblk m c 2 t) (iblk m c 1 t) (ix2 r d) = sqo (R m c) (W m c) (X m c) (tok t r) d :=
  (pay1_at _ _ _ r d).trans (congrArg₂ (· + ·) (blk2 m c t r d) (Finset.sum_congr rfl fun f _ =>
    congrArg₂ (· * ·) (congrArg₂ (· * ·) (blk0 m c t r f) (blk0 m c t r f)) (blk1 m c t f d)))

theorem final3 : (dats m 0 c).arrAt 3 (cfgs 0).N = fun i => sqo (R m c) (W m c) (X m c) (i 0) (i 1) := by
  refine (dats m 0 c).arrAt_eq_of_covers 3 _ (by decide +kernel) fun t hf y => ?_
  blk_simp
  rw [after0_3]
  unfold out0_3
  frame_out
  have key : ∀ i : S4096x1024.Idx, (i 0).val = t.val * 1024 + (y 0).val → (i 1).val = (y 1).val →
      sqo (R m c) (W m c) (X m c) (tok t (y 0)) (y 1) = sqo (R m c) (W m c) (X m c) (i 0) (i 1) := fun i h0 h1 => by
    rw [show i 0 = tok t (y 0) from Fin.ext h0, show i 1 = y 1 from Fin.ext h1]
  refine (congrArg _ (eq_ix2 y)).trans ((sqo_at m c t (y 0) (y 1)).trans (key _ ?_ ?_)) <;> blk_simp [idx t]

end Cert.Kernel7Ideal.FwdSquare

namespace Cert.Reference7Ideal.FwdSquare

open Cert.Reference7Ideal Cert.Reference7Ideal.Gen Cert.Reference7Ideal.Value Idealize.ShloMosaic Idealize.ShloMosaic.TcCoe Idealize.SL.Sem
open Idealize.ShloMosaic.StableHlo Cert.Ereal Cert.Mlp Cert.FwdSquare

variable (m : (ℓ : Loc nD τ sig) → Buf (Elt Ideal) ℓ) (c : Dev nD)

abbrev R : FVec Ideal S4096x4096 .bf16 := m ((c : Thread nD τ).loc main_arg0)
abbrev W : FVec Ideal S4096x1024 .f32 := m ((c : Thread nD τ).loc main_arg1)
abbrev X : Tok := m ((c : Thread nD τ).loc main_arg2)

/-- The reference's result, at its own operations. -/
def sT (r : FVec Ideal S4096x4096 .bf16) (w : FVec Ideal S4096x1024 .f32) (x : FVec Ideal S4096x1024 .f32) : FVec Ideal S4096x1024 .f32 :=
  addf x (Host.dotGeneral dot_S4096x4096_S4096x1024_S4096x1024_1_0_0_1_n_n none (mulf r r) (truncf .bf16 w bitsLt_bf16_f32))

theorem sT_at (r : FVec Ideal S4096x4096 .bf16) (w x : FVec Ideal S4096x1024 .f32) (i : Fin 4096) (d : Fin 1024) :
    sT r w x (ix2 i d) = sqo r w x i d := by
  pointwise [sT, sqo]

/-- THE REFERENCE'S RUN. -/
theorem run (g : Dev nD → PrngReg) : θ_run defs (onTc (τ := τ) (main (F := Ideal))) ⟨m, fun _ => 0, g⟩ fun r => ∀ c : Dev nD,
    r.2.mem ((c.tc : Thread nD τ).loc main_v3) = (fun i => sqo (R m c) (W m c) (X m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run _ _ _).mono (fun r h c => ⟨(h c).1.trans (funext fun i => (congrArg (sT (R m c) (W m c) (X m c)) (eq_ix2 i)).trans (sT_at _ _ _ (i 0) (i 1))),
    (h c).2⟩) (Cert.Reference7Ideal.Value.run m g)

end Cert.Reference7Ideal.FwdSquare

end
-- ==== Proof.MixInLoops.lean ====
/- The mixer's second backward call: its body runs through, whatever its results and its scratch hold, and leaves its inputs
   as they were. -/
module

public import proofs.«01_k».proof.Proof.Gen.Kernel8Ideal.Skeleton
public import proofs.«01_k».proof.Proof.Gen.Kernel8Ideal.Launch
public import proofs.«01_k».proof.Proof.Gen.Kernel8Ideal.Points
public import Idealize.ShloMosaic.Lib.Exec
public import Idealize.ShloMosaic.Lib.Tactic
public import Idealize.ShloMosaic.Lib.WordCmp
public import Idealize.ShloMosaic.Lib.Pipeline.Kit
public import Idealize.ShloMosaic.Lib.Pipeline.FrameBody

@[expose] public section

set_option maxRecDepth 16384
set_option maxHeartbeats 4000000
set_option warn.classDefReducibility false

noncomputable section

namespace Cert.Kernel8Ideal.MixIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel8Ideal Cert.Kernel8Ideal.Gen

variable {F : FTy → Type} [FloatOps F]

/-- The assertions of the run. -/
abbrev A (F : FTy → Type) := sProp (MT nD τ sig Unit (Elt F) ℕ (UR sig nD τ) ℕ)

/-- A core's buffer, held at some contents. -/
abbrev some' {s : Shape} {e : EltTy} (c : Dev nD) (M : Memref sig .tc .vmem s e) : A F :=
  iprop(∃ f : M.view.ty.Contents (Elt F), M.view.loc (c : Thread nD τ) ↦[M.view.set]{fullShare} f)

section Body

variable (c : Dev nD) (i : grid0.Coords)
  (a1 : Memref sig .tc .vmem S512x512 .f32) (h1 : a1.IsWhole)
  (a2 : Memref sig .tc .vmem S32x512 .f32) (h2 : a2.IsWhole)
  (a3 : Memref sig .tc .vmem S512x512 .f32) (h3 : a3.IsWhole)
  (a4 : Memref sig .tc .vmem S512x1024 .f32) (h4 : a4.IsWhole)
  (a5 : Memref sig .tc .vmem S31x512 .f32) (h5 : a5.IsWhole)
  (a6 : Memref sig .tc .vmem S512x1024 .bf16) (h6 : a6.IsWhole)
  (a7 : Memref sig .tc .vmem S8x1024x256 .bf16) (h7 : a7.IsWhole)
  (a8 : Memref sig .tc .vmem S512x1024 .f32) (h8 : a8.IsWhole)
  (a9 : Memref sig .tc .vmem S1x1024 .f32) (h9 : a9.IsWhole)
  (a10 : Memref sig .tc .vmem S512x1024 .f32) (h10 : a10.IsWhole)
  (a11 : Memref sig .tc .vmem S512x2048 .bf16) (h11 : a11.IsWhole)
  (a12 : Memref sig .tc .vmem S31x512 .f32) (h12 : a12.IsWhole)
  (a13 : Memref sig .tc .vmem S512x1024 .f32) (h13 : a13.IsWhole)
  (a14 : Memref sig .tc .vmem S512x1024 .bf16) (h14 : a14.IsWhole)
  (a15 : Memref sig .tc .vmem S1x1024 .f32) (h15 : a15.IsWhole)
  (a16 : Memref sig .tc .vmem S8x4x544x128 .f32) (h16 : a16.IsWhole)
  (a17 : Memref sig .tc .vmem S248x512 .f32) (h17 : a17.IsWhole)
  (v : FVec F S536x128 .f32)

/-- What a loop needs: four buffers it reads, two it stores into. -/
abbrev resL : A F := iprop(some' c a3 ∗ some' c a4 ∗ some' c a5 ∗ some' c a16 ∗ some' c a11 ∗ some' c a17)

/-- Loop 1 keeps it. -/
@[sl_loop] def loop1 : LoopInv (M := MT nD τ sig Unit (Elt F) ℕ (UR sig nD τ) ℕ) Idealize.ShloMosaic.frame
    (wpE (defs₀ (F := F)) Variants.none (c : Thread nD τ) none) Set.univ k0_t1_loop.lb k0_t1_loop.ub k0_t1_loop.st k0_t1_ok ()
    (k0_t1_body (F := F) i a1 h1 a2 h2 a3 h3 a4 h4 a5 h5 a6 h6 a7 h7 a8 h8 a9 h9 a10 h10 a11 h11 a12 h12 a13 h13 a14 h14 a15 h15 a16 h16 a17 h17 v) where
  inv _ _ := resL c a3 a4 a5 a11 a16 a17
  step k _ := by
    have hk : k.val < 8 := Nat.lt_of_lt_of_le k.isLt k0_t1_abs.2.1
    unfold k0_t1_body
    iintro ⟨⟨%f3, H3⟩, ⟨%f4, H4⟩, ⟨%f5, H5⟩, ⟨%f16, H16⟩, ⟨%f11, H11⟩, ⟨%f17, H17⟩⟩
    sl_exec
    sl_step
    sl_close

/-- Loop 2 keeps it. -/
@[sl_loop] def loop2 : LoopInv (M := MT nD τ sig Unit (Elt F) ℕ (UR sig nD τ) ℕ) Idealize.ShloMosaic.frame
    (wpE (defs₀ (F := F)) Variants.none (c : Thread nD τ) none) Set.univ k0_t2_loop.lb k0_t2_loop.ub k0_t2_loop.st k0_t2_ok ()
    (k0_t2_body (F := F) i a1 h1 a2 h2 a3 h3 a4 h4 a5 h5 a6 h6 a7 h7 a8 h8 a9 h9 a10 h10 a11 h11 a12 h12 a13 h13 a14 h14 a15 h15 a16 h16 a17 h17 v) where
  inv _ _ := resL c a3 a4 a5 a11 a16 a17
  step k _ := by
    have hk : k.val < 8 := Nat.lt_of_lt_of_le k.isLt k0_t2_abs.2.1
    unfold k0_t2_body
    iintro ⟨⟨%f3, H3⟩, ⟨%f4, H4⟩, ⟨%f5, H5⟩, ⟨%f16, H16⟩, ⟨%f11, H11⟩, ⟨%f17, H17⟩⟩
    sl_exec
    sl_step
    sl_close

/-- Loop 3 keeps it. -/
@[sl_loop] def loop3 : LoopInv (M := MT nD τ sig Unit (Elt F) ℕ (UR sig nD τ) ℕ) Idealize.ShloMosaic.frame
    (wpE (defs₀ (F := F)) Variants.none (c : Thread nD τ) none) Set.univ k0_t3_loop.lb k0_t3_loop.ub k0_t3_loop.st k0_t3_ok ()
    (k0_t3_body (F := F) i a1 h1 a2 h2 a3 h3 a4 h4 a5 h5 a6 h6 a7 h7 a8 h8 a9 h9 a10 h10 a11 h11 a12 h12 a13 h13 a14 h14 a15 h15 a16 h16 a17 h17 v) where
  inv _ _ := resL c a3 a4 a5 a11 a16 a17
  step k _ := by
    have hk : k.val < 8 := Nat.lt_of_lt_of_le k.isLt k0_t3_abs.2.1
    unfold k0_t3_body
    iintro ⟨⟨%f3, H3⟩, ⟨%f4, H4⟩, ⟨%f5, H5⟩, ⟨%f16, H16⟩, ⟨%f11, H11⟩, ⟨%f17, H17⟩⟩
    sl_exec
    sl_step
    sl_close

/-- Loop 4 keeps it. -/
@[sl_loop] def loop4 : LoopInv (M := MT nD τ sig Unit (Elt F) ℕ (UR sig nD τ) ℕ) Idealize.ShloMosaic.frame
    (wpE (defs₀ (F := F)) Variants.none (c : Thread nD τ) none) Set.univ k0_t4_loop.lb k0_t4_loop.ub k0_t4_loop.st k0_t4_ok ()
    (k0_t4_body (F := F) i a1 h1 a2 h2 a3 h3 a4 h4 a5 h5 a6 h6 a7 h7 a8 h8 a9 h9 a10 h10 a11 h11 a12 h12 a13 h13 a14 h14 a15 h15 a16 h16 a17 h17 v) where
  inv _ _ := resL c a3 a4 a5 a11 a16 a17
  step k _ := by
    have hk : k.val < 8 := Nat.lt_of_lt_of_le k.isLt k0_t4_abs.2.1
    unfold k0_t4_body
    iintro ⟨⟨%f3, H3⟩, ⟨%f4, H4⟩, ⟨%f5, H5⟩, ⟨%f16, H16⟩, ⟨%f11, H11⟩, ⟨%f17, H17⟩⟩
    sl_exec
    sl_step
    sl_close

end Body

end Cert.Kernel8Ideal.MixIn

end
-- ==== Proof.MixInBody.lean ====
/- The mixer's second backward call: its body runs through, whatever the seventeen buffers it is given hold. -/
module

public import proofs.«01_k».proof.Proof.MixInLoops

@[expose] public section

set_option maxRecDepth 16384
set_option maxHeartbeats 4000000
set_option warn.classDefReducibility false

noncomputable section

namespace Cert.Kernel8Ideal.MixIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel8Ideal Cert.Kernel8Ideal.Gen

variable {F : FTy → Type} [FloatOps F]

section Body

variable (c : Dev nD) (i : grid0.Coords)
  (a1 : Memref sig .tc .vmem S512x512 .f32) (h1 : a1.IsWhole)
  (a2 : Memref sig .tc .vmem S32x512 .f32) (h2 : a2.IsWhole)
  (a3 : Memref sig .tc .vmem S512x512 .f32) (h3 : a3.IsWhole)
  (a4 : Memref sig .tc .vmem S512x1024 .f32) (h4 : a4.IsWhole)
  (a5 : Memref sig .tc .vmem S31x512 .f32) (h5 : a5.IsWhole)
  (a6 : Memref sig .tc .vmem S512x1024 .bf16) (h6 : a6.IsWhole)
  (a7 : Memref sig .tc .vmem S8x1024x256 .bf16) (h7 : a7.IsWhole)
  (a8 : Memref sig .tc .vmem S512x1024 .f32) (h8 : a8.IsWhole)
  (a9 : Memref sig .tc .vmem S1x1024 .f32) (h9 : a9.IsWhole)
  (a10 : Memref sig .tc .vmem S512x1024 .f32) (h10 : a10.IsWhole)
  (a11 : Memref sig .tc .vmem S512x2048 .bf16) (h11 : a11.IsWhole)
  (a12 : Memref sig .tc .vmem S31x512 .f32) (h12 : a12.IsWhole)
  (a13 : Memref sig .tc .vmem S512x1024 .f32) (h13 : a13.IsWhole)
  (a14 : Memref sig .tc .vmem S512x1024 .bf16) (h14 : a14.IsWhole)
  (a15 : Memref sig .tc .vmem S1x1024 .f32) (h15 : a15.IsWhole)
  (a16 : Memref sig .tc .vmem S8x4x544x128 .f32) (h16 : a16.IsWhole)
  (a17 : Memref sig .tc .vmem S248x512 .f32) (h17 : a17.IsWhole)

/-- Everything the body is given. -/
abbrev res : A F := iprop(some' c a1 ∗ some' c a2 ∗ some' c a3 ∗ some' c a4 ∗ some' c a5 ∗ some' c a6 ∗ some' c a7 ∗ some' c a8 ∗ some' c a9 ∗ some' c a10 ∗ some' c a11 ∗ some' c a12 ∗ some' c a13 ∗ some' c a14 ∗ some' c a15 ∗ some' c a16 ∗ some' c a17)

theorem body : res (F := F) c a1 a2 a3 a4 a5 a6 a7 a8 a9 a10 a11 a12 a13 a14 a15 a16 a17
    ⊢ wp Idealize.ShloMosaic.frame (wpE (defs₀ (F := F)) Variants.none (c : Thread nD τ) none) Set.univ
        (cc0_mixer_bwd_b i a1 h1 a2 h2 a3 h3 a4 h4 a5 h5 a6 h6 a7 h7 a8 h8 a9 h9 a10 h10 a11 h11 a12 h12 a13 h13 a14 h14 a15 h15 a16 h16 a17 h17) (fun _ => res (F := F) c a1 a2 a3 a4 a5 a6 a7 a8 a9 a10 a11 a12 a13 a14 a15 a16 a17) := by
  simp only [cc0_mixer_bwd_b_eq_skeleton]; unfold cc0_mixer_bwd_b_skel
  simp only [k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩⟩
  by_cases hc1 : Scalar.cmpi .ne (Scalar.extui (Scalar.cmpi .eq (BitVec.ofNat 32 (i 0).val) 0#32) : BitVec 32) 0#32 = 1#1 <;> by_cases hc2 : k0_cond2 i = 1#1
  all_goals
    sl_exec (disch := first | sl_exact hc1 | sl_exact hc2)
    sl_step
    sl_close

end Body

end Cert.Kernel8Ideal.MixIn

end
-- ==== Proof.MixInFrame.lean ====
/- The mixer's second backward call runs: it ends, nothing faults, and its arguments are as they were. Nothing is said of what
   it leaves in its results. -/
module

public import proofs.«01_k».proof.Proof.MixInBody
public import Idealize.ShloMosaic.Lib.Pipeline.Frame

@[expose] public section

set_option maxRecDepth 16384
set_option maxHeartbeats 1000000

noncomputable section

namespace Cert.Kernel8Ideal.MixIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.Kernel8Ideal Cert.Kernel8Ideal.Gen

variable {F : FTy → Type} [FloatOps F] (m : (ℓ : Loc nD τ sig) → Buf (Elt F) ℓ) (ρ : Dev nD → PrngReg)

/-- A core's buffers when the call is entered. -/
abbrev V (c : Dev nD) (b : Ref sig .tc) : Buf (Elt F) ((c : Thread nD τ).loc b) := StableHlo.after hostOps0 (fun b => m (c, b)) b

/-- The host's operations before the call write none of the arguments. -/
theorem V_arg (c : Dev nD) (b : Ref sig .tc) (hb : b ∈ [main_arg0, main_arg1, main_arg2, main_arg3, main_arg4, main_arg5, main_arg6]) :
    V m c b = m ((c : Thread nD τ).loc b) :=
  StableHlo.after_of_forall_not_mem (b := Proc.devRef .tc b) _ _ (List.forall_iff_forall_mem.mp (by
    simp only [List.mem_cons, List.not_mem_nil, or_false] at hb
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    rcases hb with rfl | rfl | rfl | rfl | rfl | rfl | rfl <;>
    · repeat' apply And.intro
      all_goals exact StableHlo.devRef_ne_of_ne (by decide)))

/-- The call's data: nothing is said of what its body leaves. -/
def rdat (c : Dev nD) : RDat τ (Elt F) Unit ℕ (UR sig nD τ) ℕ cfg0 c where
  A w := V m c (Pipeline.arrRef spec0 w)
  after _ _ _ _ := True
  Φ _ := Pipeline.ΦA spec0 c
  q := Pipeline.shareOf spec0
  owed _ := 0

/-- A buffer at some contents, as the launch states it. -/
theorem owned {s : Shape} {e : EltTy} (c : Dev nD) (M : Memref sig .tc .vmem s e) :
    (iprop(∃ d, owns (c : Thread nD τ) M fullShare d) : A F) ⊢ some' c M := by
  unfold owns
  iintro ⟨%d, %f, -, H⟩
  iexists _; iexact H

theorem own {s : Shape} {e : EltTy} (c : Dev nD) (M : Memref sig .tc .vmem s e) (d) :
    (owns (c : Thread nD τ) M fullShare d : A F) ⊢ some' c M := by
  unfold owns
  iintro ⟨%f, -, H⟩
  iexists _; iexact H

theorem owned' {s : Shape} {e : EltTy} (c : Dev nD) (M : Memref sig .tc .vmem s e) :
    (some' c M : A F) ⊢ iprop(∃ d, owns (c : Thread nD τ) M fullShare d) := by
  unfold owns
  iintro ⟨%f, H⟩
  iexists _; iexists f; isplitr
  · ipureintro; exact rfl
  iexact H

theorem scratch (c : Dev nD) : (Pipeline.ΦA spec0 c : A F)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem row (t : Fin cfg0.N) : defs₀ (F := F) .tc cfg0.body (cfg0.bodyArgs t (cfg0.slots t)) = bodyAt0 t := by
  unfold defs₀; rw [Defs.onTc_tc]

theorem left {s : Shape} {e : EltTy} (c : Dev nD) (M : Memref sig .tc .vmem s e) :
    (some' c M : A F) ⊢ iprop(∃ d, ⌜True⌝ ∗ owns (c : Thread nD τ) M fullShare d) := by
  unfold owns
  iintro ⟨%f, H⟩
  iexists _; isplitr
  · ipureintro; trivial
  iexists f; isplitr
  · ipureintro; exact rfl
  iexact H

/-- The body keeps what the launch hands it. -/
theorem obligation (c : Dev nD) : (rdat (F := F) m c).BodyObligation (defs₀ (F := F)) Variants.none () Set.univ := fun t Y _ => by
  rw [bigSep_W0, bigSep_W0, row, show (rdat (F := F) m c).Φ t.castSucc = Pipeline.ΦA spec0 c from rfl,
    show (rdat (F := F) m c).Φ t.succ = Pipeline.ΦA spec0 c from rfl, scratch]
  iintro ⟨⟨⟨S0, S1⟩, G⟩, O, H0, H1, H2, H3, H4, H5, H6, H7, H8, H9, H10, H11, H12, H13, H14⟩
  iapply (wp_wand_r Idealize.ShloMosaic.frame (wpE (defs₀ (F := F)) Variants.none (c : Thread nD τ) none) Set.univ)
  isplitl [S0 S1 H0 H1 H2 H3 H4 H5 H6 H7 H8 H9 H10 H11 H12 H13 H14]
  · iapply (body (F := F) c (grid0.coords t))
    isplitl [H0]; · iapply (own c _ _); iexact H0
    isplitl [H1]; · iapply (own c _ _); iexact H1
    isplitl [H2]; · iapply (own c _ _); iexact H2
    isplitl [H3]; · iapply (own c _ _); iexact H3
    isplitl [H4]; · iapply (own c _ _); iexact H4
    isplitl [H5]; · iapply (own c _ _); iexact H5
    isplitl [H6]; · iapply (own c _ _); iexact H6
    isplitl [H7]; · iapply (own c _ _); iexact H7
    isplitl [H8]; · iapply (own c _ _); iexact H8
    isplitl [H9]; · iapply (own c _ _); iexact H9
    isplitl [H10]; · iapply (own c _ _); iexact H10
    isplitl [H11]; · iapply (own c _ _); iexact H11
    isplitl [H12]; · iapply (own c _ _); iexact H12
    isplitl [H13]; · iapply (own c _ _); iexact H13
    isplitl [H14]; · iapply (own c _ _); iexact H14
    isplitl [S0]; · iapply (owned c _); iexact S0
    iapply (owned c _); iexact S1
  · iintro %_ ⟨H0, H1, H2, H3, H4, H5, H6, H7, H8, H9, H10, H11, H12, H13, H14, S0, S1⟩
    isplitl [S0 S1 G]
    · isplitl [S0 S1]
      · isplitl [S0]; · iapply (owned' c _); iexact S0
        iapply (owned' c _); iexact S1
      iexact G
    isplitl [O]; · iexact O
    isplitl [H0]; · iapply (left c _); iexact H0
    isplitl [H1]; · iapply (left c _); iexact H1
    isplitl [H2]; · iapply (left c _); iexact H2
    isplitl [H3]; · iapply (left c _); iexact H3
    isplitl [H4]; · iapply (left c _); iexact H4
    isplitl [H5]; · iapply (left c _); iexact H5
    isplitl [H6]; · iapply (left c _); iexact H6
    isplitl [H7]; · iapply (left c _); iexact H7
    isplitl [H8]; · iapply (left c _); iexact H8
    isplitl [H9]; · iapply (left c _); iexact H9
    isplitl [H10]; · iapply (left c _); iexact H10
    isplitl [H11]; · iapply (left c _); iexact H11
    isplitl [H12]; · iapply (left c _); iexact H12
    isplitl [H13]; · iapply (left c _); iexact H13
    iapply (left c _); iexact H14

set_option backward.isDefEq.respectTransparency.types false in
/-- The launch. -/
theorem run_main : θ_run defs (onTc (τ := τ) (main (F := F))) (s₀ m ρ)
    (fun r => RDat.FramePost cfg0 (rdat m) (V m) r ∧ r.2.sem = fun _ => 0) :=
  RDat.θ_run_frame_track_shared (Q' := _) cfgs (0 : Fin 1) launch₀0 defs₀ Variants.none (rdat m) m ρ main
    (hbody := obligation m) (hq := fun _ _ _ => rfl) (howed := fun _ _ => rfl) (V := V m)
    (hmain := Pipeline.hmain_prefix cfgs 0 defs₀ Variants.none m main hostOps0 hostOps0_sub (by simp only [List.Forall]; repeat' constructor) main_chain)
    (hA := fun _ _ => rfl) (hin := fun _ => .rfl) (hout := fun _ => .rfl)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1.arr_in c 7 rfl).trans (V_arg m c main_arg0 (by decide)),
    ((h.1 c).2 main_arg1 (Pipeline.mem_restRefs_of main_arg1 (by decide) (by decide))).trans (V_arg m c main_arg1 (by decide)),
    ((h.1 c).2 main_arg2 (Pipeline.mem_restRefs_of main_arg2 (by decide) (by decide))).trans (V_arg m c main_arg2 (by decide)),
    (h.1.arr_in c 4 rfl).trans (V_arg m c main_arg3 (by decide)),
    ((h.1 c).2 main_arg4 (Pipeline.mem_restRefs_of main_arg4 (by decide) (by decide))).trans (V_arg m c main_arg4 (by decide)),
    (h.1.arr_in c 1 rfl).trans (V_arg m c main_arg5 (by decide)),
    (h.1.arr_in c 9 rfl).trans (V_arg m c main_arg6 (by decide))⟩, h.2⟩) (run_main m ρ)

end Cert.Kernel8Ideal.MixIn

end
-- ==== Proof.WGrad.lean ====
/- The gradient of the second weight of the multilayer perceptron: the relu's square, transposed, times the cotangent, 1024 rows of
   the weight for each block in the kernel, whole in the reference. -/
module

public import proofs.«01_k».proof.Proof.RefLoss
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
set_option maxHeartbeats 1000000

noncomputable section

namespace Cert.WGrad

open Idealize.ShloMosaic Cert.Ereal Cert.Mlp

/-- The gradient at entry `(f, j)` of the second weight, `d` the gradient at the layer's output. -/
def dw (x : Tok) (g : Gain) (w : WIn) (d : Tok) (f : Fin 4096) (j : Fin 1024) : EReal :=
  ∑ i : Fin 4096, hid x g w i f * hid x g w i f * d (ix2 i j)

end Cert.WGrad

namespace Cert.Kernel9Ideal.WGrad

open Idealize.ShloMosaic Idealize.ShloMosaic.TcCoe Idealize.SL.Sem
open Idealize.ShloMosaic.Pipeline (Dat)
open Cert.Kernel9Ideal Cert.Kernel9Ideal.Gen Cert.Ereal Cert.Mlp Cert.WGrad

variable (m : (ℓ : Loc nD τ sig) → Buf (Elt Ideal) ℓ) (c : Dev nD)

abbrev X1 : Tok := m ((c : Thread nD τ).loc main_arg0)
abbrev G2 : Gain := m ((c : Thread nD τ).loc main_arg1)
abbrev W1 : WIn := m ((c : Thread nD τ).loc main_arg2)
abbrev CT : Tok := m ((c : Thread nD τ).loc main_arg3)

theorem idx : ∀ t : Fin cfg0.N, win0_0.index t = ![0, t.val] ∧ win0_1.index t = ![0, 0] ∧ win0_2.index t = ![0, t.val, 0]
    ∧ win0_3.index t = ![0, t.val, 0] ∧ t.val < 4 :=
  (by decide +kernel : ∀ t : Fin grid0.N, _)

/-- The weight's row that is block `t`'s row `r`. -/
def unit (t : Fin cfg0.N) (r : Fin 1024) : Fin 4096 := ⟨t.val * 1024 + r.val, by have := (idx t).2.2.2.2; omega⟩

theorem ct_read (i : Fin 4096) (j : Fin 1024) : (show FVec Ideal S4096x1024 .bf16 from V m c main_v21) (ix2 i j) = CT m c (ix2 i j) := by
  simp only [V, hostOps0, hostOps0_1, hostOps0_2, List.flatten_cons, List.flatten_nil, List.append_nil, List.cons_append, List.nil_append]
  entry_read
  pointwise

theorem hid_read (i f : Fin 4096) :
    (show FVec Ideal S4096x4096 .bf16 from V m c main_v20) (ix2 i f) = hid (X1 m c) (G2 m c) (W1 m c) i f := by
  simp only [V, hostOps0, hostOps0_1, hostOps0_2, List.flatten_cons, List.flatten_nil, List.append_nil, List.cons_append, List.nil_append]
  entry_read
  simp only [StableHlo.TRef.toBuf, StableHlo.TRef.ofBuf, cast_eq]
  pointwise [hid, pre, rst, msq, row]
  simp only [show ∀ h, (⟨f.val / 512 * 512 + f.val % 512, h⟩ : Fin 4096) = f from fun h => Fin.ext (Nat.div_add_mod' _ _)]

theorem blk0 (t : Fin cfg0.N) (i : Fin 4096) (r : Fin 1024) :
    (show FVec Ideal S4096x1024 .bf16 from iblk m c 0 t) (ix2 i r) = hid (X1 m c) (G2 m c) (W1 m c) i (unit t r) := by
  refine Eq.trans ?_ (hid_read m c i (unit t r))
  blk_ext [iblk, idx t, unit]

theorem blk1 (t : Fin cfg0.N) (i : Fin 4096) (j : Fin 1024) :
    (show FVec Ideal S4096x1024 .bf16 from iblk m c 1 t) (ix2 i j) = CT m c (ix2 i j) := by
  refine Eq.trans ?_ (ct_read m c i j)
  blk_ext [iblk, idx t]

/-- The product of a block's columns with the cotangent, onto zeros. -/
theorem pay2_at (a d : FVec Ideal S4096x1024 .bf16) (k j : Fin 1024) :
    k0_pay2 (F := Ideal) a (k0_pay1 (F := Ideal)) d (ix3 0 k j) = ∑ i, a (ix2 i k) * a (ix2 i k) * d (ix2 i j) := by
  pointwise [k0_pay2, k0_pay1]

theorem pay3_eq (v : FVec Ideal S1x1024x1024 .f32) : k0_pay3 (F := Ideal) v = (show FVec Ideal S1x1024x1024 .bf16 from v) := by
  funext i
  pointwise [k0_pay3]

/-- A block's rows of the gradient. -/
theorem dw_at (t : Fin cfg0.N) (k j : Fin 1024) :
    k0_pay2 (F := Ideal) (iblk m c 0 t) (k0_pay1 (F := Ideal)) (iblk m c 1 t) (ix3 0 k j) = dw (X1 m c) (G2 m c) (W1 m c) (CT m c) (unit t k) j :=
  (pay2_at _ _ k j).trans (Finset.sum_congr rfl fun i _ =>
    congrArg₂ (· * ·) (congrArg₂ (· * ·) (blk0 m c t i k) (blk0 m c t i k)) (blk1 m c t i j))

/-- … at an entry `y` of the block, whose place in the weight is `(f, j)`. -/
theorem dw_blk (t : Fin cfg0.N) (y : S1x1024x1024.Idx) (f : Fin 4096) (j : Fin 1024) (hf : f.val = t.val * 1024 + (y 1).val) (hj : j.val = (y 2).val) :
    k0_pay2 (F := Ideal) (iblk m c 0 t) (k0_pay1 (F := Ideal)) (iblk m c 1 t) y = dw (X1 m c) (G2 m c) (W1 m c) (CT m c) f j := by
  obtain ⟨k, l, rfl⟩ : ∃ k l, y = ix3 0 k l := ⟨y 1, y 2, by rw [eq_ix3 y]; congr 1; exact Subsingleton.elim _ _⟩
  rw [show f = unit t k from Fin.ext hf, show j = l from Fin.ext hj]
  exact dw_at m c t k l

theorem final2 : (dats m 0 c).arrAt 2 (cfgs 0).N = fun i => dw (X1 m c) (G2 m c) (W1 m c) (CT m c) (i 1) (i 2) := by
  refine (dats m 0 c).arrAt_eq_of_covers 2 _ (by decide +kernel) fun t hf y => ?_
  blk_simp
  rw [after0_2]
  unfold outsAt0 out0_A_2
  frame_out
  refine dw_blk m c t y _ _ ?_ ?_ <;> blk_simp [idx t]

theorem final3 : (dats m 0 c).arrAt 3 (cfgs 0).N = fun i => dw (X1 m c) (G2 m c) (W1 m c) (CT m c) (i 1) (i 2) := by
  refine (dats m 0 c).arrAt_eq_of_covers 3 _ (by decide +kernel) fun t hf y => ?_
  blk_simp
  rw [after0_3]
  unfold outsAt0 out0_A_3
  frame_out
  refine (congrFun (pay3_eq _) y).trans (dw_blk m c t y _ _ ?_ ?_) <;> blk_simp [idx t]

end Cert.Kernel9Ideal.WGrad

namespace Cert.Reference9Ideal.WGrad

open Cert.Reference9Ideal Cert.Reference9Ideal.Gen Cert.Reference9Ideal.Value Idealize.ShloMosaic Idealize.ShloMosaic.TcCoe Idealize.SL.Sem
open Idealize.ShloMosaic.StableHlo Cert.Ereal Cert.Mlp Cert.WGrad
open Cert.ReferenceIdeal.Loss (normT gainT normT_at gainT_at)

variable (m : (ℓ : Loc nD τ sig) → Buf (Elt Ideal) ℓ) (c : Dev nD)

abbrev X1 : Tok := m ((c : Thread nD τ).loc main_arg0)
abbrev G2 : Gain := m ((c : Thread nD τ).loc main_arg1)
abbrev W1 : WIn := m ((c : Thread nD τ).loc main_arg2)
abbrev CT : Tok := m ((c : Thread nD τ).loc main_arg3)

/-- The relu, at the reference's own operations. -/
def hT (x : FVec Ideal S4096x1024 .f32) (g : FVec Ideal S1024 .f32) (w : FVec Ideal S1024x4096 .f32) : FVec Ideal S4096x4096 .f32 :=
  maximumf (Host.dotGeneral dot_S4096x1024_S1024x4096_S4096x4096_1_0_0_1_n_n none (mulf (normT x) (gainT g)) w)
    (broadcastInDim S4096x4096 ![] bcast_S_S4096x4096 (constant S_ .f32 0x00000000#32))

/-- The weight's gradient, at the reference's own operations. -/
def wT (h : FVec Ideal S4096x4096 .f32) (d : FVec Ideal S4096x1024 .f32) : FVec Ideal S1x4096x1024 .f32 :=
  shapeCast _ (transpose S4096x1024 [1, 0] (Host.dotGeneral dot_S4096x1024_S4096x4096_S1024x4096_0_0_1_1_n_n none d (mulf h h)) transposes_S1024x4096_S4096x1024_1_0)
    shapeCasts_S4096x1024_S1x4096x1024

theorem hT_at (x : FVec Ideal S4096x1024 .f32) (g : FVec Ideal S1024 .f32) (w : FVec Ideal S1024x4096 .f32) (i f : Fin 4096) :
    hT x g w (ix2 i f) = hid x g w i f := by
  pointwise [hT, hid, pre]
  simp only [normT_at, gainT_at, row]

theorem wT_at (h : FVec Ideal S4096x4096 .f32) (d : FVec Ideal S4096x1024 .f32) (f : Fin 4096) (j : Fin 1024) :
    wT h d (ix3 0 f j) = ∑ i, h (ix2 i f) * h (ix2 i f) * d (ix2 i j) := by
  pointwise [wT]
  exact Finset.sum_congr rfl fun i _ => mul_comm _ _

theorem final : wT (hT (X1 m c) (G2 m c) (W1 m c)) (CT m c) = fun i => dw (X1 m c) (G2 m c) (W1 m c) (CT m c) (i 1) (i 2) := by
  funext i
  obtain ⟨f, j, rfl⟩ : ∃ f j, i = ix3 0 f j := ⟨i 1, i 2, by rw [eq_ix3 i]; congr 1; exact Subsingleton.elim _ _⟩
  refine (wT_at _ _ f j).trans ?_
  simp only [hT_at]
  rfl

/-- THE REFERENCE'S RUN. -/
theorem run (g : Dev nD → PrngReg) : θ_run defs (onTc (τ := τ) (main (F := Ideal))) ⟨m, fun _ => 0, g⟩ fun r => ∀ c : Dev nD,
    r.2.mem ((c.tc : Thread nD τ).loc main_v21) = (fun i => dw (X1 m c) (G2 m c) (W1 m c) (CT m c) (i 1) (i 2))
    ∧ r.2.mem ((c.tc : Thread nD τ).loc main_v22) = (fun i => dw (X1 m c) (G2 m c) (W1 m c) (CT m c) (i 1) (i 2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run _ _ _).mono (fun r h c => ⟨(h c).1.trans (final m c), (h c).2.1.trans (final m c), (h c).2.2⟩) (Cert.Reference9Ideal.Value.run m g)

end Cert.Reference9Ideal.WGrad

end
-- ==== Proof.lean ====
/- The proof of the claims: the frames are the generated ones, the values meet in plain functions of the arrays' entries. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Value
public import proofs.«01_k».proof.Proof.Gen.ReferenceIdeal.Run
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite_args
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Reference8Ideal
public import proofs.«01_k».proof.Proof.Gen.Reference8Ideal.Run
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Loss
public import proofs.«01_k».proof.Proof.RefLoss
public import proofs.«01_k».proof.Proof.MlpFinal
public import proofs.«01_k».proof.Proof.RefMlp
public import proofs.«01_k».proof.Proof.MixOut
public import proofs.«01_k».proof.Proof.MixConv
public import proofs.«01_k».proof.Proof.MixB
public import proofs.«01_k».proof.Proof.MixFinite
public import proofs.«01_k».proof.Proof.RefMix
public import proofs.«01_k».proof.Proof.MixFwdFinal
public import proofs.«01_k».proof.Proof.MixFwdRun
public import proofs.«01_k».proof.Proof.FwdIn
public import proofs.«01_k».proof.Proof.FwdRelu
public import proofs.«01_k».proof.Proof.FwdSquare
public import proofs.«01_k».proof.Proof.MixInFrame
public import proofs.«01_k».proof.Proof.WGrad
public import Idealize.ShloMosaic.Lib.Claim
public import Idealize.ShloMosaic.Adequacy
public import Idealize.ShloMosaic.Init

@[expose] public section

noncomputable section

namespace Cert.Proof

open Idealize.ShloMosaic Idealize.SL.Sem

/-- The loss call and its reference end with the same arrays. -/
theorem loss : Cert.algebraic_KernelIdeal_ReferenceIdeal (hKernelIdeal := Cert.KernelIdeal.Gen.facts) (hReferenceIdeal := Cert.ReferenceIdeal.Gen.facts) := by
  intro m g m' g' _ hagree
  refine ⟨_, _, _, _, Cert.KernelIdeal.Value.run_blocks m g, (θ_run _ _ _).mono (fun r h c => ?_) (Cert.ReferenceIdeal.Value.run m' g')⟩
  obtain ⟨h0, h1, h2, h3, ha⟩ := h c
  obtain ⟨a0, a1, a2, a3, a4, a5⟩ := hagree c
  refine ⟨h0.trans ?_, h1.trans ?_, h2.trans ?_, h3.trans ?_, ha⟩
  · refine (Cert.ReferenceIdeal.Loss.final0 m' c).trans (Eq.trans ?_ (Cert.KernelIdeal.Loss.final5 m c).symm)
    simp only [Cert.ReferenceIdeal.Loss.Y, Cert.ReferenceIdeal.Loss.GF, Cert.ReferenceIdeal.Loss.TG, a0, a1, a2, a3, a4, a5]; rfl
  · refine (Cert.ReferenceIdeal.Loss.final1 m' c).trans (Eq.trans ?_ (Cert.KernelIdeal.Loss.final6 m c).symm)
    simp only [Cert.ReferenceIdeal.Loss.Y, Cert.ReferenceIdeal.Loss.GF, Cert.ReferenceIdeal.Loss.TG, a0, a1, a2, a3, a4, a5]; rfl
  · refine (Cert.ReferenceIdeal.Loss.final2 m' c).trans (Eq.trans ?_ (Cert.KernelIdeal.Loss.final7 m c).symm)
    simp only [Cert.ReferenceIdeal.Loss.Y, Cert.ReferenceIdeal.Loss.GF, Cert.ReferenceIdeal.Loss.TG, a0, a1, a2, a3, a4, a5]; rfl
  · refine (Cert.ReferenceIdeal.Loss.final3 m' c).trans (Eq.trans ?_ (Cert.KernelIdeal.Loss.final8 m c).symm)
    simp only [Cert.ReferenceIdeal.Loss.Y, Cert.ReferenceIdeal.Loss.GF, Cert.ReferenceIdeal.Loss.TG, a0, a1, a2, a3, a4, a5]; rfl

/-- The multilayer perceptron's backward call and its reference end with the same arrays. -/
theorem mlp : Cert.algebraic_Kernel2Ideal_Reference2Ideal (hKernel2Ideal := Cert.Kernel2Ideal.Gen.facts) (hReference2Ideal := Cert.Reference2Ideal.Gen.facts) := by
  intro m g m' g' _ hagree
  have hX : ∀ c, Cert.Reference2Ideal.Mlp.X1 m' c = Cert.Kernel2Ideal.MlpBwd.X1 m c := fun c => (hagree c).1
  have hG : ∀ c, Cert.Reference2Ideal.Mlp.G2 m' c = Cert.Kernel2Ideal.MlpBwd.G2 m c := fun c => (hagree c).2.1
  have hW : ∀ c, Cert.Reference2Ideal.Mlp.W1 m' c = Cert.Kernel2Ideal.MlpBwd.W1 m c := fun c => (hagree c).2.2.1
  have hV : ∀ c, Cert.Reference2Ideal.Mlp.W2 m' c = Cert.Kernel2Ideal.MlpBwd.W2 m c := fun c => (hagree c).2.2.2.1
  have hD : ∀ c, Cert.Reference2Ideal.Mlp.CT m' c = Cert.Kernel2Ideal.MlpBwd.CT m c := fun c => (hagree c).2.2.2.2
  refine ⟨_, _, _, _, Cert.Kernel2Ideal.Value.run_blocks m g, (θ_run _ _ _).mono (fun r h c => ?_) (Cert.Reference2Ideal.Mlp.run m' g')⟩
  obtain ⟨h0, h1, h2, h3, ha⟩ := h c
  simp only [hX, hG, hW, hV, hD] at h0 h1 h2 h3
  exact ⟨h0.trans (Cert.Kernel2Ideal.MlpBwd.final7 m c).symm, h1.trans (Cert.Kernel2Ideal.MlpBwd.final8 m c).symm,
    h2.trans (Cert.Kernel2Ideal.MlpBwd.final9 m c).symm, h3.trans (Cert.Kernel2Ideal.MlpBwd.final10 m c).symm, ha⟩

/-- The mixer's backward call and its reference end with the same arrays. -/
theorem mix : Cert.algebraic_Kernel3Ideal_Reference3Ideal_pre_finite_args (hKernel3Ideal := Cert.Kernel3Ideal.Gen.facts)
    (hReference3Ideal := Cert.Reference3Ideal.Gen.facts) (hPre_finite_args := Cert.Pre_finite_args.Gen.facts) := by
  intro m g m' g' hpre hagree
  have hX : ∀ c, Cert.Reference3Ideal.Mix.X m' c = Cert.Kernel3Ideal.Mix.X m c := fun c => (hagree c).1
  have hN1 : ∀ c, Cert.Reference3Ideal.Mix.N1 m' c = Cert.Kernel3Ideal.Mix.N1 m c := fun c => (hagree c).2.1
  have hWI : ∀ c, Cert.Reference3Ideal.Mix.WI m' c = Cert.Kernel3Ideal.Mix.WI m c := fun c => (hagree c).2.2.1
  have hLG : ∀ c, Cert.Reference3Ideal.Mix.LG m' c = Cert.Kernel3Ideal.Mix.LG m c := fun c => (hagree c).2.2.2.1
  have hLB : ∀ c, Cert.Reference3Ideal.Mix.LB m' c = Cert.Kernel3Ideal.Mix.LB m c := fun c => (hagree c).2.2.2.2.1
  have hW : ∀ c, Cert.Reference3Ideal.Mix.W m' c = Cert.Kernel3Ideal.Mix.W m c := fun c => (hagree c).2.2.2.2.2.1
  have hBS : ∀ c, Cert.Reference3Ideal.Mix.BS m' c = Cert.Kernel3Ideal.Mix.BS m c := fun c => (hagree c).2.2.2.2.2.2.1
  have hCW : ∀ c, Cert.Reference3Ideal.Mix.CW m' c = Cert.Kernel3Ideal.Mix.CW m c := fun c => (hagree c).2.2.2.2.2.2.2.1
  have hCB : ∀ c, Cert.Reference3Ideal.Mix.CB m' c = Cert.Kernel3Ideal.Mix.CB m c := fun c => (hagree c).2.2.2.2.2.2.2.2.1
  have hCLG : ∀ c, Cert.Reference3Ideal.Mix.CLG m' c = Cert.Kernel3Ideal.Mix.CLG m c := fun c => (hagree c).2.2.2.2.2.2.2.2.2.1
  have hCLB : ∀ c, Cert.Reference3Ideal.Mix.CLB m' c = Cert.Kernel3Ideal.Mix.CLB m c := fun c => (hagree c).2.2.2.2.2.2.2.2.2.2.1
  have hWO : ∀ c, Cert.Reference3Ideal.Mix.WO m' c = Cert.Kernel3Ideal.Mix.WO m c := fun c => (hagree c).2.2.2.2.2.2.2.2.2.2.2.1
  have hCT : ∀ c, Cert.Reference3Ideal.Mix.CT m' c = Cert.Kernel3Ideal.Mix.CT m c := fun c => (hagree c).2.2.2.2.2.2.2.2.2.2.2.2
  have hPJ : ∀ c, Cert.Reference3Ideal.Mix.PJ m' c = Cert.Kernel3Ideal.Mix.PJ m c := fun c => by simp only [Cert.Reference3Ideal.Mix.PJ, hX, hN1, hWI]
  have hCV : ∀ c, Cert.Reference3Ideal.Mix.CV m' c = Cert.Kernel3Ideal.Mix.CV m c := fun c => by simp only [Cert.Reference3Ideal.Mix.CV, hPJ, hCW, hCB]
  have hMIX : ∀ c, Cert.Reference3Ideal.Mix.MIX m' c = Cert.Kernel3Ideal.Mix.MIX m c := fun c => by simp only [Cert.Reference3Ideal.Mix.MIX, hPJ, hCV, hLG, hLB, hW, hBS, hCLG, hCLB]
  have S : ∀ c, ∃ a, Cert.Kernel3Ideal.Mix.Holds m c a := fun c =>
    ⟨_, Cert.Reference3Ideal.Mix.reads_of_finite (hpre c)⟩
  choose a A using S
  have B : ∀ c, Cert.Reference3Ideal.Mix.Holds m' c (a c) := fun c => by
    simpa only [Cert.Reference3Ideal.Mix.Holds, hPJ, hCV, hLG, hLB, hW, hBS, hCLG, hCLB, hWO, hCT] using A c
  refine ⟨_, _, _, _, _, _, _, _, _, _, _, Cert.Kernel3Ideal.Value.run_blocks m g, (θ_run _ _ _).mono (fun r h c => ?_) (Cert.Reference3Ideal.Mix.run m' g' a B)⟩
  obtain ⟨h0, h1, h2, h3, h4, h5, h6, h7, h8, h9, h10, hargs⟩ := h c
  simp only [Cert.Reference3Ideal.Mix.dwoM, hMIX, hCT] at h9 h10
  exact ⟨h0.trans (Cert.Kernel3Ideal.Mix.final11 (A c)).symm, h1.trans (Cert.Kernel3Ideal.Mix.final12 (A c)).symm, h2.trans (Cert.Kernel3Ideal.Mix.final13 (A c)).symm, h3.trans (Cert.Kernel3Ideal.Mix.final14 (A c)).symm, h4.trans (Cert.Kernel3Ideal.Mix.final15 (A c)).symm, h5.trans (Cert.Kernel3Ideal.Mix.final16 (A c)).symm, h6.trans (Cert.Kernel3Ideal.Mix.final17 (A c)).symm, h7.trans (Cert.Kernel3Ideal.Mix.final18 (A c)).symm, h8.trans (Cert.Kernel3Ideal.Mix.final19 (A c)).symm, h9.trans (Cert.Kernel3Ideal.Mix.final20).symm, h10.trans (Cert.Kernel3Ideal.Mix.final21).symm, hargs⟩

/-- The mixer's forward call and its reference end with the same arrays. -/
theorem mixfwd : Cert.algebraic_Kernel4Ideal_Reference4Ideal (hKernel4Ideal := Cert.Kernel4Ideal.Gen.facts) (hReference4Ideal := Cert.Reference4Ideal.Gen.facts) := by
  intro m g m' g' _ hagree
  have hX : ∀ c, Cert.Reference4Ideal.Mix.X m' c = Cert.Kernel4Ideal.Mix.X m c := fun c => (hagree c).1
  have hN1 : ∀ c, Cert.Reference4Ideal.Mix.N1 m' c = Cert.Kernel4Ideal.Mix.N1 m c := fun c => (hagree c).2.1
  have hWI : ∀ c, Cert.Reference4Ideal.Mix.WI m' c = Cert.Kernel4Ideal.Mix.WI m c := fun c => (hagree c).2.2.1
  have hLG : ∀ c, Cert.Reference4Ideal.Mix.LG m' c = Cert.Kernel4Ideal.Mix.LG m c := fun c => (hagree c).2.2.2.1
  have hLB : ∀ c, Cert.Reference4Ideal.Mix.LB m' c = Cert.Kernel4Ideal.Mix.LB m c := fun c => (hagree c).2.2.2.2.1
  have hW : ∀ c, Cert.Reference4Ideal.Mix.W m' c = Cert.Kernel4Ideal.Mix.W m c := fun c => (hagree c).2.2.2.2.2.1
  have hBS : ∀ c, Cert.Reference4Ideal.Mix.BS m' c = Cert.Kernel4Ideal.Mix.BS m c := fun c => (hagree c).2.2.2.2.2.2.1
  have hCW : ∀ c, Cert.Reference4Ideal.Mix.CW m' c = Cert.Kernel4Ideal.Mix.CW m c := fun c => (hagree c).2.2.2.2.2.2.2.1
  have hCB : ∀ c, Cert.Reference4Ideal.Mix.CB m' c = Cert.Kernel4Ideal.Mix.CB m c := fun c => (hagree c).2.2.2.2.2.2.2.2.1
  have hCLG : ∀ c, Cert.Reference4Ideal.Mix.CLG m' c = Cert.Kernel4Ideal.Mix.CLG m c := fun c => (hagree c).2.2.2.2.2.2.2.2.2.1
  have hCLB : ∀ c, Cert.Reference4Ideal.Mix.CLB m' c = Cert.Kernel4Ideal.Mix.CLB m c := fun c => (hagree c).2.2.2.2.2.2.2.2.2.2.1
  have hWO : ∀ c, Cert.Reference4Ideal.Mix.WO m' c = Cert.Kernel4Ideal.Mix.WO m c := fun c => (hagree c).2.2.2.2.2.2.2.2.2.2.2.1
  have hN2 : ∀ c, Cert.Reference4Ideal.Mix.N2 m' c = Cert.Kernel4Ideal.Mix.N2 m c := fun c => (hagree c).2.2.2.2.2.2.2.2.2.2.2.2
  have hPJ : ∀ c, Cert.Reference4Ideal.Mix.PJ m' c = Cert.Kernel4Ideal.Mix.PJ m c := fun c => by simp only [Cert.Reference4Ideal.Mix.PJ, hX, hN1, hWI]
  have hMX : ∀ c, Cert.Reference4Ideal.Mix.MX m' c = Cert.Kernel4Ideal.Mix.mxA m c := fun c => by simp only [Cert.Reference4Ideal.Mix.MX, hPJ, hLG, hLB, hW, hBS, hCW, hCB, hCLG, hCLB]
  have hX1 : ∀ c, Cert.Reference4Ideal.Mix.X1 m' c = Cert.Kernel4Ideal.Mix.x1A m c := fun c => by
    funext i
    rw [eq_ix2 i]
    simp only [Cert.Reference4Ideal.Mix.X1, hPJ, hLG, hLB, hW, hBS, hCW, hCB, hCLG, hCLB, hX, hWO]
    exact Cert.MixFwd.x1T_at ..
  refine ⟨_, _, _, _, _, Cert.Kernel4Ideal.Value.run_blocks m g, (θ_run _ _ _).mono (fun r h c => ?_) (Cert.Reference4Ideal.Mix.run_mix m' g')⟩
  obtain ⟨h0, h1, h2, h3, h4, ha⟩ := h c
  refine ⟨h0.trans (Eq.trans ?_ (Cert.Kernel4Ideal.Mix.final13 m c).symm), h1.trans (Eq.trans ?_ (Cert.Kernel4Ideal.Mix.final14 m c).symm), h2.trans (Eq.trans ?_ (Cert.Kernel4Ideal.Mix.final15 m c).symm),
    h3.trans (Eq.trans ?_ (Cert.Kernel4Ideal.Mix.final16 m c).symm), h4.trans (Eq.trans ?_ (Cert.Kernel4Ideal.Mix.final17 m c).symm), ha⟩
  · rw [hMX]
    funext i
    exact congrArg (Cert.Kernel4Ideal.Mix.mxA m c) (eq_ix2 i)
  · rw [hPJ, hCW, hCB]
    funext i
    exact (congrArg _ (eq_ix2 i)).trans (Cert.MixFwd.convT_at ..)
  · rw [hPJ]
    funext i
    exact (congrArg _ (eq_ix2 i)).trans (Cert.MixFwd.glT_at ..)
  · exact hX1 c
  · simp only [Cert.Reference4Ideal.Mix.X1, hPJ, hLG, hLB, hW, hBS, hCW, hCB, hCLG, hCLB, hX, hWO, hN2]
    funext i
    exact (congrArg _ (eq_ix2 i)).trans (Cert.MixFwd.h2T_at ..)

/-- The first norm with the input projection, and its reference, end with the same arrays. -/
theorem fwdin : Cert.algebraic_Kernel5Ideal_Reference5Ideal (hKernel5Ideal := Cert.Kernel5Ideal.Gen.facts) (hReference5Ideal := Cert.Reference5Ideal.Gen.facts) := by
  intro m g m' g' _ hagree
  have hX : ∀ c, Cert.Reference5Ideal.FwdIn.X m' c = Cert.Kernel5Ideal.FwdIn.X m c := fun c => (hagree c).1
  have hG : ∀ c, Cert.Reference5Ideal.FwdIn.G m' c = Cert.Kernel5Ideal.FwdIn.G m c := fun c => (hagree c).2.1
  have hW : ∀ c, Cert.Reference5Ideal.FwdIn.W m' c = Cert.Kernel5Ideal.FwdIn.W m c := fun c => (hagree c).2.2
  refine ⟨_, _, Cert.Kernel5Ideal.Value.run_blocks m g, (θ_run _ _ _).mono (fun r h c => ?_) (Cert.Reference5Ideal.FwdIn.run m' g')⟩
  obtain ⟨h0, h1, ha⟩ := h c
  simp only [hX, hG, hW] at h0 h1
  exact ⟨h0.trans (Cert.Kernel5Ideal.FwdIn.final3 m c).symm, h1.trans (Cert.Kernel5Ideal.FwdIn.final4 m c).symm, ha⟩

/-- The first MLP product with its relu, and its reference, end with the same array. -/
theorem fwdrelu : Cert.algebraic_Kernel6Ideal_Reference6Ideal (hKernel6Ideal := Cert.Kernel6Ideal.Gen.facts) (hReference6Ideal := Cert.Reference6Ideal.Gen.facts) := by
  intro m g m' g' _ hagree
  have hH : ∀ c, Cert.Reference6Ideal.FwdRelu.H m' c = Cert.Kernel6Ideal.FwdRelu.H m c := fun c => (hagree c).1
  have hW : ∀ c, Cert.Reference6Ideal.FwdRelu.W m' c = Cert.Kernel6Ideal.FwdRelu.W m c := fun c => (hagree c).2
  refine ⟨_, Cert.Kernel6Ideal.Value.run_blocks m g, (θ_run _ _ _).mono (fun r h c => ?_) (Cert.Reference6Ideal.FwdRelu.run m' g')⟩
  obtain ⟨h0, ha⟩ := h c
  simp only [hH, hW] at h0
  exact ⟨h0.trans (Cert.Kernel6Ideal.FwdRelu.final2 m c).symm, ha⟩

/-- The second MLP product of the square, and its reference, end with the same array. -/
theorem fwdsquare : Cert.algebraic_Kernel7Ideal_Reference7Ideal (hKernel7Ideal := Cert.Kernel7Ideal.Gen.facts) (hReference7Ideal := Cert.Reference7Ideal.Gen.facts) := by
  intro m g m' g' _ hagree
  have hR : ∀ c, Cert.Reference7Ideal.FwdSquare.R m' c = Cert.Kernel7Ideal.FwdSquare.R m c := fun c => (hagree c).1
  have hW : ∀ c, Cert.Reference7Ideal.FwdSquare.W m' c = Cert.Kernel7Ideal.FwdSquare.W m c := fun c => (hagree c).2.1
  have hX : ∀ c, Cert.Reference7Ideal.FwdSquare.X m' c = Cert.Kernel7Ideal.FwdSquare.X m c := fun c => (hagree c).2.2
  refine ⟨_, Cert.Kernel7Ideal.Value.run_blocks m g, (θ_run _ _ _).mono (fun r h c => ?_) (Cert.Reference7Ideal.FwdSquare.run m' g')⟩
  obtain ⟨h0, ha⟩ := h c
  simp only [hR, hW, hX] at h0
  exact ⟨h0.trans (Cert.Kernel7Ideal.FwdSquare.final3 m c).symm, ha⟩

/-- The second MLP weight's gradient and its reference end with the same arrays. -/
theorem wgrad : Cert.algebraic_Kernel9Ideal_Reference9Ideal (hKernel9Ideal := Cert.Kernel9Ideal.Gen.facts) (hReference9Ideal := Cert.Reference9Ideal.Gen.facts) := by
  intro m g m' g' _ hagree
  have hX : ∀ c, Cert.Reference9Ideal.WGrad.X1 m' c = Cert.Kernel9Ideal.WGrad.X1 m c := fun c => (hagree c).1
  have hG : ∀ c, Cert.Reference9Ideal.WGrad.G2 m' c = Cert.Kernel9Ideal.WGrad.G2 m c := fun c => (hagree c).2.1
  have hW : ∀ c, Cert.Reference9Ideal.WGrad.W1 m' c = Cert.Kernel9Ideal.WGrad.W1 m c := fun c => (hagree c).2.2.1
  have hD : ∀ c, Cert.Reference9Ideal.WGrad.CT m' c = Cert.Kernel9Ideal.WGrad.CT m c := fun c => (hagree c).2.2.2
  refine ⟨_, _, Cert.Kernel9Ideal.Value.run_blocks m g, (θ_run _ _ _).mono (fun r h c => ?_) (Cert.Reference9Ideal.WGrad.run m' g')⟩
  obtain ⟨h0, h1, ha⟩ := h c
  simp only [hX, hG, hW, hD] at h0 h1
  exact ⟨h0.trans (Cert.Kernel9Ideal.WGrad.final2 m c).symm, h1.trans (Cert.Kernel9Ideal.WGrad.final3 m c).symm, ha⟩

/-- The convolution's backward call has the text of its idealization, whose run tracks no value. -/
theorem conv_frame : Cert.quiescent_Kernel8 (hKernel8 := Cert.Kernel8.Gen.facts) := by
  have h := fun m ρ (_ : Cert.Pre_Kernel8 m) => Cert.Kernel8Ideal.MixIn.frame (F := Bits) m ρ
  exact cast (by sl_kernel_rfl) h

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite_args.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2.2.2.2, sem_eq_zero_of_no_sems (by decide) r.2⟩)
    (Cert.ReferenceIdeal.Value.run m ρ),
  fun m ρ _ => Cert.Kernel2.Gen.frame m ρ, fun m ρ _ => Cert.Kernel2Ideal.Gen.frame m ρ,
  fun m ρ _ => (θ_run Cert.Reference2Ideal.defs _ _).mono (fun r h => ⟨fun c => (h c).2.2.2.2, sem_eq_zero_of_no_sems (by decide) r.2⟩)
    (Cert.Reference2Ideal.Value.run m ρ),
  fun m ρ _ => Cert.Kernel3.Gen.frame m ρ, fun m ρ _ => Cert.Kernel3Ideal.Gen.frame m ρ, fun m ρ _ => Cert.Kernel3Ideal.Gen.frame m ρ,
  fun m ρ _ => (θ_run Cert.Reference3Ideal.defs _ _).mono (fun r h => ⟨fun c => (h c).2.2.2.2.2.2.2.2.2.2.2, sem_eq_zero_of_no_sems (by decide) r.2⟩)
    (Cert.Reference3Ideal.Value.run m ρ),
  fun m ρ _ => (θ_run Cert.Reference3Ideal.defs _ _).mono (fun r h => ⟨fun c => (h c).2.2.2.2.2.2.2.2.2.2.2, sem_eq_zero_of_no_sems (by decide) r.2⟩)
    (Cert.Reference3Ideal.Value.run m ρ),
  fun m ρ _ => Cert.Kernel4.Gen.frame m ρ, fun m ρ _ => Cert.Kernel4Ideal.Gen.frame m ρ,
  fun m ρ _ => (θ_run Cert.Reference4Ideal.defs _ _).mono (fun r h => ⟨fun c => (h c).2.2.2.2.2, sem_eq_zero_of_no_sems (by decide) r.2⟩)
    (Cert.Reference4Ideal.Value.run m ρ),
  fun m ρ _ => Cert.Kernel5.Gen.frame m ρ, fun m ρ _ => Cert.Kernel5Ideal.Gen.frame m ρ,
  fun m ρ _ => (θ_run Cert.Reference5Ideal.defs _ _).mono (fun r h => ⟨fun c => (h c).2.2, sem_eq_zero_of_no_sems (by decide) r.2⟩)
    (Cert.Reference5Ideal.Value.run m ρ),
  fun m ρ _ => Cert.Kernel6.Gen.frame m ρ, fun m ρ _ => Cert.Kernel6Ideal.Gen.frame m ρ,
  fun m ρ _ => (θ_run Cert.Reference6Ideal.defs _ _).mono (fun r h => ⟨fun c => (h c).2, sem_eq_zero_of_no_sems (by decide) r.2⟩)
    (Cert.Reference6Ideal.Value.run m ρ),
  fun m ρ _ => Cert.Kernel7.Gen.frame m ρ, fun m ρ _ => Cert.Kernel7Ideal.Gen.frame m ρ,
  fun m ρ _ => (θ_run Cert.Reference7Ideal.defs _ _).mono (fun r h => ⟨fun c => (h c).2, sem_eq_zero_of_no_sems (by decide) r.2⟩)
    (Cert.Reference7Ideal.Value.run m ρ),
  conv_frame, fun m ρ _ => Cert.Kernel8Ideal.MixIn.frame m ρ,
  fun m ρ _ => (θ_run Cert.Reference8Ideal.defs _ _).mono (fun r h => ⟨fun c => (h c).2.2.2.2.2, sem_eq_zero_of_no_sems (by decide) r.2⟩)
    (Cert.Reference8Ideal.Value.run m ρ),
  fun m ρ _ => Cert.Kernel9.Gen.frame m ρ, fun m ρ _ => Cert.Kernel9Ideal.Gen.frame m ρ,
  fun m ρ _ => (θ_run Cert.Reference9Ideal.defs _ _).mono (fun r h => ⟨fun c => (h c).2.2, sem_eq_zero_of_no_sems (by decide) r.2⟩)
    (Cert.Reference9Ideal.Value.run m ρ),
  trivial, loss, trivial, mlp, ⟨IdealRules.named_const.statement _ _ _ _ _ rfl, IdealRules.named_const.statement _ _ _ _ _ rfl⟩, mix,
  IdealRules.named_const.statement _ _ _ _ _ rfl, mixfwd,
  trivial, fwdin, trivial, fwdrelu, trivial, fwdsquare, trivial, trivial, wgrad⟩

end Cert.Proof

end
